-- ==== Defs.lean ====
def Pre_Attn (m : (ℓ : Loc Cert.Attn.nD Cert.Attn.τ Cert.Attn.sig) → Buf (Elt Bits) ℓ) : Prop :=
  True

def Pre_AttnIdeal (m : (ℓ : Loc Cert.AttnIdeal.nD Cert.AttnIdeal.τ Cert.AttnIdeal.sig) → Buf (Elt Ideal) ℓ) : Prop :=
  True

def Pre_AttnIdeal_finite_scores [hPre_finite_scores : Cert.Pre_finite_scores.Facts] (m : (ℓ : Loc Cert.AttnIdeal.nD Cert.AttnIdeal.τ Cert.AttnIdeal.sig) → Buf (Elt Ideal) ℓ) : Prop :=
  ∀ c : Dev Cert.AttnIdeal.nD,
    (Cert.Pre_finite_scores.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3)) (m ((c.tc : Thread Cert.AttnIdeal.nD Cert.AttnIdeal.τ).loc Cert.AttnIdeal.main_arg4))).1 = (fun _ => 1#1)
    ∧ (Cert.Pre_finite_scores.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3)) (m ((c.tc : Thread Cert.AttnIdeal.nD Cert.AttnIdeal.τ).loc Cert.AttnIdeal.main_arg4))).2.1 = (fun _ => 1#1)
    ∧ (Cert.Pre_finite_scores.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3)) (m ((c.tc : Thread Cert.AttnIdeal.nD Cert.AttnIdeal.τ).loc Cert.AttnIdeal.main_arg4))).2.2 = (fun _ => 1#1)

def Pre_AttnRefIdeal (m : (ℓ : Loc Cert.AttnRefIdeal.nD Cert.AttnRefIdeal.τ Cert.AttnRefIdeal.sig) → Buf (Elt Ideal) ℓ) : Prop :=
  True

def Pre_AttnRefIdeal_finite_scores [hPre_finite_scores : Cert.Pre_finite_scores.Facts] (m : (ℓ : Loc Cert.AttnRefIdeal.nD Cert.AttnRefIdeal.τ Cert.AttnRefIdeal.sig) → Buf (Elt Ideal) ℓ) : Prop :=
  ∀ c : Dev Cert.AttnRefIdeal.nD,
    (Cert.Pre_finite_scores.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3)) (m ((c.tc : Thread Cert.AttnRefIdeal.nD Cert.AttnRefIdeal.τ).loc Cert.AttnRefIdeal.main_arg4))).1 = (fun _ => 1#1)
    ∧ (Cert.Pre_finite_scores.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3)) (m ((c.tc : Thread Cert.AttnRefIdeal.nD Cert.AttnRefIdeal.τ).loc Cert.AttnRefIdeal.main_arg4))).2.1 = (fun _ => 1#1)
    ∧ (Cert.Pre_finite_scores.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3)) (m ((c.tc : Thread Cert.AttnRefIdeal.nD Cert.AttnRefIdeal.τ).loc Cert.AttnRefIdeal.main_arg4))).2.2 = (fun _ => 1#1)

def Pre_Moe [hPre_rows_ok : Cert.Pre_rows_ok.Facts] (m : (ℓ : Loc Cert.Moe.nD Cert.Moe.τ Cert.Moe.sig) → Buf (Elt Bits) ℓ) : Prop :=
  ∀ c : Dev Cert.Moe.nD,
    (Cert.Pre_rows_ok.fn (F := Bits) (m ((c.tc : Thread Cert.Moe.nD Cert.Moe.τ).loc Cert.Moe.main_arg0)) (m ((c.tc : Thread Cert.Moe.nD Cert.Moe.τ).loc Cert.Moe.main_arg1)) (m ((c.tc : Thread Cert.Moe.nD Cert.Moe.τ).loc Cert.Moe.main_arg2)) (m ((c.tc : Thread Cert.Moe.nD Cert.Moe.τ).loc Cert.Moe.main_arg3)) (m ((c.tc : Thread Cert.Moe.nD Cert.Moe.τ).loc Cert.Moe.main_arg4)) (m ((c.tc : Thread Cert.Moe.nD Cert.Moe.τ).loc Cert.Moe.main_arg5)) (m ((c.tc : Thread Cert.Moe.nD Cert.Moe.τ).loc Cert.Moe.main_arg6))).1 = (fun _ => 1#1)
    ∧ (Cert.Pre_rows_ok.fn (F := Bits) (m ((c.tc : Thread Cert.Moe.nD Cert.Moe.τ).loc Cert.Moe.main_arg0)) (m ((c.tc : Thread Cert.Moe.nD Cert.Moe.τ).loc Cert.Moe.main_arg1)) (m ((c.tc : Thread Cert.Moe.nD Cert.Moe.τ).loc Cert.Moe.main_arg2)) (m ((c.tc : Thread Cert.Moe.nD Cert.Moe.τ).loc Cert.Moe.main_arg3)) (m ((c.tc : Thread Cert.Moe.nD Cert.Moe.τ).loc Cert.Moe.main_arg4)) (m ((c.tc : Thread Cert.Moe.nD Cert.Moe.τ).loc Cert.Moe.main_arg5)) (m ((c.tc : Thread Cert.Moe.nD Cert.Moe.τ).loc Cert.Moe.main_arg6))).2.1 = (fun _ => 1#1)
    ∧ (Cert.Pre_rows_ok.fn (F := Bits) (m ((c.tc : Thread Cert.Moe.nD Cert.Moe.τ).loc Cert.Moe.main_arg0)) (m ((c.tc : Thread Cert.Moe.nD Cert.Moe.τ).loc Cert.Moe.main_arg1)) (m ((c.tc : Thread Cert.Moe.nD Cert.Moe.τ).loc Cert.Moe.main_arg2)) (m ((c.tc : Thread Cert.Moe.nD Cert.Moe.τ).loc Cert.Moe.main_arg3)) (m ((c.tc : Thread Cert.Moe.nD Cert.Moe.τ).loc Cert.Moe.main_arg4)) (m ((c.tc : Thread Cert.Moe.nD Cert.Moe.τ).loc Cert.Moe.main_arg5)) (m ((c.tc : Thread Cert.Moe.nD Cert.Moe.τ).loc Cert.Moe.main_arg6))).2.2.1 = (fun _ => 1#1)
    ∧ (Cert.Pre_rows_ok.fn (F := Bits) (m ((c.tc : Thread Cert.Moe.nD Cert.Moe.τ).loc Cert.Moe.main_arg0)) (m ((c.tc : Thread Cert.Moe.nD Cert.Moe.τ).loc Cert.Moe.main_arg1)) (m ((c.tc : Thread Cert.Moe.nD Cert.Moe.τ).loc Cert.Moe.main_arg2)) (m ((c.tc : Thread Cert.Moe.nD Cert.Moe.τ).loc Cert.Moe.main_arg3)) (m ((c.tc : Thread Cert.Moe.nD Cert.Moe.τ).loc Cert.Moe.main_arg4)) (m ((c.tc : Thread Cert.Moe.nD Cert.Moe.τ).loc Cert.Moe.main_arg5)) (m ((c.tc : Thread Cert.Moe.nD Cert.Moe.τ).loc Cert.Moe.main_arg6))).2.2.2.1 = (fun _ => 1#1)
    ∧ (Cert.Pre_rows_ok.fn (F := Bits) (m ((c.tc : Thread Cert.Moe.nD Cert.Moe.τ).loc Cert.Moe.main_arg0)) (m ((c.tc : Thread Cert.Moe.nD Cert.Moe.τ).loc Cert.Moe.main_arg1)) (m ((c.tc : Thread Cert.Moe.nD Cert.Moe.τ).loc Cert.Moe.main_arg2)) (m ((c.tc : Thread Cert.Moe.nD Cert.Moe.τ).loc Cert.Moe.main_arg3)) (m ((c.tc : Thread Cert.Moe.nD Cert.Moe.τ).loc Cert.Moe.main_arg4)) (m ((c.tc : Thread Cert.Moe.nD Cert.Moe.τ).loc Cert.Moe.main_arg5)) (m ((c.tc : Thread Cert.Moe.nD Cert.Moe.τ).loc Cert.Moe.main_arg6))).2.2.2.2 = (fun _ => 1#1)

def Pre_MoeIdeal [hPre_rows_ok : Cert.Pre_rows_ok.Facts] (m : (ℓ : Loc Cert.MoeIdeal.nD Cert.MoeIdeal.τ Cert.MoeIdeal.sig) → Buf (Elt Ideal) ℓ) : Prop :=
  ∀ c : Dev Cert.MoeIdeal.nD,
    (Cert.Pre_rows_ok.fn (F := Ideal) (m ((c.tc : Thread Cert.MoeIdeal.nD Cert.MoeIdeal.τ).loc Cert.MoeIdeal.main_arg0)) (m ((c.tc : Thread Cert.MoeIdeal.nD Cert.MoeIdeal.τ).loc Cert.MoeIdeal.main_arg1)) (m ((c.tc : Thread Cert.MoeIdeal.nD Cert.MoeIdeal.τ).loc Cert.MoeIdeal.main_arg2)) (m ((c.tc : Thread Cert.MoeIdeal.nD Cert.MoeIdeal.τ).loc Cert.MoeIdeal.main_arg3)) (m ((c.tc : Thread Cert.MoeIdeal.nD Cert.MoeIdeal.τ).loc Cert.MoeIdeal.main_arg4)) (m ((c.tc : Thread Cert.MoeIdeal.nD Cert.MoeIdeal.τ).loc Cert.MoeIdeal.main_arg5)) (m ((c.tc : Thread Cert.MoeIdeal.nD Cert.MoeIdeal.τ).loc Cert.MoeIdeal.main_arg6))).1 = (fun _ => 1#1)
    ∧ (Cert.Pre_rows_ok.fn (F := Ideal) (m ((c.tc : Thread Cert.MoeIdeal.nD Cert.MoeIdeal.τ).loc Cert.MoeIdeal.main_arg0)) (m ((c.tc : Thread Cert.MoeIdeal.nD Cert.MoeIdeal.τ).loc Cert.MoeIdeal.main_arg1)) (m ((c.tc : Thread Cert.MoeIdeal.nD Cert.MoeIdeal.τ).loc Cert.MoeIdeal.main_arg2)) (m ((c.tc : Thread Cert.MoeIdeal.nD Cert.MoeIdeal.τ).loc Cert.MoeIdeal.main_arg3)) (m ((c.tc : Thread Cert.MoeIdeal.nD Cert.MoeIdeal.τ).loc Cert.MoeIdeal.main_arg4)) (m ((c.tc : Thread Cert.MoeIdeal.nD Cert.MoeIdeal.τ).loc Cert.MoeIdeal.main_arg5)) (m ((c.tc : Thread Cert.MoeIdeal.nD Cert.MoeIdeal.τ).loc Cert.MoeIdeal.main_arg6))).2.1 = (fun _ => 1#1)
    ∧ (Cert.Pre_rows_ok.fn (F := Ideal) (m ((c.tc : Thread Cert.MoeIdeal.nD Cert.MoeIdeal.τ).loc Cert.MoeIdeal.main_arg0)) (m ((c.tc : Thread Cert.MoeIdeal.nD Cert.MoeIdeal.τ).loc Cert.MoeIdeal.main_arg1)) (m ((c.tc : Thread Cert.MoeIdeal.nD Cert.MoeIdeal.τ).loc Cert.MoeIdeal.main_arg2)) (m ((c.tc : Thread Cert.MoeIdeal.nD Cert.MoeIdeal.τ).loc Cert.MoeIdeal.main_arg3)) (m ((c.tc : Thread Cert.MoeIdeal.nD Cert.MoeIdeal.τ).loc Cert.MoeIdeal.main_arg4)) (m ((c.tc : Thread Cert.MoeIdeal.nD Cert.MoeIdeal.τ).loc Cert.MoeIdeal.main_arg5)) (m ((c.tc : Thread Cert.MoeIdeal.nD Cert.MoeIdeal.τ).loc Cert.MoeIdeal.main_arg6))).2.2.1 = (fun _ => 1#1)
    ∧ (Cert.Pre_rows_ok.fn (F := Ideal) (m ((c.tc : Thread Cert.MoeIdeal.nD Cert.MoeIdeal.τ).loc Cert.MoeIdeal.main_arg0)) (m ((c.tc : Thread Cert.MoeIdeal.nD Cert.MoeIdeal.τ).loc Cert.MoeIdeal.main_arg1)) (m ((c.tc : Thread Cert.MoeIdeal.nD Cert.MoeIdeal.τ).loc Cert.MoeIdeal.main_arg2)) (m ((c.tc : Thread Cert.MoeIdeal.nD Cert.MoeIdeal.τ).loc Cert.MoeIdeal.main_arg3)) (m ((c.tc : Thread Cert.MoeIdeal.nD Cert.MoeIdeal.τ).loc Cert.MoeIdeal.main_arg4)) (m ((c.tc : Thread Cert.MoeIdeal.nD Cert.MoeIdeal.τ).loc Cert.MoeIdeal.main_arg5)) (m ((c.tc : Thread Cert.MoeIdeal.nD Cert.MoeIdeal.τ).loc Cert.MoeIdeal.main_arg6))).2.2.2.1 = (fun _ => 1#1)
    ∧ (Cert.Pre_rows_ok.fn (F := Ideal) (m ((c.tc : Thread Cert.MoeIdeal.nD Cert.MoeIdeal.τ).loc Cert.MoeIdeal.main_arg0)) (m ((c.tc : Thread Cert.MoeIdeal.nD Cert.MoeIdeal.τ).loc Cert.MoeIdeal.main_arg1)) (m ((c.tc : Thread Cert.MoeIdeal.nD Cert.MoeIdeal.τ).loc Cert.MoeIdeal.main_arg2)) (m ((c.tc : Thread Cert.MoeIdeal.nD Cert.MoeIdeal.τ).loc Cert.MoeIdeal.main_arg3)) (m ((c.tc : Thread Cert.MoeIdeal.nD Cert.MoeIdeal.τ).loc Cert.MoeIdeal.main_arg4)) (m ((c.tc : Thread Cert.MoeIdeal.nD Cert.MoeIdeal.τ).loc Cert.MoeIdeal.main_arg5)) (m ((c.tc : Thread Cert.MoeIdeal.nD Cert.MoeIdeal.τ).loc Cert.MoeIdeal.main_arg6))).2.2.2.2 = (fun _ => 1#1)

def Pre_MoeIdeal_rows_finite [hPre_rows_finite : Cert.Pre_rows_finite.Facts] (m : (ℓ : Loc Cert.MoeIdeal.nD Cert.MoeIdeal.τ Cert.MoeIdeal.sig) → Buf (Elt Ideal) ℓ) : Prop :=
  ∀ c : Dev Cert.MoeIdeal.nD,
    (Cert.Pre_rows_finite.fn (F := Ideal) (m ((c.tc : Thread Cert.MoeIdeal.nD Cert.MoeIdeal.τ).loc Cert.MoeIdeal.main_arg0)) (m ((c.tc : Thread Cert.MoeIdeal.nD Cert.MoeIdeal.τ).loc Cert.MoeIdeal.main_arg1)) (m ((c.tc : Thread Cert.MoeIdeal.nD Cert.MoeIdeal.τ).loc Cert.MoeIdeal.main_arg2)) (m ((c.tc : Thread Cert.MoeIdeal.nD Cert.MoeIdeal.τ).loc Cert.MoeIdeal.main_arg3)) (m ((c.tc : Thread Cert.MoeIdeal.nD Cert.MoeIdeal.τ).loc Cert.MoeIdeal.main_arg4)) (m ((c.tc : Thread Cert.MoeIdeal.nD Cert.MoeIdeal.τ).loc Cert.MoeIdeal.main_arg5)) (m ((c.tc : Thread Cert.MoeIdeal.nD Cert.MoeIdeal.τ).loc Cert.MoeIdeal.main_arg6))).1 = (fun _ => 1#1)
    ∧ (Cert.Pre_rows_finite.fn (F := Ideal) (m ((c.tc : Thread Cert.MoeIdeal.nD Cert.MoeIdeal.τ).loc Cert.MoeIdeal.main_arg0)) (m ((c.tc : Thread Cert.MoeIdeal.nD Cert.MoeIdeal.τ).loc Cert.MoeIdeal.main_arg1)) (m ((c.tc : Thread Cert.MoeIdeal.nD Cert.MoeIdeal.τ).loc Cert.MoeIdeal.main_arg2)) (m ((c.tc : Thread Cert.MoeIdeal.nD Cert.MoeIdeal.τ).loc Cert.MoeIdeal.main_arg3)) (m ((c.tc : Thread Cert.MoeIdeal.nD Cert.MoeIdeal.τ).loc Cert.MoeIdeal.main_arg4)) (m ((c.tc : Thread Cert.MoeIdeal.nD Cert.MoeIdeal.τ).loc Cert.MoeIdeal.main_arg5)) (m ((c.tc : Thread Cert.MoeIdeal.nD Cert.MoeIdeal.τ).loc Cert.MoeIdeal.main_arg6))).2.1 = (fun _ => 1#1)
    ∧ (Cert.Pre_rows_finite.fn (F := Ideal) (m ((c.tc : Thread Cert.MoeIdeal.nD Cert.MoeIdeal.τ).loc Cert.MoeIdeal.main_arg0)) (m ((c.tc : Thread Cert.MoeIdeal.nD Cert.MoeIdeal.τ).loc Cert.MoeIdeal.main_arg1)) (m ((c.tc : Thread Cert.MoeIdeal.nD Cert.MoeIdeal.τ).loc Cert.MoeIdeal.main_arg2)) (m ((c.tc : Thread Cert.MoeIdeal.nD Cert.MoeIdeal.τ).loc Cert.MoeIdeal.main_arg3)) (m ((c.tc : Thread Cert.MoeIdeal.nD Cert.MoeIdeal.τ).loc Cert.MoeIdeal.main_arg4)) (m ((c.tc : Thread Cert.MoeIdeal.nD Cert.MoeIdeal.τ).loc Cert.MoeIdeal.main_arg5)) (m ((c.tc : Thread Cert.MoeIdeal.nD Cert.MoeIdeal.τ).loc Cert.MoeIdeal.main_arg6))).2.2.1 = (fun _ => 1#1)
    ∧ (Cert.Pre_rows_finite.fn (F := Ideal) (m ((c.tc : Thread Cert.MoeIdeal.nD Cert.MoeIdeal.τ).loc Cert.MoeIdeal.main_arg0)) (m ((c.tc : Thread Cert.MoeIdeal.nD Cert.MoeIdeal.τ).loc Cert.MoeIdeal.main_arg1)) (m ((c.tc : Thread Cert.MoeIdeal.nD Cert.MoeIdeal.τ).loc Cert.MoeIdeal.main_arg2)) (m ((c.tc : Thread Cert.MoeIdeal.nD Cert.MoeIdeal.τ).loc Cert.MoeIdeal.main_arg3)) (m ((c.tc : Thread Cert.MoeIdeal.nD Cert.MoeIdeal.τ).loc Cert.MoeIdeal.main_arg4)) (m ((c.tc : Thread Cert.MoeIdeal.nD Cert.MoeIdeal.τ).loc Cert.MoeIdeal.main_arg5)) (m ((c.tc : Thread Cert.MoeIdeal.nD Cert.MoeIdeal.τ).loc Cert.MoeIdeal.main_arg6))).2.2.2.1 = (fun _ => 1#1)
    ∧ (Cert.Pre_rows_finite.fn (F := Ideal) (m ((c.tc : Thread Cert.MoeIdeal.nD Cert.MoeIdeal.τ).loc Cert.MoeIdeal.main_arg0)) (m ((c.tc : Thread Cert.MoeIdeal.nD Cert.MoeIdeal.τ).loc Cert.MoeIdeal.main_arg1)) (m ((c.tc : Thread Cert.MoeIdeal.nD Cert.MoeIdeal.τ).loc Cert.MoeIdeal.main_arg2)) (m ((c.tc : Thread Cert.MoeIdeal.nD Cert.MoeIdeal.τ).loc Cert.MoeIdeal.main_arg3)) (m ((c.tc : Thread Cert.MoeIdeal.nD Cert.MoeIdeal.τ).loc Cert.MoeIdeal.main_arg4)) (m ((c.tc : Thread Cert.MoeIdeal.nD Cert.MoeIdeal.τ).loc Cert.MoeIdeal.main_arg5)) (m ((c.tc : Thread Cert.MoeIdeal.nD Cert.MoeIdeal.τ).loc Cert.MoeIdeal.main_arg6))).2.2.2.2.1 = (fun _ => 1#1)
    ∧ (Cert.Pre_rows_finite.fn (F := Ideal) (m ((c.tc : Thread Cert.MoeIdeal.nD Cert.MoeIdeal.τ).loc Cert.MoeIdeal.main_arg0)) (m ((c.tc : Thread Cert.MoeIdeal.nD Cert.MoeIdeal.τ).loc Cert.MoeIdeal.main_arg1)) (m ((c.tc : Thread Cert.MoeIdeal.nD Cert.MoeIdeal.τ).loc Cert.MoeIdeal.main_arg2)) (m ((c.tc : Thread Cert.MoeIdeal.nD Cert.MoeIdeal.τ).loc Cert.MoeIdeal.main_arg3)) (m ((c.tc : Thread Cert.MoeIdeal.nD Cert.MoeIdeal.τ).loc Cert.MoeIdeal.main_arg4)) (m ((c.tc : Thread Cert.MoeIdeal.nD Cert.MoeIdeal.τ).loc Cert.MoeIdeal.main_arg5)) (m ((c.tc : Thread Cert.MoeIdeal.nD Cert.MoeIdeal.τ).loc Cert.MoeIdeal.main_arg6))).2.2.2.2.2.1 = (fun _ => 1#1)
    ∧ (Cert.Pre_rows_finite.fn (F := Ideal) (m ((c.tc : Thread Cert.MoeIdeal.nD Cert.MoeIdeal.τ).loc Cert.MoeIdeal.main_arg0)) (m ((c.tc : Thread Cert.MoeIdeal.nD Cert.MoeIdeal.τ).loc Cert.MoeIdeal.main_arg1)) (m ((c.tc : Thread Cert.MoeIdeal.nD Cert.MoeIdeal.τ).loc Cert.MoeIdeal.main_arg2)) (m ((c.tc : Thread Cert.MoeIdeal.nD Cert.MoeIdeal.τ).loc Cert.MoeIdeal.main_arg3)) (m ((c.tc : Thread Cert.MoeIdeal.nD Cert.MoeIdeal.τ).loc Cert.MoeIdeal.main_arg4)) (m ((c.tc : Thread Cert.MoeIdeal.nD Cert.MoeIdeal.τ).loc Cert.MoeIdeal.main_arg5)) (m ((c.tc : Thread Cert.MoeIdeal.nD Cert.MoeIdeal.τ).loc Cert.MoeIdeal.main_arg6))).2.2.2.2.2.2.1 = (fun _ => 1#1)
    ∧ (Cert.Pre_rows_finite.fn (F := Ideal) (m ((c.tc : Thread Cert.MoeIdeal.nD Cert.MoeIdeal.τ).loc Cert.MoeIdeal.main_arg0)) (m ((c.tc : Thread Cert.MoeIdeal.nD Cert.MoeIdeal.τ).loc Cert.MoeIdeal.main_arg1)) (m ((c.tc : Thread Cert.MoeIdeal.nD Cert.MoeIdeal.τ).loc Cert.MoeIdeal.main_arg2)) (m ((c.tc : Thread Cert.MoeIdeal.nD Cert.MoeIdeal.τ).loc Cert.MoeIdeal.main_arg3)) (m ((c.tc : Thread Cert.MoeIdeal.nD Cert.MoeIdeal.τ).loc Cert.MoeIdeal.main_arg4)) (m ((c.tc : Thread Cert.MoeIdeal.nD Cert.MoeIdeal.τ).loc Cert.MoeIdeal.main_arg5)) (m ((c.tc : Thread Cert.MoeIdeal.nD Cert.MoeIdeal.τ).loc Cert.MoeIdeal.main_arg6))).2.2.2.2.2.2.2.1 = (fun _ => 1#1)
    ∧ (Cert.Pre_rows_finite.fn (F := Ideal) (m ((c.tc : Thread Cert.MoeIdeal.nD Cert.MoeIdeal.τ).loc Cert.MoeIdeal.main_arg0)) (m ((c.tc : Thread Cert.MoeIdeal.nD Cert.MoeIdeal.τ).loc Cert.MoeIdeal.main_arg1)) (m ((c.tc : Thread Cert.MoeIdeal.nD Cert.MoeIdeal.τ).loc Cert.MoeIdeal.main_arg2)) (m ((c.tc : Thread Cert.MoeIdeal.nD Cert.MoeIdeal.τ).loc Cert.MoeIdeal.main_arg3)) (m ((c.tc : Thread Cert.MoeIdeal.nD Cert.MoeIdeal.τ).loc Cert.MoeIdeal.main_arg4)) (m ((c.tc : Thread Cert.MoeIdeal.nD Cert.MoeIdeal.τ).loc Cert.MoeIdeal.main_arg5)) (m ((c.tc : Thread Cert.MoeIdeal.nD Cert.MoeIdeal.τ).loc Cert.MoeIdeal.main_arg6))).2.2.2.2.2.2.2.2.1 = (fun _ => 1#1)
    ∧ (Cert.Pre_rows_finite.fn (F := Ideal) (m ((c.tc : Thread Cert.MoeIdeal.nD Cert.MoeIdeal.τ).loc Cert.MoeIdeal.main_arg0)) (m ((c.tc : Thread Cert.MoeIdeal.nD Cert.MoeIdeal.τ).loc Cert.MoeIdeal.main_arg1)) (m ((c.tc : Thread Cert.MoeIdeal.nD Cert.MoeIdeal.τ).loc Cert.MoeIdeal.main_arg2)) (m ((c.tc : Thread Cert.MoeIdeal.nD Cert.MoeIdeal.τ).loc Cert.MoeIdeal.main_arg3)) (m ((c.tc : Thread Cert.MoeIdeal.nD Cert.MoeIdeal.τ).loc Cert.MoeIdeal.main_arg4)) (m ((c.tc : Thread Cert.MoeIdeal.nD Cert.MoeIdeal.τ).loc Cert.MoeIdeal.main_arg5)) (m ((c.tc : Thread Cert.MoeIdeal.nD Cert.MoeIdeal.τ).loc Cert.MoeIdeal.main_arg6))).2.2.2.2.2.2.2.2.2 = (fun _ => 1#1)

def Pre_MoeRefIdeal (m : (ℓ : Loc Cert.MoeRefIdeal.nD Cert.MoeRefIdeal.τ Cert.MoeRefIdeal.sig) → Buf (Elt Ideal) ℓ) : Prop :=
  True

def Pre_MoeRefIdeal_rows_finite [hPre_rows_finite : Cert.Pre_rows_finite.Facts] (m : (ℓ : Loc Cert.MoeRefIdeal.nD Cert.MoeRefIdeal.τ Cert.MoeRefIdeal.sig) → Buf (Elt Ideal) ℓ) : Prop :=
  ∀ c : Dev Cert.MoeRefIdeal.nD,
    (Cert.Pre_rows_finite.fn (F := Ideal) (m ((c.tc : Thread Cert.MoeRefIdeal.nD Cert.MoeRefIdeal.τ).loc Cert.MoeRefIdeal.main_arg0)) (m ((c.tc : Thread Cert.MoeRefIdeal.nD Cert.MoeRefIdeal.τ).loc Cert.MoeRefIdeal.main_arg1)) (m ((c.tc : Thread Cert.MoeRefIdeal.nD Cert.MoeRefIdeal.τ).loc Cert.MoeRefIdeal.main_arg2)) (m ((c.tc : Thread Cert.MoeRefIdeal.nD Cert.MoeRefIdeal.τ).loc Cert.MoeRefIdeal.main_arg3)) (m ((c.tc : Thread Cert.MoeRefIdeal.nD Cert.MoeRefIdeal.τ).loc Cert.MoeRefIdeal.main_arg4)) (m ((c.tc : Thread Cert.MoeRefIdeal.nD Cert.MoeRefIdeal.τ).loc Cert.MoeRefIdeal.main_arg5)) (m ((c.tc : Thread Cert.MoeRefIdeal.nD Cert.MoeRefIdeal.τ).loc Cert.MoeRefIdeal.main_arg6))).1 = (fun _ => 1#1)
    ∧ (Cert.Pre_rows_finite.fn (F := Ideal) (m ((c.tc : Thread Cert.MoeRefIdeal.nD Cert.MoeRefIdeal.τ).loc Cert.MoeRefIdeal.main_arg0)) (m ((c.tc : Thread Cert.MoeRefIdeal.nD Cert.MoeRefIdeal.τ).loc Cert.MoeRefIdeal.main_arg1)) (m ((c.tc : Thread Cert.MoeRefIdeal.nD Cert.MoeRefIdeal.τ).loc Cert.MoeRefIdeal.main_arg2)) (m ((c.tc : Thread Cert.MoeRefIdeal.nD Cert.MoeRefIdeal.τ).loc Cert.MoeRefIdeal.main_arg3)) (m ((c.tc : Thread Cert.MoeRefIdeal.nD Cert.MoeRefIdeal.τ).loc Cert.MoeRefIdeal.main_arg4)) (m ((c.tc : Thread Cert.MoeRefIdeal.nD Cert.MoeRefIdeal.τ).loc Cert.MoeRefIdeal.main_arg5)) (m ((c.tc : Thread Cert.MoeRefIdeal.nD Cert.MoeRefIdeal.τ).loc Cert.MoeRefIdeal.main_arg6))).2.1 = (fun _ => 1#1)
    ∧ (Cert.Pre_rows_finite.fn (F := Ideal) (m ((c.tc : Thread Cert.MoeRefIdeal.nD Cert.MoeRefIdeal.τ).loc Cert.MoeRefIdeal.main_arg0)) (m ((c.tc : Thread Cert.MoeRefIdeal.nD Cert.MoeRefIdeal.τ).loc Cert.MoeRefIdeal.main_arg1)) (m ((c.tc : Thread Cert.MoeRefIdeal.nD Cert.MoeRefIdeal.τ).loc Cert.MoeRefIdeal.main_arg2)) (m ((c.tc : Thread Cert.MoeRefIdeal.nD Cert.MoeRefIdeal.τ).loc Cert.MoeRefIdeal.main_arg3)) (m ((c.tc : Thread Cert.MoeRefIdeal.nD Cert.MoeRefIdeal.τ).loc Cert.MoeRefIdeal.main_arg4)) (m ((c.tc : Thread Cert.MoeRefIdeal.nD Cert.MoeRefIdeal.τ).loc Cert.MoeRefIdeal.main_arg5)) (m ((c.tc : Thread Cert.MoeRefIdeal.nD Cert.MoeRefIdeal.τ).loc Cert.MoeRefIdeal.main_arg6))).2.2.1 = (fun _ => 1#1)
    ∧ (Cert.Pre_rows_finite.fn (F := Ideal) (m ((c.tc : Thread Cert.MoeRefIdeal.nD Cert.MoeRefIdeal.τ).loc Cert.MoeRefIdeal.main_arg0)) (m ((c.tc : Thread Cert.MoeRefIdeal.nD Cert.MoeRefIdeal.τ).loc Cert.MoeRefIdeal.main_arg1)) (m ((c.tc : Thread Cert.MoeRefIdeal.nD Cert.MoeRefIdeal.τ).loc Cert.MoeRefIdeal.main_arg2)) (m ((c.tc : Thread Cert.MoeRefIdeal.nD Cert.MoeRefIdeal.τ).loc Cert.MoeRefIdeal.main_arg3)) (m ((c.tc : Thread Cert.MoeRefIdeal.nD Cert.MoeRefIdeal.τ).loc Cert.MoeRefIdeal.main_arg4)) (m ((c.tc : Thread Cert.MoeRefIdeal.nD Cert.MoeRefIdeal.τ).loc Cert.MoeRefIdeal.main_arg5)) (m ((c.tc : Thread Cert.MoeRefIdeal.nD Cert.MoeRefIdeal.τ).loc Cert.MoeRefIdeal.main_arg6))).2.2.2.1 = (fun _ => 1#1)
    ∧ (Cert.Pre_rows_finite.fn (F := Ideal) (m ((c.tc : Thread Cert.MoeRefIdeal.nD Cert.MoeRefIdeal.τ).loc Cert.MoeRefIdeal.main_arg0)) (m ((c.tc : Thread Cert.MoeRefIdeal.nD Cert.MoeRefIdeal.τ).loc Cert.MoeRefIdeal.main_arg1)) (m ((c.tc : Thread Cert.MoeRefIdeal.nD Cert.MoeRefIdeal.τ).loc Cert.MoeRefIdeal.main_arg2)) (m ((c.tc : Thread Cert.MoeRefIdeal.nD Cert.MoeRefIdeal.τ).loc Cert.MoeRefIdeal.main_arg3)) (m ((c.tc : Thread Cert.MoeRefIdeal.nD Cert.MoeRefIdeal.τ).loc Cert.MoeRefIdeal.main_arg4)) (m ((c.tc : Thread Cert.MoeRefIdeal.nD Cert.MoeRefIdeal.τ).loc Cert.MoeRefIdeal.main_arg5)) (m ((c.tc : Thread Cert.MoeRefIdeal.nD Cert.MoeRefIdeal.τ).loc Cert.MoeRefIdeal.main_arg6))).2.2.2.2.1 = (fun _ => 1#1)
    ∧ (Cert.Pre_rows_finite.fn (F := Ideal) (m ((c.tc : Thread Cert.MoeRefIdeal.nD Cert.MoeRefIdeal.τ).loc Cert.MoeRefIdeal.main_arg0)) (m ((c.tc : Thread Cert.MoeRefIdeal.nD Cert.MoeRefIdeal.τ).loc Cert.MoeRefIdeal.main_arg1)) (m ((c.tc : Thread Cert.MoeRefIdeal.nD Cert.MoeRefIdeal.τ).loc Cert.MoeRefIdeal.main_arg2)) (m ((c.tc : Thread Cert.MoeRefIdeal.nD Cert.MoeRefIdeal.τ).loc Cert.MoeRefIdeal.main_arg3)) (m ((c.tc : Thread Cert.MoeRefIdeal.nD Cert.MoeRefIdeal.τ).loc Cert.MoeRefIdeal.main_arg4)) (m ((c.tc : Thread Cert.MoeRefIdeal.nD Cert.MoeRefIdeal.τ).loc Cert.MoeRefIdeal.main_arg5)) (m ((c.tc : Thread Cert.MoeRefIdeal.nD Cert.MoeRefIdeal.τ).loc Cert.MoeRefIdeal.main_arg6))).2.2.2.2.2.1 = (fun _ => 1#1)
    ∧ (Cert.Pre_rows_finite.fn (F := Ideal) (m ((c.tc : Thread Cert.MoeRefIdeal.nD Cert.MoeRefIdeal.τ).loc Cert.MoeRefIdeal.main_arg0)) (m ((c.tc : Thread Cert.MoeRefIdeal.nD Cert.MoeRefIdeal.τ).loc Cert.MoeRefIdeal.main_arg1)) (m ((c.tc : Thread Cert.MoeRefIdeal.nD Cert.MoeRefIdeal.τ).loc Cert.MoeRefIdeal.main_arg2)) (m ((c.tc : Thread Cert.MoeRefIdeal.nD Cert.MoeRefIdeal.τ).loc Cert.MoeRefIdeal.main_arg3)) (m ((c.tc : Thread Cert.MoeRefIdeal.nD Cert.MoeRefIdeal.τ).loc Cert.MoeRefIdeal.main_arg4)) (m ((c.tc : Thread Cert.MoeRefIdeal.nD Cert.MoeRefIdeal.τ).loc Cert.MoeRefIdeal.main_arg5)) (m ((c.tc : Thread Cert.MoeRefIdeal.nD Cert.MoeRefIdeal.τ).loc Cert.MoeRefIdeal.main_arg6))).2.2.2.2.2.2.1 = (fun _ => 1#1)
    ∧ (Cert.Pre_rows_finite.fn (F := Ideal) (m ((c.tc : Thread Cert.MoeRefIdeal.nD Cert.MoeRefIdeal.τ).loc Cert.MoeRefIdeal.main_arg0)) (m ((c.tc : Thread Cert.MoeRefIdeal.nD Cert.MoeRefIdeal.τ).loc Cert.MoeRefIdeal.main_arg1)) (m ((c.tc : Thread Cert.MoeRefIdeal.nD Cert.MoeRefIdeal.τ).loc Cert.MoeRefIdeal.main_arg2)) (m ((c.tc : Thread Cert.MoeRefIdeal.nD Cert.MoeRefIdeal.τ).loc Cert.MoeRefIdeal.main_arg3)) (m ((c.tc : Thread Cert.MoeRefIdeal.nD Cert.MoeRefIdeal.τ).loc Cert.MoeRefIdeal.main_arg4)) (m ((c.tc : Thread Cert.MoeRefIdeal.nD Cert.MoeRefIdeal.τ).loc Cert.MoeRefIdeal.main_arg5)) (m ((c.tc : Thread Cert.MoeRefIdeal.nD Cert.MoeRefIdeal.τ).loc Cert.MoeRefIdeal.main_arg6))).2.2.2.2.2.2.2.1 = (fun _ => 1#1)
    ∧ (Cert.Pre_rows_finite.fn (F := Ideal) (m ((c.tc : Thread Cert.MoeRefIdeal.nD Cert.MoeRefIdeal.τ).loc Cert.MoeRefIdeal.main_arg0)) (m ((c.tc : Thread Cert.MoeRefIdeal.nD Cert.MoeRefIdeal.τ).loc Cert.MoeRefIdeal.main_arg1)) (m ((c.tc : Thread Cert.MoeRefIdeal.nD Cert.MoeRefIdeal.τ).loc Cert.MoeRefIdeal.main_arg2)) (m ((c.tc : Thread Cert.MoeRefIdeal.nD Cert.MoeRefIdeal.τ).loc Cert.MoeRefIdeal.main_arg3)) (m ((c.tc : Thread Cert.MoeRefIdeal.nD Cert.MoeRefIdeal.τ).loc Cert.MoeRefIdeal.main_arg4)) (m ((c.tc : Thread Cert.MoeRefIdeal.nD Cert.MoeRefIdeal.τ).loc Cert.MoeRefIdeal.main_arg5)) (m ((c.tc : Thread Cert.MoeRefIdeal.nD Cert.MoeRefIdeal.τ).loc Cert.MoeRefIdeal.main_arg6))).2.2.2.2.2.2.2.2.1 = (fun _ => 1#1)
    ∧ (Cert.Pre_rows_finite.fn (F := Ideal) (m ((c.tc : Thread Cert.MoeRefIdeal.nD Cert.MoeRefIdeal.τ).loc Cert.MoeRefIdeal.main_arg0)) (m ((c.tc : Thread Cert.MoeRefIdeal.nD Cert.MoeRefIdeal.τ).loc Cert.MoeRefIdeal.main_arg1)) (m ((c.tc : Thread Cert.MoeRefIdeal.nD Cert.MoeRefIdeal.τ).loc Cert.MoeRefIdeal.main_arg2)) (m ((c.tc : Thread Cert.MoeRefIdeal.nD Cert.MoeRefIdeal.τ).loc Cert.MoeRefIdeal.main_arg3)) (m ((c.tc : Thread Cert.MoeRefIdeal.nD Cert.MoeRefIdeal.τ).loc Cert.MoeRefIdeal.main_arg4)) (m ((c.tc : Thread Cert.MoeRefIdeal.nD Cert.MoeRefIdeal.τ).loc Cert.MoeRefIdeal.main_arg5)) (m ((c.tc : Thread Cert.MoeRefIdeal.nD Cert.MoeRefIdeal.τ).loc Cert.MoeRefIdeal.main_arg6))).2.2.2.2.2.2.2.2.2 = (fun _ => 1#1)

def Pre_Inp (m : (ℓ : Loc Cert.Inp.nD Cert.Inp.τ Cert.Inp.sig) → Buf (Elt Bits) ℓ) : Prop :=
  True

def Pre_InpIdeal (m : (ℓ : Loc Cert.InpIdeal.nD Cert.InpIdeal.τ Cert.InpIdeal.sig) → Buf (Elt Ideal) ℓ) : Prop :=
  True

def Pre_InpRefIdeal (m : (ℓ : Loc Cert.InpRefIdeal.nD Cert.InpRefIdeal.τ Cert.InpRefIdeal.sig) → Buf (Elt Ideal) ℓ) : Prop :=
  True

def quiescent_Attn [hAttn : Cert.Attn.Facts] : Prop :=
  ∀ (m : (ℓ : Loc Cert.Attn.nD Cert.Attn.τ Cert.Attn.sig) → Buf (Elt Bits) ℓ) (g : Dev Cert.Attn.nD → PrngReg), Pre_Attn m →
    θ_run (Cert.Attn.defs (F := Bits)) (onTc (τ := Cert.Attn.τ) (Cert.Attn.main (F := Bits))) ⟨m, fun _ => 0, g⟩ (fun r => (∀ c : Dev Cert.Attn.nD,
      r.2.mem ((c.tc : Thread Cert.Attn.nD Cert.Attn.τ).loc Cert.Attn.main_arg0) = m ((c.tc : Thread Cert.Attn.nD Cert.Attn.τ).loc Cert.Attn.main_arg0)
      ∧ r.2.mem ((c.tc : Thread Cert.Attn.nD Cert.Attn.τ).loc Cert.Attn.main_arg1) = m ((c.tc : Thread Cert.Attn.nD Cert.Attn.τ).loc Cert.Attn.main_arg1)
      ∧ r.2.mem ((c.tc : Thread Cert.Attn.nD Cert.Attn.τ).loc Cert.Attn.main_arg2) = m ((c.tc : Thread Cert.Attn.nD Cert.Attn.τ).loc Cert.Attn.main_arg2)
      ∧ r.2.mem ((c.tc : Thread Cert.Attn.nD Cert.Attn.τ).loc Cert.Attn.main_arg3) = m ((c.tc : Thread Cert.Attn.nD Cert.Attn.τ).loc Cert.Attn.main_arg3)
      ∧ r.2.mem ((c.tc : Thread Cert.Attn.nD Cert.Attn.τ).loc Cert.Attn.main_arg4) = m ((c.tc : Thread Cert.Attn.nD Cert.Attn.τ).loc Cert.Attn.main_arg4))
      ∧ r.2.sem = fun _ => 0)

def quiescent_AttnIdeal [hAttnIdeal : Cert.AttnIdeal.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
      ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4))
      ∧ r.2.sem = fun _ => 0)

def quiescent_AttnIdeal_pre_finite_scores [hAttnIdeal : Cert.AttnIdeal.Facts] [hPre_finite_scores : Cert.Pre_finite_scores.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal_finite_scores m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
      ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4))
      ∧ r.2.sem = fun _ => 0)

def quiescent_AttnRefIdeal [hAttnRefIdeal : Cert.AttnRefIdeal.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2)
      ∧ r.2.mem ((c.tc : Thread Cert.AttnRefIdeal.nD Cert.AttnRefIdeal.τ).loc Cert.AttnRefIdeal.main_arg3) = m ((c.tc : Thread Cert.AttnRefIdeal.nD Cert.AttnRefIdeal.τ).loc Cert.AttnRefIdeal.main_arg3)
      ∧ r.2.mem ((c.tc : Thread Cert.AttnRefIdeal.nD Cert.AttnRefIdeal.τ).loc Cert.AttnRefIdeal.main_arg4) = m ((c.tc : Thread Cert.AttnRefIdeal.nD Cert.AttnRefIdeal.τ).loc Cert.AttnRefIdeal.main_arg4))
      ∧ r.2.sem = fun _ => 0)

def quiescent_AttnRefIdeal_pre_finite_scores [hAttnRefIdeal : Cert.AttnRefIdeal.Facts] [hPre_finite_scores : Cert.Pre_finite_scores.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal_finite_scores m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2)
      ∧ r.2.mem ((c.tc : Thread Cert.AttnRefIdeal.nD Cert.AttnRefIdeal.τ).loc Cert.AttnRefIdeal.main_arg3) = m ((c.tc : Thread Cert.AttnRefIdeal.nD Cert.AttnRefIdeal.τ).loc Cert.AttnRefIdeal.main_arg3)
      ∧ r.2.mem ((c.tc : Thread Cert.AttnRefIdeal.nD Cert.AttnRefIdeal.τ).loc Cert.AttnRefIdeal.main_arg4) = m ((c.tc : Thread Cert.AttnRefIdeal.nD Cert.AttnRefIdeal.τ).loc Cert.AttnRefIdeal.main_arg4))
      ∧ r.2.sem = fun _ => 0)

def quiescent_Moe [hMoe : Cert.Moe.Facts] [hPre_rows_ok : Cert.Pre_rows_ok.Facts] : Prop :=
  ∀ (m : (ℓ : Loc Cert.Moe.nD Cert.Moe.τ Cert.Moe.sig) → Buf (Elt Bits) ℓ) (g : Dev Cert.Moe.nD → PrngReg), Pre_Moe m →
    θ_run (Cert.Moe.defs (F := Bits)) (onTc (τ := Cert.Moe.τ) (Cert.Moe.main (F := Bits))) ⟨m, fun _ => 0, g⟩ (fun r => (∀ c : Dev Cert.Moe.nD,
      r.2.mem ((c.tc : Thread Cert.Moe.nD Cert.Moe.τ).loc Cert.Moe.main_arg0) = m ((c.tc : Thread Cert.Moe.nD Cert.Moe.τ).loc Cert.Moe.main_arg0)
      ∧ r.2.mem ((c.tc : Thread Cert.Moe.nD Cert.Moe.τ).loc Cert.Moe.main_arg1) = m ((c.tc : Thread Cert.Moe.nD Cert.Moe.τ).loc Cert.Moe.main_arg1)
      ∧ r.2.mem ((c.tc : Thread Cert.Moe.nD Cert.Moe.τ).loc Cert.Moe.main_arg2) = m ((c.tc : Thread Cert.Moe.nD Cert.Moe.τ).loc Cert.Moe.main_arg2)
      ∧ r.2.mem ((c.tc : Thread Cert.Moe.nD Cert.Moe.τ).loc Cert.Moe.main_arg3) = m ((c.tc : Thread Cert.Moe.nD Cert.Moe.τ).loc Cert.Moe.main_arg3)
      ∧ r.2.mem ((c.tc : Thread Cert.Moe.nD Cert.Moe.τ).loc Cert.Moe.main_arg4) = m ((c.tc : Thread Cert.Moe.nD Cert.Moe.τ).loc Cert.Moe.main_arg4)
      ∧ r.2.mem ((c.tc : Thread Cert.Moe.nD Cert.Moe.τ).loc Cert.Moe.main_arg5) = m ((c.tc : Thread Cert.Moe.nD Cert.Moe.τ).loc Cert.Moe.main_arg5)
      ∧ r.2.mem ((c.tc : Thread Cert.Moe.nD Cert.Moe.τ).loc Cert.Moe.main_arg6) = m ((c.tc : Thread Cert.Moe.nD Cert.Moe.τ).loc Cert.Moe.main_arg6))
      ∧ r.2.sem = fun _ => 0)

def quiescent_MoeIdeal [hMoeIdeal : Cert.MoeIdeal.Facts] [hPre_rows_ok : Cert.Pre_rows_ok.Facts] : Prop :=
  ∀ (m : (ℓ : Loc Cert.MoeIdeal.nD Cert.MoeIdeal.τ Cert.MoeIdeal.sig) → Buf (Elt Ideal) ℓ) (g : Dev Cert.MoeIdeal.nD → PrngReg), Pre_MoeIdeal m →
    θ_run (Cert.MoeIdeal.defs (F := Ideal)) (onTc (τ := Cert.MoeIdeal.τ) (Cert.MoeIdeal.main (F := Ideal))) ⟨m, fun _ => 0, g⟩ (fun r => (∀ c : Dev Cert.MoeIdeal.nD,
      r.2.mem ((c.tc : Thread Cert.MoeIdeal.nD Cert.MoeIdeal.τ).loc Cert.MoeIdeal.main_arg0) = m ((c.tc : Thread Cert.MoeIdeal.nD Cert.MoeIdeal.τ).loc Cert.MoeIdeal.main_arg0)
      ∧ r.2.mem ((c.tc : Thread Cert.MoeIdeal.nD Cert.MoeIdeal.τ).loc Cert.MoeIdeal.main_arg1) = m ((c.tc : Thread Cert.MoeIdeal.nD Cert.MoeIdeal.τ).loc Cert.MoeIdeal.main_arg1)
      ∧ r.2.mem ((c.tc : Thread Cert.MoeIdeal.nD Cert.MoeIdeal.τ).loc Cert.MoeIdeal.main_arg2) = m ((c.tc : Thread Cert.MoeIdeal.nD Cert.MoeIdeal.τ).loc Cert.MoeIdeal.main_arg2)
      ∧ r.2.mem ((c.tc : Thread Cert.MoeIdeal.nD Cert.MoeIdeal.τ).loc Cert.MoeIdeal.main_arg3) = m ((c.tc : Thread Cert.MoeIdeal.nD Cert.MoeIdeal.τ).loc Cert.MoeIdeal.main_arg3)
      ∧ r.2.mem ((c.tc : Thread Cert.MoeIdeal.nD Cert.MoeIdeal.τ).loc Cert.MoeIdeal.main_arg4) = m ((c.tc : Thread Cert.MoeIdeal.nD Cert.MoeIdeal.τ).loc Cert.MoeIdeal.main_arg4)
      ∧ r.2.mem ((c.tc : Thread Cert.MoeIdeal.nD Cert.MoeIdeal.τ).loc Cert.MoeIdeal.main_arg5) = m ((c.tc : Thread Cert.MoeIdeal.nD Cert.MoeIdeal.τ).loc Cert.MoeIdeal.main_arg5)
      ∧ r.2.mem ((c.tc : Thread Cert.MoeIdeal.nD Cert.MoeIdeal.τ).loc Cert.MoeIdeal.main_arg6) = m ((c.tc : Thread Cert.MoeIdeal.nD Cert.MoeIdeal.τ).loc Cert.MoeIdeal.main_arg6))
      ∧ r.2.sem = fun _ => 0)

def quiescent_MoeIdeal_pre_rows_finite [hMoeIdeal : Cert.MoeIdeal.Facts] [hPre_rows_finite : Cert.Pre_rows_finite.Facts] : Prop :=
  ∀ (m : (ℓ : Loc Cert.MoeIdeal.nD Cert.MoeIdeal.τ Cert.MoeIdeal.sig) → Buf (Elt Ideal) ℓ) (g : Dev Cert.MoeIdeal.nD → PrngReg), Pre_MoeIdeal_rows_finite m →
    θ_run (Cert.MoeIdeal.defs (F := Ideal)) (onTc (τ := Cert.MoeIdeal.τ) (Cert.MoeIdeal.main (F := Ideal))) ⟨m, fun _ => 0, g⟩ (fun r => (∀ c : Dev Cert.MoeIdeal.nD,
      r.2.mem ((c.tc : Thread Cert.MoeIdeal.nD Cert.MoeIdeal.τ).loc Cert.MoeIdeal.main_arg0) = m ((c.tc : Thread Cert.MoeIdeal.nD Cert.MoeIdeal.τ).loc Cert.MoeIdeal.main_arg0)
      ∧ r.2.mem ((c.tc : Thread Cert.MoeIdeal.nD Cert.MoeIdeal.τ).loc Cert.MoeIdeal.main_arg1) = m ((c.tc : Thread Cert.MoeIdeal.nD Cert.MoeIdeal.τ).loc Cert.MoeIdeal.main_arg1)
      ∧ r.2.mem ((c.tc : Thread Cert.MoeIdeal.nD Cert.MoeIdeal.τ).loc Cert.MoeIdeal.main_arg2) = m ((c.tc : Thread Cert.MoeIdeal.nD Cert.MoeIdeal.τ).loc Cert.MoeIdeal.main_arg2)
      ∧ r.2.mem ((c.tc : Thread Cert.MoeIdeal.nD Cert.MoeIdeal.τ).loc Cert.MoeIdeal.main_arg3) = m ((c.tc : Thread Cert.MoeIdeal.nD Cert.MoeIdeal.τ).loc Cert.MoeIdeal.main_arg3)
      ∧ r.2.mem ((c.tc : Thread Cert.MoeIdeal.nD Cert.MoeIdeal.τ).loc Cert.MoeIdeal.main_arg4) = m ((c.tc : Thread Cert.MoeIdeal.nD Cert.MoeIdeal.τ).loc Cert.MoeIdeal.main_arg4)
      ∧ r.2.mem ((c.tc : Thread Cert.MoeIdeal.nD Cert.MoeIdeal.τ).loc Cert.MoeIdeal.main_arg5) = m ((c.tc : Thread Cert.MoeIdeal.nD Cert.MoeIdeal.τ).loc Cert.MoeIdeal.main_arg5)
      ∧ r.2.mem ((c.tc : Thread Cert.MoeIdeal.nD Cert.MoeIdeal.τ).loc Cert.MoeIdeal.main_arg6) = m ((c.tc : Thread Cert.MoeIdeal.nD Cert.MoeIdeal.τ).loc Cert.MoeIdeal.main_arg6))
      ∧ r.2.sem = fun _ => 0)

def quiescent_MoeRefIdeal [hMoeRefIdeal : Cert.MoeRefIdeal.Facts] : Prop :=
  ∀ (m : (ℓ : Loc Cert.MoeRefIdeal.nD Cert.MoeRefIdeal.τ Cert.MoeRefIdeal.sig) → Buf (Elt Ideal) ℓ) (g : Dev Cert.MoeRefIdeal.nD → PrngReg), Pre_MoeRefIdeal m →
    θ_run (Cert.MoeRefIdeal.defs (F := Ideal)) (onTc (τ := Cert.MoeRefIdeal.τ) (Cert.MoeRefIdeal.main (F := Ideal))) ⟨m, fun _ => 0, g⟩ (fun r => (∀ c : Dev Cert.MoeRefIdeal.nD,
      r.2.mem ((c.tc : Thread Cert.MoeRefIdeal.nD Cert.MoeRefIdeal.τ).loc Cert.MoeRefIdeal.main_arg0) = m ((c.tc : Thread Cert.MoeRefIdeal.nD Cert.MoeRefIdeal.τ).loc Cert.MoeRefIdeal.main_arg0)
      ∧ r.2.mem ((c.tc : Thread Cert.MoeRefIdeal.nD Cert.MoeRefIdeal.τ).loc Cert.MoeRefIdeal.main_arg1) = m ((c.tc : Thread Cert.MoeRefIdeal.nD Cert.MoeRefIdeal.τ).loc Cert.MoeRefIdeal.main_arg1)
      ∧ r.2.mem ((c.tc : Thread Cert.MoeRefIdeal.nD Cert.MoeRefIdeal.τ).loc Cert.MoeRefIdeal.main_arg2) = m ((c.tc : Thread Cert.MoeRefIdeal.nD Cert.MoeRefIdeal.τ).loc Cert.MoeRefIdeal.main_arg2)
      ∧ r.2.mem ((c.tc : Thread Cert.MoeRefIdeal.nD Cert.MoeRefIdeal.τ).loc Cert.MoeRefIdeal.main_arg3) = m ((c.tc : Thread Cert.MoeRefIdeal.nD Cert.MoeRefIdeal.τ).loc Cert.MoeRefIdeal.main_arg3)
      ∧ r.2.mem ((c.tc : Thread Cert.MoeRefIdeal.nD Cert.MoeRefIdeal.τ).loc Cert.MoeRefIdeal.main_arg4) = m ((c.tc : Thread Cert.MoeRefIdeal.nD Cert.MoeRefIdeal.τ).loc Cert.MoeRefIdeal.main_arg4)
      ∧ r.2.mem ((c.tc : Thread Cert.MoeRefIdeal.nD Cert.MoeRefIdeal.τ).loc Cert.MoeRefIdeal.main_arg5) = m ((c.tc : Thread Cert.MoeRefIdeal.nD Cert.MoeRefIdeal.τ).loc Cert.MoeRefIdeal.main_arg5)
      ∧ r.2.mem ((c.tc : Thread Cert.MoeRefIdeal.nD Cert.MoeRefIdeal.τ).loc Cert.MoeRefIdeal.main_arg6) = m ((c.tc : Thread Cert.MoeRefIdeal.nD Cert.MoeRefIdeal.τ).loc Cert.MoeRefIdeal.main_arg6))
      ∧ r.2.sem = fun _ => 0)

def quiescent_MoeRefIdeal_pre_rows_finite [hMoeRefIdeal : Cert.MoeRefIdeal.Facts] [hPre_rows_finite : Cert.Pre_rows_finite.Facts] : Prop :=
  ∀ (m : (ℓ : Loc Cert.MoeRefIdeal.nD Cert.MoeRefIdeal.τ Cert.MoeRefIdeal.sig) → Buf (Elt Ideal) ℓ) (g : Dev Cert.MoeRefIdeal.nD → PrngReg), Pre_MoeRefIdeal_rows_finite m →
    θ_run (Cert.MoeRefIdeal.defs (F := Ideal)) (onTc (τ := Cert.MoeRefIdeal.τ) (Cert.MoeRefIdeal.main (F := Ideal))) ⟨m, fun _ => 0, g⟩ (fun r => (∀ c : Dev Cert.MoeRefIdeal.nD,
      r.2.mem ((c.tc : Thread Cert.MoeRefIdeal.nD Cert.MoeRefIdeal.τ).loc Cert.MoeRefIdeal.main_arg0) = m ((c.tc : Thread Cert.MoeRefIdeal.nD Cert.MoeRefIdeal.τ).loc Cert.MoeRefIdeal.main_arg0)
      ∧ r.2.mem ((c.tc : Thread Cert.MoeRefIdeal.nD Cert.MoeRefIdeal.τ).loc Cert.MoeRefIdeal.main_arg1) = m ((c.tc : Thread Cert.MoeRefIdeal.nD Cert.MoeRefIdeal.τ).loc Cert.MoeRefIdeal.main_arg1)
      ∧ r.2.mem ((c.tc : Thread Cert.MoeRefIdeal.nD Cert.MoeRefIdeal.τ).loc Cert.MoeRefIdeal.main_arg2) = m ((c.tc : Thread Cert.MoeRefIdeal.nD Cert.MoeRefIdeal.τ).loc Cert.MoeRefIdeal.main_arg2)
      ∧ r.2.mem ((c.tc : Thread Cert.MoeRefIdeal.nD Cert.MoeRefIdeal.τ).loc Cert.MoeRefIdeal.main_arg3) = m ((c.tc : Thread Cert.MoeRefIdeal.nD Cert.MoeRefIdeal.τ).loc Cert.MoeRefIdeal.main_arg3)
      ∧ r.2.mem ((c.tc : Thread Cert.MoeRefIdeal.nD Cert.MoeRefIdeal.τ).loc Cert.MoeRefIdeal.main_arg4) = m ((c.tc : Thread Cert.MoeRefIdeal.nD Cert.MoeRefIdeal.τ).loc Cert.MoeRefIdeal.main_arg4)
      ∧ r.2.mem ((c.tc : Thread Cert.MoeRefIdeal.nD Cert.MoeRefIdeal.τ).loc Cert.MoeRefIdeal.main_arg5) = m ((c.tc : Thread Cert.MoeRefIdeal.nD Cert.MoeRefIdeal.τ).loc Cert.MoeRefIdeal.main_arg5)
      ∧ r.2.mem ((c.tc : Thread Cert.MoeRefIdeal.nD Cert.MoeRefIdeal.τ).loc Cert.MoeRefIdeal.main_arg6) = m ((c.tc : Thread Cert.MoeRefIdeal.nD Cert.MoeRefIdeal.τ).loc Cert.MoeRefIdeal.main_arg6))
      ∧ r.2.sem = fun _ => 0)

def quiescent_Inp [hInp : Cert.Inp.Facts] : Prop :=
  ∀ (m : (ℓ : Loc Cert.Inp.nD Cert.Inp.τ Cert.Inp.sig) → Buf (Elt Bits) ℓ) (g : Dev Cert.Inp.nD → PrngReg), Pre_Inp m →
    θ_run (Cert.Inp.defs (F := Bits)) (onTc (τ := Cert.Inp.τ) (Cert.Inp.main (F := Bits))) ⟨m, fun _ => 0, g⟩ (fun r => (∀ c : Dev Cert.Inp.nD,
      r.2.mem ((c.tc : Thread Cert.Inp.nD Cert.Inp.τ).loc Cert.Inp.main_arg0) = m ((c.tc : Thread Cert.Inp.nD Cert.Inp.τ).loc Cert.Inp.main_arg0)
      ∧ r.2.mem ((c.tc : Thread Cert.Inp.nD Cert.Inp.τ).loc Cert.Inp.main_arg1) = m ((c.tc : Thread Cert.Inp.nD Cert.Inp.τ).loc Cert.Inp.main_arg1)
      ∧ r.2.mem ((c.tc : Thread Cert.Inp.nD Cert.Inp.τ).loc Cert.Inp.main_arg2) = m ((c.tc : Thread Cert.Inp.nD Cert.Inp.τ).loc Cert.Inp.main_arg2)
      ∧ r.2.mem ((c.tc : Thread Cert.Inp.nD Cert.Inp.τ).loc Cert.Inp.main_arg3) = m ((c.tc : Thread Cert.Inp.nD Cert.Inp.τ).loc Cert.Inp.main_arg3)
      ∧ r.2.mem ((c.tc : Thread Cert.Inp.nD Cert.Inp.τ).loc Cert.Inp.main_arg4) = m ((c.tc : Thread Cert.Inp.nD Cert.Inp.τ).loc Cert.Inp.main_arg4)
      ∧ r.2.mem ((c.tc : Thread Cert.Inp.nD Cert.Inp.τ).loc Cert.Inp.main_arg5) = m ((c.tc : Thread Cert.Inp.nD Cert.Inp.τ).loc Cert.Inp.main_arg5)
      ∧ r.2.mem ((c.tc : Thread Cert.Inp.nD Cert.Inp.τ).loc Cert.Inp.main_arg6) = m ((c.tc : Thread Cert.Inp.nD Cert.Inp.τ).loc Cert.Inp.main_arg6)
      ∧ r.2.mem ((c.tc : Thread Cert.Inp.nD Cert.Inp.τ).loc Cert.Inp.main_arg7) = m ((c.tc : Thread Cert.Inp.nD Cert.Inp.τ).loc Cert.Inp.main_arg7))
      ∧ r.2.sem = fun _ => 0)

def quiescent_InpIdeal [hInpIdeal : Cert.InpIdeal.Facts] : Prop :=
  ∀ (m : (ℓ : Loc Cert.InpIdeal.nD Cert.InpIdeal.τ Cert.InpIdeal.sig) → Buf (Elt Ideal) ℓ) (g : Dev Cert.InpIdeal.nD → PrngReg), Pre_InpIdeal m →
    θ_run (Cert.InpIdeal.defs (F := Ideal)) (onTc (τ := Cert.InpIdeal.τ) (Cert.InpIdeal.main (F := Ideal))) ⟨m, fun _ => 0, g⟩ (fun r => (∀ c : Dev Cert.InpIdeal.nD,
      r.2.mem ((c.tc : Thread Cert.InpIdeal.nD Cert.InpIdeal.τ).loc Cert.InpIdeal.main_arg0) = m ((c.tc : Thread Cert.InpIdeal.nD Cert.InpIdeal.τ).loc Cert.InpIdeal.main_arg0)
      ∧ r.2.mem ((c.tc : Thread Cert.InpIdeal.nD Cert.InpIdeal.τ).loc Cert.InpIdeal.main_arg1) = m ((c.tc : Thread Cert.InpIdeal.nD Cert.InpIdeal.τ).loc Cert.InpIdeal.main_arg1)
      ∧ r.2.mem ((c.tc : Thread Cert.InpIdeal.nD Cert.InpIdeal.τ).loc Cert.InpIdeal.main_arg2) = m ((c.tc : Thread Cert.InpIdeal.nD Cert.InpIdeal.τ).loc Cert.InpIdeal.main_arg2)
      ∧ r.2.mem ((c.tc : Thread Cert.InpIdeal.nD Cert.InpIdeal.τ).loc Cert.InpIdeal.main_arg3) = m ((c.tc : Thread Cert.InpIdeal.nD Cert.InpIdeal.τ).loc Cert.InpIdeal.main_arg3)
      ∧ r.2.mem ((c.tc : Thread Cert.InpIdeal.nD Cert.InpIdeal.τ).loc Cert.InpIdeal.main_arg4) = m ((c.tc : Thread Cert.InpIdeal.nD Cert.InpIdeal.τ).loc Cert.InpIdeal.main_arg4)
      ∧ r.2.mem ((c.tc : Thread Cert.InpIdeal.nD Cert.InpIdeal.τ).loc Cert.InpIdeal.main_arg5) = m ((c.tc : Thread Cert.InpIdeal.nD Cert.InpIdeal.τ).loc Cert.InpIdeal.main_arg5)
      ∧ r.2.mem ((c.tc : Thread Cert.InpIdeal.nD Cert.InpIdeal.τ).loc Cert.InpIdeal.main_arg6) = m ((c.tc : Thread Cert.InpIdeal.nD Cert.InpIdeal.τ).loc Cert.InpIdeal.main_arg6)
      ∧ r.2.mem ((c.tc : Thread Cert.InpIdeal.nD Cert.InpIdeal.τ).loc Cert.InpIdeal.main_arg7) = m ((c.tc : Thread Cert.InpIdeal.nD Cert.InpIdeal.τ).loc Cert.InpIdeal.main_arg7))
      ∧ r.2.sem = fun _ => 0)

def quiescent_InpRefIdeal [hInpRefIdeal : Cert.InpRefIdeal.Facts] : Prop :=
  ∀ (m : (ℓ : Loc Cert.InpRefIdeal.nD Cert.InpRefIdeal.τ Cert.InpRefIdeal.sig) → Buf (Elt Ideal) ℓ) (g : Dev Cert.InpRefIdeal.nD → PrngReg), Pre_InpRefIdeal m →
    θ_run (Cert.InpRefIdeal.defs (F := Ideal)) (onTc (τ := Cert.InpRefIdeal.τ) (Cert.InpRefIdeal.main (F := Ideal))) ⟨m, fun _ => 0, g⟩ (fun r => (∀ c : Dev Cert.InpRefIdeal.nD,
      r.2.mem ((c.tc : Thread Cert.InpRefIdeal.nD Cert.InpRefIdeal.τ).loc Cert.InpRefIdeal.main_arg0) = m ((c.tc : Thread Cert.InpRefIdeal.nD Cert.InpRefIdeal.τ).loc Cert.InpRefIdeal.main_arg0)
      ∧ r.2.mem ((c.tc : Thread Cert.InpRefIdeal.nD Cert.InpRefIdeal.τ).loc Cert.InpRefIdeal.main_arg1) = m ((c.tc : Thread Cert.InpRefIdeal.nD Cert.InpRefIdeal.τ).loc Cert.InpRefIdeal.main_arg1)
      ∧ r.2.mem ((c.tc : Thread Cert.InpRefIdeal.nD Cert.InpRefIdeal.τ).loc Cert.InpRefIdeal.main_arg2) = m ((c.tc : Thread Cert.InpRefIdeal.nD Cert.InpRefIdeal.τ).loc Cert.InpRefIdeal.main_arg2)
      ∧ r.2.mem ((c.tc : Thread Cert.InpRefIdeal.nD Cert.InpRefIdeal.τ).loc Cert.InpRefIdeal.main_arg3) = m ((c.tc : Thread Cert.InpRefIdeal.nD Cert.InpRefIdeal.τ).loc Cert.InpRefIdeal.main_arg3)
      ∧ r.2.mem ((c.tc : Thread Cert.InpRefIdeal.nD Cert.InpRefIdeal.τ).loc Cert.InpRefIdeal.main_arg4) = m ((c.tc : Thread Cert.InpRefIdeal.nD Cert.InpRefIdeal.τ).loc Cert.InpRefIdeal.main_arg4)
      ∧ r.2.mem ((c.tc : Thread Cert.InpRefIdeal.nD Cert.InpRefIdeal.τ).loc Cert.InpRefIdeal.main_arg5) = m ((c.tc : Thread Cert.InpRefIdeal.nD Cert.InpRefIdeal.τ).loc Cert.InpRefIdeal.main_arg5)
      ∧ r.2.mem ((c.tc : Thread Cert.InpRefIdeal.nD Cert.InpRefIdeal.τ).loc Cert.InpRefIdeal.main_arg6) = m ((c.tc : Thread Cert.InpRefIdeal.nD Cert.InpRefIdeal.τ).loc Cert.InpRefIdeal.main_arg6)
      ∧ r.2.mem ((c.tc : Thread Cert.InpRefIdeal.nD Cert.InpRefIdeal.τ).loc Cert.InpRefIdeal.main_arg7) = m ((c.tc : Thread Cert.InpRefIdeal.nD Cert.InpRefIdeal.τ).loc Cert.InpRefIdeal.main_arg7))
      ∧ r.2.sem = fun _ => 0)

def preserves_Attn_AttnIdeal : Prop :=
  True

def algebraic_AttnIdeal_AttnRefIdeal_pre_finite_scores [hAttnIdeal : Cert.AttnIdeal.Facts] [hAttnRefIdeal : Cert.AttnRefIdeal.Facts] [hPre_finite_scores : Cert.Pre_finite_scores.Facts] : Prop :=
  ∀ (m : (ℓ : Loc Cert.AttnIdeal.nD Cert.AttnIdeal.τ Cert.AttnIdeal.sig) → Buf (Elt Ideal) ℓ) (g : Dev Cert.AttnIdeal.nD → PrngReg)
    (m' : (ℓ : Loc Cert.AttnRefIdeal.nD Cert.AttnRefIdeal.τ Cert.AttnRefIdeal.sig) → Buf (Elt Ideal) ℓ) (g' : Dev Cert.AttnRefIdeal.nD → PrngReg), Pre_AttnIdeal_finite_scores m →
    (∀ c : Dev Cert.AttnIdeal.nD,
      m' ((c.tc : Thread Cert.AttnRefIdeal.nD Cert.AttnRefIdeal.τ).loc Cert.AttnRefIdeal.main_arg0) = m ((c.tc : Thread Cert.AttnIdeal.nD Cert.AttnIdeal.τ).loc Cert.AttnIdeal.main_arg0)
      ∧ m' ((c.tc : Thread Cert.AttnRefIdeal.nD Cert.AttnRefIdeal.τ).loc Cert.AttnRefIdeal.main_arg1) = m ((c.tc : Thread Cert.AttnIdeal.nD Cert.AttnIdeal.τ).loc Cert.AttnIdeal.main_arg1)
      ∧ m' ((c.tc : Thread Cert.AttnRefIdeal.nD Cert.AttnRefIdeal.τ).loc Cert.AttnRefIdeal.main_arg2) = m ((c.tc : Thread Cert.AttnIdeal.nD Cert.AttnIdeal.τ).loc Cert.AttnIdeal.main_arg2)
      ∧ m' ((c.tc : Thread Cert.AttnRefIdeal.nD Cert.AttnRefIdeal.τ).loc Cert.AttnRefIdeal.main_arg3) = m ((c.tc : Thread Cert.AttnIdeal.nD Cert.AttnIdeal.τ).loc Cert.AttnIdeal.main_arg3)
      ∧ m' ((c.tc : Thread Cert.AttnRefIdeal.nD Cert.AttnRefIdeal.τ).loc Cert.AttnRefIdeal.main_arg4) = m ((c.tc : Thread Cert.AttnIdeal.nD Cert.AttnIdeal.τ).loc Cert.AttnIdeal.main_arg4)) →
    ∃ (v0 : (c : Dev Cert.AttnIdeal.nD) → Buf (Elt Ideal) ((c.tc : Thread Cert.AttnIdeal.nD Cert.AttnIdeal.τ).loc Cert.AttnIdeal.main_v0)),
      θ_run (Cert.AttnIdeal.defs (F := Ideal)) (onTc (τ := Cert.AttnIdeal.τ) (Cert.AttnIdeal.main (F := Ideal))) ⟨m, fun _ => 0, g⟩ (fun r => ∀ c : Dev Cert.AttnIdeal.nD,
          r.2.mem ((c.tc : Thread Cert.AttnIdeal.nD Cert.AttnIdeal.τ).loc Cert.AttnIdeal.main_v0) = v0 c
          ∧ r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
          ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
          ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
          ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
          ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4))
      ∧ θ_run (Cert.AttnRefIdeal.defs (F := Ideal)) (onTc (τ := Cert.AttnRefIdeal.τ) (Cert.AttnRefIdeal.main (F := Ideal))) ⟨m', fun _ => 0, g'⟩ (fun r => ∀ c : Dev Cert.AttnRefIdeal.nD,
          r.2.mem ((c.tc : Thread Cert.AttnRefIdeal.nD Cert.AttnRefIdeal.τ).loc Cert.AttnRefIdeal.main_v25) = v0 c
          ∧ r.2.mem ((c.tc : Thread Cert.AttnRefIdeal.nD Cert.AttnRefIdeal.τ).loc Cert.AttnRefIdeal.main_arg0) = m' ((c.tc : Thread Cert.AttnRefIdeal.nD Cert.AttnRefIdeal.τ).loc Cert.AttnRefIdeal.main_arg0)
          ∧ r.2.mem ((c.tc : Thread Cert.AttnRefIdeal.nD Cert.AttnRefIdeal.τ).loc Cert.AttnRefIdeal.main_arg1) = m' ((c.tc : Thread Cert.AttnRefIdeal.nD Cert.AttnRefIdeal.τ).loc Cert.AttnRefIdeal.main_arg1)
          ∧ r.2.mem ((c.tc : Thread Cert.AttnRefIdeal.nD Cert.AttnRefIdeal.τ).loc Cert.AttnRefIdeal.main_arg2) = m' ((c.tc : Thread Cert.AttnRefIdeal.nD Cert.AttnRefIdeal.τ).loc Cert.AttnRefIdeal.main_arg2)
          ∧ r.2.mem ((c.tc : Thread Cert.AttnRefIdeal.nD Cert.AttnRefIdeal.τ).loc Cert.AttnRefIdeal.main_arg3) = m' ((c.tc : Thread Cert.AttnRefIdeal.nD Cert.AttnRefIdeal.τ).loc Cert.AttnRefIdeal.main_arg3)
          ∧ r.2.mem ((c.tc : Thread Cert.AttnRefIdeal.nD Cert.AttnRefIdeal.τ).loc Cert.AttnRefIdeal.main_arg4) = m' ((c.tc : Thread Cert.AttnRefIdeal.nD Cert.AttnRefIdeal.τ).loc Cert.AttnRefIdeal.main_arg4))

def preserves_Moe_MoeIdeal : Prop :=
  True

def algebraic_MoeIdeal_MoeRefIdeal_pre_rows_finite [hMoeIdeal : Cert.MoeIdeal.Facts] [hMoeRefIdeal : Cert.MoeRefIdeal.Facts] [hPre_rows_finite : Cert.Pre_rows_finite.Facts] : Prop :=
  ∀ (m : (ℓ : Loc Cert.MoeIdeal.nD Cert.MoeIdeal.τ Cert.MoeIdeal.sig) → Buf (Elt Ideal) ℓ) (g : Dev Cert.MoeIdeal.nD → PrngReg)
    (m' : (ℓ : Loc Cert.MoeRefIdeal.nD Cert.MoeRefIdeal.τ Cert.MoeRefIdeal.sig) → Buf (Elt Ideal) ℓ) (g' : Dev Cert.MoeRefIdeal.nD → PrngReg), Pre_MoeIdeal_rows_finite m →
    (∀ c : Dev Cert.MoeIdeal.nD,
      m' ((c.tc : Thread Cert.MoeRefIdeal.nD Cert.MoeRefIdeal.τ).loc Cert.MoeRefIdeal.main_arg0) = m ((c.tc : Thread Cert.MoeIdeal.nD Cert.MoeIdeal.τ).loc Cert.MoeIdeal.main_arg0)
      ∧ m' ((c.tc : Thread Cert.MoeRefIdeal.nD Cert.MoeRefIdeal.τ).loc Cert.MoeRefIdeal.main_arg1) = m ((c.tc : Thread Cert.MoeIdeal.nD Cert.MoeIdeal.τ).loc Cert.MoeIdeal.main_arg1)
      ∧ m' ((c.tc : Thread Cert.MoeRefIdeal.nD Cert.MoeRefIdeal.τ).loc Cert.MoeRefIdeal.main_arg2) = m ((c.tc : Thread Cert.MoeIdeal.nD Cert.MoeIdeal.τ).loc Cert.MoeIdeal.main_arg2)
      ∧ m' ((c.tc : Thread Cert.MoeRefIdeal.nD Cert.MoeRefIdeal.τ).loc Cert.MoeRefIdeal.main_arg3) = m ((c.tc : Thread Cert.MoeIdeal.nD Cert.MoeIdeal.τ).loc Cert.MoeIdeal.main_arg3)
      ∧ m' ((c.tc : Thread Cert.MoeRefIdeal.nD Cert.MoeRefIdeal.τ).loc Cert.MoeRefIdeal.main_arg4) = m ((c.tc : Thread Cert.MoeIdeal.nD Cert.MoeIdeal.τ).loc Cert.MoeIdeal.main_arg4)
      ∧ m' ((c.tc : Thread Cert.MoeRefIdeal.nD Cert.MoeRefIdeal.τ).loc Cert.MoeRefIdeal.main_arg5) = m ((c.tc : Thread Cert.MoeIdeal.nD Cert.MoeIdeal.τ).loc Cert.MoeIdeal.main_arg5)
      ∧ m' ((c.tc : Thread Cert.MoeRefIdeal.nD Cert.MoeRefIdeal.τ).loc Cert.MoeRefIdeal.main_arg6) = m ((c.tc : Thread Cert.MoeIdeal.nD Cert.MoeIdeal.τ).loc Cert.MoeIdeal.main_arg6)) →
    ∃ (v0 : (c : Dev Cert.MoeIdeal.nD) → Buf (Elt Ideal) ((c.tc : Thread Cert.MoeIdeal.nD Cert.MoeIdeal.τ).loc Cert.MoeIdeal.main_v0)),
      θ_run (Cert.MoeIdeal.defs (F := Ideal)) (onTc (τ := Cert.MoeIdeal.τ) (Cert.MoeIdeal.main (F := Ideal))) ⟨m, fun _ => 0, g⟩ (fun r => ∀ c : Dev Cert.MoeIdeal.nD,
          r.2.mem ((c.tc : Thread Cert.MoeIdeal.nD Cert.MoeIdeal.τ).loc Cert.MoeIdeal.main_v0) = v0 c
          ∧ r.2.mem ((c.tc : Thread Cert.MoeIdeal.nD Cert.MoeIdeal.τ).loc Cert.MoeIdeal.main_arg0) = m ((c.tc : Thread Cert.MoeIdeal.nD Cert.MoeIdeal.τ).loc Cert.MoeIdeal.main_arg0)
          ∧ r.2.mem ((c.tc : Thread Cert.MoeIdeal.nD Cert.MoeIdeal.τ).loc Cert.MoeIdeal.main_arg1) = m ((c.tc : Thread Cert.MoeIdeal.nD Cert.MoeIdeal.τ).loc Cert.MoeIdeal.main_arg1)
          ∧ r.2.mem ((c.tc : Thread Cert.MoeIdeal.nD Cert.MoeIdeal.τ).loc Cert.MoeIdeal.main_arg2) = m ((c.tc : Thread Cert.MoeIdeal.nD Cert.MoeIdeal.τ).loc Cert.MoeIdeal.main_arg2)
          ∧ r.2.mem ((c.tc : Thread Cert.MoeIdeal.nD Cert.MoeIdeal.τ).loc Cert.MoeIdeal.main_arg3) = m ((c.tc : Thread Cert.MoeIdeal.nD Cert.MoeIdeal.τ).loc Cert.MoeIdeal.main_arg3)
          ∧ r.2.mem ((c.tc : Thread Cert.MoeIdeal.nD Cert.MoeIdeal.τ).loc Cert.MoeIdeal.main_arg4) = m ((c.tc : Thread Cert.MoeIdeal.nD Cert.MoeIdeal.τ).loc Cert.MoeIdeal.main_arg4)
          ∧ r.2.mem ((c.tc : Thread Cert.MoeIdeal.nD Cert.MoeIdeal.τ).loc Cert.MoeIdeal.main_arg5) = m ((c.tc : Thread Cert.MoeIdeal.nD Cert.MoeIdeal.τ).loc Cert.MoeIdeal.main_arg5)
          ∧ r.2.mem ((c.tc : Thread Cert.MoeIdeal.nD Cert.MoeIdeal.τ).loc Cert.MoeIdeal.main_arg6) = m ((c.tc : Thread Cert.MoeIdeal.nD Cert.MoeIdeal.τ).loc Cert.MoeIdeal.main_arg6))
      ∧ θ_run (Cert.MoeRefIdeal.defs (F := Ideal)) (onTc (τ := Cert.MoeRefIdeal.τ) (Cert.MoeRefIdeal.main (F := Ideal))) ⟨m', fun _ => 0, g'⟩ (fun r => ∀ c : Dev Cert.MoeRefIdeal.nD,
          r.2.mem ((c.tc : Thread Cert.MoeRefIdeal.nD Cert.MoeRefIdeal.τ).loc Cert.MoeRefIdeal.main_v50) = v0 c
          ∧ r.2.mem ((c.tc : Thread Cert.MoeRefIdeal.nD Cert.MoeRefIdeal.τ).loc Cert.MoeRefIdeal.main_arg0) = m' ((c.tc : Thread Cert.MoeRefIdeal.nD Cert.MoeRefIdeal.τ).loc Cert.MoeRefIdeal.main_arg0)
          ∧ r.2.mem ((c.tc : Thread Cert.MoeRefIdeal.nD Cert.MoeRefIdeal.τ).loc Cert.MoeRefIdeal.main_arg1) = m' ((c.tc : Thread Cert.MoeRefIdeal.nD Cert.MoeRefIdeal.τ).loc Cert.MoeRefIdeal.main_arg1)
          ∧ r.2.mem ((c.tc : Thread Cert.MoeRefIdeal.nD Cert.MoeRefIdeal.τ).loc Cert.MoeRefIdeal.main_arg2) = m' ((c.tc : Thread Cert.MoeRefIdeal.nD Cert.MoeRefIdeal.τ).loc Cert.MoeRefIdeal.main_arg2)
          ∧ r.2.mem ((c.tc : Thread Cert.MoeRefIdeal.nD Cert.MoeRefIdeal.τ).loc Cert.MoeRefIdeal.main_arg3) = m' ((c.tc : Thread Cert.MoeRefIdeal.nD Cert.MoeRefIdeal.τ).loc Cert.MoeRefIdeal.main_arg3)
          ∧ r.2.mem ((c.tc : Thread Cert.MoeRefIdeal.nD Cert.MoeRefIdeal.τ).loc Cert.MoeRefIdeal.main_arg4) = m' ((c.tc : Thread Cert.MoeRefIdeal.nD Cert.MoeRefIdeal.τ).loc Cert.MoeRefIdeal.main_arg4)
          ∧ r.2.mem ((c.tc : Thread Cert.MoeRefIdeal.nD Cert.MoeRefIdeal.τ).loc Cert.MoeRefIdeal.main_arg5) = m' ((c.tc : Thread Cert.MoeRefIdeal.nD Cert.MoeRefIdeal.τ).loc Cert.MoeRefIdeal.main_arg5)
          ∧ r.2.mem ((c.tc : Thread Cert.MoeRefIdeal.nD Cert.MoeRefIdeal.τ).loc Cert.MoeRefIdeal.main_arg6) = m' ((c.tc : Thread Cert.MoeRefIdeal.nD Cert.MoeRefIdeal.τ).loc Cert.MoeRefIdeal.main_arg6))

def preserves_Inp_InpIdeal : Prop :=
  True

def algebraic_InpIdeal_InpRefIdeal [hInpIdeal : Cert.InpIdeal.Facts] [hInpRefIdeal : Cert.InpRefIdeal.Facts] : Prop :=
  ∀ (m : (ℓ : Loc Cert.InpIdeal.nD Cert.InpIdeal.τ Cert.InpIdeal.sig) → Buf (Elt Ideal) ℓ) (g : Dev Cert.InpIdeal.nD → PrngReg)
    (m' : (ℓ : Loc Cert.InpRefIdeal.nD Cert.InpRefIdeal.τ Cert.InpRefIdeal.sig) → Buf (Elt Ideal) ℓ) (g' : Dev Cert.InpRefIdeal.nD → PrngReg), Pre_InpIdeal m →
    (∀ c : Dev Cert.InpIdeal.nD,
      m' ((c.tc : Thread Cert.InpRefIdeal.nD Cert.InpRefIdeal.τ).loc Cert.InpRefIdeal.main_arg0) = m ((c.tc : Thread Cert.InpIdeal.nD Cert.InpIdeal.τ).loc Cert.InpIdeal.main_arg0)
      ∧ m' ((c.tc : Thread Cert.InpRefIdeal.nD Cert.InpRefIdeal.τ).loc Cert.InpRefIdeal.main_arg1) = m ((c.tc : Thread Cert.InpIdeal.nD Cert.InpIdeal.τ).loc Cert.InpIdeal.main_arg1)
      ∧ m' ((c.tc : Thread Cert.InpRefIdeal.nD Cert.InpRefIdeal.τ).loc Cert.InpRefIdeal.main_arg2) = m ((c.tc : Thread Cert.InpIdeal.nD Cert.InpIdeal.τ).loc Cert.InpIdeal.main_arg2)
      ∧ m' ((c.tc : Thread Cert.InpRefIdeal.nD Cert.InpRefIdeal.τ).loc Cert.InpRefIdeal.main_arg3) = m ((c.tc : Thread Cert.InpIdeal.nD Cert.InpIdeal.τ).loc Cert.InpIdeal.main_arg3)
      ∧ m' ((c.tc : Thread Cert.InpRefIdeal.nD Cert.InpRefIdeal.τ).loc Cert.InpRefIdeal.main_arg4) = m ((c.tc : Thread Cert.InpIdeal.nD Cert.InpIdeal.τ).loc Cert.InpIdeal.main_arg4)
      ∧ m' ((c.tc : Thread Cert.InpRefIdeal.nD Cert.InpRefIdeal.τ).loc Cert.InpRefIdeal.main_arg5) = m ((c.tc : Thread Cert.InpIdeal.nD Cert.InpIdeal.τ).loc Cert.InpIdeal.main_arg5)
      ∧ m' ((c.tc : Thread Cert.InpRefIdeal.nD Cert.InpRefIdeal.τ).loc Cert.InpRefIdeal.main_arg6) = m ((c.tc : Thread Cert.InpIdeal.nD Cert.InpIdeal.τ).loc Cert.InpIdeal.main_arg6)
      ∧ m' ((c.tc : Thread Cert.InpRefIdeal.nD Cert.InpRefIdeal.τ).loc Cert.InpRefIdeal.main_arg7) = m ((c.tc : Thread Cert.InpIdeal.nD Cert.InpIdeal.τ).loc Cert.InpIdeal.main_arg7)) →
    ∃ (v0 : (c : Dev Cert.InpIdeal.nD) → Buf (Elt Ideal) ((c.tc : Thread Cert.InpIdeal.nD Cert.InpIdeal.τ).loc Cert.InpIdeal.main_v5_0)) (v1 : (c : Dev Cert.InpIdeal.nD) → Buf (Elt Ideal) ((c.tc : Thread Cert.InpIdeal.nD Cert.InpIdeal.τ).loc Cert.InpIdeal.main_v5_1)) (v2 : (c : Dev Cert.InpIdeal.nD) → Buf (Elt Ideal) ((c.tc : Thread Cert.InpIdeal.nD Cert.InpIdeal.τ).loc Cert.InpIdeal.main_v5_2)) (v3 : (c : Dev Cert.InpIdeal.nD) → Buf (Elt Ideal) ((c.tc : Thread Cert.InpIdeal.nD Cert.InpIdeal.τ).loc Cert.InpIdeal.main_v5_3)),
      θ_run (Cert.InpIdeal.defs (F := Ideal)) (onTc (τ := Cert.InpIdeal.τ) (Cert.InpIdeal.main (F := Ideal))) ⟨m, fun _ => 0, g⟩ (fun r => ∀ c : Dev Cert.InpIdeal.nD,
          r.2.mem ((c.tc : Thread Cert.InpIdeal.nD Cert.InpIdeal.τ).loc Cert.InpIdeal.main_v5_0) = v0 c
          ∧ r.2.mem ((c.tc : Thread Cert.InpIdeal.nD Cert.InpIdeal.τ).loc Cert.InpIdeal.main_v5_1) = v1 c
          ∧ r.2.mem ((c.tc : Thread Cert.InpIdeal.nD Cert.InpIdeal.τ).loc Cert.InpIdeal.main_v5_2) = v2 c
          ∧ r.2.mem ((c.tc : Thread Cert.InpIdeal.nD Cert.InpIdeal.τ).loc Cert.InpIdeal.main_v5_3) = v3 c
          ∧ r.2.mem ((c.tc : Thread Cert.InpIdeal.nD Cert.InpIdeal.τ).loc Cert.InpIdeal.main_arg0) = m ((c.tc : Thread Cert.InpIdeal.nD Cert.InpIdeal.τ).loc Cert.InpIdeal.main_arg0)
          ∧ r.2.mem ((c.tc : Thread Cert.InpIdeal.nD Cert.InpIdeal.τ).loc Cert.InpIdeal.main_arg1) = m ((c.tc : Thread Cert.InpIdeal.nD Cert.InpIdeal.τ).loc Cert.InpIdeal.main_arg1)
          ∧ r.2.mem ((c.tc : Thread Cert.InpIdeal.nD Cert.InpIdeal.τ).loc Cert.InpIdeal.main_arg2) = m ((c.tc : Thread Cert.InpIdeal.nD Cert.InpIdeal.τ).loc Cert.InpIdeal.main_arg2)
          ∧ r.2.mem ((c.tc : Thread Cert.InpIdeal.nD Cert.InpIdeal.τ).loc Cert.InpIdeal.main_arg3) = m ((c.tc : Thread Cert.InpIdeal.nD Cert.InpIdeal.τ).loc Cert.InpIdeal.main_arg3)
          ∧ r.2.mem ((c.tc : Thread Cert.InpIdeal.nD Cert.InpIdeal.τ).loc Cert.InpIdeal.main_arg4) = m ((c.tc : Thread Cert.InpIdeal.nD Cert.InpIdeal.τ).loc Cert.InpIdeal.main_arg4)
          ∧ r.2.mem ((c.tc : Thread Cert.InpIdeal.nD Cert.InpIdeal.τ).loc Cert.InpIdeal.main_arg5) = m ((c.tc : Thread Cert.InpIdeal.nD Cert.InpIdeal.τ).loc Cert.InpIdeal.main_arg5)
          ∧ r.2.mem ((c.tc : Thread Cert.InpIdeal.nD Cert.InpIdeal.τ).loc Cert.InpIdeal.main_arg6) = m ((c.tc : Thread Cert.InpIdeal.nD Cert.InpIdeal.τ).loc Cert.InpIdeal.main_arg6)
          ∧ r.2.mem ((c.tc : Thread Cert.InpIdeal.nD Cert.InpIdeal.τ).loc Cert.InpIdeal.main_arg7) = m ((c.tc : Thread Cert.InpIdeal.nD Cert.InpIdeal.τ).loc Cert.InpIdeal.main_arg7))
      ∧ θ_run (Cert.InpRefIdeal.defs (F := Ideal)) (onTc (τ := Cert.InpRefIdeal.τ) (Cert.InpRefIdeal.main (F := Ideal))) ⟨m', fun _ => 0, g'⟩ (fun r => ∀ c : Dev Cert.InpRefIdeal.nD,
          r.2.mem ((c.tc : Thread Cert.InpRefIdeal.nD Cert.InpRefIdeal.τ).loc Cert.InpRefIdeal.main_v76) = v0 c
          ∧ r.2.mem ((c.tc : Thread Cert.InpRefIdeal.nD Cert.InpRefIdeal.τ).loc Cert.InpRefIdeal.main_v78) = v1 c
          ∧ r.2.mem ((c.tc : Thread Cert.InpRefIdeal.nD Cert.InpRefIdeal.τ).loc Cert.InpRefIdeal.main_v80) = v2 c
          ∧ r.2.mem ((c.tc : Thread Cert.InpRefIdeal.nD Cert.InpRefIdeal.τ).loc Cert.InpRefIdeal.main_v82) = v3 c
          ∧ r.2.mem ((c.tc : Thread Cert.InpRefIdeal.nD Cert.InpRefIdeal.τ).loc Cert.InpRefIdeal.main_arg0) = m' ((c.tc : Thread Cert.InpRefIdeal.nD Cert.InpRefIdeal.τ).loc Cert.InpRefIdeal.main_arg0)
          ∧ r.2.mem ((c.tc : Thread Cert.InpRefIdeal.nD Cert.InpRefIdeal.τ).loc Cert.InpRefIdeal.main_arg1) = m' ((c.tc : Thread Cert.InpRefIdeal.nD Cert.InpRefIdeal.τ).loc Cert.InpRefIdeal.main_arg1)
          ∧ r.2.mem ((c.tc : Thread Cert.InpRefIdeal.nD Cert.InpRefIdeal.τ).loc Cert.InpRefIdeal.main_arg2) = m' ((c.tc : Thread Cert.InpRefIdeal.nD Cert.InpRefIdeal.τ).loc Cert.InpRefIdeal.main_arg2)
          ∧ r.2.mem ((c.tc : Thread Cert.InpRefIdeal.nD Cert.InpRefIdeal.τ).loc Cert.InpRefIdeal.main_arg3) = m' ((c.tc : Thread Cert.InpRefIdeal.nD Cert.InpRefIdeal.τ).loc Cert.InpRefIdeal.main_arg3)
          ∧ r.2.mem ((c.tc : Thread Cert.InpRefIdeal.nD Cert.InpRefIdeal.τ).loc Cert.InpRefIdeal.main_arg4) = m' ((c.tc : Thread Cert.InpRefIdeal.nD Cert.InpRefIdeal.τ).loc Cert.InpRefIdeal.main_arg4)
          ∧ r.2.mem ((c.tc : Thread Cert.InpRefIdeal.nD Cert.InpRefIdeal.τ).loc Cert.InpRefIdeal.main_arg5) = m' ((c.tc : Thread Cert.InpRefIdeal.nD Cert.InpRefIdeal.τ).loc Cert.InpRefIdeal.main_arg5)
          ∧ r.2.mem ((c.tc : Thread Cert.InpRefIdeal.nD Cert.InpRefIdeal.τ).loc Cert.InpRefIdeal.main_arg6) = m' ((c.tc : Thread Cert.InpRefIdeal.nD Cert.InpRefIdeal.τ).loc Cert.InpRefIdeal.main_arg6)
          ∧ r.2.mem ((c.tc : Thread Cert.InpRefIdeal.nD Cert.InpRefIdeal.τ).loc Cert.InpRefIdeal.main_arg7) = m' ((c.tc : Thread Cert.InpRefIdeal.nD Cert.InpRefIdeal.τ).loc Cert.InpRefIdeal.main_arg7))

def Claim : Prop :=
  ∃ (hAttn : Cert.Attn.Facts) (hAttnIdeal : Cert.AttnIdeal.Facts) (hAttnRefIdeal : Cert.AttnRefIdeal.Facts) (hMoe : Cert.Moe.Facts) (hMoeIdeal : Cert.MoeIdeal.Facts) (hMoeRefIdeal : Cert.MoeRefIdeal.Facts) (hInp : Cert.Inp.Facts) (hInpIdeal : Cert.InpIdeal.Facts) (hInpRefIdeal : Cert.InpRefIdeal.Facts) (hPre_finite_scores : Cert.Pre_finite_scores.Facts) (hPre_rows_ok : Cert.Pre_rows_ok.Facts) (hPre_rows_finite : Cert.Pre_rows_finite.Facts),
    quiescent_Attn (hAttn := hAttn)
    ∧ quiescent_AttnIdeal (hAttnIdeal := hAttnIdeal)
    ∧ quiescent_AttnIdeal_pre_finite_scores (hAttnIdeal := hAttnIdeal) (hPre_finite_scores := hPre_finite_scores)
    ∧ quiescent_AttnRefIdeal (hAttnRefIdeal := hAttnRefIdeal)
    ∧ quiescent_AttnRefIdeal_pre_finite_scores (hAttnRefIdeal := hAttnRefIdeal) (hPre_finite_scores := hPre_finite_scores)
    ∧ quiescent_Moe (hMoe := hMoe) (hPre_rows_ok := hPre_rows_ok)
    ∧ quiescent_MoeIdeal (hMoeIdeal := hMoeIdeal) (hPre_rows_ok := hPre_rows_ok)
    ∧ quiescent_MoeIdeal_pre_rows_finite (hMoeIdeal := hMoeIdeal) (hPre_rows_finite := hPre_rows_finite)
    ∧ quiescent_MoeRefIdeal (hMoeRefIdeal := hMoeRefIdeal)
    ∧ quiescent_MoeRefIdeal_pre_rows_finite (hMoeRefIdeal := hMoeRefIdeal) (hPre_rows_finite := hPre_rows_finite)
    ∧ quiescent_Inp (hInp := hInp)
    ∧ quiescent_InpIdeal (hInpIdeal := hInpIdeal)
    ∧ quiescent_InpRefIdeal (hInpRefIdeal := hInpRefIdeal)
    ∧ preserves_Attn_AttnIdeal
    ∧ algebraic_AttnIdeal_AttnRefIdeal_pre_finite_scores (hAttnIdeal := hAttnIdeal) (hAttnRefIdeal := hAttnRefIdeal) (hPre_finite_scores := hPre_finite_scores)
    ∧ preserves_Moe_MoeIdeal
    ∧ algebraic_MoeIdeal_MoeRefIdeal_pre_rows_finite (hMoeIdeal := hMoeIdeal) (hMoeRefIdeal := hMoeRefIdeal) (hPre_rows_finite := hPre_rows_finite)
    ∧ preserves_Inp_InpIdeal
    ∧ algebraic_InpIdeal_InpRefIdeal (hInpIdeal := hInpIdeal) (hInpRefIdeal := hInpRefIdeal)
-- ==== Pre_finite_scores.lean ====
abbrev S2x8x4096x128 : Shape := ⟨4, ![2, 8, 4096, 128]⟩
abbrev S2x2x128x4096 : Shape := ⟨4, ![2, 2, 128, 4096]⟩
abbrev S2x2x4096x128 : Shape := ⟨4, ![2, 2, 4096, 128]⟩
abbrev S2x2x128x256 : Shape := ⟨4, ![2, 2, 128, 256]⟩
abbrev S2x2x256x128 : Shape := ⟨4, ![2, 2, 256, 128]⟩
abbrev S_ : Shape := ⟨0, ![]⟩

class Facts : Prop where
  bcast_S_S2x8x4096x128 : S_.BroadcastsInDim S2x8x4096x128 (![] : Fin 0 → Fin S2x8x4096x128.rank)
  bcast_S_S2x2x128x4096 : S_.BroadcastsInDim S2x2x128x4096 (![] : Fin 0 → Fin S2x2x128x4096.rank)
  bcast_S_S2x2x128x256 : S_.BroadcastsInDim S2x2x128x256 (![] : Fin 0 → Fin S2x2x128x256.rank)

variable [Facts]

def fn {F : FTy → Type} [FloatOps F] (main_arg0 : FVec F S2x8x4096x128 .bf16) (main_arg1 : FVec F S2x2x128x4096 .bf16) (main_arg2 : FVec F S2x2x4096x128 .bf16) (main_arg3 : FVec F S2x2x128x256 .bf16) (main_arg4 : FVec F S2x2x256x128 .bf16) : IVec S2x8x4096x128 1 × IVec S2x2x128x4096 1 × IVec S2x2x128x256 1 :=
  let main_v0 : FVec F S2x8x4096x128 .bf16 := Host.absf main_arg0
  let main_cst : FVec F S_ .bf16 := constant S_ .bf16 0x7F80#16
  let main_v1 : FVec F S2x8x4096x128 .bf16 := broadcastInDim S2x8x4096x128 ![] bcast_S_S2x8x4096x128 main_cst
  let main_v2 : IVec S2x8x4096x128 1 := cmpf .olt main_v0 main_v1
  let main_v3 : FVec F S2x2x128x4096 .bf16 := Host.absf main_arg1
  let main_cst_0 : FVec F S_ .bf16 := constant S_ .bf16 0x7F80#16
  let main_v4 : FVec F S2x2x128x4096 .bf16 := broadcastInDim S2x2x128x4096 ![] bcast_S_S2x2x128x4096 main_cst_0
  let main_v5 : IVec S2x2x128x4096 1 := cmpf .olt main_v3 main_v4
  let main_v6 : FVec F S2x2x128x256 .bf16 := Host.absf main_arg3
  let main_cst_1 : FVec F S_ .bf16 := constant S_ .bf16 0x7F80#16
  let main_v7 : FVec F S2x2x128x256 .bf16 := broadcastInDim S2x2x128x256 ![] bcast_S_S2x2x128x256 main_cst_1
  let main_v8 : IVec S2x2x128x256 1 := cmpf .olt main_v6 main_v7
  (main_v2, main_v5, main_v8)
-- ==== Pre_rows_finite.lean ====
abbrev S16x1x1024 : Shape := ⟨3, ![16, 1, 1024]⟩
abbrev S8192x2176 : Shape := ⟨2, ![8192, 2176]⟩
abbrev S8192x2048 : Shape := ⟨2, ![8192, 2048]⟩
abbrev S1x16x2048x5632 : Shape := ⟨4, ![1, 16, 2048, 5632]⟩
abbrev S1x16x5632x2048 : Shape := ⟨4, ![1, 16, 5632, 2048]⟩
abbrev S8x2048 : Shape := ⟨2, ![8, 2048]⟩
abbrev S8192x2064 : Shape := ⟨2, ![8192, 2064]⟩
abbrev S2x2048 : Shape := ⟨2, ![2, 2048]⟩
abbrev S16x1x512 : Shape := ⟨3, ![16, 1, 512]⟩
abbrev S_ : Shape := ⟨0, ![]⟩
abbrev S16x1x1023 : Shape := ⟨3, ![16, 1, 1023]⟩

class Facts : Prop where
  slices_S8192x2176_S8192x2064_0_0 : S8192x2176.Slices ![0, 0] S8192x2064
  slices_S8x2048_S2x2048_0_0 : S8x2048.Slices ![0, 0] S2x2048
  slices_S16x1x1024_S16x1x512_0_0_0 : S16x1x1024.Slices ![0, 0, 0] S16x1x512
  slices_S16x1x1024_S16x1x512_0_0_512 : S16x1x1024.Slices ![0, 0, 512] S16x1x512
  bcast_S_S16x1x512 : S_.BroadcastsInDim S16x1x512 (![] : Fin 0 → Fin S16x1x512.rank)
  slices_S16x1x1024_S16x1x1023_0_0_0 : S16x1x1024.Slices ![0, 0, 0] S16x1x1023
  slices_S16x1x1024_S16x1x1023_0_0_1 : S16x1x1024.Slices ![0, 0, 1] S16x1x1023
  bcast_S_S8192x2064 : S_.BroadcastsInDim S8192x2064 (![] : Fin 0 → Fin S8192x2064.rank)
  bcast_S_S1x16x2048x5632 : S_.BroadcastsInDim S1x16x2048x5632 (![] : Fin 0 → Fin S1x16x2048x5632.rank)
  bcast_S_S1x16x5632x2048 : S_.BroadcastsInDim S1x16x5632x2048 (![] : Fin 0 → Fin S1x16x5632x2048.rank)
  bcast_S_S2x2048 : S_.BroadcastsInDim S2x2048 (![] : Fin 0 → Fin S2x2048.rank)

variable [Facts]

def comparator_i32_d2 : BitVec 32 → BitVec 32 → BitVec 1 :=
  fun l r =>
    let v1 := IntOp.cmpi .slt l r
    v1
def fn_sort {F : FTy → Type} [FloatOps F] (arg0 : IVec S16x1x1024 32) : IVec S16x1x1024 32 :=
  let v0 : IVec S16x1x1024 32 := (fun x => Host.sort S16x1x1024 2 comparator_i32_d2 x) arg0
  v0

def fn_part1 {F : FTy → Type} [FloatOps F] (main_arg3 : FVec F S1x16x2048x5632 .f32) (main_arg4 : FVec F S1x16x2048x5632 .f32) (main_arg5 : FVec F S1x16x5632x2048 .f32) (main_v1 : FVec F S2x2048 .f32) (main_v6 : IVec S16x1x512 1) (main_v8 : IVec S16x1x512 1) (main_v10 : IVec S16x1x512 1) (main_v12 : IVec S16x1x512 1) (main_v15 : IVec S16x1x1023 1) (main_v18 : IVec S8192x2064 1) : IVec S16x1x512 1 × IVec S16x1x512 1 × IVec S16x1x512 1 × IVec S16x1x512 1 × IVec S16x1x1023 1 × IVec S8192x2064 1 × IVec S1x16x2048x5632 1 × IVec S1x16x2048x5632 1 × IVec S1x16x5632x2048 1 × IVec S2x2048 1 :=
  let main_v19 : FVec F S1x16x2048x5632 .f32 := Host.absf main_arg3
  let main_cst_3 : FVec F S_ .f32 := constant S_ .f32 0x7F800000#32
  let main_v20 : FVec F S1x16x2048x5632 .f32 := broadcastInDim S1x16x2048x5632 ![] bcast_S_S1x16x2048x5632 main_cst_3
  let main_v21 : IVec S1x16x2048x5632 1 := cmpf .olt main_v19 main_v20
  let main_v22 : FVec F S1x16x2048x5632 .f32 := Host.absf main_arg4
  let main_cst_4 : FVec F S_ .f32 := constant S_ .f32 0x7F800000#32
  let main_v23 : FVec F S1x16x2048x5632 .f32 := broadcastInDim S1x16x2048x5632 ![] bcast_S_S1x16x2048x5632 main_cst_4
  let main_v24 : IVec S1x16x2048x5632 1 := cmpf .olt main_v22 main_v23
  let main_v25 : FVec F S1x16x5632x2048 .f32 := Host.absf main_arg5
  let main_cst_5 : FVec F S_ .f32 := constant S_ .f32 0x7F800000#32
  let main_v26 : FVec F S1x16x5632x2048 .f32 := broadcastInDim S1x16x5632x2048 ![] bcast_S_S1x16x5632x2048 main_cst_5
  let main_v27 : IVec S1x16x5632x2048 1 := cmpf .olt main_v25 main_v26
  let main_v28 : FVec F S2x2048 .f32 := Host.absf main_v1
  let main_cst_6 : FVec F S_ .f32 := constant S_ .f32 0x7F800000#32
  let main_v29 : FVec F S2x2048 .f32 := broadcastInDim S2x2048 ![] bcast_S_S2x2048 main_cst_6
  let main_v30 : IVec S2x2048 1 := cmpf .olt main_v28 main_v29
  (main_v6, main_v8, main_v10, main_v12, main_v15, main_v18, main_v21, main_v24, main_v27, main_v30)

def fn {F : FTy → Type} [FloatOps F] (main_arg0 : IVec S16x1x1024 32) (main_arg1 : FVec F S8192x2176 .f32) (main_arg2 : FVec F S8192x2048 .f32) (main_arg3 : FVec F S1x16x2048x5632 .f32) (main_arg4 : FVec F S1x16x2048x5632 .f32) (main_arg5 : FVec F S1x16x5632x2048 .f32) (main_arg6 : FVec F S8x2048 .f32) : IVec S16x1x512 1 × IVec S16x1x512 1 × IVec S16x1x512 1 × IVec S16x1x512 1 × IVec S16x1x1023 1 × IVec S8192x2064 1 × IVec S1x16x2048x5632 1 × IVec S1x16x2048x5632 1 × IVec S1x16x5632x2048 1 × IVec S2x2048 1 :=
  let main_v0 : FVec F S8192x2064 .f32 := (extractStridedSlice S8192x2064 ![0, 0] · slices_S8192x2176_S8192x2064_0_0) main_arg1
  let main_v1 : FVec F S2x2048 .f32 := (extractStridedSlice S2x2048 ![0, 0] · slices_S8x2048_S2x2048_0_0) main_arg6
  let main_v2 : IVec S16x1x512 32 := (extractStridedSlice S16x1x512 ![0, 0, 0] · slices_S16x1x1024_S16x1x512_0_0_0) main_arg0
  let main_v3 : IVec S16x1x512 32 := (extractStridedSlice S16x1x512 ![0, 0, 512] · slices_S16x1x1024_S16x1x512_0_0_512) main_arg0
  let main_v4 : IVec S16x1x1024 32 := fn_sort (F := F) main_arg0
  let main_c : IVec S_ 32 := constantI S_ 32 0#32
  let main_v5 : IVec S16x1x512 32 := broadcastInDim S16x1x512 ![] bcast_S_S16x1x512 main_c
  let main_v6 : IVec S16x1x512 1 := cmpi .sge main_v2 main_v5
  let main_c_0 : IVec S_ 32 := constantI S_ 32 4096#32
  let main_v7 : IVec S16x1x512 32 := broadcastInDim S16x1x512 ![] bcast_S_S16x1x512 main_c_0
  let main_v8 : IVec S16x1x512 1 := cmpi .slt main_v2 main_v7
  let main_c_1 : IVec S_ 32 := constantI S_ 32 4096#32
  let main_v9 : IVec S16x1x512 32 := broadcastInDim S16x1x512 ![] bcast_S_S16x1x512 main_c_1
  let main_v10 : IVec S16x1x512 1 := cmpi .sge main_v3 main_v9
  let main_c_2 : IVec S_ 32 := constantI S_ 32 8192#32
  let main_v11 : IVec S16x1x512 32 := broadcastInDim S16x1x512 ![] bcast_S_S16x1x512 main_c_2
  let main_v12 : IVec S16x1x512 1 := cmpi .slt main_v3 main_v11
  let main_v13 : IVec S16x1x1023 32 := (extractStridedSlice S16x1x1023 ![0, 0, 0] · slices_S16x1x1024_S16x1x1023_0_0_0) main_v4
  let main_v14 : IVec S16x1x1023 32 := (extractStridedSlice S16x1x1023 ![0, 0, 1] · slices_S16x1x1024_S16x1x1023_0_0_1) main_v4
  let main_v15 : IVec S16x1x1023 1 := cmpi .slt main_v13 main_v14
  let main_v16 : FVec F S8192x2064 .f32 := Host.absf main_v0
  let main_cst : FVec F S_ .f32 := constant S_ .f32 0x7F800000#32
  let main_v17 : FVec F S8192x2064 .f32 := broadcastInDim S8192x2064 ![] bcast_S_S8192x2064 main_cst
  let main_v18 : IVec S8192x2064 1 := cmpf .olt main_v16 main_v17
  fn_part1 (F := F) main_arg3 main_arg4 main_arg5 main_v1 main_v6 main_v8 main_v10 main_v12 main_v15 main_v18
-- ==== Pre_rows_ok.lean ====
abbrev S16x1x1024 : Shape := ⟨3, ![16, 1, 1024]⟩
abbrev S8192x2176 : Shape := ⟨2, ![8192, 2176]⟩
abbrev S8192x2048 : Shape := ⟨2, ![8192, 2048]⟩
abbrev S1x16x2048x5632 : Shape := ⟨4, ![1, 16, 2048, 5632]⟩
abbrev S1x16x5632x2048 : Shape := ⟨4, ![1, 16, 5632, 2048]⟩
abbrev S8x2048 : Shape := ⟨2, ![8, 2048]⟩
abbrev S16x1x512 : Shape := ⟨3, ![16, 1, 512]⟩
abbrev S_ : Shape := ⟨0, ![]⟩
abbrev S16x1x1023 : Shape := ⟨3, ![16, 1, 1023]⟩

class Facts : Prop where
  slices_S16x1x1024_S16x1x512_0_0_0 : S16x1x1024.Slices ![0, 0, 0] S16x1x512
  slices_S16x1x1024_S16x1x512_0_0_512 : S16x1x1024.Slices ![0, 0, 512] S16x1x512
  bcast_S_S16x1x512 : S_.BroadcastsInDim S16x1x512 (![] : Fin 0 → Fin S16x1x512.rank)
  slices_S16x1x1024_S16x1x1023_0_0_0 : S16x1x1024.Slices ![0, 0, 0] S16x1x1023
  slices_S16x1x1024_S16x1x1023_0_0_1 : S16x1x1024.Slices ![0, 0, 1] S16x1x1023

variable [Facts]

def comparator_i32_d2 : BitVec 32 → BitVec 32 → BitVec 1 :=
  fun l r =>
    let v1 := IntOp.cmpi .slt l r
    v1
def fn_sort {F : FTy → Type} [FloatOps F] (arg0 : IVec S16x1x1024 32) : IVec S16x1x1024 32 :=
  let v0 : IVec S16x1x1024 32 := (fun x => Host.sort S16x1x1024 2 comparator_i32_d2 x) arg0
  v0

def fn {F : FTy → Type} [FloatOps F] (main_arg0 : IVec S16x1x1024 32) (main_arg1 : FVec F S8192x2176 .f32) (main_arg2 : FVec F S8192x2048 .f32) (main_arg3 : FVec F S1x16x2048x5632 .f32) (main_arg4 : FVec F S1x16x2048x5632 .f32) (main_arg5 : FVec F S1x16x5632x2048 .f32) (main_arg6 : FVec F S8x2048 .f32) : IVec S16x1x512 1 × IVec S16x1x512 1 × IVec S16x1x512 1 × IVec S16x1x512 1 × IVec S16x1x1023 1 :=
  let main_v0 : IVec S16x1x512 32 := (extractStridedSlice S16x1x512 ![0, 0, 0] · slices_S16x1x1024_S16x1x512_0_0_0) main_arg0
  let main_v1 : IVec S16x1x512 32 := (extractStridedSlice S16x1x512 ![0, 0, 512] · slices_S16x1x1024_S16x1x512_0_0_512) main_arg0
  let main_v2 : IVec S16x1x1024 32 := fn_sort (F := F) main_arg0
  let main_c : IVec S_ 32 := constantI S_ 32 0#32
  let main_v3 : IVec S16x1x512 32 := broadcastInDim S16x1x512 ![] bcast_S_S16x1x512 main_c
  let main_v4 : IVec S16x1x512 1 := cmpi .sge main_v0 main_v3
  let main_c_0 : IVec S_ 32 := constantI S_ 32 4096#32
  let main_v5 : IVec S16x1x512 32 := broadcastInDim S16x1x512 ![] bcast_S_S16x1x512 main_c_0
  let main_v6 : IVec S16x1x512 1 := cmpi .slt main_v0 main_v5
  let main_c_1 : IVec S_ 32 := constantI S_ 32 4096#32
  let main_v7 : IVec S16x1x512 32 := broadcastInDim S16x1x512 ![] bcast_S_S16x1x512 main_c_1
  let main_v8 : IVec S16x1x512 1 := cmpi .sge main_v1 main_v7
  let main_c_2 : IVec S_ 32 := constantI S_ 32 8192#32
  let main_v9 : IVec S16x1x512 32 := broadcastInDim S16x1x512 ![] bcast_S_S16x1x512 main_c_2
  let main_v10 : IVec S16x1x512 1 := cmpi .slt main_v1 main_v9
  let main_v11 : IVec S16x1x1023 32 := (extractStridedSlice S16x1x1023 ![0, 0, 0] · slices_S16x1x1024_S16x1x1023_0_0_0) main_v2
  let main_v12 : IVec S16x1x1023 32 := (extractStridedSlice S16x1x1023 ![0, 0, 1] · slices_S16x1x1024_S16x1x1023_0_0_1) main_v2
  let main_v13 : IVec S16x1x1023 1 := cmpi .slt main_v11 main_v12
  (main_v4, main_v6, main_v8, main_v10, main_v13)
-- ==== Attn.lean ====
abbrev S2x8x4096x128 : Shape := ⟨4, ![2, 8, 4096, 128]⟩
abbrev S2x2x128x4096 : Shape := ⟨4, ![2, 2, 128, 4096]⟩
abbrev S2x2x4096x128 : Shape := ⟨4, ![2, 2, 4096, 128]⟩
abbrev S2x2x128x256 : Shape := ⟨4, ![2, 2, 128, 256]⟩
abbrev S2x2x256x128 : Shape := ⟨4, ![2, 2, 256, 128]⟩
abbrev S8192x1024 : Shape := ⟨2, ![8192, 1024]⟩
abbrev S1x4x128x128 : Shape := ⟨4, ![1, 4, 128, 128]⟩
abbrev S1x1x128x4096 : Shape := ⟨4, ![1, 1, 128, 4096]⟩
abbrev S1x1x4096x128 : Shape := ⟨4, ![1, 1, 4096, 128]⟩
abbrev S1x1x128x256 : Shape := ⟨4, ![1, 1, 128, 256]⟩
abbrev S1x1x256x128 : Shape := ⟨4, ![1, 1, 256, 128]⟩
abbrev S128x512 : Shape := ⟨2, ![128, 512]⟩
abbrev S4x128x128 : Shape := ⟨3, ![4, 128, 128]⟩
abbrev S512x128 : Shape := ⟨2, ![512, 128]⟩
abbrev S512x1 : Shape := ⟨2, ![512, 1]⟩
abbrev S128x256 : Shape := ⟨2, ![128, 256]⟩
abbrev S256x128 : Shape := ⟨2, ![256, 128]⟩
abbrev S512x256 : Shape := ⟨2, ![512, 256]⟩
abbrev S512 : Shape := ⟨1, ![512]⟩
abbrev S1x1x128x512 : Shape := ⟨4, ![1, 1, 128, 512]⟩
abbrev S1x1x512x128 : Shape := ⟨4, ![1, 1, 512, 128]⟩
abbrev S512x512 : Shape := ⟨2, ![512, 512]⟩
abbrev S128x128 : Shape := ⟨2, ![128, 128]⟩

abbrev nBuf : Space → Nat
  | .hbm => 6
  | .vmem => 12
  | .smem => 0
  | _ => 0

abbrev bufTy : (tb : Table) → Fin (tcTables nBuf tb) → BufTy
  | .hbm, ⟨0, _⟩ => ⟨S2x8x4096x128, .bf16⟩
  | .hbm, ⟨1, _⟩ => ⟨S2x2x128x4096, .bf16⟩
  | .hbm, ⟨2, _⟩ => ⟨S2x2x4096x128, .bf16⟩
  | .hbm, ⟨3, _⟩ => ⟨S2x2x128x256, .bf16⟩
  | .hbm, ⟨4, _⟩ => ⟨S2x2x256x128, .bf16⟩
  | .hbm, ⟨5, _⟩ => ⟨S8192x1024, .bf16⟩
  | .local _ .vmem, ⟨0, _⟩ => ⟨S1x4x128x128, .bf16⟩
  | .local _ .vmem, ⟨1, _⟩ => ⟨S1x4x128x128, .bf16⟩
  | .local _ .vmem, ⟨2, _⟩ => ⟨S1x1x128x4096, .bf16⟩
  | .local _ .vmem, ⟨3, _⟩ => ⟨S1x1x128x4096, .bf16⟩
  | .local _ .vmem, ⟨4, _⟩ => ⟨S1x1x4096x128, .bf16⟩
  | .local _ .vmem, ⟨5, _⟩ => ⟨S1x1x4096x128, .bf16⟩
  | .local _ .vmem, ⟨6, _⟩ => ⟨S1x1x128x256, .bf16⟩
  | .local _ .vmem, ⟨7, _⟩ => ⟨S1x1x128x256, .bf16⟩
  | .local _ .vmem, ⟨8, _⟩ => ⟨S1x1x256x128, .bf16⟩
  | .local _ .vmem, ⟨9, _⟩ => ⟨S1x1x256x128, .bf16⟩
  | .local _ .vmem, ⟨10, _⟩ => ⟨S128x512, .bf16⟩
  | .local _ .vmem, ⟨11, _⟩ => ⟨S128x512, .bf16⟩
  | _, _ => ⟨S2x8x4096x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![2, 2, 32], ![false, false, false]⟩

def cc0_transform_0 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_4 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c32_i32 : BitVec 32 := 32#32
  let v0 : BitVec 32 := Scalar.muli arg0 c32_i32
  let v1 : BitVec 32 := Scalar.addi v0 arg2
  let c0_i32 : BitVec 32 := 0#32
  ![v1.toNat, arg1.toNat]

abbrev stage0_0 : Fin 2 → Memref sig .tc .vmem S1x4x128x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x1x128x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x1x4096x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x1x128x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1x1x256x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S128x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]
-- ==== AttnRefIdeal.lean ====
abbrev S2x8x4096x128 : Shape := ⟨4, ![2, 8, 4096, 128]⟩
abbrev S2x2x128x4096 : Shape := ⟨4, ![2, 2, 128, 4096]⟩
abbrev S2x2x4096x128 : Shape := ⟨4, ![2, 2, 4096, 128]⟩
abbrev S2x2x128x256 : Shape := ⟨4, ![2, 2, 128, 256]⟩
abbrev S2x2x256x128 : Shape := ⟨4, ![2, 2, 256, 128]⟩
abbrev S2x2x128x4352 : Shape := ⟨4, ![2, 2, 128, 4352]⟩
abbrev S2x2x4352x128 : Shape := ⟨4, ![2, 2, 4352, 128]⟩
abbrev S2x2x4x4096x128 : Shape := ⟨5, ![2, 2, 4, 4096, 128]⟩
abbrev S2x2x4x4096x4352 : Shape := ⟨5, ![2, 2, 4, 4096, 4352]⟩
abbrev S_ : Shape := ⟨0, ![]⟩
abbrev S2x2x4x4096 : Shape := ⟨4, ![2, 2, 4, 4096]⟩
abbrev S2x2x4x4096x1 : Shape := ⟨5, ![2, 2, 4, 4096, 1]⟩
abbrev S2x4096x2x4x128 : Shape := ⟨5, ![2, 4096, 2, 4, 128]⟩
abbrev S8192x1024 : Shape := ⟨2, ![8192, 1024]⟩

abbrev nBuf : Space → Nat
  | .hbm => 34
  | .vmem => 0
  | .smem => 0
  | _ => 0

abbrev bufTy : (tb : Table) → Fin (tcTables nBuf tb) → BufTy
  | .hbm, ⟨0, _⟩ => ⟨S2x8x4096x128, .bf16⟩
  | .hbm, ⟨1, _⟩ => ⟨S2x2x128x4096, .bf16⟩
  | .hbm, ⟨2, _⟩ => ⟨S2x2x4096x128, .bf16⟩
  | .hbm, ⟨3, _⟩ => ⟨S2x2x128x256, .bf16⟩
  | .hbm, ⟨4, _⟩ => ⟨S2x2x256x128, .bf16⟩
  | .hbm, ⟨5, _⟩ => ⟨S2x2x128x256, .f32⟩
  | .hbm, ⟨6, _⟩ => ⟨S2x2x128x4096, .f32⟩
  | .hbm, ⟨7, _⟩ => ⟨S2x2x128x4352, .f32⟩
  | .hbm, ⟨8, _⟩ => ⟨S2x2x256x128, .f32⟩
  | .hbm, ⟨9, _⟩ => ⟨S2x2x4096x128, .f32⟩
  | .hbm, ⟨10, _⟩ => ⟨S2x2x4352x128, .f32⟩
  | .hbm, ⟨11, _⟩ => ⟨S2x8x4096x128, .f32⟩
  | .hbm, ⟨12, _⟩ => ⟨S2x2x4x4096x128, .f32⟩
  | .hbm, ⟨13, _⟩ => ⟨S2x2x4x4096x4352, .f32⟩
  | .hbm, ⟨14, _⟩ => ⟨S_, .f32⟩
  | .hbm, ⟨15, _⟩ => ⟨S2x2x4x4096, .f32⟩
  | .hbm, ⟨16, _⟩ => ⟨S_, .f32⟩
  | .hbm, ⟨17, _⟩ => ⟨S2x2x4x4096, .f32⟩
  | .hbm, ⟨18, _⟩ => ⟨S2x2x4x4096, .f32⟩
  | .hbm, ⟨19, _⟩ => ⟨S2x2x4x4096x1, .f32⟩
  | .hbm, ⟨20, _⟩ => ⟨S2x2x4x4096x4352, .f32⟩
  | .hbm, ⟨21, _⟩ => ⟨S2x2x4x4096x4352, .f32⟩
  | .hbm, ⟨22, _⟩ => ⟨S2x2x4x4096x4352, .f32⟩
  | .hbm, ⟨23, _⟩ => ⟨S_, .f32⟩
  | .hbm, ⟨24, _⟩ => ⟨S2x2x4x4096, .f32⟩
  | .hbm, ⟨25, _⟩ => ⟨S2x2x4x4096x1, .f32⟩
  | .hbm, ⟨26, _⟩ => ⟨S2x2x4x4096x4352, .f32⟩
  | .hbm, ⟨27, _⟩ => ⟨S2x2x4x4096x4352, .f32⟩
  | .hbm, ⟨28, _⟩ => ⟨S2x2x4x4096x4352, .bf16⟩
  | .hbm, ⟨29, _⟩ => ⟨S2x2x4x4096x4352, .f32⟩
  | .hbm, ⟨30, _⟩ => ⟨S2x2x4x4096x128, .f32⟩
  | .hbm, ⟨31, _⟩ => ⟨S2x4096x2x4x128, .f32⟩
  | .hbm, ⟨32, _⟩ => ⟨S8192x1024, .f32⟩
  | .hbm, ⟨33, _⟩ => ⟨S8192x1024, .bf16⟩
  | _, _ => ⟨S2x8x4096x128, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst : Ref sig .tc := ⟨.hbm, 14, rfl⟩
abbrev main_v9 : Ref sig .tc := ⟨.hbm, 15, rfl⟩
abbrev main_cst_0 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst_1 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩

abbrev nD : Nat := 1
abbrev τ : Topo := Topo.v7x

variable {F : FTy → Type} [FloatOps F]
-- ==== Moe.lean ====
abbrev S16x1x1024 : Shape := ⟨3, ![16, 1, 1024]⟩
abbrev S8192x2176 : Shape := ⟨2, ![8192, 2176]⟩
abbrev S8192x2048 : Shape := ⟨2, ![8192, 2048]⟩
abbrev S1x16x2048x5632 : Shape := ⟨4, ![1, 16, 2048, 5632]⟩
abbrev S1x16x5632x2048 : Shape := ⟨4, ![1, 16, 5632, 2048]⟩
abbrev S8x2048 : Shape := ⟨2, ![8, 2048]⟩
abbrev S1x1x1024 : Shape := ⟨3, ![1, 1, 1024]⟩
abbrev S1x1x2048x256 : Shape := ⟨4, ![1, 1, 2048, 256]⟩
abbrev S1x1x256x2048 : Shape := ⟨4, ![1, 1, 256, 2048]⟩
abbrev S1024x2176 : Shape := ⟨2, ![1024, 2176]⟩
abbrev S1024x2048 : Shape := ⟨2, ![1024, 2048]⟩
abbrev S3 : Shape := ⟨1, ![3]⟩
abbrev S1x1x1 : Shape := ⟨3, ![1, 1, 1]⟩
abbrev S1 : Shape := ⟨1, ![1]⟩
abbrev S_ : Shape := ⟨0, ![]⟩
abbrev S1x2176 : Shape := ⟨2, ![1, 2176]⟩
abbrev S2048x256 : Shape := ⟨2, ![2048, 256]⟩
abbrev S1024x256 : Shape := ⟨2, ![1024, 256]⟩
abbrev S256x2048 : Shape := ⟨2, ![256, 2048]⟩
abbrev S1x2048 : Shape := ⟨2, ![1, 2048]⟩
abbrev S1024x128 : Shape := ⟨2, ![1024, 128]⟩
abbrev S1024 : Shape := ⟨1, ![1024]⟩
abbrev S1024x1 : Shape := ⟨2, ![1024, 1]⟩
abbrev S512x2048 : Shape := ⟨2, ![512, 2048]⟩
abbrev S512x1 : Shape := ⟨2, ![512, 1]⟩

abbrev nBuf : Space → Nat
  | .hbm => 8
  | .vmem => 10
  | .smem => 2
  | _ => 0

abbrev bufTy : (tb : Table) → Fin (tcTables nBuf tb) → BufTy
  | .hbm, ⟨0, _⟩ => ⟨S16x1x1024, .i32⟩
  | .hbm, ⟨1, _⟩ => ⟨S8192x2176, .f32⟩
  | .hbm, ⟨2, _⟩ => ⟨S8192x2048, .f32⟩
  | .hbm, ⟨3, _⟩ => ⟨S1x16x2048x5632, .f32⟩
  | .hbm, ⟨4, _⟩ => ⟨S1x16x2048x5632, .f32⟩
  | .hbm, ⟨5, _⟩ => ⟨S1x16x5632x2048, .f32⟩
  | .hbm, ⟨6, _⟩ => ⟨S8x2048, .f32⟩
  | .hbm, ⟨7, _⟩ => ⟨S8192x2048, .f32⟩
  | .local _ .vmem, ⟨0, _⟩ => ⟨S1x1x2048x256, .f32⟩
  | .local _ .vmem, ⟨1, _⟩ => ⟨S1x1x2048x256, .f32⟩
  | .local _ .vmem, ⟨2, _⟩ => ⟨S1x1x2048x256, .f32⟩
  | .local _ .vmem, ⟨3, _⟩ => ⟨S1x1x2048x256, .f32⟩
  | .local _ .vmem, ⟨4, _⟩ => ⟨S1x1x256x2048, .f32⟩
  | .local _ .vmem, ⟨5, _⟩ => ⟨S1x1x256x2048, .f32⟩
  | .local _ .vmem, ⟨6, _⟩ => ⟨S8x2048, .f32⟩
  | .local _ .vmem, ⟨7, _⟩ => ⟨S1024x2176, .f32⟩
  | .local _ .vmem, ⟨8, _⟩ => ⟨S1024x2048, .f32⟩
  | .local _ .vmem, ⟨9, _⟩ => ⟨S1024x2048, .f32⟩
  | .local _ .smem, ⟨0, _⟩ => ⟨S1x1x1024, .i32⟩
  | .local _ .smem, ⟨1, _⟩ => ⟨S1x1x1024, .i32⟩
  | _, _ => ⟨S16x1x1024, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_scratch0 : Ref sig .tc := ⟨.vmem, 7, rfl⟩
abbrev cc0_scratch1 : Ref sig .tc := ⟨.vmem, 8, rfl⟩
abbrev cc0_scratch2 : Ref sig .tc := ⟨.vmem, 9, rfl⟩
abbrev cc0_stg0_0 : Ref sig .tc := ⟨.smem, 0, rfl⟩
abbrev cc0_stg0_1 : Ref sig .tc := ⟨.smem, 1, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8

abbrev nD : Nat := 1
abbrev τ : Topo := Topo.v7x

variable {F : FTy → Type} [FloatOps F]

abbrev grid0 : Pipeline.Grid := ⟨2, ![16, 22], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_24 : BitVec 32 := 0#32
  let c1024_i32 : BitVec 32 := 1024#32
  let v30 : BitVec 32 := Scalar.addi c0_i32_24 c1024_i32
  let c1_i32 : BitVec 32 := 1#32
  ⟨c0_i32_24, v30, c1_i32⟩
def k0_off1 (k0_t1 : Fin k0_t1_loop.trips) : Fin 3 → Nat :=
  let c0_33 : Index := 0#32
  let c0_34 : Index := 0#32
  let c0_i32_24 : BitVec 32 := 0#32
  let c1_i32 : BitVec 32 := 1#32
  let arg14 : BitVec 32 := Scf.iv c0_i32_24 c1_i32 k0_t1
  let v36 : Index := Scalar.indexCast arg14
  ![0, 0, v36.toNat]
def k0_off2 (k0_t1 : Fin k0_t1_loop.trips) : Fin 2 → Nat :=
  let c0_i32_24 : BitVec 32 := 0#32
  let c1_i32 : BitVec 32 := 1#32
  let arg14 : BitVec 32 := Scf.iv c0_i32_24 c1_i32 k0_t1
  let c0_i32_36 : BitVec 32 := 0#32
  ![arg14.toNat, 0]
def k0_off3 (v37 : BitVec 32) : Fin 2 → Nat :=
  let c0_i32_37 : BitVec 32 := 0#32
  ![v37.toNat, 0]

def k0_chk1 (i : grid0.Coords) (v37 : BitVec 32) : Prop :=
  (∀ (k0_h1 : k0_cond1 i = 1#1), ∀ a, (k0_off3 v37) a + S1x2176.size a ≤ S8192x2176.size a)
theorem k0_off3_inb : ∀ (i : grid0.Coords) (v37 : BitVec 32) (k0_hw1 : k0_chk1 i v37), ∀ (k0_h1 : k0_cond1 i = 1#1), ∀ a, (k0_off3 v37) a + S1x2176.size a ≤ S8192x2176.size a := fun i v37 k0_hw1 k0_h1 => k0_hw1 k0_h1

@[reducible] def k0_t2_loop : Scf.Loop 32 :=
  let c0_i32_26 : BitVec 32 := 0#32
  let c1024_i32_27 : BitVec 32 := 1024#32
  let v31 : BitVec 32 := Scalar.addi c0_i32_26 c1024_i32_27
  let c1_i32_28 : BitVec 32 := 1#32
  ⟨c0_i32_26, v31, c1_i32_28⟩
def k0_off4 (k0_t2 : Fin k0_t2_loop.trips) : Fin 2 → Nat :=
  let c0_i32_26 : BitVec 32 := 0#32
  let c1_i32_28 : BitVec 32 := 1#32
  let arg14 : BitVec 32 := Scf.iv c0_i32_26 c1_i32_28 k0_t2
  let c0_i32_34 : BitVec 32 := 0#32
  ![arg14.toNat, 0]
def k0_off5 (k0_t2 : Fin k0_t2_loop.trips) : Fin 2 → Nat :=
  let c0_i32_26 : BitVec 32 := 0#32
  let c1_i32_28 : BitVec 32 := 1#32
  let arg14 : BitVec 32 := Scf.iv c0_i32_26 c1_i32_28 k0_t2
  let c0_i32_35 : BitVec 32 := 0#32
  ![arg14.toNat, 0]
def k0_cond2 (i : grid0.Coords) : BitVec 1 :=
  let arg1 : BitVec 32 := BitVec.ofNat 32 (i 1).val
  let c21_i32 : BitVec 32 := 21#32
  let v27 : BitVec 1 := Scalar.cmpi .eq arg1 c21_i32
  let v28 : BitVec 32 := Scalar.extui v27
  let c0_i32_23 : BitVec 32 := 0#32
  let v29 : BitVec 1 := Scalar.cmpi .ne v28 c0_i32_23
  v29

@[reducible] def k0_t3_loop : Scf.Loop 32 :=
  let c0_i32_24 : BitVec 32 := 0#32
  let c1024_i32 : BitVec 32 := 1024#32
  let v30 : BitVec 32 := Scalar.addi c0_i32_24 c1024_i32
  let c1_i32 : BitVec 32 := 1#32
  ⟨c0_i32_24, v30, c1_i32⟩
def k0_off6 (k0_t3 : Fin k0_t3_loop.trips) : Fin 3 → Nat :=
  let c0_55 : Index := 0#32
  let c0_56 : Index := 0#32
  let c0_i32_24 : BitVec 32 := 0#32
  let c1_i32 : BitVec 32 := 1#32
  let arg14 : BitVec 32 := Scf.iv c0_i32_24 c1_i32 k0_t3
  let v66 : Index := Scalar.indexCast arg14
  ![0, 0, v66.toNat]
def k0_off7 (k0_t3 : Fin k0_t3_loop.trips) : Fin 2 → Nat :=
  let c0_i32_24 : BitVec 32 := 0#32
  let c1_i32 : BitVec 32 := 1#32
  let arg14 : BitVec 32 := Scf.iv c0_i32_24 c1_i32 k0_t3
  let c0_i32_58 : BitVec 32 := 0#32
  ![arg14.toNat, 0]
def k0_off8 (v67 : BitVec 32) : Fin 2 → Nat :=
  let c0_i32_59 : BitVec 32 := 0#32
  ![v67.toNat, 0]

def k0_chk2 (i : grid0.Coords) (v67 : BitVec 32) : Prop :=
  (∀ (k0_h2 : k0_cond2 i = 1#1), ∀ a, (k0_off8 v67) a + S1x2048.size a ≤ S8192x2048.size a)
theorem k0_off8_inb : ∀ (i : grid0.Coords) (v67 : BitVec 32) (k0_hw2 : k0_chk2 i v67), ∀ (k0_h2 : k0_cond2 i = 1#1), ∀ a, (k0_off8 v67) a + S1x2048.size a ≤ S8192x2048.size a := fun i v67 k0_hw2 k0_h2 => k0_hw2 k0_h2

@[reducible] def k0_t4_loop : Scf.Loop 32 :=
  let c0_i32_26 : BitVec 32 := 0#32
  let c1024_i32_27 : BitVec 32 := 1024#32
  let v31 : BitVec 32 := Scalar.addi c0_i32_26 c1024_i32_27
  let c1_i32_28 : BitVec 32 := 1#32
  ⟨c0_i32_26, v31, c1_i32_28⟩
def k0_off9 (k0_t4 : Fin k0_t4_loop.trips) : Fin 2 → Nat :=
  let c0_i32_26 : BitVec 32 := 0#32
  let c1_i32_28 : BitVec 32 := 1#32
  let arg14 : BitVec 32 := Scf.iv c0_i32_26 c1_i32_28 k0_t4
  let c0_i32_56 : BitVec 32 := 0#32
  ![arg14.toNat, 0]
def k0_off10 (k0_t4 : Fin k0_t4_loop.trips) : Fin 2 → Nat :=
  let c0_i32_26 : BitVec 32 := 0#32
  let c1_i32_28 : BitVec 32 := 1#32
  let arg14 : BitVec 32 := Scf.iv c0_i32_26 c1_i32_28 k0_t4
  let c0_i32_57 : BitVec 32 := 0#32
  ![arg14.toNat, 0]
@[reducible] def k0_t5_loop : Scf.Loop 32 :=
  let c0_i32_47 : BitVec 32 := 0#32
  let c1024_i32_48 : BitVec 32 := 1024#32
  let v64 : BitVec 32 := Scalar.addi c0_i32_47 c1024_i32_48
  let c1_i32_49 : BitVec 32 := 1#32
  ⟨c0_i32_47, v64, c1_i32_49⟩
def k0_off11 (k0_t5 : Fin k0_t5_loop.trips) : Fin 3 → Nat :=
  let c0_55 : Index := 0#32
  let c0_56 : Index := 0#32
  let c0_i32_47 : BitVec 32 := 0#32
  let c1_i32_49 : BitVec 32 := 1#32
  let arg14 : BitVec 32 := Scf.iv c0_i32_47 c1_i32_49 k0_t5
  let v66 : Index := Scalar.indexCast arg14
  ![0, 0, v66.toNat]
def k0_off12 (v67 : BitVec 32) : Fin 2 → Nat :=
  let c0_i32_57 : BitVec 32 := 0#32
  ![v67.toNat, 0]

def k0_chk3 (i : grid0.Coords) (v67 : BitVec 32) : Prop :=
  (∀ (k0_h2 : k0_cond2 i = 1#1), ∀ a, (k0_off12 v67) a + S1x2048.size a ≤ S8192x2048.size a)
theorem k0_off12_inb : ∀ (i : grid0.Coords) (v67 : BitVec 32) (k0_hw3 : k0_chk3 i v67), ∀ (k0_h2 : k0_cond2 i = 1#1), ∀ a, (k0_off12 v67) a + S1x2048.size a ≤ S8192x2048.size a := fun i v67 k0_hw3 k0_h2 => k0_hw3 k0_h2

def k0_off13 (k0_t5 : Fin k0_t5_loop.trips) : Fin 2 → Nat :=
  let c0_i32_47 : BitVec 32 := 0#32
  let c1_i32_49 : BitVec 32 := 1#32
  let arg14 : BitVec 32 := Scf.iv c0_i32_47 c1_i32_49 k0_t5
  let c0_i32_58 : BitVec 32 := 0#32
  ![arg14.toNat, 0]
@[reducible] def k0_t6_loop : Scf.Loop 32 :=
  let c0_i32_51 : BitVec 32 := 0#32
  let c1024_i32_52 : BitVec 32 := 1024#32
  let v65 : BitVec 32 := Scalar.addi c0_i32_51 c1024_i32_52
  let c1_i32_53 : BitVec 32 := 1#32
  ⟨c0_i32_51, v65, c1_i32_53⟩
def k0_off14 (k0_t6 : Fin k0_t6_loop.trips) : Fin 2 → Nat :=
  let c0_i32_51 : BitVec 32 := 0#32
  let c1_i32_53 : BitVec 32 := 1#32
  let arg14 : BitVec 32 := Scf.iv c0_i32_51 c1_i32_53 k0_t6
  let c0_i32_55 : BitVec 32 := 0#32
  ![arg14.toNat, 0]
def k0_off15 (k0_t6 : Fin k0_t6_loop.trips) : Fin 2 → Nat :=
  let c0_i32_51 : BitVec 32 := 0#32
  let c1_i32_53 : BitVec 32 := 1#32
  let arg14 : BitVec 32 := Scf.iv c0_i32_51 c1_i32_53 k0_t6
  let c0_i32_56 : BitVec 32 := 0#32
  ![arg14.toNat, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat, arg1.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat, arg1.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, arg1.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .smem S1x1x1024 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1x2048x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x2048x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S8x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]
-- ==== MoeRefIdeal.lean ====
abbrev S16x1x1024 : Shape := ⟨3, ![16, 1, 1024]⟩
abbrev S8192x2176 : Shape := ⟨2, ![8192, 2176]⟩
abbrev S8192x2048 : Shape := ⟨2, ![8192, 2048]⟩
abbrev S1x16x2048x5632 : Shape := ⟨4, ![1, 16, 2048, 5632]⟩
abbrev S1x16x5632x2048 : Shape := ⟨4, ![1, 16, 5632, 2048]⟩
abbrev S8x2048 : Shape := ⟨2, ![8, 2048]⟩
abbrev S8192x16 : Shape := ⟨2, ![8192, 16]⟩
abbrev S16x1024 : Shape := ⟨2, ![16, 1024]⟩
abbrev S_ : Shape := ⟨0, ![]⟩
abbrev S16x1024x1 : Shape := ⟨3, ![16, 1024, 1]⟩
abbrev S16x1024x2048 : Shape := ⟨3, ![16, 1024, 2048]⟩
abbrev S16x2048x5632 : Shape := ⟨3, ![16, 2048, 5632]⟩
abbrev S16x1024x5632 : Shape := ⟨3, ![16, 1024, 5632]⟩
abbrev S16x5632x2048 : Shape := ⟨3, ![16, 5632, 2048]⟩
abbrev S16 : Shape := ⟨1, ![16]⟩
abbrev S16x1 : Shape := ⟨2, ![16, 1]⟩
abbrev S16x1024x2 : Shape := ⟨3, ![16, 1024, 2]⟩
abbrev S2x2048 : Shape := ⟨2, ![2, 2048]⟩
abbrev S2x4096x2048 : Shape := ⟨3, ![2, 4096, 2048]⟩

abbrev nBuf : Space → Nat
  | .hbm => 75
  | .vmem => 0
  | .smem => 0
  | _ => 0

abbrev bufTy : (tb : Table) → Fin (tcTables nBuf tb) → BufTy
  | .hbm, ⟨0, _⟩ => ⟨S16x1x1024, .i32⟩
  | .hbm, ⟨1, _⟩ => ⟨S8192x2176, .f32⟩
  | .hbm, ⟨2, _⟩ => ⟨S8192x2048, .f32⟩
  | .hbm, ⟨3, _⟩ => ⟨S1x16x2048x5632, .f32⟩
  | .hbm, ⟨4, _⟩ => ⟨S1x16x2048x5632, .f32⟩
  | .hbm, ⟨5, _⟩ => ⟨S1x16x5632x2048, .f32⟩
  | .hbm, ⟨6, _⟩ => ⟨S8x2048, .f32⟩
  | .hbm, ⟨7, _⟩ => ⟨S8192x2048, .f32⟩
  | .hbm, ⟨8, _⟩ => ⟨S8192x16, .f32⟩
  | .hbm, ⟨9, _⟩ => ⟨S16x1024, .i32⟩
  | .hbm, ⟨10, _⟩ => ⟨S_, .i32⟩
  | .hbm, ⟨11, _⟩ => ⟨S16x1024, .i32⟩
  | .hbm, ⟨12, _⟩ => ⟨S16x1024, .i1⟩
  | .hbm, ⟨13, _⟩ => ⟨S_, .i32⟩
  | .hbm, ⟨14, _⟩ => ⟨S16x1024, .i32⟩
  | .hbm, ⟨15, _⟩ => ⟨S16x1024, .i32⟩
  | .hbm, ⟨16, _⟩ => ⟨S16x1024, .i32⟩
  | .hbm, ⟨17, _⟩ => ⟨S16x1024x1, .i32⟩
  | .hbm, ⟨18, _⟩ => ⟨S16x1024x2048, .f32⟩
  | .hbm, ⟨19, _⟩ => ⟨S16x2048x5632, .f32⟩
  | .hbm, ⟨20, _⟩ => ⟨S16x1024x5632, .f32⟩
  | .hbm, ⟨21, _⟩ => ⟨S16x2048x5632, .f32⟩
  | .hbm, ⟨22, _⟩ => ⟨S16x1024x5632, .f32⟩
  | .hbm, ⟨23, _⟩ => ⟨S16x1024x5632, .f32⟩
  | .hbm, ⟨24, _⟩ => ⟨S16x1024x5632, .f32⟩
  | .hbm, ⟨25, _⟩ => ⟨S_, .f32⟩
  | .hbm, ⟨26, _⟩ => ⟨S16x1024x5632, .f32⟩
  | .hbm, ⟨27, _⟩ => ⟨S16x1024x5632, .f32⟩
  | .hbm, ⟨28, _⟩ => ⟨S_, .f32⟩
  | .hbm, ⟨29, _⟩ => ⟨S16x1024x5632, .f32⟩
  | .hbm, ⟨30, _⟩ => ⟨S16x1024x5632, .f32⟩
  | .hbm, ⟨31, _⟩ => ⟨S16x1024x5632, .f32⟩
  | .hbm, ⟨32, _⟩ => ⟨S16x1024x5632, .f32⟩
  | .hbm, ⟨33, _⟩ => ⟨S16x5632x2048, .f32⟩
  | .hbm, ⟨34, _⟩ => ⟨S16x1024x2048, .f32⟩
  | .hbm, ⟨35, _⟩ => ⟨S16, .i32⟩
  | .hbm, ⟨36, _⟩ => ⟨S16x1, .i32⟩
  | .hbm, ⟨37, _⟩ => ⟨S_, .i32⟩
  | .hbm, ⟨38, _⟩ => ⟨S16x1024, .i32⟩
  | .hbm, ⟨39, _⟩ => ⟨S16x1024, .i1⟩
  | .hbm, ⟨40, _⟩ => ⟨S_, .i32⟩
  | .hbm, ⟨41, _⟩ => ⟨S16x1024, .i32⟩
  | .hbm, ⟨42, _⟩ => ⟨S16x1024, .i32⟩
  | .hbm, ⟨43, _⟩ => ⟨S16x1024, .i32⟩
  | .hbm, ⟨44, _⟩ => ⟨S_, .i32⟩
  | .hbm, ⟨45, _⟩ => ⟨S16x1, .i32⟩
  | .hbm, ⟨46, _⟩ => ⟨S16x1, .i1⟩
  | .hbm, ⟨47, _⟩ => ⟨S_, .i32⟩
  | .hbm, ⟨48, _⟩ => ⟨S16x1, .i32⟩
  | .hbm, ⟨49, _⟩ => ⟨S16x1, .i32⟩
  | .hbm, ⟨50, _⟩ => ⟨S16x1, .i32⟩
  | .hbm, ⟨51, _⟩ => ⟨S16x1024, .i32⟩
  | .hbm, ⟨52, _⟩ => ⟨S16x1024x1, .i32⟩
  | .hbm, ⟨53, _⟩ => ⟨S16x1024x1, .i32⟩
  | .hbm, ⟨54, _⟩ => ⟨S16x1024x2, .i32⟩
  | .hbm, ⟨55, _⟩ => ⟨S16x1024, .f32⟩
  | .hbm, ⟨56, _⟩ => ⟨S16x1024x1, .f32⟩
  | .hbm, ⟨57, _⟩ => ⟨S16x1024x2048, .f32⟩
  | .hbm, ⟨58, _⟩ => ⟨S16x1024x2048, .f32⟩
  | .hbm, ⟨59, _⟩ => ⟨S_, .f32⟩
  | .hbm, ⟨60, _⟩ => ⟨S8192x2048, .f32⟩
  | .hbm, ⟨61, _⟩ => ⟨S_, .i32⟩
  | .hbm, ⟨62, _⟩ => ⟨S16x1024, .i32⟩
  | .hbm, ⟨63, _⟩ => ⟨S16x1024, .i1⟩
  | .hbm, ⟨64, _⟩ => ⟨S_, .i32⟩
  | .hbm, ⟨65, _⟩ => ⟨S16x1024, .i32⟩
  | .hbm, ⟨66, _⟩ => ⟨S16x1024, .i32⟩
  | .hbm, ⟨67, _⟩ => ⟨S16x1024, .i32⟩
  | .hbm, ⟨68, _⟩ => ⟨S16x1024x1, .i32⟩
  | .hbm, ⟨69, _⟩ => ⟨S8192x2048, .f32⟩
  | .hbm, ⟨70, _⟩ => ⟨S2x2048, .f32⟩
  | .hbm, ⟨71, _⟩ => ⟨S2x4096x2048, .f32⟩
  | .hbm, ⟨72, _⟩ => ⟨S8192x2048, .f32⟩
  | .hbm, ⟨73, _⟩ => ⟨S8192x2048, .f32⟩
  | .hbm, ⟨74, _⟩ => ⟨S8192x2048, .f32⟩
  | _, _ => ⟨S16x1x1024, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_c : Ref sig .tc := ⟨.hbm, 10, rfl⟩
abbrev main_v3 : Ref sig .tc := ⟨.hbm, 11, rfl⟩
abbrev main_v4 : Ref sig .tc := ⟨.hbm, 12, rfl⟩
abbrev main_c_0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_call0_v0 : Ref sig .tc := ⟨.hbm, 23, rfl⟩
abbrev main_call0_v1 : Ref sig .tc := ⟨.hbm, 24, rfl⟩
abbrev main_call0_cst : Ref sig .tc := ⟨.hbm, 25, rfl⟩
abbrev main_call0_v2 : Ref sig .tc := ⟨.hbm, 26, rfl⟩
abbrev main_call0_v3 : Ref sig .tc := ⟨.hbm, 27, rfl⟩
abbrev main_call0_cst_0 : Ref sig .tc := ⟨.hbm, 28, rfl⟩
abbrev main_call0_v4 : Ref sig .tc := ⟨.hbm, 29, rfl⟩
abbrev main_call0_v5 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_c_1 : Ref sig .tc := ⟨.hbm, 37, rfl⟩
abbrev main_v20 : Ref sig .tc := ⟨.hbm, 38, rfl⟩
abbrev main_v21 : Ref sig .tc := ⟨.hbm, 39, rfl⟩
abbrev main_c_2 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_c_3 : Ref sig .tc := ⟨.hbm, 44, rfl⟩
abbrev main_v25 : Ref sig .tc := ⟨.hbm, 45, rfl⟩
abbrev main_v26 : Ref sig .tc := ⟨.hbm, 46, rfl⟩
abbrev main_c_4 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_cst : Ref sig .tc := ⟨.hbm, 59, rfl⟩
abbrev main_v38 : Ref sig .tc := ⟨.hbm, 60, rfl⟩
abbrev main_c_5 : Ref sig .tc := ⟨.hbm, 61, rfl⟩
abbrev main_v39 : Ref sig .tc := ⟨.hbm, 62, rfl⟩
abbrev main_v40 : Ref sig .tc := ⟨.hbm, 63, rfl⟩
abbrev main_c_6 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩

abbrev nD : Nat := 1
abbrev τ : Topo := Topo.v7x

variable {F : FTy → Type} [FloatOps F]
-- ==== Inp.lean ====
abbrev S8192x2048 : Shape := ⟨2, ![8192, 2048]⟩
abbrev S8x2048 : Shape := ⟨2, ![8, 2048]⟩
abbrev S1x2048x2560 : Shape := ⟨3, ![1, 2048, 2560]⟩
abbrev S1x128 : Shape := ⟨2, ![1, 128]⟩
abbrev S4096x128 : Shape := ⟨2, ![4096, 128]⟩
abbrev S128 : Shape := ⟨1, ![128]⟩
abbrev S_ : Shape := ⟨0, ![]⟩
abbrev S8192x1024 : Shape := ⟨2, ![8192, 1024]⟩
abbrev S2x8x4096x128 : Shape := ⟨4, ![2, 8, 4096, 128]⟩
abbrev S2x2x128x4096 : Shape := ⟨4, ![2, 2, 128, 4096]⟩
abbrev S2x2x4096x128 : Shape := ⟨4, ![2, 2, 4096, 128]⟩
abbrev S256x2048 : Shape := ⟨2, ![256, 2048]⟩
abbrev S256x128 : Shape := ⟨2, ![256, 128]⟩
abbrev S256x1024 : Shape := ⟨2, ![256, 1024]⟩
abbrev S1x8x256x128 : Shape := ⟨4, ![1, 8, 256, 128]⟩
abbrev S1x2x128x256 : Shape := ⟨4, ![1, 2, 128, 256]⟩
abbrev S1x2x256x128 : Shape := ⟨4, ![1, 2, 256, 128]⟩
abbrev S1x2048 : Shape := ⟨2, ![1, 2048]⟩
abbrev S2048x2560 : Shape := ⟨2, ![2048, 2560]⟩
abbrev S256x2560 : Shape := ⟨2, ![256, 2560]⟩
abbrev S256 : Shape := ⟨1, ![256]⟩
abbrev S256x1 : Shape := ⟨2, ![256, 1]⟩
abbrev S1x1x256x128 : Shape := ⟨4, ![1, 1, 256, 128]⟩
abbrev S128x256 : Shape := ⟨2, ![128, 256]⟩
abbrev S1x1x128x256 : Shape := ⟨4, ![1, 1, 128, 256]⟩

abbrev nBuf : Space → Nat
  | .hbm => 27
  | .vmem => 21
  | .smem => 0
  | _ => 0

abbrev bufTy : (tb : Table) → Fin (tcTables nBuf tb) → BufTy
  | .hbm, ⟨0, _⟩ => ⟨S8192x2048, .f32⟩
  | .hbm, ⟨1, _⟩ => ⟨S8x2048, .f32⟩
  | .hbm, ⟨2, _⟩ => ⟨S8x2048, .f32⟩
  | .hbm, ⟨3, _⟩ => ⟨S1x2048x2560, .f32⟩
  | .hbm, ⟨4, _⟩ => ⟨S1x128, .f32⟩
  | .hbm, ⟨5, _⟩ => ⟨S1x128, .f32⟩
  | .hbm, ⟨6, _⟩ => ⟨S4096x128, .f32⟩
  | .hbm, ⟨7, _⟩ => ⟨S4096x128, .f32⟩
  | .hbm, ⟨8, _⟩ => ⟨S128, .i1⟩
  | .hbm, ⟨9, _⟩ => ⟨S1x128, .i1⟩
  | .hbm, ⟨10, _⟩ => ⟨S128, .i1⟩
  | .hbm, ⟨11, _⟩ => ⟨S1x128, .i1⟩
  | .hbm, ⟨12, _⟩ => ⟨S4096x128, .f32⟩
  | .hbm, ⟨13, _⟩ => ⟨S_, .f32⟩
  | .hbm, ⟨14, _⟩ => ⟨S_, .f32⟩
  | .hbm, ⟨15, _⟩ => ⟨S4096x128, .i1⟩
  | .hbm, ⟨16, _⟩ => ⟨S4096x128, .f32⟩
  | .hbm, ⟨17, _⟩ => ⟨S4096x128, .f32⟩
  | .hbm, ⟨18, _⟩ => ⟨S_, .f32⟩
  | .hbm, ⟨19, _⟩ => ⟨S_, .f32⟩
  | .hbm, ⟨20, _⟩ => ⟨S4096x128, .i1⟩
  | .hbm, ⟨21, _⟩ => ⟨S4096x128, .f32⟩
  | .hbm, ⟨22, _⟩ => ⟨S4096x128, .f32⟩
  | .hbm, ⟨23, _⟩ => ⟨S8192x1024, .f32⟩
  | .hbm, ⟨24, _⟩ => ⟨S2x8x4096x128, .bf16⟩
  | .hbm, ⟨25, _⟩ => ⟨S2x2x128x4096, .bf16⟩
  | .hbm, ⟨26, _⟩ => ⟨S2x2x4096x128, .bf16⟩
  | .local _ .vmem, ⟨0, _⟩ => ⟨S256x2048, .f32⟩
  | .local _ .vmem, ⟨1, _⟩ => ⟨S256x2048, .f32⟩
  | .local _ .vmem, ⟨2, _⟩ => ⟨S8x2048, .f32⟩
  | .local _ .vmem, ⟨3, _⟩ => ⟨S8x2048, .f32⟩
  | .local _ .vmem, ⟨4, _⟩ => ⟨S1x2048x2560, .f32⟩
  | .local _ .vmem, ⟨5, _⟩ => ⟨S1x128, .f32⟩
  | .local _ .vmem, ⟨6, _⟩ => ⟨S1x128, .f32⟩
  | .local _ .vmem, ⟨7, _⟩ => ⟨S256x128, .f32⟩
  | .local _ .vmem, ⟨8, _⟩ => ⟨S256x128, .f32⟩
  | .local _ .vmem, ⟨9, _⟩ => ⟨S256x128, .f32⟩
  | .local _ .vmem, ⟨10, _⟩ => ⟨S256x128, .f32⟩
  | .local _ .vmem, ⟨11, _⟩ => ⟨S256x128, .f32⟩
  | .local _ .vmem, ⟨12, _⟩ => ⟨S256x128, .f32⟩
  | .local _ .vmem, ⟨13, _⟩ => ⟨S256x1024, .f32⟩
  | .local _ .vmem, ⟨14, _⟩ => ⟨S256x1024, .f32⟩
  | .local _ .vmem, ⟨15, _⟩ => ⟨S1x8x256x128, .bf16⟩
  | .local _ .vmem, ⟨16, _⟩ => ⟨S1x8x256x128, .bf16⟩
  | .local _ .vmem, ⟨17, _⟩ => ⟨S1x2x128x256, .bf16⟩
  | .local _ .vmem, ⟨18, _⟩ => ⟨S1x2x128x256, .bf16⟩
  | .local _ .vmem, ⟨19, _⟩ => ⟨S1x2x256x128, .bf16⟩
  | .local _ .vmem, ⟨20, _⟩ => ⟨S1x2x256x128, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_c : Ref sig .tc := ⟨.hbm, 8, rfl⟩
abbrev main_v0 : Ref sig .tc := ⟨.hbm, 9, rfl⟩
abbrev main_c_0 : Ref sig .tc := ⟨.hbm, 10, rfl⟩
abbrev main_v1 : Ref sig .tc := ⟨.hbm, 11, rfl⟩
abbrev main_v2 : Ref sig .tc := ⟨.hbm, 12, rfl⟩
abbrev main_cst : Ref sig .tc := ⟨.hbm, 13, rfl⟩
abbrev main_call0_v0 : Ref sig .tc := ⟨.hbm, 14, rfl⟩
abbrev main_call0_v1 : Ref sig .tc := ⟨.hbm, 15, rfl⟩
abbrev main_call0_v2 : Ref sig .tc := ⟨.hbm, 16, rfl⟩
abbrev main_v3 : Ref sig .tc := ⟨.hbm, 17, rfl⟩
abbrev main_cst_1 : Ref sig .tc := ⟨.hbm, 18, rfl⟩
abbrev main_call1_v0 : Ref sig .tc := ⟨.hbm, 19, rfl⟩
abbrev main_call1_v1 : Ref sig .tc := ⟨.hbm, 20, rfl⟩
abbrev main_call1_v2 : Ref sig .tc := ⟨.hbm, 21, rfl⟩
abbrev main_v4 : Ref sig .tc := ⟨.hbm, 22, rfl⟩
abbrev main_v5_0 : Ref sig .tc := ⟨.hbm, 23, rfl⟩
abbrev main_v5_1 : Ref sig .tc := ⟨.hbm, 24, rfl⟩
abbrev main_v5_2 : Ref sig .tc := ⟨.hbm, 25, rfl⟩
abbrev main_v5_3 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem12_1 : DmaSem sig := 20

abbrev nD : Nat := 1
abbrev τ : Topo := Topo.v7x

variable {F : FTy → Type} [FloatOps F]

abbrev grid0 : Pipeline.Grid := ⟨1, ![32], ![false]⟩

def k0_off1 (i : grid0.Coords) : Fin 2 → Nat :=
  let arg0 : BitVec 32 := BitVec.ofNat 32 (i 0).val
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c16_i32 : BitVec 32 := 16#32
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let v0 : BitVec 32 := Scalar.divsi arg0 c16_i32
  let c1_i32 : BitVec 32 := 1#32
  let v15 : BitVec 32 := Scalar.subi v0 c1_i32
  let v16 : BitVec 32 := Scalar.select v14 v15 v0
  let v17 : Index := Scalar.indexCast v16
  let c0 : Index := 0#32
  ![v17.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c16_i32 : BitVec 32 := 16#32
  let c0_i32 : BitVec 32 := 0#32
  let v0 : BitVec 1 := Scalar.cmpi .eq c16_i32 c0_i32
  let c1_i32 : BitVec 32 := 1#32
  let v1 : BitVec 32 := Scalar.select v0 c1_i32 c16_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_7 (i : grid0.Coords) : Fin 2 → Nat :=
  let arg0 : BitVec 32 := BitVec.ofNat 32 (i 0).val
  let c16_i32 : BitVec 32 := 16#32
  let c0_i32 : BitVec 32 := 0#32
  let v0 : BitVec 1 := Scalar.cmpi .eq c16_i32 c0_i32
  let c1_i32 : BitVec 32 := 1#32
  let v1 : BitVec 32 := Scalar.select v0 c1_i32 c16_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_8 (i : grid0.Coords) : Fin 2 → Nat :=
  let arg0 : BitVec 32 := BitVec.ofNat 32 (i 0).val
  let c16_i32 : BitVec 32 := 16#32
  let c0_i32 : BitVec 32 := 0#32
  let v0 : BitVec 1 := Scalar.cmpi .eq c16_i32 c0_i32
  let c1_i32 : BitVec 32 := 1#32
  let v1 : BitVec 32 := Scalar.select v0 c1_i32 c16_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 4 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c16_i32_4 : BitVec 32 := 16#32
  let c0_i32_5 : BitVec 32 := 0#32
  let v17 : BitVec 1 := Scalar.cmpi .eq c16_i32_4 c0_i32_5
  let c1_i32_6 : BitVec 32 := 1#32
  let v18 : BitVec 32 := Scalar.select v17 c1_i32_6 c16_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, c0_i32_10.toNat, v26.toNat, c0_i32_11.toNat]

def cc0_transform_11 (i : grid0.Coords) : Fin 4 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c16_i32_4 : BitVec 32 := 16#32
  let c0_i32_5 : BitVec 32 := 0#32
  let v17 : BitVec 1 := Scalar.cmpi .eq c16_i32_4 c0_i32_5
  let c1_i32_6 : BitVec 32 := 1#32
  let v18 : BitVec 32 := Scalar.select v17 c1_i32_6 c16_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, c0_i32_10.toNat, c0_i32_11.toNat, v26.toNat]

def cc0_transform_12 (i : grid0.Coords) : Fin 4 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c16_i32_4 : BitVec 32 := 16#32
  let c0_i32_5 : BitVec 32 := 0#32
  let v17 : BitVec 1 := Scalar.cmpi .eq c16_i32_4 c0_i32_5
  let c1_i32_6 : BitVec 32 := 1#32
  let v18 : BitVec 32 := Scalar.select v17 c1_i32_6 c16_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, c0_i32_10.toNat, v26.toNat, c0_i32_11.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S8x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048x2560 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x8x256x128 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1x2x128x256 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1x2x256x128 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== InpRefIdeal.lean ====
abbrev S8192x2048 : Shape := ⟨2, ![8192, 2048]⟩
abbrev S8x2048 : Shape := ⟨2, ![8, 2048]⟩
abbrev S1x2048x2560 : Shape := ⟨3, ![1, 2048, 2560]⟩
abbrev S1x128 : Shape := ⟨2, ![1, 128]⟩
abbrev S4096x128 : Shape := ⟨2, ![4096, 128]⟩
abbrev S2x4096x2048 : Shape := ⟨3, ![2, 4096, 2048]⟩
abbrev S2x2048 : Shape := ⟨2, ![2, 2048]⟩
abbrev S2x1x2048 : Shape := ⟨3, ![2, 1, 2048]⟩
abbrev S_ : Shape := ⟨0, ![]⟩
abbrev S2048x2560 : Shape := ⟨2, ![2048, 2560]⟩
abbrev S2x4096x2560 : Shape := ⟨3, ![2, 4096, 2560]⟩
abbrev S2x4096x1024 : Shape := ⟨3, ![2, 4096, 1024]⟩
abbrev S2x4096x8x128 : Shape := ⟨4, ![2, 4096, 8, 128]⟩
abbrev S128 : Shape := ⟨1, ![128]⟩
abbrev S2x4096x8 : Shape := ⟨3, ![2, 4096, 8]⟩
abbrev S2x4096x8x1 : Shape := ⟨4, ![2, 4096, 8, 1]⟩
abbrev S1x1x1x128 : Shape := ⟨4, ![1, 1, 1, 128]⟩
abbrev S2x4096x256 : Shape := ⟨3, ![2, 4096, 256]⟩
abbrev S2x4096x2x128 : Shape := ⟨4, ![2, 4096, 2, 128]⟩
abbrev S2x4096x2 : Shape := ⟨3, ![2, 4096, 2]⟩
abbrev S2x4096x2x1 : Shape := ⟨4, ![2, 4096, 2, 1]⟩
abbrev S2x4096x8x2x2x32 : Shape := ⟨6, ![2, 4096, 8, 2, 2, 32]⟩
abbrev S2x4096x8x2x1x32 : Shape := ⟨6, ![2, 4096, 8, 2, 1, 32]⟩
abbrev S1x4096x1x128 : Shape := ⟨4, ![1, 4096, 1, 128]⟩
abbrev S2x4096x2x2x2x32 : Shape := ⟨6, ![2, 4096, 2, 2, 2, 32]⟩
abbrev S2x4096x2x2x1x32 : Shape := ⟨6, ![2, 4096, 2, 2, 1, 32]⟩
abbrev S8192x1024 : Shape := ⟨2, ![8192, 1024]⟩
abbrev S2x8x4096x128 : Shape := ⟨4, ![2, 8, 4096, 128]⟩
abbrev S2x2x128x4096 : Shape := ⟨4, ![2, 2, 128, 4096]⟩
abbrev S2x2x4096x128 : Shape := ⟨4, ![2, 2, 4096, 128]⟩

abbrev nBuf : Space → Nat
  | .hbm => 99
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8x2048, .f32⟩
  | .hbm, ⟨2, _⟩ => ⟨S8x2048, .f32⟩
  | .hbm, ⟨3, _⟩ => ⟨S1x2048x2560, .f32⟩
  | .hbm, ⟨4, _⟩ => ⟨S1x128, .f32⟩
  | .hbm, ⟨5, _⟩ => ⟨S1x128, .f32⟩
  | .hbm, ⟨6, _⟩ => ⟨S4096x128, .f32⟩
  | .hbm, ⟨7, _⟩ => ⟨S4096x128, .f32⟩
  | .hbm, ⟨8, _⟩ => ⟨S2x4096x2048, .f32⟩
  | .hbm, ⟨9, _⟩ => ⟨S2x2048, .f32⟩
  | .hbm, ⟨10, _⟩ => ⟨S2x1x2048, .f32⟩
  | .hbm, ⟨11, _⟩ => ⟨S_, .f32⟩
  | .hbm, ⟨12, _⟩ => ⟨S2x1x2048, .f32⟩
  | .hbm, ⟨13, _⟩ => ⟨S2x1x2048, .f32⟩
  | .hbm, ⟨14, _⟩ => ⟨S2x4096x2048, .f32⟩
  | .hbm, ⟨15, _⟩ => ⟨S2x4096x2048, .f32⟩
  | .hbm, ⟨16, _⟩ => ⟨S2x2048, .f32⟩
  | .hbm, ⟨17, _⟩ => ⟨S2x1x2048, .f32⟩
  | .hbm, ⟨18, _⟩ => ⟨S2x4096x2048, .f32⟩
  | .hbm, ⟨19, _⟩ => ⟨S2x4096x2048, .f32⟩
  | .hbm, ⟨20, _⟩ => ⟨S2048x2560, .f32⟩
  | .hbm, ⟨21, _⟩ => ⟨S2x4096x2560, .f32⟩
  | .hbm, ⟨22, _⟩ => ⟨S2x4096x1024, .f32⟩
  | .hbm, ⟨23, _⟩ => ⟨S2x4096x1024, .f32⟩
  | .hbm, ⟨24, _⟩ => ⟨S2x4096x8x128, .f32⟩
  | .hbm, ⟨25, _⟩ => ⟨S128, .f32⟩
  | .hbm, ⟨26, _⟩ => ⟨S2x4096x8x128, .f32⟩
  | .hbm, ⟨27, _⟩ => ⟨S_, .f32⟩
  | .hbm, ⟨28, _⟩ => ⟨S2x4096x8, .f32⟩
  | .hbm, ⟨29, _⟩ => ⟨S2x4096x8x1, .f32⟩
  | .hbm, ⟨30, _⟩ => ⟨S_, .f32⟩
  | .hbm, ⟨31, _⟩ => ⟨S2x4096x8x1, .f32⟩
  | .hbm, ⟨32, _⟩ => ⟨S2x4096x8x1, .f32⟩
  | .hbm, ⟨33, _⟩ => ⟨S_, .f32⟩
  | .hbm, ⟨34, _⟩ => ⟨S2x4096x8x1, .f32⟩
  | .hbm, ⟨35, _⟩ => ⟨S2x4096x8x1, .f32⟩
  | .hbm, ⟨36, _⟩ => ⟨S2x4096x8x1, .f32⟩
  | .hbm, ⟨37, _⟩ => ⟨S2x4096x8x128, .f32⟩
  | .hbm, ⟨38, _⟩ => ⟨S2x4096x8x128, .f32⟩
  | .hbm, ⟨39, _⟩ => ⟨S1x1x1x128, .f32⟩
  | .hbm, ⟨40, _⟩ => ⟨S2x4096x8x128, .f32⟩
  | .hbm, ⟨41, _⟩ => ⟨S2x4096x8x128, .f32⟩
  | .hbm, ⟨42, _⟩ => ⟨S2x4096x256, .f32⟩
  | .hbm, ⟨43, _⟩ => ⟨S2x4096x2x128, .f32⟩
  | .hbm, ⟨44, _⟩ => ⟨S128, .f32⟩
  | .hbm, ⟨45, _⟩ => ⟨S2x4096x2x128, .f32⟩
  | .hbm, ⟨46, _⟩ => ⟨S_, .f32⟩
  | .hbm, ⟨47, _⟩ => ⟨S2x4096x2, .f32⟩
  | .hbm, ⟨48, _⟩ => ⟨S2x4096x2x1, .f32⟩
  | .hbm, ⟨49, _⟩ => ⟨S_, .f32⟩
  | .hbm, ⟨50, _⟩ => ⟨S2x4096x2x1, .f32⟩
  | .hbm, ⟨51, _⟩ => ⟨S2x4096x2x1, .f32⟩
  | .hbm, ⟨52, _⟩ => ⟨S_, .f32⟩
  | .hbm, ⟨53, _⟩ => ⟨S2x4096x2x1, .f32⟩
  | .hbm, ⟨54, _⟩ => ⟨S2x4096x2x1, .f32⟩
  | .hbm, ⟨55, _⟩ => ⟨S2x4096x2x1, .f32⟩
  | .hbm, ⟨56, _⟩ => ⟨S2x4096x2x128, .f32⟩
  | .hbm, ⟨57, _⟩ => ⟨S2x4096x2x128, .f32⟩
  | .hbm, ⟨58, _⟩ => ⟨S1x1x1x128, .f32⟩
  | .hbm, ⟨59, _⟩ => ⟨S2x4096x2x128, .f32⟩
  | .hbm, ⟨60, _⟩ => ⟨S2x4096x2x128, .f32⟩
  | .hbm, ⟨61, _⟩ => ⟨S2x4096x256, .f32⟩
  | .hbm, ⟨62, _⟩ => ⟨S2x4096x2x128, .f32⟩
  | .hbm, ⟨63, _⟩ => ⟨S2x4096x8x2x2x32, .f32⟩
  | .hbm, ⟨64, _⟩ => ⟨S2x4096x8x2x1x32, .f32⟩
  | .hbm, ⟨65, _⟩ => ⟨S2x4096x8x2x1x32, .f32⟩
  | .hbm, ⟨66, _⟩ => ⟨S2x4096x8x2x1x32, .f32⟩
  | .hbm, ⟨67, _⟩ => ⟨S2x4096x8x2x2x32, .f32⟩
  | .hbm, ⟨68, _⟩ => ⟨S2x4096x8x128, .f32⟩
  | .hbm, ⟨69, _⟩ => ⟨S1x4096x1x128, .f32⟩
  | .hbm, ⟨70, _⟩ => ⟨S2x4096x8x128, .f32⟩
  | .hbm, ⟨71, _⟩ => ⟨S2x4096x8x128, .f32⟩
  | .hbm, ⟨72, _⟩ => ⟨S1x4096x1x128, .f32⟩
  | .hbm, ⟨73, _⟩ => ⟨S2x4096x8x128, .f32⟩
  | .hbm, ⟨74, _⟩ => ⟨S2x4096x8x128, .f32⟩
  | .hbm, ⟨75, _⟩ => ⟨S2x4096x8x128, .f32⟩
  | .hbm, ⟨76, _⟩ => ⟨S_, .f32⟩
  | .hbm, ⟨77, _⟩ => ⟨S2x4096x8x128, .f32⟩
  | .hbm, ⟨78, _⟩ => ⟨S2x4096x8x128, .f32⟩
  | .hbm, ⟨79, _⟩ => ⟨S2x4096x2x2x2x32, .f32⟩
  | .hbm, ⟨80, _⟩ => ⟨S2x4096x2x2x1x32, .f32⟩
  | .hbm, ⟨81, _⟩ => ⟨S2x4096x2x2x1x32, .f32⟩
  | .hbm, ⟨82, _⟩ => ⟨S2x4096x2x2x1x32, .f32⟩
  | .hbm, ⟨83, _⟩ => ⟨S2x4096x2x2x2x32, .f32⟩
  | .hbm, ⟨84, _⟩ => ⟨S2x4096x2x128, .f32⟩
  | .hbm, ⟨85, _⟩ => ⟨S1x4096x1x128, .f32⟩
  | .hbm, ⟨86, _⟩ => ⟨S2x4096x2x128, .f32⟩
  | .hbm, ⟨87, _⟩ => ⟨S2x4096x2x128, .f32⟩
  | .hbm, ⟨88, _⟩ => ⟨S1x4096x1x128, .f32⟩
  | .hbm, ⟨89, _⟩ => ⟨S2x4096x2x128, .f32⟩
  | .hbm, ⟨90, _⟩ => ⟨S2x4096x2x128, .f32⟩
  | .hbm, ⟨91, _⟩ => ⟨S2x4096x2x128, .f32⟩
  | .hbm, ⟨92, _⟩ => ⟨S8192x1024, .f32⟩
  | .hbm, ⟨93, _⟩ => ⟨S2x8x4096x128, .f32⟩
  | .hbm, ⟨94, _⟩ => ⟨S2x8x4096x128, .bf16⟩
  | .hbm, ⟨95, _⟩ => ⟨S2x2x128x4096, .f32⟩
  | .hbm, ⟨96, _⟩ => ⟨S2x2x128x4096, .bf16⟩
  | .hbm, ⟨97, _⟩ => ⟨S2x2x4096x128, .f32⟩
  | .hbm, ⟨98, _⟩ => ⟨S2x2x4096x128, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_cst : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_0 : Ref sig .tc := ⟨.hbm, 27, rfl⟩
abbrev main_v18 : Ref sig .tc := ⟨.hbm, 28, rfl⟩
abbrev main_v19 : Ref sig .tc := ⟨.hbm, 29, rfl⟩
abbrev main_cst_1 : Ref sig .tc := ⟨.hbm, 30, rfl⟩
abbrev main_v20 : Ref sig .tc := ⟨.hbm, 31, rfl⟩
abbrev main_v21 : Ref sig .tc := ⟨.hbm, 32, rfl⟩
abbrev main_cst_2 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_cst_3 : Ref sig .tc := ⟨.hbm, 46, rfl⟩
abbrev main_v34 : Ref sig .tc := ⟨.hbm, 47, rfl⟩
abbrev main_v35 : Ref sig .tc := ⟨.hbm, 48, rfl⟩
abbrev main_cst_4 : Ref sig .tc := ⟨.hbm, 49, rfl⟩
abbrev main_v36 : Ref sig .tc := ⟨.hbm, 50, rfl⟩
abbrev main_v37 : Ref sig .tc := ⟨.hbm, 51, rfl⟩
abbrev main_cst_5 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_cst_6 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_v67 : Ref sig .tc := ⟨.hbm, 83, rfl⟩
abbrev main_v68 : Ref sig .tc := ⟨.hbm, 84, rfl⟩
abbrev main_v69 : Ref sig .tc := ⟨.hbm, 85, rfl⟩
abbrev main_v70 : Ref sig .tc := ⟨.hbm, 86, rfl⟩
abbrev main_v71 : Ref sig .tc := ⟨.hbm, 87, rfl⟩
abbrev main_v72 : Ref sig .tc := ⟨.hbm, 88, rfl⟩
abbrev main_v73 : Ref sig .tc := ⟨.hbm, 89, rfl⟩
abbrev main_v74 : Ref sig .tc := ⟨.hbm, 90, rfl⟩
abbrev main_v75 : Ref sig .tc := ⟨.hbm, 91, rfl⟩
abbrev main_v76 : Ref sig .tc := ⟨.hbm, 92, rfl⟩
abbrev main_v77 : Ref sig .tc := ⟨.hbm, 93, rfl⟩
abbrev main_v78 : Ref sig .tc := ⟨.hbm, 94, rfl⟩
abbrev main_v79 : Ref sig .tc := ⟨.hbm, 95, rfl⟩
abbrev main_v80 : Ref sig .tc := ⟨.hbm, 96, rfl⟩
abbrev main_v81 : Ref sig .tc := ⟨.hbm, 97, rfl⟩
abbrev main_v82 : Ref sig .tc := ⟨.hbm, 98, rfl⟩

abbrev nD : Nat := 1
abbrev τ : Topo := Topo.v7x

variable {F : FTy → Type} [FloatOps F]
-- ==== Proof.InpMath.lean ====
/-
  The in-projection in plain sums: a row scaled and shifted by its sample's numbers, its product with a column of the
  weights, a head divided by the root of its mean square, and the head's columns turned by their angles.
-/
module

public import Idealize.ShloMosaic.Lib.Pipeline.Value
public import Idealize.ShloMosaic.Lib.Pointwise

@[expose] public section

noncomputable section

namespace Cert.InpMath

open Idealize.ShloMosaic

/-- A row's product with a column: the row scaled by one and its sample's scale, and shifted by its sample's shift. -/
def product (x a b w : Fin 2048 → EReal) : EReal := ∑ k : Fin 2048, (x k * (1 + a k) + b k) * w k

/-- A head's column over the root of the head's mean square, times the column's gain. -/
def nrm (f g : Fin 128 → EReal) (d : Fin 128) : EReal :=
  f d * Ideal.rsqrt (Ideal.div (∑ k : Fin 128, f k * f k) (Ideal.ofBits .f32 0x43000000#32) + Ideal.ofBits .f32 0x358637BD#32) * g d

/-- The column `n` further on, around the head's end. -/
def ahead (d : Fin 128) (n : ℕ) : Fin 128 := ⟨(d.val + n) % 128, by omega⟩

/-- A column turned: in each half of 64 columns the first 32 pair with the last 32. -/
def turn (n c s : Fin 128 → EReal) (d : Fin 128) : EReal :=
  n d * c d + (if d.val % 64 < 32 then - n (ahead d 32) else n (ahead d 96)) * s d

/-- A column turned by two tables of sines, each with zeros where the other counts. -/
def mix (n c lo hi : Fin 128 → EReal) (d : Fin 128) : EReal := n d * c d + n (ahead d 32) * lo d + n (ahead d 96) * hi d

/-- Two tables made of one turn a column as the one does. -/
theorem mix_eq_turn (n c lo hi s : Fin 128 → EReal) (d : Fin 128) (hl : lo d = if d.val % 64 < 32 then - s d else 0)
    (hh : hi d = if d.val % 64 < 32 then 0 else s d) : mix n c lo hi d = turn n c s d := by
  unfold mix turn
  rw [hl, hh]
  split
  · rw [mul_zero, add_zero, mul_comm (n (ahead d 32)) (- s d), EReal.neg_mul, EReal.neg_mul, mul_comm (s d)]
  · rw [mul_zero, add_zero]

section arrays
variable (x0 : (⟨2, ![8192, 2048]⟩ : Shape).Idx → EReal) (x1 x2 : (⟨2, ![8, 2048]⟩ : Shape).Idx → EReal)
  (x3 : (⟨3, ![1, 2048, 2560]⟩ : Shape).Idx → EReal) (x4 : (⟨2, ![1, 128]⟩ : Shape).Idx → EReal)
  (x6 x7 : (⟨2, ![4096, 128]⟩ : Shape).Idx → EReal)

/-- The projection of token `n` of sample `b`, column `j`. -/
def at3 (b : Fin 2) (n : Fin 4096) (j : Fin 2560) : EReal :=
  product (fun k => x0 (ix2 ⟨b.val * 4096 + n.val, by omega⟩ k)) (fun k => x1 (ix2 ⟨b.val, by omega⟩ k))
    (fun k => x2 (ix2 ⟨b.val, by omega⟩ k)) (fun k => x3 (ix3 0 k j))

/-- The head of the 128 columns from `o` on, normed and turned. -/
def head (b : Fin 2) (n : Fin 4096) (o : ℕ) (ho : o + 128 ≤ 2560) (d : Fin 128) : EReal :=
  turn (nrm (fun k => at3 x0 x1 x2 x3 b n ⟨o + k.val, by omega⟩) (fun k => x4 (ix2 0 k))) (fun k => x6 (ix2 n k)) (fun k => x7 (ix2 n k)) d

end arrays

end Cert.InpMath

end

end
-- ==== Proof.InpBlock.lean ====
module

public import proofs.«01_k».proof.Proof.Gen.InpIdeal.Value
public import Idealize.ShloMosaic.Lib.Pipeline.Value
public import Idealize.ShloMosaic.Lib.Pointwise
public import proofs.«01_k».proof.Proof.InpMath

/-! The in-projection's block, read at one row and one column. -/

@[expose] public section

set_option maxRecDepth 16384

noncomputable section

namespace Cert.InpBlock

open Idealize.ShloMosaic Idealize.ShloMosaic.TcCoe Idealize.SL.Sem Cert.InpIdeal Cert.InpIdeal.Gen
open Cert.InpIdeal.Facts Cert.InpMath

local notation "𝐅" => Ideal

/-- A head's columns, divided by the root of their mean square. -/
def vN (x : FVec 𝐅 S256x128 .f32) (g : FVec 𝐅 S1x128 .f32) : FVec 𝐅 S256x128 .f32 :=
  mulf (mulf x (broadcastTo S256x128 (rsqrt (addf (divf (shapeCast S256x1 (multiReduction .add [1] S256 (mulf x x) 0x00000000#32
    reduces_S256x128_S256 (.inl rfl) rfl) shapeCasts_S256_S256x1) (broadcast S256x1 (Scalar.ofBits .f32 0x43000000#32)))
    (broadcast S256x1 (Scalar.ofBits .f32 0x358637BD#32)))) broadcasts_S256x1_S256x128)) (broadcastTo S256x128 g broadcasts_S1x128_S256x128)

/-- The columns turned by their angles. -/
def vT (n c lo hi : FVec 𝐅 S256x128 .f32) : FVec 𝐅 S256x128 .f32 :=
  addf (addf (mulf n c) (mulf (dynamicRotate 1 96#32 none n rotates_S256x128_d1) lo)) (mulf (dynamicRotate 1 32#32 none n rotates_S256x128_d1) hi)

/-- A head divided by its root, at one row and one column. -/
theorem vN_apply (x : FVec 𝐅 S256x128 .f32) (g : FVec 𝐅 S1x128 .f32) (r : Fin 256) (d : Fin 128) :
    vN x g (ix2 r d) = nrm (fun k => x (ix2 r k)) (fun k => g (ix2 0 k)) d := by
  pointwise [vN, nrm]

/-- A turned head, at one row and one column. -/
theorem vT_apply (n c lo hi : FVec 𝐅 S256x128 .f32) (r : Fin 256) (d : Fin 128) :
    vT n c lo hi (ix2 r d) = mix (fun k => n (ix2 r k)) (fun k => c (ix2 r k)) (fun k => lo (ix2 r k)) (fun k => hi (ix2 r k)) d := by
  have e1 : (⟨(d.val + 128 - 96) % 128, by omega⟩ : Fin 128) = ahead d 32 := Fin.ext (by show (d.val + 128 - 96) % 128 = (d.val + 32) % 128; omega)
  have e2 : (⟨(d.val + 128 - 32) % 128, by omega⟩ : Fin 128) = ahead d 96 := Fin.ext (by show (d.val + 128 - 32) % 128 = (d.val + 96) % 128; omega)
  unfold mix
  rw [← e1, ← e2]
  pointwise [vT]

/-- The block's projection, at one row and one column. -/
theorem pay3_apply (a b : Vec 𝐅 S1x2048 .f32) (x : Vec 𝐅 S256x2048 .f32) (w : Vec 𝐅 S1x2048x2560 .f32) (r : Fin 256) (j : Fin 2560) :
    k0_pay3 a b x w (ix2 r j) = product (fun k => x (ix2 r k)) (fun k => a (ix2 0 k)) (fun k => b (ix2 0 k)) (fun k => w (ix3 0 k j)) := by
  unfold product
  pointwise [k0_pay3]

section pieces
variable (P : FVec 𝐅 S256x2560 .f32) (g : FVec 𝐅 S1x128 .f32) (c lo hi : FVec 𝐅 S256x128 .f32)

/-- A head's columns of the projection. -/
def cols (o : Fin 2 → ℕ) (h : S256x2560.Slices o S256x128) : FVec 𝐅 S256x128 .f32 := extractStridedSlice S256x128 o P h

/-- A head of queries. -/
def qh (x : FVec 𝐅 S256x128 .f32) : FVec 𝐅 S1x1x256x128 .bf16 :=
  shapeCast S1x1x256x128 (truncf .bf16 (mulf (vT (vN x g) c lo hi) (broadcast S256x128 (Scalar.ofBits .f32 0x3DB504F3#32))) bitsLt_bf16_f32)
    shapeCasts_S256x128_S1x1x256x128

/-- A head of keys. -/
def kh (x : FVec 𝐅 S256x128 .f32) : FVec 𝐅 S1x1x128x256 .bf16 :=
  shapeCast S1x1x128x256 (truncf .bf16 (transpose S128x256 [1, 0] (vT (vN x g) c lo hi) transposes_S256x128_p1_0_S128x256) bitsLt_bf16_f32)
    shapeCasts_S128x256_S1x1x128x256

/-- A head of values. -/
def vh (x : FVec 𝐅 S256x128 .f32) : FVec 𝐅 S1x1x256x128 .bf16 :=
  shapeCast S1x1x256x128 (truncf .bf16 x bitsLt_bf16_f32) shapeCasts_S256x128_S1x1x256x128

/-- The first head of queries. -/
theorem q0 : k0_pay7 P c lo hi g = qh g c lo (k0_pay6 hi) (cols P ![0, 1024] slices_S256x2560_o0_1024_S256x128) := by
  unfold k0_pay7 qh vT vN cols; rfl

/-- The second head of queries. -/
theorem q1 : k0_pay10 c lo hi g (k0_pay8 P) (k0_pay9 P) = qh g c lo hi (cols P ![0, 1152] slices_S256x2560_o0_1152_S256x128) := by
  unfold k0_pay10 k0_pay9 k0_pay8 qh vT vN cols; rfl

/-- The third head of queries. -/
theorem q2 : k0_pay11 P c lo hi g = qh g c lo hi (cols P ![0, 1280] slices_S256x2560_o0_1280_S256x128) := by
  unfold k0_pay11 qh vT vN cols; rfl

/-- The fourth head of queries. -/
theorem q3 : k0_pay12 P c lo hi g = qh g c lo hi (cols P ![0, 1408] slices_S256x2560_o0_1408_S256x128) := by
  unfold k0_pay12 qh vT vN cols; rfl

/-- The fifth head of queries. -/
theorem q4 : k0_pay15 hi (k0_pay13 P g) (k0_pay14 P c lo g) 32#32 = qh g c lo hi (cols P ![0, 1536] slices_S256x2560_o0_1536_S256x128) := by
  unfold k0_pay15 k0_pay14 k0_pay13 qh vT vN cols; rfl

/-- The sixth head of queries. -/
theorem q5 : k0_pay16 P c lo hi g = qh g c lo hi (cols P ![0, 1664] slices_S256x2560_o0_1664_S256x128) := by
  unfold k0_pay16 qh vT vN cols; rfl

/-- The seventh head of queries. -/
theorem q6 : k0_pay19 c lo hi g (k0_pay17 P) (k0_pay18 P) = qh g c lo hi (cols P ![0, 1792] slices_S256x2560_o0_1792_S256x128) := by
  unfold k0_pay19 k0_pay18 k0_pay17 qh vT vN cols; rfl

/-- The eighth head of queries. -/
theorem q7 : k0_pay21 (k0_pay20 P c lo hi g) = qh g c lo hi (cols P ![0, 1920] slices_S256x2560_o0_1920_S256x128) := by
  unfold k0_pay21 k0_pay20 qh vT vN cols; rfl

/-- The first head of keys. -/
theorem k0 : k0_pay22 P c lo hi g = kh g c lo hi (cols P ![0, 2048] slices_S256x2560_o0_2048_S256x128) := by
  unfold k0_pay22 kh vT vN cols; rfl

/-- The second head of keys. -/
theorem k1 : k0_pay1 c lo hi g (k0_pay24 P) (k0_pay25 P) (Scalar.ofBits .f32 0x358637BD#32) = kh g c lo hi (cols P ![0, 2176] slices_S256x2560_o0_2176_S256x128) := by
  unfold k0_pay1 k0_pay25 k0_pay24 kh vT vN cols; rfl

/-- The first head of values. -/
theorem v0 : k0_pay23 P = vh (cols P ![0, 2304] slices_S256x2560_o0_2304_S256x128) := rfl

/-- The second head of values. -/
theorem v1 : k0_pay2 P = vh (cols P ![0, 2432] slices_S256x2560_o0_2432_S256x128) := rfl

/-- A head of queries, at one row and one column. -/
theorem qh_apply (x : FVec 𝐅 S256x128 .f32) (r : Fin 256) (d : Fin 128) : qh g c lo hi x (ix4 0 0 r d) = vT (vN x g) c lo hi (ix2 r d) * Ideal.ofBits .f32 0x3DB504F3#32 := by
  pointwise [qh]

/-- A head of keys, at one row and one column. -/
theorem kh_apply (x : FVec 𝐅 S256x128 .f32) (r : Fin 256) (d : Fin 128) : kh g c lo hi x (ix4 0 0 d r) = vT (vN x g) c lo hi (ix2 r d) := by
  pointwise [kh]

/-- A head of values, at one row and one column. -/
theorem vh_apply (x : FVec 𝐅 S256x128 .f32) (r : Fin 256) (d : Fin 128) : vh x (ix4 0 0 r d) = x (ix2 r d) := by
  pointwise [vh]

/-- A head's columns, at one row and one column. -/
theorem cols_apply (o : ℕ) (h : S256x2560.Slices ![0, o] S256x128) (r : Fin 256) (d : Fin 128) (j : Fin 2560) (hj : j.val = o + d.val) :
    cols P ![0, o] h (ix2 r d) = P (ix2 r j) := by
  unfold cols
  refine congrArg P (funext fun a => Fin.ext ?_)
  match a with
  | ⟨0, _⟩ => show 0 + r.val = r.val; omega
  | ⟨1, _⟩ => show o + d.val = j.val; omega

/-- A head of the block, from its first column on: divided by its root and turned. -/
def turned (r : Fin 256) (o : ℕ) (ho : o + 128 ≤ 2560) (d : Fin 128) : EReal :=
  mix (nrm (fun k => P (ix2 r ⟨o + k.val, by omega⟩)) (fun k => g (ix2 0 k))) (fun k => c (ix2 r k)) (fun k => lo (ix2 r k)) (fun k => hi (ix2 r k)) d

/-- A head of the block is read from its own columns. -/
theorem turned_eq (o : ℕ) (h : S256x2560.Slices ![0, o] S256x128) (ho : o + 128 ≤ 2560) (r : Fin 256) (d : Fin 128) :
    vT (vN (cols P ![0, o] h) g) c lo hi (ix2 r d) = turned P g c lo hi r o ho d := by
  rw [vT_apply]
  unfold turned
  refine congrArg (fun n => mix n _ _ _ d) (funext fun k => ?_)
  rw [vN_apply]
  refine congrArg (fun f => nrm f _ k) (funext fun l => ?_)
  exact cols_apply P o h r l _ rfl

/-- An index of a head's block of rows. -/
theorem at_row (x : S1x1x256x128.Idx) : x = ix4 0 0 (x 2) (x 3) := by
  funext a
  match a with
  | ⟨0, _⟩ => exact Fin.ext (by have := (x 0).isLt; change (x 0).val < 1 at this; show (x 0).val = 0; omega)
  | ⟨1, _⟩ => exact Fin.ext (by have := (x 1).isLt; change (x 1).val < 1 at this; show (x 1).val = 0; omega)
  | ⟨2, _⟩ => rfl
  | ⟨3, _⟩ => rfl

/-- An index of a head's block of columns. -/
theorem at_column (x : S1x1x128x256.Idx) : x = ix4 0 0 (x 2) (x 3) := by
  funext a
  match a with
  | ⟨0, _⟩ => exact Fin.ext (by have := (x 0).isLt; change (x 0).val < 1 at this; show (x 0).val = 0; omega)
  | ⟨1, _⟩ => exact Fin.ext (by have := (x 1).isLt; change (x 1).val < 1 at this; show (x 1).val = 0; omega)
  | ⟨2, _⟩ => rfl
  | ⟨3, _⟩ => rfl

/-- The block of queries. -/
def qG (y : S1x8x256x128.Idx) : EReal :=
  turned P g c lo hi (y 2) (1024 + 128 * (y 1).val) (by have := (y 1).isLt; show 1024 + 128 * (y 1).val + 128 ≤ 2560; change (y 1).val < 8 at this; omega) (y 3)
    * Ideal.ofBits .f32 0x3DB504F3#32

/-- The block of keys. -/
def kG (y : S1x2x128x256.Idx) : EReal :=
  turned P g c lo hi (y 3) (2048 + 128 * (y 1).val) (by have := (y 1).isLt; change (y 1).val < 2 at this; omega) (y 2)

/-- The block of values. -/
def vG (y : S1x2x256x128.Idx) : EReal :=
  P (ix2 (y 2) ⟨2304 + 128 * (y 1).val + (y 3).val, by have := (y 1).isLt; have h3 := (y 3).isLt; change (y 1).val < 2 at this; change (y 3).val < 128 at h3; omega⟩)

/-- One head of the block of queries. -/
theorem q_of (o : ℕ) (h : S256x2560.Slices ![0, o] S256x128) (x : S1x1x256x128.Idx) (y : S1x8x256x128.Idx) (ho : o = 1024 + 128 * (y 1).val)
    (h2 : (y 2).val = (x 2).val) (h3 : (y 3).val = (x 3).val) : qh g c lo hi (cols P ![0, o] h) x = qG P g c lo hi y := by
  subst ho
  have e2 : x 2 = y 2 := Fin.ext h2.symm
  have e3 : x 3 = y 3 := Fin.ext h3.symm
  rw [at_row x]
  refine (qh_apply g c lo hi _ (x 2) (x 3)).trans ?_
  unfold qG
  rw [e2, e3]
  refine congrArg (· * _) (turned_eq P g c lo hi _ h _ _ _)

/-- One head of the block of keys. -/
theorem k_of (o : ℕ) (h : S256x2560.Slices ![0, o] S256x128) (x : S1x1x128x256.Idx) (y : S1x2x128x256.Idx) (ho : o = 2048 + 128 * (y 1).val)
    (h2 : (y 2).val = (x 2).val) (h3 : (y 3).val = (x 3).val) : kh g c lo hi (cols P ![0, o] h) x = kG P g c lo hi y := by
  subst ho
  have e2 : x 2 = y 2 := Fin.ext h2.symm
  have e3 : x 3 = y 3 := Fin.ext h3.symm
  rw [at_column x]
  refine (kh_apply g c lo hi _ (x 3) (x 2)).trans ?_
  unfold kG
  rw [e2, e3]
  exact turned_eq P g c lo hi _ h _ _ _

/-- One head of the block of values. -/
theorem v_of (o : ℕ) (h : S256x2560.Slices ![0, o] S256x128) (x : S1x1x256x128.Idx) (y : S1x2x256x128.Idx) (ho : o = 2304 + 128 * (y 1).val)
    (h2 : (y 2).val = (x 2).val) (h3 : (y 3).val = (x 3).val) : vh (cols P ![0, o] h) x = vG P y := by
  subst ho
  have e2 : x 2 = y 2 := Fin.ext h2.symm
  have e3 : x 3 = y 3 := Fin.ext h3.symm
  rw [at_row x]
  refine (vh_apply _ (x 2) (x 3)).trans ?_
  unfold vG
  rw [e2, e3]
  exact cols_apply P _ h _ _ _ rfl

end pieces

/-- A table read through its own shape. -/
theorem pay5_eq (x : FVec 𝐅 S256x128 .f32) : k0_pay5 x = x := by
  unfold k0_pay5; exact shapeCast_self _ _
/-- So the other table. -/
theorem pay6_eq (x : FVec 𝐅 S256x128 .f32) : k0_pay6 x = x := by
  unfold k0_pay6; exact shapeCast_self _ _

/-- An offset of two zeros. -/
theorem two : (![0, 0] : Fin 2 → Nat) = fun _ => 0 := funext fun a => by fin_cases a <;> rfl
/-- An offset of three zeros. -/
theorem three : (![0, 0, 0] : Fin 3 → Nat) = fun _ => 0 := funext fun a => by fin_cases a <;> rfl

variable (c : Dev nD) (i : grid0.Coords) (arg1 : Memref sig .tc .vmem S256x2048 .f32) (harg1 : arg1.IsWhole) (arg2 : Memref sig .tc .vmem S8x2048 .f32) (harg2 : arg2.IsWhole) (arg3 : Memref sig .tc .vmem S8x2048 .f32) (harg3 : arg3.IsWhole) (arg4 : Memref sig .tc .vmem S1x2048x2560 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S256x128 .f32) (harg7 : arg7.IsWhole) (arg8 : Memref sig .tc .vmem S256x128 .f32) (harg8 : arg8.IsWhole) (arg9 : Memref sig .tc .vmem S256x128 .f32) (harg9 : arg9.IsWhole) (arg10 : Memref sig .tc .vmem S256x1024 .f32) (harg10 : arg10.IsWhole) (arg11 : Memref sig .tc .vmem S1x8x256x128 .bf16) (harg11 : arg11.IsWhole) (arg12 : Memref sig .tc .vmem S1x2x128x256 .bf16) (harg12 : arg12.IsWhole) (arg13 : Memref sig .tc .vmem S1x2x256x128 .bf16) (harg13 : arg13.IsWhole)
    (x0 : Vec 𝐅 S256x2048 .f32) (x1 : Vec 𝐅 S8x2048 .f32) (x2 : Vec 𝐅 S8x2048 .f32) (x3 : Vec 𝐅 S1x2048x2560 .f32) (x4 : Vec 𝐅 S1x128 .f32) (x5 : Vec 𝐅 S1x128 .f32) (x6 : Vec 𝐅 S256x128 .f32) (x7 : Vec 𝐅 S256x128 .f32) (x8 : Vec 𝐅 S256x128 .f32)

/-- The sample's row of a table of eight rows. -/
def row (x : Vec 𝐅 S8x2048 .f32) : Vec 𝐅 S1x2048 .f32 := View.ld (Val := Elt 𝐅) (e' := .f32) x (Rect.unit (s := S8x2048) (k0_off1 i) S1x2048.size (k0_off1_inb i))

/-- The block's projection. -/
def prj : FVec 𝐅 S256x2560 .f32 := k0_pay3 (row i x1) (row i x2) x0 x3

/-- What the block stores of the first result. -/
theorem u_pieces : out0_A_9 c i arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 x7 x8
    = k0_pay4 (row i x1) (row i x2) x0 x3 := by
  unfold out0_A_9
  rw [View.read_writes_junk_eq_canon]
  unfold kernelRun0_A
  dsimp only
  rw [View.canon_unit_zero two]
  simp only [View.readAt_eq_ld, harg1.read_unread, harg2.read_unread, harg3.read_unread, harg4.read_unread, View.ld_unit_zero (S := S256x2048) two, View.ld_unit_zero (S := S1x2048x2560) three, View.ld_unit_zero (S := S1x128) two, View.ld_unit_zero (S := S256x128) two]
  rfl

/-- The values of the block, head by head. -/
theorem v_pieces (y : S1x2x256x128.Idx) : out0_A_12 c i arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 x7 x8 y
    = vG (prj i x0 x1 x2 x3) y := by
  unfold out0_A_12
  rw [View.read_writes_junk_eq_canon]
  refine View.canon_apply_of_pieces (Val := Elt 𝐅) (e := .bf16) (vG (prj i x0 x1 x2 x3)) _ ?_ y (cover0_A_12 c i arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 x7 x8 y)
  unfold kernelRun0_A
  dsimp only
  sl_unfold_words
  simp only [View.readAt_eq_ld, harg1.read_unread, harg2.read_unread, harg3.read_unread, harg4.read_unread, harg5.read_unread, harg6.read_unread,
    harg7.read_unread, harg8.read_unread, harg9.read_unread, View.ld_unit_zero (S := S256x2048) two, View.ld_unit_zero (S := S1x2048x2560) three,
    View.ld_unit_zero (S := S1x128) two, View.ld_unit_zero (S := S256x128) two, pay5_eq, pay6_eq]
  intro p hp x
  simp only [List.mem_cons, List.not_mem_nil, or_false] at hp
  rcases hp with rfl | rfl
  · exact (congrFun (v1 (prj i x0 x1 x2 x3)) x).trans (v_of (prj i x0 x1 x2 x3) 2432 _ x _
      (by have := (x 1).isLt; change (x 1).val < 1 at this; show 2432 = 2304 + 128 * (1 + 1 * (x 1).val); omega)
      (show 0 + 1 * (x 2).val = (x 2).val by omega) (show 0 + 1 * (x 3).val = (x 3).val by omega))
  · exact (congrFun (v0 (prj i x0 x1 x2 x3)) x).trans (v_of (prj i x0 x1 x2 x3) 2304 _ x _
      (by have := (x 1).isLt; change (x 1).val < 1 at this; show 2304 = 2304 + 128 * (0 + 1 * (x 1).val); omega)
      (show 0 + 1 * (x 2).val = (x 2).val by omega) (show 0 + 1 * (x 3).val = (x 3).val by omega))

/-- The keys of the block, head by head. -/
theorem k_pieces (y : S1x2x128x256.Idx) : out0_A_11 c i arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 x7 x8 y
    = kG (prj i x0 x1 x2 x3) x5 x6 x7 x8 y := by
  unfold out0_A_11
  rw [View.read_writes_junk_eq_canon]
  refine View.canon_apply_of_pieces (Val := Elt 𝐅) (e := .bf16) (kG (prj i x0 x1 x2 x3) x5 x6 x7 x8) _ ?_ y (cover0_A_11 c i arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 x7 x8 y)
  unfold kernelRun0_A
  dsimp only
  sl_unfold_words
  simp only [View.readAt_eq_ld, harg1.read_unread, harg2.read_unread, harg3.read_unread, harg4.read_unread, harg5.read_unread, harg6.read_unread,
    harg7.read_unread, harg8.read_unread, harg9.read_unread, View.ld_unit_zero (S := S256x2048) two, View.ld_unit_zero (S := S1x2048x2560) three,
    View.ld_unit_zero (S := S1x128) two, View.ld_unit_zero (S := S256x128) two, pay5_eq, pay6_eq]
  intro p hp x
  simp only [List.mem_cons, List.not_mem_nil, or_false] at hp
  rcases hp with rfl | rfl
  · exact (congrFun (k1 (prj i x0 x1 x2 x3) x5 x6 x7 x8) x).trans (k_of (prj i x0 x1 x2 x3) x5 x6 x7 x8 2176 _ x _
      (by have := (x 1).isLt; change (x 1).val < 1 at this; show 2176 = 2048 + 128 * (1 + 1 * (x 1).val); omega)
      (show 0 + 1 * (x 2).val = (x 2).val by omega) (show 0 + 1 * (x 3).val = (x 3).val by omega))
  · exact (congrFun (k0 (prj i x0 x1 x2 x3) x5 x6 x7 x8) x).trans (k_of (prj i x0 x1 x2 x3) x5 x6 x7 x8 2048 _ x _
      (by have := (x 1).isLt; change (x 1).val < 1 at this; show 2048 = 2048 + 128 * (0 + 1 * (x 1).val); omega)
      (show 0 + 1 * (x 2).val = (x 2).val by omega) (show 0 + 1 * (x 3).val = (x 3).val by omega))

/-- The queries of the block, head by head. -/
theorem q_pieces (y : S1x8x256x128.Idx) : out0_A_10 c i arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 x7 x8 y
    = qG (prj i x0 x1 x2 x3) x4 x6 x7 x8 y := by
  unfold out0_A_10
  rw [View.read_writes_junk_eq_canon]
  refine View.canon_apply_of_pieces (Val := Elt 𝐅) (e := .bf16) (qG (prj i x0 x1 x2 x3) x4 x6 x7 x8) _ ?_ y (cover0_A_10 c i arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 x7 x8 y)
  unfold kernelRun0_A
  dsimp only
  sl_unfold_words
  simp only [View.readAt_eq_ld, harg1.read_unread, harg2.read_unread, harg3.read_unread, harg4.read_unread, harg5.read_unread, harg6.read_unread,
    harg7.read_unread, harg8.read_unread, harg9.read_unread, View.ld_unit_zero (S := S256x2048) two, View.ld_unit_zero (S := S1x2048x2560) three,
    View.ld_unit_zero (S := S1x128) two, View.ld_unit_zero (S := S256x128) two, pay5_eq, pay6_eq]
  intro p hp x
  simp only [List.mem_cons, List.not_mem_nil, or_false] at hp
  rcases hp with rfl | rfl | rfl | rfl | rfl | rfl | rfl | rfl
  · exact (congrFun (q7 (prj i x0 x1 x2 x3) x4 x6 x7 x8) x).trans (q_of (prj i x0 x1 x2 x3) x4 x6 x7 x8 1920 _ x _
      (by have := (x 1).isLt; change (x 1).val < 1 at this; show 1920 = 1024 + 128 * (7 + 1 * (x 1).val); omega)
      (show 0 + 1 * (x 2).val = (x 2).val by omega) (show 0 + 1 * (x 3).val = (x 3).val by omega))
  · exact (congrFun (q6 (prj i x0 x1 x2 x3) x4 x6 x7 x8) x).trans (q_of (prj i x0 x1 x2 x3) x4 x6 x7 x8 1792 _ x _
      (by have := (x 1).isLt; change (x 1).val < 1 at this; show 1792 = 1024 + 128 * (6 + 1 * (x 1).val); omega)
      (show 0 + 1 * (x 2).val = (x 2).val by omega) (show 0 + 1 * (x 3).val = (x 3).val by omega))
  · exact (congrFun (q5 (prj i x0 x1 x2 x3) x4 x6 x7 x8) x).trans (q_of (prj i x0 x1 x2 x3) x4 x6 x7 x8 1664 _ x _
      (by have := (x 1).isLt; change (x 1).val < 1 at this; show 1664 = 1024 + 128 * (5 + 1 * (x 1).val); omega)
      (show 0 + 1 * (x 2).val = (x 2).val by omega) (show 0 + 1 * (x 3).val = (x 3).val by omega))
  · exact (congrFun (q4 (prj i x0 x1 x2 x3) x4 x6 x7 x8) x).trans (q_of (prj i x0 x1 x2 x3) x4 x6 x7 x8 1536 _ x _
      (by have := (x 1).isLt; change (x 1).val < 1 at this; show 1536 = 1024 + 128 * (4 + 1 * (x 1).val); omega)
      (show 0 + 1 * (x 2).val = (x 2).val by omega) (show 0 + 1 * (x 3).val = (x 3).val by omega))
  · exact (congrFun (q3 (prj i x0 x1 x2 x3) x4 x6 x7 x8) x).trans (q_of (prj i x0 x1 x2 x3) x4 x6 x7 x8 1408 _ x _
      (by have := (x 1).isLt; change (x 1).val < 1 at this; show 1408 = 1024 + 128 * (3 + 1 * (x 1).val); omega)
      (show 0 + 1 * (x 2).val = (x 2).val by omega) (show 0 + 1 * (x 3).val = (x 3).val by omega))
  · exact (congrFun (q2 (prj i x0 x1 x2 x3) x4 x6 x7 x8) x).trans (q_of (prj i x0 x1 x2 x3) x4 x6 x7 x8 1280 _ x _
      (by have := (x 1).isLt; change (x 1).val < 1 at this; show 1280 = 1024 + 128 * (2 + 1 * (x 1).val); omega)
      (show 0 + 1 * (x 2).val = (x 2).val by omega) (show 0 + 1 * (x 3).val = (x 3).val by omega))
  · exact (congrFun (q1 (prj i x0 x1 x2 x3) x4 x6 x7 x8) x).trans (q_of (prj i x0 x1 x2 x3) x4 x6 x7 x8 1152 _ x _
      (by have := (x 1).isLt; change (x 1).val < 1 at this; show 1152 = 1024 + 128 * (1 + 1 * (x 1).val); omega)
      (show 0 + 1 * (x 2).val = (x 2).val by omega) (show 0 + 1 * (x 3).val = (x 3).val by omega))
  · exact (((congrFun (q0 (prj i x0 x1 x2 x3) x4 x6 x7 x8) x).trans (by rw [pay6_eq]))).trans (q_of (prj i x0 x1 x2 x3) x4 x6 x7 x8 1024 _ x _
      (by have := (x 1).isLt; change (x 1).val < 1 at this; show 1024 = 1024 + 128 * (0 + 1 * (x 1).val); omega)
      (show 0 + 1 * (x 2).val = (x 2).val by omega) (show 0 + 1 * (x 3).val = (x 3).val by omega))

end Cert.InpBlock

end

end
-- ==== Proof.InpRef.lean ====
/-
  The reference of the in-projection, read at an index: each of its four results is the plain sums of InpMath.
-/
module

public import proofs.«01_k».proof.Proof.InpMath
public import proofs.«01_k».proof.Proof.Gen.InpRefIdeal.Read
public import Idealize.ShloMosaic.Lib.ValueIdxRank6

@[expose] public section

set_option maxRecDepth 16384

noncomputable section

namespace Cert.InpRef

open Idealize.ShloMosaic Idealize.ShloMosaic.TcCoe Idealize.SL.Sem Cert.InpRefIdeal Cert.InpRefIdeal.Gen Cert.InpRefIdeal.Read
open Cert.InpMath Cert.InpRefIdeal.Facts

local notation "𝐅" => Ideal

variable (x0 : FVec 𝐅 S8192x2048 .f32) (x1 x2 : FVec 𝐅 S8x2048 .f32) (x3 : FVec 𝐅 S1x2048x2560 .f32) (x4 x5 : FVec 𝐅 S1x128 .f32)
  (x6 x7 : FVec 𝐅 S4096x128 .f32)

/-- A scaled and shifted row. -/
theorem row_at (b : Fin 2) (n : Fin 4096) (k : Fin 2048) : val_main_v10 (F := 𝐅) x0 x1 x2 (ix3 b n k)
    = x0 (ix2 ⟨b.val * 4096 + n.val, by omega⟩ k) * (1 + x1 (ix2 ⟨b.val, by omega⟩ k)) + x2 (ix2 ⟨b.val, by omega⟩ k) := by
  pointwise [val_main_v10, val_main_v9, val_main_v8, val_main_v7, val_main_v6, val_main_v5, val_main_v4, val_main_v3, val_main_v2, val_main_v1, val_main_v0, val_main_cst]

/-- The projection. -/
theorem proj_at (b : Fin 2) (n : Fin 4096) (j : Fin 2560) : val_main_v12 (F := 𝐅) x0 x1 x2 x3 (ix3 b n j) = at3 x0 x1 x2 x3 b n j := by
  rw [val_main_v12_apply]
  unfold at3 product
  refine Finset.sum_congr rfl fun k _ => ?_
  refine congrArg₂ (fun p q : EReal => p * q) ((congrArg _ ?_).trans (row_at x0 x1 x2 b n k)) ?_
  · funext a; match a with
    | ⟨0, _⟩ => rfl
    | ⟨1, _⟩ => rfl
    | ⟨2, _⟩ => rfl
  · refine Eq.trans (congrArg _ ?_ : _ = val_main_v11 (F := 𝐅) x3 (ix2 k j)) ?_
    · funext a; match a with
      | ⟨0, _⟩ => rfl
      | ⟨1, _⟩ => rfl
    · pointwise [val_main_v11]

/-- The first columns of the projection. -/
theorem u_at (r : Fin 8192) (j : Fin 1024) : val_main_v76 (F := 𝐅) x0 x1 x2 x3 (ix2 r j)
    = at3 x0 x1 x2 x3 ⟨r.val / 4096, by omega⟩ ⟨r.val % 4096, by omega⟩ ⟨j.val, by omega⟩ := by
  refine Eq.trans ?_ (proj_at x0 x1 x2 x3 _ _ _)
  pointwise [val_main_v76, val_main_v13]

/-- The queries before the norm. -/
theorem q_in (b : Fin 2) (n : Fin 4096) (h : Fin 8) (d : Fin 128) : val_main_v15 (F := 𝐅) x0 x1 x2 x3 (ix4 b n h d)
    = at3 x0 x1 x2 x3 b n ⟨1024 + 128 * h.val + d.val, by omega⟩ := by
  refine Eq.trans ?_ (proj_at x0 x1 x2 x3 _ _ _)
  pointwise [val_main_v15, val_main_v14]
  exact congrArg (fun j : Fin 2560 => val_main_v12 (F := 𝐅) x0 x1 x2 x3 (ix3 b n j)) (Fin.ext (by dsimp only; omega))

/-- The normed queries. -/
theorem q_nrm (b : Fin 2) (n : Fin 4096) (h : Fin 8) (d : Fin 128) : val_main_v29 (F := 𝐅) x0 x1 x2 x3 x4 (ix4 b n h d)
    = nrm (fun k => at3 x0 x1 x2 x3 b n ⟨1024 + 128 * h.val + k.val, by omega⟩) (fun k => x4 (ix2 0 k)) d := by
  unfold nrm
  simp only [← q_in]
  pointwise [val_main_v29, val_main_v28, val_main_v27, val_main_v26, val_main_v25, val_main_v24, val_main_v23, val_main_v22, val_main_v21, val_main_v20, val_main_v19, val_main_v18, val_main_v17, val_main_v16, val_main_cst_0, val_main_cst_1, val_main_cst_2]

/-- The queries with each half's 32 columns exchanged, the second 32 negated. -/
theorem q_rot (b : Fin 2) (n : Fin 4096) (h : Fin 8) (d : Fin 128) : val_main_v53 (F := 𝐅) x0 x1 x2 x3 x4 (ix4 b n h d)
    = if d.val % 64 < 32 then - val_main_v29 (F := 𝐅) x0 x1 x2 x3 x4 (ix4 b n h (ahead d 32)) else val_main_v29 (F := 𝐅) x0 x1 x2 x3 x4 (ix4 b n h (ahead d 96)) := by
  have hd := d.isLt
  have s6 : val_main_v53 (F := 𝐅) x0 x1 x2 x3 x4 (ix4 b n h d) = val_main_v52 (F := 𝐅) x0 x1 x2 x3 x4
      (ix6 b n h ⟨d.val / 64, by omega⟩ ⟨d.val / 32 % 2, by omega⟩ ⟨d.val % 32, by omega⟩) := by
    unfold val_main_v53
    refine shapeCast_apply _ _ _ _ ?_
    rw [Shape.rowMajor_val_four, Shape.rowMajor_val_six]
    show ((((b.val * 4096 + n.val) * 8 + h.val) * 2 + d.val / 64) * 2 + d.val / 32 % 2) * 32 + d.val % 32 = ((b.val * 4096 + n.val) * 8 + h.val) * 128 + d.val
    omega
  have back : ∀ (p q : Fin 2) (r : Fin 32) (d' : Fin 128), d'.val = p.val * 64 + q.val * 32 + r.val →
      val_main_v48 (F := 𝐅) x0 x1 x2 x3 x4 (ix6 b n h p q r) = val_main_v29 (F := 𝐅) x0 x1 x2 x3 x4 (ix4 b n h d') := fun p q r d' hd' => by
    unfold val_main_v48
    refine shapeCast_apply _ _ _ _ ?_
    rw [Shape.rowMajor_val_four, Shape.rowMajor_val_six]
    show ((b.val * 4096 + n.val) * 8 + h.val) * 128 + d'.val = ((((b.val * 4096 + n.val) * 8 + h.val) * 2 + p.val) * 2 + q.val) * 32 + r.val
    omega
  rw [s6]
  unfold val_main_v52
  split
  · rename_i hlt
    rw [concatenate_pair_apply_left (t := S2x4096x8x2x2x32) (s₁ := S2x4096x8x2x1x32) (s₂ := S2x4096x8x2x1x32) 4 _ _ _ _ rfl
      (ix6 b n h ⟨d.val / 64, by omega⟩ 0 ⟨d.val % 32, by omega⟩) fun a => by
        match a with
        | ⟨0, _⟩ => rfl
        | ⟨1, _⟩ => rfl
        | ⟨2, _⟩ => rfl
        | ⟨3, _⟩ => rfl
        | ⟨4, _⟩ => show 0 = d.val / 32 % 2; omega
        | ⟨5, _⟩ => rfl]
    rw [val_main_v50_apply, val_main_v49_apply]
    refine congrArg (fun z : EReal => - z) ?_
    refine (congrArg _ ?_).trans (back ⟨d.val / 64, by omega⟩ 1 ⟨d.val % 32, by omega⟩ (ahead d 32) ?_)
    · funext a; match a with
      | ⟨0, _⟩ => rfl
      | ⟨1, _⟩ => rfl
      | ⟨2, _⟩ => rfl
      | ⟨3, _⟩ => rfl
      | ⟨4, _⟩ => rfl
      | ⟨5, _⟩ => rfl
    · show (d.val + 32) % 128 = d.val / 64 * 64 + 1 * 32 + d.val % 32; omega
  · rename_i hlt
    rw [concatenate_pair_apply_right (t := S2x4096x8x2x2x32) (s₁ := S2x4096x8x2x1x32) (s₂ := S2x4096x8x2x1x32) 4 _ _ _ _ rfl rfl
      (ix6 b n h ⟨d.val / 64, by omega⟩ 0 ⟨d.val % 32, by omega⟩) (fun a ha => by
        match a, ha with
        | ⟨0, _⟩, _ => rfl
        | ⟨1, _⟩, _ => rfl
        | ⟨2, _⟩, _ => rfl
        | ⟨3, _⟩, _ => rfl
        | ⟨4, _⟩, ha => exact absurd rfl ha
        | ⟨5, _⟩, _ => rfl) (by show 0 + 1 = d.val / 32 % 2; omega)]
    rw [val_main_v51_apply]
    refine (congrArg _ ?_).trans (back ⟨d.val / 64, by omega⟩ 0 ⟨d.val % 32, by omega⟩ (ahead d 96) ?_)
    · funext a; match a with
      | ⟨0, _⟩ => rfl
      | ⟨1, _⟩ => rfl
      | ⟨2, _⟩ => rfl
      | ⟨3, _⟩ => rfl
      | ⟨4, _⟩ => rfl
      | ⟨5, _⟩ => rfl
    · show (d.val + 96) % 128 = d.val / 64 * 64 + 0 * 32 + d.val % 32; omega

/-- The keys before the norm. -/
theorem k_in (b : Fin 2) (n : Fin 4096) (h : Fin 2) (d : Fin 128) : val_main_v31 (F := 𝐅) x0 x1 x2 x3 (ix4 b n h d)
    = at3 x0 x1 x2 x3 b n ⟨2048 + 128 * h.val + d.val, by omega⟩ := by
  refine Eq.trans ?_ (proj_at x0 x1 x2 x3 _ _ _)
  pointwise [val_main_v31, val_main_v30]
  exact congrArg (fun j : Fin 2560 => val_main_v12 (F := 𝐅) x0 x1 x2 x3 (ix3 b n j)) (Fin.ext (by dsimp only; omega))

/-- The normed keys. -/
theorem k_nrm (b : Fin 2) (n : Fin 4096) (h : Fin 2) (d : Fin 128) : val_main_v45 (F := 𝐅) x0 x1 x2 x3 x5 (ix4 b n h d)
    = nrm (fun k => at3 x0 x1 x2 x3 b n ⟨2048 + 128 * h.val + k.val, by omega⟩) (fun k => x5 (ix2 0 k)) d := by
  unfold nrm
  simp only [← k_in]
  pointwise [val_main_v45, val_main_v44, val_main_v43, val_main_v42, val_main_v41, val_main_v40, val_main_v39, val_main_v38, val_main_v37, val_main_v36, val_main_v35, val_main_v34, val_main_v33, val_main_v32, val_main_cst_3, val_main_cst_4, val_main_cst_5]

/-- The keys with each half's 32 columns exchanged, the second 32 negated. -/
theorem k_rot (b : Fin 2) (n : Fin 4096) (h : Fin 2) (d : Fin 128) : val_main_v68 (F := 𝐅) x0 x1 x2 x3 x5 (ix4 b n h d)
    = if d.val % 64 < 32 then - val_main_v45 (F := 𝐅) x0 x1 x2 x3 x5 (ix4 b n h (ahead d 32)) else val_main_v45 (F := 𝐅) x0 x1 x2 x3 x5 (ix4 b n h (ahead d 96)) := by
  have hd := d.isLt
  have s6 : val_main_v68 (F := 𝐅) x0 x1 x2 x3 x5 (ix4 b n h d) = val_main_v67 (F := 𝐅) x0 x1 x2 x3 x5
      (ix6 b n h ⟨d.val / 64, by omega⟩ ⟨d.val / 32 % 2, by omega⟩ ⟨d.val % 32, by omega⟩) := by
    unfold val_main_v68
    refine shapeCast_apply _ _ _ _ ?_
    rw [Shape.rowMajor_val_four, Shape.rowMajor_val_six]
    show ((((b.val * 4096 + n.val) * 2 + h.val) * 2 + d.val / 64) * 2 + d.val / 32 % 2) * 32 + d.val % 32 = ((b.val * 4096 + n.val) * 2 + h.val) * 128 + d.val
    omega
  have back : ∀ (p q : Fin 2) (r : Fin 32) (d' : Fin 128), d'.val = p.val * 64 + q.val * 32 + r.val →
      val_main_v63 (F := 𝐅) x0 x1 x2 x3 x5 (ix6 b n h p q r) = val_main_v45 (F := 𝐅) x0 x1 x2 x3 x5 (ix4 b n h d') := fun p q r d' hd' => by
    unfold val_main_v63
    refine shapeCast_apply _ _ _ _ ?_
    rw [Shape.rowMajor_val_four, Shape.rowMajor_val_six]
    show ((b.val * 4096 + n.val) * 2 + h.val) * 128 + d'.val = ((((b.val * 4096 + n.val) * 2 + h.val) * 2 + p.val) * 2 + q.val) * 32 + r.val
    omega
  rw [s6]
  unfold val_main_v67
  split
  · rename_i hlt
    rw [concatenate_pair_apply_left (t := S2x4096x2x2x2x32) (s₁ := S2x4096x2x2x1x32) (s₂ := S2x4096x2x2x1x32) 4 _ _ _ _ rfl
      (ix6 b n h ⟨d.val / 64, by omega⟩ 0 ⟨d.val % 32, by omega⟩) fun a => by
        match a with
        | ⟨0, _⟩ => rfl
        | ⟨1, _⟩ => rfl
        | ⟨2, _⟩ => rfl
        | ⟨3, _⟩ => rfl
        | ⟨4, _⟩ => show 0 = d.val / 32 % 2; omega
        | ⟨5, _⟩ => rfl]
    rw [val_main_v65_apply, val_main_v64_apply]
    refine congrArg (fun z : EReal => - z) ?_
    refine (congrArg _ ?_).trans (back ⟨d.val / 64, by omega⟩ 1 ⟨d.val % 32, by omega⟩ (ahead d 32) ?_)
    · funext a; match a with
      | ⟨0, _⟩ => rfl
      | ⟨1, _⟩ => rfl
      | ⟨2, _⟩ => rfl
      | ⟨3, _⟩ => rfl
      | ⟨4, _⟩ => rfl
      | ⟨5, _⟩ => rfl
    · show (d.val + 32) % 128 = d.val / 64 * 64 + 1 * 32 + d.val % 32; omega
  · rename_i hlt
    rw [concatenate_pair_apply_right (t := S2x4096x2x2x2x32) (s₁ := S2x4096x2x2x1x32) (s₂ := S2x4096x2x2x1x32) 4 _ _ _ _ rfl rfl
      (ix6 b n h ⟨d.val / 64, by omega⟩ 0 ⟨d.val % 32, by omega⟩) (fun a ha => by
        match a, ha with
        | ⟨0, _⟩, _ => rfl
        | ⟨1, _⟩, _ => rfl
        | ⟨2, _⟩, _ => rfl
        | ⟨3, _⟩, _ => rfl
        | ⟨4, _⟩, ha => exact absurd rfl ha
        | ⟨5, _⟩, _ => rfl) (by show 0 + 1 = d.val / 32 % 2; omega)]
    rw [val_main_v66_apply]
    refine (congrArg _ ?_).trans (back ⟨d.val / 64, by omega⟩ 0 ⟨d.val % 32, by omega⟩ (ahead d 96) ?_)
    · funext a; match a with
      | ⟨0, _⟩ => rfl
      | ⟨1, _⟩ => rfl
      | ⟨2, _⟩ => rfl
      | ⟨3, _⟩ => rfl
      | ⟨4, _⟩ => rfl
      | ⟨5, _⟩ => rfl
    · show (d.val + 96) % 128 = d.val / 64 * 64 + 0 * 32 + d.val % 32; omega

end Cert.InpRef

end

end
-- ==== Proof.InpRefOut.lean ====
/-
  The results of the in-projection's reference, read at an index: each is the plain sums of InpMath.
-/
module

public import proofs.«01_k».proof.Proof.InpRef

@[expose] public section

set_option maxRecDepth 16384

noncomputable section

namespace Cert.InpRef

open Idealize.ShloMosaic Idealize.ShloMosaic.TcCoe Idealize.SL.Sem Cert.InpRefIdeal Cert.InpRefIdeal.Gen Cert.InpRefIdeal.Read
open Cert.InpMath Cert.InpRefIdeal.Facts

local notation "𝐅" => Idealize.ShloMosaic.Ideal

variable (x0 : FVec 𝐅 S8192x2048 .f32) (x1 x2 : FVec 𝐅 S8x2048 .f32) (x3 : FVec 𝐅 S1x2048x2560 .f32) (x4 x5 : FVec 𝐅 S1x128 .f32)
  (x6 x7 : FVec 𝐅 S4096x128 .f32)

/-- A sum of two products. -/
theorem sum_of (a b c d : 𝐅 .f32) :
    FloatOps.addf (F := 𝐅) (φ := .f32) (FloatOps.mulf (F := 𝐅) (φ := .f32) a b) (FloatOps.mulf (F := 𝐅) (φ := .f32) c d) = (a * b + c * d : EReal) := rfl

/-- The turned queries. -/
theorem q_turn (b : Fin 2) (n : Fin 4096) (h : Fin 8) (d : Fin 128) : val_main_v60 (F := 𝐅) x0 x1 x2 x3 x4 x6 x7 (ix4 b n h d)
    = turn (fun k => val_main_v29 (F := 𝐅) x0 x1 x2 x3 x4 (ix4 b n h k)) (fun k => x6 (ix2 n k)) (fun k => x7 (ix2 n k)) d := by
  have hc : val_main_v55 (F := 𝐅) x6 (ix4 b n h d) = x6 (ix2 n d) := by pointwise [val_main_v55, val_main_v54]
  have hs : val_main_v58 (F := 𝐅) x7 (ix4 b n h d) = x7 (ix2 n d) := by pointwise [val_main_v58, val_main_v57]
  unfold turn
  rw [val_main_v60_apply, val_main_v56_apply, val_main_v59_apply, hc, hs, q_rot, sum_of]

/-- The turned queries in plain sums. -/
theorem q_head (b : Fin 2) (n : Fin 4096) (h : Fin 8) (d : Fin 128) : val_main_v60 (F := 𝐅) x0 x1 x2 x3 x4 x6 x7 (ix4 b n h d)
    = head x0 x1 x2 x3 x4 x6 x7 b n (1024 + 128 * h.val) (by omega) d := by
  rw [q_turn, funext (fun k => q_nrm x0 x1 x2 x3 x4 b n h k)]
  unfold head
  rfl

/-- The turned keys. -/
theorem k_turn (b : Fin 2) (n : Fin 4096) (h : Fin 2) (d : Fin 128) : val_main_v75 (F := 𝐅) x0 x1 x2 x3 x5 x6 x7 (ix4 b n h d)
    = turn (fun k => val_main_v45 (F := 𝐅) x0 x1 x2 x3 x5 (ix4 b n h k)) (fun k => x6 (ix2 n k)) (fun k => x7 (ix2 n k)) d := by
  have hc : val_main_v70 (F := 𝐅) x6 (ix4 b n h d) = x6 (ix2 n d) := by pointwise [val_main_v70, val_main_v69]
  have hs : val_main_v73 (F := 𝐅) x7 (ix4 b n h d) = x7 (ix2 n d) := by pointwise [val_main_v73, val_main_v72]
  unfold turn
  rw [val_main_v75_apply, val_main_v71_apply, val_main_v74_apply, hc, hs, k_rot, sum_of]

/-- The turned keys in plain sums. -/
theorem k_head (b : Fin 2) (n : Fin 4096) (h : Fin 2) (d : Fin 128) : val_main_v75 (F := 𝐅) x0 x1 x2 x3 x5 x6 x7 (ix4 b n h d)
    = head x0 x1 x2 x3 x5 x6 x7 b n (2048 + 128 * h.val) (by omega) d := by
  rw [k_turn, funext (fun k => k_nrm x0 x1 x2 x3 x5 b n h k)]
  unfold head
  rfl

/-- The queries' result. -/
theorem q_at (b : Fin 2) (h : Fin 8) (n : Fin 4096) (d : Fin 128) : val_main_v78 (F := 𝐅) x0 x1 x2 x3 x4 x6 x7 (ix4 b h n d)
    = head x0 x1 x2 x3 x4 x6 x7 b n (1024 + 128 * h.val) (by omega) d * Ideal.ofBits .f32 0x3DB504F3#32 := by
  rw [← q_head]
  pointwise [val_main_v78, val_main_v77, val_main_v62, val_main_v61, val_main_cst_6]

/-- The keys' result. -/
theorem k_at (b : Fin 2) (h : Fin 2) (n : Fin 4096) (d : Fin 128) : val_main_v80 (F := 𝐅) x0 x1 x2 x3 x5 x6 x7 (ix4 b h d n)
    = head x0 x1 x2 x3 x5 x6 x7 b n (2048 + 128 * h.val) (by omega) d := by
  rw [← k_head]
  pointwise [val_main_v80, val_main_v79]

/-- The values' result. -/
theorem v_at (b : Fin 2) (h : Fin 2) (n : Fin 4096) (d : Fin 128) : val_main_v82 (F := 𝐅) x0 x1 x2 x3 (ix4 b h n d)
    = at3 x0 x1 x2 x3 b n ⟨2304 + 128 * h.val + d.val, by omega⟩ := by
  refine Eq.trans ?_ (proj_at x0 x1 x2 x3 _ _ _)
  pointwise [val_main_v82, val_main_v81, val_main_v47, val_main_v46]
  exact congrArg (fun j : Fin 2560 => val_main_v12 (F := 𝐅) x0 x1 x2 x3 (ix3 b n j)) (Fin.ext (by dsimp only; omega))

end Cert.InpRef

end

end
-- ==== Proof.InpCover.lean ====
/-
  The in-projection's results, index by index: the blocks of the arrays each grid point reads, the blocks it writes, and
  the arrays the blocks make together.
-/
module

public import proofs.«01_k».proof.Proof.InpBlock
public import proofs.«01_k».proof.Proof.InpRefOut

@[expose] public section

set_option maxRecDepth 16384

noncomputable section

namespace Cert.InpCover

open Cert.InpIdeal Cert.InpIdeal.Gen Idealize.ShloMosaic Idealize.ShloMosaic.TcCoe Idealize.SL.Sem
open Idealize.ShloMosaic.Pipeline (Dat)
open Cert.InpMath Cert.InpBlock

local notation "𝐅" => (Idealize.ShloMosaic.Ideal : FTy → Type)

variable (m : (ℓ : Loc nD τ sig) → Buf (Elt 𝐅) ℓ) (c : Dev nD)

/-! ## The arguments -/

/-- The tokens. -/
abbrev A0 : S8192x2048.Idx → EReal := m ((c : Thread nD τ).loc main_arg0)
/-- The samples' scales. -/
abbrev A1 : S8x2048.Idx → EReal := m ((c : Thread nD τ).loc main_arg1)
/-- The samples' shifts. -/
abbrev A2 : S8x2048.Idx → EReal := m ((c : Thread nD τ).loc main_arg2)
/-- The weights. -/
abbrev A3 : S1x2048x2560.Idx → EReal := m ((c : Thread nD τ).loc main_arg3)
/-- The queries' gains. -/
abbrev A4 : S1x128.Idx → EReal := m ((c : Thread nD τ).loc main_arg4)
/-- The keys' gains. -/
abbrev A5 : S1x128.Idx → EReal := m ((c : Thread nD τ).loc main_arg5)
/-- The cosines. -/
abbrev A6 : S4096x128.Idx → EReal := m ((c : Thread nD τ).loc main_arg6)
/-- The sines. -/
abbrev A7 : S4096x128.Idx → EReal := m ((c : Thread nD τ).loc main_arg7)

/-- A column's place in the table of one half's columns. -/
theorem place (d : Fin 128) : S128.rowMajor (ix1 d) = d := Fin.ext (Shape.rowMajor_val_one (ix1 d))

/-- The first table of sines: in each half the first columns' sines, their signs changed. -/
theorem sines_lo (n : Fin 4096) (d : Fin 128) : (V m c main_v3 : S4096x128.Idx → EReal) (ix2 n d) = if d.val % 64 < 32 then - A7 m c (ix2 n d) else 0 := by
  have e : V m c main_v3 = select (broadcastInDim S4096x128 ![0, 1] bcast_S1x128_S4096x128_0_1
      (broadcastInDim S1x128 ![1] bcast_S128_S1x128_1 (fun i => lit0 (S128.rowMajor i) : S128.Idx → BitVec 1)))
      (Host.negf (F := 𝐅) (A7 m c)) (broadcastInDim S4096x128 ![] bcast_S_S4096x128 (constant (F := 𝐅) S_ .f32 0x00000000#32)) := by
    unfold V; after_results; rfl
  rw [e]
  have hm : lit0 d = if d.val % 64 < 32 then 1#1 else 0#1 := (by decide +kernel : ∀ d : Fin 128, lit0 d = if d.val % 64 < 32 then 1#1 else 0#1) d
  pointwise [A7]
  rw [place d, hm]
  split <;> rfl

/-- The second table of sines: in each half the last columns' sines. -/
theorem sines_hi (n : Fin 4096) (d : Fin 128) : (V m c main_v4 : S4096x128.Idx → EReal) (ix2 n d) = if d.val % 64 < 32 then 0 else A7 m c (ix2 n d) := by
  have e : V m c main_v4 = select (broadcastInDim S4096x128 ![0, 1] bcast_S1x128_S4096x128_0_1
      (broadcastInDim S1x128 ![1] bcast_S128_S1x128_1 (fun i => lit1 (S128.rowMajor i) : S128.Idx → BitVec 1)))
      (broadcastInDim S4096x128 ![] bcast_S_S4096x128 (constant (F := 𝐅) S_ .f32 0x00000000#32)) (A7 m c) := by
    unfold V; after_results; rfl
  rw [e]
  have hm : lit1 d = if d.val % 64 < 32 then 1#1 else 0#1 := (by decide +kernel : ∀ d : Fin 128, lit1 d = if d.val % 64 < 32 then 1#1 else 0#1) d
  pointwise [A7]
  rw [place d, hm]
  split <;> rfl

/-! ## The blocks a point reads -/

/-- The block of window 0 at a point. -/
theorem where_0 : ∀ t : Fin cfg0.N, win0_0.index t 0 = t.val ∧ win0_0.index t 1 = 0 :=
  (by decide +kernel : ∀ t : Fin grid0.N, _)
/-- The block of window 1 at a point. -/
theorem where_1 : ∀ t : Fin cfg0.N, win0_1.index t 0 = 0 ∧ win0_1.index t 1 = 0 :=
  (by decide +kernel : ∀ t : Fin grid0.N, _)
/-- The block of window 2 at a point. -/
theorem where_2 : ∀ t : Fin cfg0.N, win0_2.index t 0 = 0 ∧ win0_2.index t 1 = 0 :=
  (by decide +kernel : ∀ t : Fin grid0.N, _)
/-- The block of window 3 at a point. -/
theorem where_3 : ∀ t : Fin cfg0.N, win0_3.index t 0 = 0 ∧ win0_3.index t 1 = 0 ∧ win0_3.index t 2 = 0 :=
  (by decide +kernel : ∀ t : Fin grid0.N, _)
/-- The block of window 4 at a point. -/
theorem where_4 : ∀ t : Fin cfg0.N, win0_4.index t 0 = 0 ∧ win0_4.index t 1 = 0 :=
  (by decide +kernel : ∀ t : Fin grid0.N, _)
/-- The block of window 5 at a point. -/
theorem where_5 : ∀ t : Fin cfg0.N, win0_5.index t 0 = 0 ∧ win0_5.index t 1 = 0 :=
  (by decide +kernel : ∀ t : Fin grid0.N, _)
/-- The block of window 6 at a point. -/
theorem where_6 : ∀ t : Fin cfg0.N, win0_6.index t 0 = t.val % 16 ∧ win0_6.index t 1 = 0 :=
  (by decide +kernel : ∀ t : Fin grid0.N, _)
/-- The block of window 7 at a point. -/
theorem where_7 : ∀ t : Fin cfg0.N, win0_7.index t 0 = t.val % 16 ∧ win0_7.index t 1 = 0 :=
  (by decide +kernel : ∀ t : Fin grid0.N, _)
/-- The block of window 8 at a point. -/
theorem where_8 : ∀ t : Fin cfg0.N, win0_8.index t 0 = t.val % 16 ∧ win0_8.index t 1 = 0 :=
  (by decide +kernel : ∀ t : Fin grid0.N, _)
/-- The block of window 9 at a point. -/
theorem where_9 : ∀ t : Fin cfg0.N, win0_9.index t 0 = t.val ∧ win0_9.index t 1 = 0 :=
  (by decide +kernel : ∀ t : Fin grid0.N, _)
/-- The block of window 10 at a point. -/
theorem where_10 : ∀ t : Fin cfg0.N, win0_10.index t 0 = t.val / 16 ∧ win0_10.index t 1 = 0 ∧ win0_10.index t 2 = t.val % 16 ∧ win0_10.index t 3 = 0 :=
  (by decide +kernel : ∀ t : Fin grid0.N, _)
/-- The block of window 11 at a point. -/
theorem where_11 : ∀ t : Fin cfg0.N, win0_11.index t 0 = t.val / 16 ∧ win0_11.index t 1 = 0 ∧ win0_11.index t 2 = 0 ∧ win0_11.index t 3 = t.val % 16 :=
  (by decide +kernel : ∀ t : Fin grid0.N, _)
/-- The block of window 12 at a point. -/
theorem where_12 : ∀ t : Fin cfg0.N, win0_12.index t 0 = t.val / 16 ∧ win0_12.index t 1 = 0 ∧ win0_12.index t 2 = t.val % 16 ∧ win0_12.index t 3 = 0 :=
  (by decide +kernel : ∀ t : Fin grid0.N, _)

/-- There are 32 points. -/
theorem t_lt (t : Fin cfg0.N) : t.val < 32 := lt_of_lt_of_eq t.isLt N_0

/-- A point's sample. -/
def smp (t : Fin cfg0.N) : Fin 2 := ⟨t.val / 16, by have := t_lt t; omega⟩

/-- A row of a point's block, among its sample's tokens. -/
def tok (t : Fin cfg0.N) (r : Fin 256) : Fin 4096 := ⟨t.val % 16 * 256 + r.val, by omega⟩

/-- The tokens a point reads. -/
theorem block_0 (t : Fin cfg0.N) (r : Fin 256) (k : Fin 2048) : iblk m c 0 t (ix2 r k) = A0 m c (ix2 ⟨(smp t).val * 4096 + (tok t r).val, by omega⟩ k) := by
  obtain ⟨e0, e1⟩ := where_0 t
  show V m c main_arg0 _ = _
  rw [V_main_arg0]
  refine congrArg _ (funext fun a => Fin.ext ?_)
  match a with
  | ⟨0, _⟩ => show win0_0.index t 0 * 256 + 1 * r.val = t.val / 16 * 4096 + (t.val % 16 * 256 + r.val); omega
  | ⟨1, _⟩ => show win0_0.index t 1 * 2048 + 1 * k.val = k.val; omega

/-- The scales a point reads. -/
theorem block_1 (t : Fin cfg0.N) (r : Fin 8) (k : Fin 2048) : iblk m c 1 t (ix2 r k) = A1 m c (ix2 r k) := by
  obtain ⟨e0, e1⟩ := where_1 t
  show V m c main_arg1 _ = _
  rw [V_main_arg1]
  refine congrArg _ (funext fun a => Fin.ext ?_)
  match a with
  | ⟨0, _⟩ => show win0_1.index t 0 * 8 + 1 * r.val = r.val; omega
  | ⟨1, _⟩ => show win0_1.index t 1 * 2048 + 1 * k.val = k.val; omega

/-- The shifts a point reads. -/
theorem block_2 (t : Fin cfg0.N) (r : Fin 8) (k : Fin 2048) : iblk m c 2 t (ix2 r k) = A2 m c (ix2 r k) := by
  obtain ⟨e0, e1⟩ := where_2 t
  show V m c main_arg2 _ = _
  rw [V_main_arg2]
  refine congrArg _ (funext fun a => Fin.ext ?_)
  match a with
  | ⟨0, _⟩ => show win0_2.index t 0 * 8 + 1 * r.val = r.val; omega
  | ⟨1, _⟩ => show win0_2.index t 1 * 2048 + 1 * k.val = k.val; omega

/-- The weights a point reads. -/
theorem block_3 (t : Fin cfg0.N) (k : Fin 2048) (j : Fin 2560) : iblk m c 3 t (ix3 0 k j) = A3 m c (ix3 0 k j) := by
  obtain ⟨e0, e1, e2⟩ := where_3 t
  show V m c main_arg3 _ = _
  rw [V_main_arg3]
  refine congrArg _ (funext fun a => Fin.ext ?_)
  match a with
  | ⟨0, _⟩ => show win0_3.index t 0 * 1 + 1 * 0 = 0; omega
  | ⟨1, _⟩ => show win0_3.index t 1 * 2048 + 1 * k.val = k.val; omega
  | ⟨2, _⟩ => show win0_3.index t 2 * 2560 + 1 * j.val = j.val; omega

/-- The queries' gains a point reads. -/
theorem block_4 (t : Fin cfg0.N) (k : Fin 128) : iblk m c 4 t (ix2 0 k) = A4 m c (ix2 0 k) := by
  obtain ⟨e0, e1⟩ := where_4 t
  show V m c main_arg4 _ = _
  rw [V_main_arg4]
  refine congrArg _ (funext fun a => Fin.ext ?_)
  match a with
  | ⟨0, _⟩ => show win0_4.index t 0 * 1 + 1 * 0 = 0; omega
  | ⟨1, _⟩ => show win0_4.index t 1 * 128 + 1 * k.val = k.val; omega

/-- The keys' gains a point reads. -/
theorem block_5 (t : Fin cfg0.N) (k : Fin 128) : iblk m c 5 t (ix2 0 k) = A5 m c (ix2 0 k) := by
  obtain ⟨e0, e1⟩ := where_5 t
  show V m c main_arg5 _ = _
  rw [V_main_arg5]
  refine congrArg _ (funext fun a => Fin.ext ?_)
  match a with
  | ⟨0, _⟩ => show win0_5.index t 0 * 1 + 1 * 0 = 0; omega
  | ⟨1, _⟩ => show win0_5.index t 1 * 128 + 1 * k.val = k.val; omega

/-- The cosines a point reads. -/
theorem block_6 (t : Fin cfg0.N) (r : Fin 256) (k : Fin 128) : iblk m c 6 t (ix2 r k) = A6 m c (ix2 (tok t r) k) := by
  obtain ⟨e0, e1⟩ := where_6 t
  show V m c main_arg6 _ = _
  rw [V_main_arg6]
  refine congrArg _ (funext fun a => Fin.ext ?_)
  match a with
  | ⟨0, _⟩ => show win0_6.index t 0 * 256 + 1 * r.val = t.val % 16 * 256 + r.val; omega
  | ⟨1, _⟩ => show win0_6.index t 1 * 128 + 1 * k.val = k.val; omega

/-- The first table of sines a point reads. -/
theorem block_7 (t : Fin cfg0.N) (r : Fin 256) (k : Fin 128) : iblk m c 7 t (ix2 r k) = (V m c main_v3 : S4096x128.Idx → EReal) (ix2 (tok t r) k) := by
  obtain ⟨e0, e1⟩ := where_7 t
  show V m c main_v3 _ = V m c main_v3 _
  refine congrArg _ (funext fun a => Fin.ext ?_)
  match a with
  | ⟨0, _⟩ => show win0_7.index t 0 * 256 + 1 * r.val = t.val % 16 * 256 + r.val; omega
  | ⟨1, _⟩ => show win0_7.index t 1 * 128 + 1 * k.val = k.val; omega

/-- The second table of sines a point reads. -/
theorem block_8 (t : Fin cfg0.N) (r : Fin 256) (k : Fin 128) : iblk m c 8 t (ix2 r k) = (V m c main_v4 : S4096x128.Idx → EReal) (ix2 (tok t r) k) := by
  obtain ⟨e0, e1⟩ := where_8 t
  show V m c main_v4 _ = V m c main_v4 _
  refine congrArg _ (funext fun a => Fin.ext ?_)
  match a with
  | ⟨0, _⟩ => show win0_8.index t 0 * 256 + 1 * r.val = t.val % 16 * 256 + r.val; omega
  | ⟨1, _⟩ => show win0_8.index t 1 * 128 + 1 * k.val = k.val; omega

/-- The row a point takes from a table of eight rows. -/
theorem off_row : ∀ t : Fin cfg0.N, k0_off1 (grid0.coords t) 0 = t.val / 16 ∧ k0_off1 (grid0.coords t) 1 = 0 :=
  (by decide +kernel : ∀ t : Fin grid0.N, _)

/-- The sample's row of a table of eight rows. -/
theorem row_at (t : Fin cfg0.N) (x : Vec 𝐅 S8x2048 .f32) (k : Fin 2048) :
    row (grid0.coords t) x (ix2 0 k) = x (ix2 ⟨(smp t).val, by omega⟩ k) := by
  obtain ⟨e0, e1⟩ := off_row t
  refine congrArg x (funext fun a => Fin.ext ?_)
  match a with
  | ⟨0, _⟩ => show k0_off1 (grid0.coords t) 0 + 1 * 0 = t.val / 16; omega
  | ⟨1, _⟩ => show k0_off1 (grid0.coords t) 1 + 1 * k.val = k.val; omega

/-! ## The blocks a point makes -/

/-- A point's projection. -/
abbrev PR (t : Fin cfg0.N) : FVec 𝐅 S256x2560 .f32 := prj (grid0.coords t) (iblk m c 0 t) (iblk m c 1 t) (iblk m c 2 t) (iblk m c 3 t)

/-- A point's projection in plain sums. -/
theorem prj_at (t : Fin cfg0.N) (r : Fin 256) (j : Fin 2560) :
    PR m c t (ix2 r j) = at3 (A0 m c) (A1 m c) (A2 m c) (A3 m c) (smp t) (tok t r) j := by
  unfold PR prj at3
  refine (pay3_apply _ _ _ _ r j).trans ?_
  refine congr (congr (congrArg₂ product (funext fun k => block_0 m c t r k) (funext fun k => ?_)) (funext fun k => ?_)) (funext fun k => block_3 m c t k j)
  · exact (row_at t _ k).trans (block_1 m c t _ k)
  · exact (row_at t _ k).trans (block_2 m c t _ k)

/-- A head of a point's block in plain sums. -/
theorem turned_at (t : Fin cfg0.N) (g : FVec 𝐅 S1x128 .f32) (G : S1x128.Idx → EReal) (hg : ∀ k : Fin 128, g (ix2 0 k) = G (ix2 0 k)) (r : Fin 256)
    (o : ℕ) (ho : o + 128 ≤ 2560) (d : Fin 128) : turned (PR m c t) g (iblk m c 6 t) (iblk m c 7 t) (iblk m c 8 t) r o ho d
      = head (A0 m c) (A1 m c) (A2 m c) (A3 m c) G (A6 m c) (A7 m c) (smp t) (tok t r) o ho d := by
  unfold turned head
  rw [mix_eq_turn _ _ _ _ (fun k => A7 m c (ix2 (tok t r) k)) d ((block_7 m c t r d).trans (sines_lo m c _ d)) ((block_8 m c t r d).trans (sines_hi m c _ d))]
  refine congrArg₂ (fun n e => turn n e _ d) (congrArg₂ nrm (funext fun k => prj_at m c t r _) (funext hg)) (funext fun k => block_6 m c t r k)

/-- The block of the first result, at one row and one column. -/
theorem pay4_apply (a b : Vec 𝐅 S1x2048 .f32) (x : Vec 𝐅 S256x2048 .f32) (w : Vec 𝐅 S1x2048x2560 .f32) (r : Fin 256) (j : Fin 1024) :
    k0_pay4 a b x w (ix2 r j) = k0_pay3 a b x w (ix2 r ⟨j.val, by omega⟩) := by
  rw [pay3_apply]
  unfold product
  pointwise [k0_pay4, k0_pay3]

/-! ## The arrays the blocks make -/

/-- The reference's first result. -/
def whole9 : Vec 𝐅 S8192x1024 .f32 := Cert.InpRefIdeal.Read.val_main_v76 (F := 𝐅) (A0 m c) (A1 m c) (A2 m c) (A3 m c)
/-- The reference's queries. -/
def whole10 : Vec 𝐅 S2x8x4096x128 .bf16 := Cert.InpRefIdeal.Read.val_main_v78 (F := 𝐅) (A0 m c) (A1 m c) (A2 m c) (A3 m c) (A4 m c) (A6 m c) (A7 m c)
/-- The reference's keys. -/
def whole11 : Vec 𝐅 S2x2x128x4096 .bf16 := Cert.InpRefIdeal.Read.val_main_v80 (F := 𝐅) (A0 m c) (A1 m c) (A2 m c) (A3 m c) (A5 m c) (A6 m c) (A7 m c)
/-- The reference's values. -/
def whole12 : Vec 𝐅 S2x2x4096x128 .bf16 := Cert.InpRefIdeal.Read.val_main_v82 (F := 𝐅) (A0 m c) (A1 m c) (A2 m c) (A3 m c)

/-- What a point writes of the first result is its block of the reference's. -/
theorem flushed_9 (t : Fin cfg0.N) : (dats m 0 c).flushed 9 t = ((cfg0.win 9).blk t).view.read (Elt 𝐅) (whole9 m c) := by
  rw [Value.flushed9_A]
  funext i
  have h0 : (i 0).val < 256 := (i 0).isLt
  have h1 : (i 1).val < 1024 := (i 1).isLt
  have ht := t_lt t
  obtain ⟨e0, e1⟩ := where_9 t
  have e : ((cfg0.win 9).blk t).view.emb i = (ix2 ⟨t.val * 256 + (i 0).val, by omega⟩ ⟨(i 1).val, h1⟩ : S8192x1024.Idx) :=
    funext fun a => Fin.ext (match a with
    | ⟨0, _⟩ => by show win0_9.index t 0 * 256 + 1 * (i 0).val = t.val * 256 + (i 0).val; omega
    | ⟨1, _⟩ => by show win0_9.index t 1 * 1024 + 1 * (i 1).val = (i 1).val; omega)
  refine Eq.trans ?_ (congrArg (whole9 m c) e).symm
  unfold whole9
  refine Eq.trans ?_ (Cert.InpRef.u_at (A0 m c) (A1 m c) (A2 m c) (A3 m c) _ _).symm
  have hi : i = (ix2 ⟨(i 0).val, h0⟩ ⟨(i 1).val, h1⟩ : S256x1024.Idx) := funext fun a => match a with
    | ⟨0, _⟩ => rfl
    | ⟨1, _⟩ => rfl
  refine (congrFun (u_pieces c (grid0.coords t) _ _ _ _ _ _ _ _ _ _ _ _ _ _ _ _ _ _ _ _ _ _ _ _ _ _ _ _ _ _ _ _ _ _ _) i).trans ?_
  refine (congrArg _ hi).trans ((pay4_apply _ _ _ _ _ _).trans ((prj_at m c t _ _).trans ?_))
  refine congrArg₂ (fun b n => at3 (A0 m c) (A1 m c) (A2 m c) (A3 m c) b n _) (Fin.ext ?_) (Fin.ext ?_)
  · show t.val / 16 = (t.val * 256 + (i 0).val) / 4096; omega
  · show t.val % 16 * 256 + (i 0).val = (t.val * 256 + (i 0).val) % 4096; omega

/-- The entries a point writes. -/
theorem mem_9 (t : Fin cfg0.N) (i : S8192x1024.Idx) : i ∈ ((cfg0.win 9).blk t).view.set ↔ t.val = (i 0).val / 256 := by
  show i ∈ ((View.whole main_v5_0).slice (win0_9.rect t)).set ↔ _
  rw [View.set_slice_whole, Rect.mem_set_unit]
  obtain ⟨e0, e1⟩ := where_9 t
  have l0 : (i 0).val < 8192 := (i 0).isLt
  have l1 : (i 1).val < 1024 := (i 1).isLt
  refine ⟨fun h => ?_, fun h a => ?_⟩
  · have h0 : win0_9.index t 0 * 256 ≤ (i 0).val ∧ (i 0).val < win0_9.index t 0 * 256 + 256 := h 0
    have h1 : win0_9.index t 1 * 1024 ≤ (i 1).val ∧ (i 1).val < win0_9.index t 1 * 1024 + 1024 := h 1
    omega
  · match a with
    | ⟨0, _⟩ => show win0_9.index t 0 * 256 ≤ (i 0).val ∧ (i 0).val < win0_9.index t 0 * 256 + 256; omega
    | ⟨1, _⟩ => show win0_9.index t 1 * 1024 ≤ (i 1).val ∧ (i 1).val < win0_9.index t 1 * 1024 + 1024; omega

/-- Every entry lies in the block of one point. -/
theorem covered_9 (i : S8192x1024.Idx) : ∃ t : Fin cfg0.N, (cfg0.win 9).flush t = true ∧ i ∈ ((cfg0.win 9).blk t).view.set := by
  have l0 : (i 0).val < 8192 := (i 0).isLt
  have l1 : (i 1).val < 1024 := (i 1).isLt
  have hN : cfg0.N = 32 := N_0
  refine ⟨⟨(i 0).val / 256, by omega⟩, flush0_9 _, ?_⟩
  rw [mem_9]

/-- The kernel's result is the reference's. -/
theorem result_9 : (dats m 0 c).arrAt 9 cfg0.N = whole9 m c :=
  (dats m 0 c).arrAt_eq_of_cover 9 (whole9 m c) (fun t _ => flushed_9 m c t) covered_9

/-- What a point writes of the queries is its block of the reference's. -/
theorem flushed_10 (t : Fin cfg0.N) : (dats m 0 c).flushed 10 t = ((cfg0.win 10).blk t).view.read (Elt 𝐅) (whole10 m c) := by
  rw [Value.flushed10_A]
  funext i
  have h0 : (i 0).val < 1 := (i 0).isLt
  have h1 : (i 1).val < 8 := (i 1).isLt
  have h2 : (i 2).val < 256 := (i 2).isLt
  have h3 : (i 3).val < 128 := (i 3).isLt
  have ht := t_lt t
  obtain ⟨e0, e1, e2, e3⟩ := where_10 t
  have e : ((cfg0.win 10).blk t).view.emb i = (ix4 (smp t) ⟨(i 1).val, h1⟩ (tok t ⟨(i 2).val, h2⟩) ⟨(i 3).val, h3⟩ : S2x8x4096x128.Idx) :=
    funext fun a => Fin.ext (match a with
    | ⟨0, _⟩ => by show win0_10.index t 0 * 1 + 1 * (i 0).val = t.val / 16; omega
    | ⟨1, _⟩ => by show win0_10.index t 1 * 8 + 1 * (i 1).val = (i 1).val; omega
    | ⟨2, _⟩ => by show win0_10.index t 2 * 256 + 1 * (i 2).val = t.val % 16 * 256 + (i 2).val; omega
    | ⟨3, _⟩ => by show win0_10.index t 3 * 128 + 1 * (i 3).val = (i 3).val; omega)
  refine Eq.trans ?_ (congrArg (whole10 m c) e).symm
  unfold whole10
  refine Eq.trans ?_ (Cert.InpRef.q_at (A0 m c) (A1 m c) (A2 m c) (A3 m c) (A4 m c) (A6 m c) (A7 m c) _ _ _ _).symm
  refine (q_pieces c (grid0.coords t) _ _ _ _ _ _ _ _ _ _ _ _ _ _ _ _ _ _ _ _ _ _ _ _ _ _ _ _ _ _ _ _ _ _ _ i).trans ?_
  unfold qG
  exact congrArg (· * _) (turned_at m c t _ (A4 m c) (block_4 m c t) _ _ _ _)

/-- The entries a point writes. -/
theorem mem_10 (t : Fin cfg0.N) (i : S2x8x4096x128.Idx) : i ∈ ((cfg0.win 10).blk t).view.set ↔ (t.val / 16 = (i 0).val ∧ t.val % 16 = (i 2).val / 256) := by
  show i ∈ ((View.whole main_v5_1).slice (win0_10.rect t)).set ↔ _
  rw [View.set_slice_whole, Rect.mem_set_unit]
  obtain ⟨e0, e1, e2, e3⟩ := where_10 t
  have l0 : (i 0).val < 2 := (i 0).isLt
  have l1 : (i 1).val < 8 := (i 1).isLt
  have l2 : (i 2).val < 4096 := (i 2).isLt
  have l3 : (i 3).val < 128 := (i 3).isLt
  refine ⟨fun h => ?_, fun h a => ?_⟩
  · have h0 : win0_10.index t 0 * 1 ≤ (i 0).val ∧ (i 0).val < win0_10.index t 0 * 1 + 1 := h 0
    have h1 : win0_10.index t 1 * 8 ≤ (i 1).val ∧ (i 1).val < win0_10.index t 1 * 8 + 8 := h 1
    have h2 : win0_10.index t 2 * 256 ≤ (i 2).val ∧ (i 2).val < win0_10.index t 2 * 256 + 256 := h 2
    have h3 : win0_10.index t 3 * 128 ≤ (i 3).val ∧ (i 3).val < win0_10.index t 3 * 128 + 128 := h 3
    omega
  · match a with
    | ⟨0, _⟩ => show win0_10.index t 0 * 1 ≤ (i 0).val ∧ (i 0).val < win0_10.index t 0 * 1 + 1; omega
    | ⟨1, _⟩ => show win0_10.index t 1 * 8 ≤ (i 1).val ∧ (i 1).val < win0_10.index t 1 * 8 + 8; omega
    | ⟨2, _⟩ => show win0_10.index t 2 * 256 ≤ (i 2).val ∧ (i 2).val < win0_10.index t 2 * 256 + 256; omega
    | ⟨3, _⟩ => show win0_10.index t 3 * 128 ≤ (i 3).val ∧ (i 3).val < win0_10.index t 3 * 128 + 128; omega

/-- Every entry lies in the block of one point. -/
theorem covered_10 (i : S2x8x4096x128.Idx) : ∃ t : Fin cfg0.N, (cfg0.win 10).flush t = true ∧ i ∈ ((cfg0.win 10).blk t).view.set := by
  have l0 : (i 0).val < 2 := (i 0).isLt
  have l1 : (i 1).val < 8 := (i 1).isLt
  have l2 : (i 2).val < 4096 := (i 2).isLt
  have l3 : (i 3).val < 128 := (i 3).isLt
  have hN : cfg0.N = 32 := N_0
  refine ⟨⟨(i 0).val * 16 + (i 2).val / 256, by omega⟩, flush0_10 _, ?_⟩
  rw [mem_10]
  dsimp only
  omega

/-- The kernel's result is the reference's. -/
theorem result_10 : (dats m 0 c).arrAt 10 cfg0.N = whole10 m c :=
  (dats m 0 c).arrAt_eq_of_cover 10 (whole10 m c) (fun t _ => flushed_10 m c t) covered_10

/-- What a point writes of the keys is its block of the reference's. -/
theorem flushed_11 (t : Fin cfg0.N) : (dats m 0 c).flushed 11 t = ((cfg0.win 11).blk t).view.read (Elt 𝐅) (whole11 m c) := by
  rw [Value.flushed11_A]
  funext i
  have h0 : (i 0).val < 1 := (i 0).isLt
  have h1 : (i 1).val < 2 := (i 1).isLt
  have h2 : (i 2).val < 128 := (i 2).isLt
  have h3 : (i 3).val < 256 := (i 3).isLt
  have ht := t_lt t
  obtain ⟨e0, e1, e2, e3⟩ := where_11 t
  have e : ((cfg0.win 11).blk t).view.emb i = (ix4 (smp t) ⟨(i 1).val, h1⟩ ⟨(i 2).val, h2⟩ (tok t ⟨(i 3).val, h3⟩) : S2x2x128x4096.Idx) :=
    funext fun a => Fin.ext (match a with
    | ⟨0, _⟩ => by show win0_11.index t 0 * 1 + 1 * (i 0).val = t.val / 16; omega
    | ⟨1, _⟩ => by show win0_11.index t 1 * 2 + 1 * (i 1).val = (i 1).val; omega
    | ⟨2, _⟩ => by show win0_11.index t 2 * 128 + 1 * (i 2).val = (i 2).val; omega
    | ⟨3, _⟩ => by show win0_11.index t 3 * 256 + 1 * (i 3).val = t.val % 16 * 256 + (i 3).val; omega)
  refine Eq.trans ?_ (congrArg (whole11 m c) e).symm
  unfold whole11
  refine Eq.trans ?_ (Cert.InpRef.k_at (A0 m c) (A1 m c) (A2 m c) (A3 m c) (A5 m c) (A6 m c) (A7 m c) _ _ _ _).symm
  refine (k_pieces c (grid0.coords t) _ _ _ _ _ _ _ _ _ _ _ _ _ _ _ _ _ _ _ _ _ _ _ _ _ _ _ _ _ _ _ _ _ _ _ i).trans ?_
  unfold kG
  exact turned_at m c t _ (A5 m c) (block_5 m c t) _ _ _ _

/-- The entries a point writes. -/
theorem mem_11 (t : Fin cfg0.N) (i : S2x2x128x4096.Idx) : i ∈ ((cfg0.win 11).blk t).view.set ↔ (t.val / 16 = (i 0).val ∧ t.val % 16 = (i 3).val / 256) := by
  show i ∈ ((View.whole main_v5_2).slice (win0_11.rect t)).set ↔ _
  rw [View.set_slice_whole, Rect.mem_set_unit]
  obtain ⟨e0, e1, e2, e3⟩ := where_11 t
  have l0 : (i 0).val < 2 := (i 0).isLt
  have l1 : (i 1).val < 2 := (i 1).isLt
  have l2 : (i 2).val < 128 := (i 2).isLt
  have l3 : (i 3).val < 4096 := (i 3).isLt
  refine ⟨fun h => ?_, fun h a => ?_⟩
  · have h0 : win0_11.index t 0 * 1 ≤ (i 0).val ∧ (i 0).val < win0_11.index t 0 * 1 + 1 := h 0
    have h1 : win0_11.index t 1 * 2 ≤ (i 1).val ∧ (i 1).val < win0_11.index t 1 * 2 + 2 := h 1
    have h2 : win0_11.index t 2 * 128 ≤ (i 2).val ∧ (i 2).val < win0_11.index t 2 * 128 + 128 := h 2
    have h3 : win0_11.index t 3 * 256 ≤ (i 3).val ∧ (i 3).val < win0_11.index t 3 * 256 + 256 := h 3
    omega
  · match a with
    | ⟨0, _⟩ => show win0_11.index t 0 * 1 ≤ (i 0).val ∧ (i 0).val < win0_11.index t 0 * 1 + 1; omega
    | ⟨1, _⟩ => show win0_11.index t 1 * 2 ≤ (i 1).val ∧ (i 1).val < win0_11.index t 1 * 2 + 2; omega
    | ⟨2, _⟩ => show win0_11.index t 2 * 128 ≤ (i 2).val ∧ (i 2).val < win0_11.index t 2 * 128 + 128; omega
    | ⟨3, _⟩ => show win0_11.index t 3 * 256 ≤ (i 3).val ∧ (i 3).val < win0_11.index t 3 * 256 + 256; omega

/-- Every entry lies in the block of one point. -/
theorem covered_11 (i : S2x2x128x4096.Idx) : ∃ t : Fin cfg0.N, (cfg0.win 11).flush t = true ∧ i ∈ ((cfg0.win 11).blk t).view.set := by
  have l0 : (i 0).val < 2 := (i 0).isLt
  have l1 : (i 1).val < 2 := (i 1).isLt
  have l2 : (i 2).val < 128 := (i 2).isLt
  have l3 : (i 3).val < 4096 := (i 3).isLt
  have hN : cfg0.N = 32 := N_0
  refine ⟨⟨(i 0).val * 16 + (i 3).val / 256, by omega⟩, flush0_11 _, ?_⟩
  rw [mem_11]
  dsimp only
  omega

/-- The kernel's result is the reference's. -/
theorem result_11 : (dats m 0 c).arrAt 11 cfg0.N = whole11 m c :=
  (dats m 0 c).arrAt_eq_of_cover 11 (whole11 m c) (fun t _ => flushed_11 m c t) covered_11

/-- What a point writes of the values is its block of the reference's. -/
theorem flushed_12 (t : Fin cfg0.N) : (dats m 0 c).flushed 12 t = ((cfg0.win 12).blk t).view.read (Elt 𝐅) (whole12 m c) := by
  rw [Value.flushed12_A]
  funext i
  have h0 : (i 0).val < 1 := (i 0).isLt
  have h1 : (i 1).val < 2 := (i 1).isLt
  have h2 : (i 2).val < 256 := (i 2).isLt
  have h3 : (i 3).val < 128 := (i 3).isLt
  have ht := t_lt t
  obtain ⟨e0, e1, e2, e3⟩ := where_12 t
  have e : ((cfg0.win 12).blk t).view.emb i = (ix4 (smp t) ⟨(i 1).val, h1⟩ (tok t ⟨(i 2).val, h2⟩) ⟨(i 3).val, h3⟩ : S2x2x4096x128.Idx) :=
    funext fun a => Fin.ext (match a with
    | ⟨0, _⟩ => by show win0_12.index t 0 * 1 + 1 * (i 0).val = t.val / 16; omega
    | ⟨1, _⟩ => by show win0_12.index t 1 * 2 + 1 * (i 1).val = (i 1).val; omega
    | ⟨2, _⟩ => by show win0_12.index t 2 * 256 + 1 * (i 2).val = t.val % 16 * 256 + (i 2).val; omega
    | ⟨3, _⟩ => by show win0_12.index t 3 * 128 + 1 * (i 3).val = (i 3).val; omega)
  refine Eq.trans ?_ (congrArg (whole12 m c) e).symm
  unfold whole12
  refine Eq.trans ?_ (Cert.InpRef.v_at (A0 m c) (A1 m c) (A2 m c) (A3 m c) _ _ _ _).symm
  refine (v_pieces c (grid0.coords t) _ _ _ _ _ _ _ _ _ _ _ _ _ _ _ _ _ _ _ _ _ _ _ _ _ _ _ _ _ _ _ _ _ _ _ i).trans ?_
  unfold vG
  exact prj_at m c t _ _

/-- The entries a point writes. -/
theorem mem_12 (t : Fin cfg0.N) (i : S2x2x4096x128.Idx) : i ∈ ((cfg0.win 12).blk t).view.set ↔ (t.val / 16 = (i 0).val ∧ t.val % 16 = (i 2).val / 256) := by
  show i ∈ ((View.whole main_v5_3).slice (win0_12.rect t)).set ↔ _
  rw [View.set_slice_whole, Rect.mem_set_unit]
  obtain ⟨e0, e1, e2, e3⟩ := where_12 t
  have l0 : (i 0).val < 2 := (i 0).isLt
  have l1 : (i 1).val < 2 := (i 1).isLt
  have l2 : (i 2).val < 4096 := (i 2).isLt
  have l3 : (i 3).val < 128 := (i 3).isLt
  refine ⟨fun h => ?_, fun h a => ?_⟩
  · have h0 : win0_12.index t 0 * 1 ≤ (i 0).val ∧ (i 0).val < win0_12.index t 0 * 1 + 1 := h 0
    have h1 : win0_12.index t 1 * 2 ≤ (i 1).val ∧ (i 1).val < win0_12.index t 1 * 2 + 2 := h 1
    have h2 : win0_12.index t 2 * 256 ≤ (i 2).val ∧ (i 2).val < win0_12.index t 2 * 256 + 256 := h 2
    have h3 : win0_12.index t 3 * 128 ≤ (i 3).val ∧ (i 3).val < win0_12.index t 3 * 128 + 128 := h 3
    omega
  · match a with
    | ⟨0, _⟩ => show win0_12.index t 0 * 1 ≤ (i 0).val ∧ (i 0).val < win0_12.index t 0 * 1 + 1; omega
    | ⟨1, _⟩ => show win0_12.index t 1 * 2 ≤ (i 1).val ∧ (i 1).val < win0_12.index t 1 * 2 + 2; omega
    | ⟨2, _⟩ => show win0_12.index t 2 * 256 ≤ (i 2).val ∧ (i 2).val < win0_12.index t 2 * 256 + 256; omega
    | ⟨3, _⟩ => show win0_12.index t 3 * 128 ≤ (i 3).val ∧ (i 3).val < win0_12.index t 3 * 128 + 128; omega

/-- Every entry lies in the block of one point. -/
theorem covered_12 (i : S2x2x4096x128.Idx) : ∃ t : Fin cfg0.N, (cfg0.win 12).flush t = true ∧ i ∈ ((cfg0.win 12).blk t).view.set := by
  have l0 : (i 0).val < 2 := (i 0).isLt
  have l1 : (i 1).val < 2 := (i 1).isLt
  have l2 : (i 2).val < 4096 := (i 2).isLt
  have l3 : (i 3).val < 128 := (i 3).isLt
  have hN : cfg0.N = 32 := N_0
  refine ⟨⟨(i 0).val * 16 + (i 2).val / 256, by omega⟩, flush0_12 _, ?_⟩
  rw [mem_12]
  dsimp only
  omega

/-- The kernel's result is the reference's. -/
theorem result_12 : (dats m 0 c).arrAt 12 cfg0.N = whole12 m c :=
  (dats m 0 c).arrAt_eq_of_cover 12 (whole12 m c) (fun t _ => flushed_12 m c t) covered_12

end Cert.InpCover

end

end
-- ==== Proof.Softmax.lean ====
module

public import Idealize.ShloMosaic.PureOps
public import Idealize.ShloMosaic.PureOps.Ideal

/-! The arithmetic of a softmax average computed over one run of keys after another.

A row of attention has scores `s 0, s 1, …` (real numbers) and values `v 0, v 1, …` (extended reals). The state
kept after the first `n` keys is a shift `m`, the sum of the exponentials shifted by `m`, and the sum of the
values weighted by those exponentials. A step takes the next `w` keys and a new shift. -/

@[expose] public section

noncomputable section

namespace Cert.Softmax

open Idealize.ShloMosaic

/-- An extended real that is a real number. -/
def IsReal (x : EReal) : Prop := ∃ r : ℝ, x = (r : EReal)

theorem IsReal.coe (r : ℝ) : IsReal (r : EReal) := ⟨r, rfl⟩

theorem IsReal.add {x y : EReal} (hx : IsReal x) (hy : IsReal y) : IsReal (x + y) := by
  obtain ⟨a, rfl⟩ := hx
  obtain ⟨b, rfl⟩ := hy
  exact ⟨a + b, (EReal.coe_add a b).symm⟩

theorem IsReal.mul {x y : EReal} (hx : IsReal x) (hy : IsReal y) : IsReal (x * y) := by
  obtain ⟨a, rfl⟩ := hx
  obtain ⟨b, rfl⟩ := hy
  exact ⟨a * b, (EReal.coe_mul a b).symm⟩

/-- A finite sum of real numbers is a real number. -/
theorem IsReal.sum {ι : Type} (t : Finset ι) (f : ι → EReal) (h : ∀ i, IsReal (f i)) : IsReal (∑ i ∈ t, f i) := by
  classical
  induction t using Finset.induction_on with
  | empty => exact ⟨0, by simp⟩
  | insert a t ha ih => rw [Finset.sum_insert ha]; exact (h a).add ih

theorem IsReal.max {x y : EReal} (hx : IsReal x) (hy : IsReal y) : IsReal (max x y) := by
  rcases max_choice x y with h | h <;> rw [h] <;> assumption

/-- The maximum of a nonempty family of real numbers, taken from minus infinity, is one of them. -/
theorem fold_max_real {n : ℕ} (f : Fin (n + 1) → EReal) (h : ∀ i, IsReal (f i)) :
    IsReal (Finset.univ.fold max (⊥ : EReal) f) := by
  classical
  have key : ∀ t : Finset (Fin (n + 1)), t.fold max (⊥ : EReal) f = ⊥ ∧ t = ∅ ∨ IsReal (t.fold max (⊥ : EReal) f) := by
    intro t
    induction t using Finset.induction_on with
    | empty => exact Or.inl ⟨rfl, rfl⟩
    | insert a t ha ih =>
      right
      rw [Finset.fold_insert ha]
      rcases ih with ⟨h0, _⟩ | h0
      · rw [h0, max_eq_left bot_le]; exact h a
      · exact (h a).max h0
  rcases key Finset.univ with ⟨_, h0⟩ | h0
  · exact absurd h0 Finset.univ_nonempty.ne_empty
  · exact h0

/-- A nonnegative real factor goes through a finite sum of extended reals. -/
theorem mul_sum_real {ι : Type} (t : Finset ι) (f : ι → EReal) {c : ℝ} (hc : 0 ≤ c) :
    (c : EReal) * ∑ i ∈ t, f i = ∑ i ∈ t, (c : EReal) * f i := by
  classical
  induction t using Finset.induction_on with
  | empty => simp
  | insert a t ha ih =>
    rw [Finset.sum_insert ha, Finset.sum_insert ha, ← ih]
    exact EReal.left_distrib_of_nonneg_of_ne_top (by exact_mod_cast hc) (EReal.coe_ne_top c) _ _

/-- The coercion of a finite real sum. -/
theorem coe_sum_real {ι : Type} (t : Finset ι) (f : ι → ℝ) :
    ((∑ i ∈ t, f i : ℝ) : EReal) = ∑ i ∈ t, (f i : EReal) := by
  classical
  induction t using Finset.induction_on with
  | empty => simp
  | insert a t ha ih => rw [Finset.sum_insert ha, Finset.sum_insert ha, EReal.coe_add, ih]

variable (s : ℕ → ℝ) (v : ℕ → EReal)

/-- The state after the first `n` keys. -/
def Inv (n : ℕ) (m l a : EReal) : Prop :=
  ∃ M : ℝ, m = (M : EReal) ∧ l = ∑ i ∈ Finset.range n, (Real.exp (s i - M) : EReal)
    ∧ a = ∑ i ∈ Finset.range n, (Real.exp (s i - M) : EReal) * v i

/-- The new shift, sum and weighted sum that a step computes from the old ones and `w` keys. -/
def stepM {w : ℕ} (m : EReal) (σ : Fin w → EReal) : EReal := max m (Finset.univ.fold max (⊥ : EReal) σ)
def stepL {w : ℕ} (m l : EReal) (σ : Fin w → EReal) : EReal :=
  Ideal.exp (m - stepM m σ) * l + ∑ j : Fin w, Ideal.exp (σ j - stepM m σ)
def stepA {w : ℕ} (m a : EReal) (σ : Fin w → EReal) (u : Fin w → EReal) : EReal :=
  Ideal.exp (m - stepM m σ) * a + ∑ j : Fin w, Ideal.exp (σ j - stepM m σ) * u j

/-- The first step: from the empty state, over the keys `0 … w`. -/
theorem Inv.first {w : ℕ} (σ u : Fin (w + 1) → EReal) (hσ : ∀ j, σ j = (s j.val : EReal)) (hu : ∀ j, u j = v j.val) :
    Inv s v (w + 1) (stepM ⊥ σ) (stepL ⊥ 0 σ) (stepA ⊥ 0 σ u) := by
  obtain ⟨M, hM⟩ : IsReal (stepM ⊥ σ) := by
    unfold stepM
    rw [max_eq_right bot_le]
    exact fold_max_real σ fun j => ⟨_, hσ j⟩
  refine ⟨M, hM, ?_, ?_⟩
  · unfold stepL
    rw [hM, mul_zero, zero_add, Finset.sum_range fun i => (Real.exp (s i - M) : EReal)]
    exact Finset.sum_congr rfl fun j _ => by rw [hσ j, ← EReal.coe_sub, Ideal.exp_coe]
  · unfold stepA
    rw [hM, mul_zero, zero_add, Finset.sum_range fun i => (Real.exp (s i - M) : EReal) * v i]
    exact Finset.sum_congr rfl fun j _ => by rw [hσ j, hu j, ← EReal.coe_sub, Ideal.exp_coe]

/-- A later step: over the keys `n … n + w`. The old sums, rescaled by the exponential of the difference of
the shifts, are the sums at the new shift. -/
theorem Inv.next {n w : ℕ} {m l a : EReal} (h : Inv s v n m l a) (σ u : Fin (w + 1) → EReal)
    (hσ : ∀ j, σ j = (s (n + j.val) : EReal)) (hu : ∀ j, u j = v (n + j.val)) :
    Inv s v (n + (w + 1)) (stepM m σ) (stepL m l σ) (stepA m a σ u) := by
  obtain ⟨M₀, rfl, rfl, rfl⟩ := h
  obtain ⟨M, hM⟩ : IsReal (stepM (M₀ : EReal) σ) :=
    (IsReal.coe M₀).max (fold_max_real σ fun j => ⟨_, hσ j⟩)
  have hα : Ideal.exp ((M₀ : EReal) - (M : EReal)) = (Real.exp (M₀ - M) : EReal) := by
    rw [← EReal.coe_sub, Ideal.exp_coe]
  have hmul : ∀ i, (Real.exp (M₀ - M) : EReal) * (Real.exp (s i - M₀) : EReal) = (Real.exp (s i - M) : EReal) := by
    intro i
    rw [← EReal.coe_mul, ← Real.exp_add]
    congr 2
    ring
  refine ⟨M, hM, ?_, ?_⟩
  · unfold stepL
    rw [hM, hα, mul_sum_real _ _ (Real.exp_pos _).le, Finset.sum_range_add]
    refine congrArg₂ (· + ·) (Finset.sum_congr rfl fun i _ => hmul i) ?_
    rw [Finset.sum_range fun i => (Real.exp (s (n + i) - M) : EReal)]
    exact Finset.sum_congr rfl fun j _ => by rw [hσ j, ← EReal.coe_sub, Ideal.exp_coe]
  · unfold stepA
    rw [hM, hα, mul_sum_real _ _ (Real.exp_pos _).le, Finset.sum_range_add]
    refine congrArg₂ (· + ·) (Finset.sum_congr rfl fun i _ => by rw [← mul_assoc, hmul i]) ?_
    rw [Finset.sum_range fun i => (Real.exp (s (n + i) - M) : EReal) * v (n + i)]
    exact Finset.sum_congr rfl fun j _ => by rw [hσ j, hu j, ← EReal.coe_sub, Ideal.exp_coe]

/-- The softmax average with the weights normalised first, at any shift `x` that is a real number: the value
the final quotient of the state takes. -/
theorem Inv.quotient {n : ℕ} {m l a : EReal} (h : Inv s v (n + 1) m l a) (σ u : Fin (n + 1) → EReal)
    (hσ : ∀ j, σ j = (s j.val : EReal)) (hu : ∀ j, u j = v j.val) {x : EReal} (hx : IsReal x) :
    Ideal.div a l = ∑ j : Fin (n + 1), Ideal.div (Ideal.exp (σ j - x)) (∑ k : Fin (n + 1), Ideal.exp (σ k - x)) * u j := by
  obtain ⟨M, rfl, rfl, rfl⟩ := h
  obtain ⟨X, rfl⟩ := hx
  have hσX : ∀ j, Ideal.exp (σ j - (X : EReal)) = (Real.exp (s j.val - X) : EReal) := fun j => by
    rw [hσ j, ← EReal.coe_sub, Ideal.exp_coe]
  have hpos : ∀ Y : ℝ, 0 < ∑ i ∈ Finset.range (n + 1), Real.exp (s i - Y) := fun Y =>
    Finset.sum_pos (fun i _ => Real.exp_pos _) ⟨0, Finset.mem_range.mpr n.succ_pos⟩
  have hL : (∑ k : Fin (n + 1), Ideal.exp (σ k - (X : EReal))) = ((∑ i ∈ Finset.range (n + 1), Real.exp (s i - X) : ℝ) : EReal) := by
    rw [coe_sum_real, Finset.sum_range fun i => (Real.exp (s i - X) : EReal)]
    exact Finset.sum_congr rfl fun j _ => hσX j
  have hscale : ∀ Y : ℝ, ∑ i ∈ Finset.range (n + 1), Real.exp (s i - Y)
      = Real.exp (-Y) * ∑ i ∈ Finset.range (n + 1), Real.exp (s i) := fun Y => by
    rw [Finset.mul_sum]
    exact Finset.sum_congr rfl fun i _ => by rw [← Real.exp_add]; congr 1; ring
  rw [← coe_sum_real, Ideal.div_coe (hpos M).ne', mul_comm,
    mul_sum_real _ _ (by have := hpos M; positivity), Finset.sum_range]
  refine Finset.sum_congr rfl fun j _ => ?_
  rw [hL, hσX, Ideal.div_coe (hpos X).ne', hu j, ← mul_assoc, ← EReal.coe_mul, ← EReal.coe_mul]
  congr 2
  have hS : 0 < ∑ i ∈ Finset.range (n + 1), Real.exp (s i) :=
    Finset.sum_pos (fun i _ => Real.exp_pos _) ⟨0, Finset.mem_range.mpr n.succ_pos⟩
  rw [hscale, hscale, sub_eq_add_neg, sub_eq_add_neg, Real.exp_add, Real.exp_add]
  have h1 := Real.exp_pos (-M)
  have h2 := Real.exp_pos (-X)
  field_simp

end Cert.Softmax

end
-- ==== Proof.RowNumbers.lean ====
module

public import proofs.«01_k».proof.Proof.Softmax
public import proofs.«01_k».proof.Proof.Gen.Pre_rows_ok
public import proofs.«01_k».proof.Proof.Gen.Pre_rows_finite
public import Idealize.ShloMosaic.Lib.SortFacts
public import Idealize.ShloMosaic.Lib.ValueIdxCore

/-! The preconditions read: the rows of every expert are rows of the array, each named once, the first half of them of
    the first sample and the second half of the second. -/

@[expose] public section

noncomputable section

namespace Cert.RowNumbers

open Idealize.ShloMosaic

/-- The shape of the row numbers. -/
abbrev SR : Shape := ⟨3, ![16, 1, 1024]⟩

/-- Row number `j` of expert `e`. -/
abbrev rowAt (x : IVec SR 32) (e : Fin 16) (j : Fin 1024) : BitVec 32 := x (ValueIdx.ix3 e (0 : Fin 1) j)

/-- What is known of the row numbers. -/
structure Good (x : IVec SR 32) : Prop where
  first : ∀ e j, j.val < 512 → (rowAt x e j).toNat < 4096
  second : ∀ e j, 512 ≤ j.val → 4096 ≤ (rowAt x e j).toNat ∧ (rowAt x e j).toNat < 8192
  inj : ∀ e j j', rowAt x e j = rowAt x e j' → j = j'

/-- A truth value printed as the bit one is true. -/
theorem ofBool_one {b : Bool} (h : BitVec.ofBool b = 1#1) : b = true := by
  cases b
  · exact absurd h (by decide)
  · rfl

/-- A word not below zero and below a small bound is a number below that bound. -/
theorem toNat_lt {b : BitVec 32} {n : ℕ} (hn : n < 2 ^ 31) (h0 : IntOp.cmpi .sge b 0#32 = 1#1)
    (h1 : IntOp.cmpi .slt b (BitVec.ofNat 32 n) = 1#1) : b.toNat < n := by
  have p0 : (0#32).sle b = true := ofBool_one h0
  have p1 : b.slt (BitVec.ofNat 32 n) = true := ofBool_one h1
  rw [BitVec.sle_eq_decide, decide_eq_true_eq] at p0
  rw [BitVec.slt_eq_decide, decide_eq_true_eq] at p1
  rw [BitVec.toInt_eq_toNat_cond] at p0 p1
  rw [BitVec.toInt_eq_toNat_cond] at p0 p1
  simp only [BitVec.toNat_ofNat] at p0 p1
  have := b.isLt
  omega

/-- A word not below a small bound is a number not below that bound. -/
theorem le_toNat {b : BitVec 32} {n : ℕ} (hn : n < 2 ^ 31) (h : IntOp.cmpi .sge b (BitVec.ofNat 32 n) = 1#1) : n ≤ b.toNat ∧ IntOp.cmpi .sge b 0#32 = 1#1 := by
  have p : (BitVec.ofNat 32 n).sle b = true := ofBool_one h
  rw [BitVec.sle_eq_decide, decide_eq_true_eq, BitVec.toInt_eq_toNat_cond, BitVec.toInt_eq_toNat_cond] at p
  simp only [BitVec.toNat_ofNat] at p
  have := b.isLt
  refine ⟨by omega, ?_⟩
  have q : (0#32).sle b = true := by
    rw [BitVec.sle_eq_decide, decide_eq_true_eq, BitVec.toInt_eq_toNat_cond, BitVec.toInt_eq_toNat_cond]
    simp only [BitVec.toNat_ofNat]
    omega
  simp [IntOp.cmpi, q]

/-- No word is below itself. -/
theorem not_lt_self (b : BitVec 32) : IntOp.cmpi .slt b b ≠ 1#1 := by
  simp [IntOp.cmpi, BitVec.slt_eq_decide]

/-- A word below a second that is below a third is below the third. -/
theorem lt_trans' {a b d : BitVec 32} (h : IntOp.cmpi .slt a b = 1#1) (h' : IntOp.cmpi .slt b d = 1#1) : IntOp.cmpi .slt a d = 1#1 := by
  have p : a.slt b = true := ofBool_one h
  have p' : b.slt d = true := ofBool_one h'
  rw [BitVec.slt_eq_decide, decide_eq_true_eq] at p p'
  have q : a.slt d = true := by rw [BitVec.slt_eq_decide, decide_eq_true_eq]; omega
  simp [IntOp.cmpi, q]

/-- A list that rises from each place to the next rises from any place to any later one. -/
theorem rises (f : Fin 1024 → BitVec 32) (h : ∀ k : Fin 1023, IntOp.cmpi .slt (f ⟨k.val, by omega⟩) (f ⟨k.val + 1, by omega⟩) = 1#1) :
    ∀ (d a : ℕ) (hd : a + (d + 1) < 1024), IntOp.cmpi .slt (f ⟨a, by omega⟩) (f ⟨a + (d + 1), hd⟩) = 1#1
  | 0, a, hd => h ⟨a, by omega⟩
  | d + 1, a, hd => lt_trans' (rises f h d a (by omega)) (h ⟨a + (d + 1), by omega⟩)

/-- A list whose sorting rises names each of its words once. -/
theorem once (f : Fin 1024 → BitVec 32) (σ : Fin 1024 → Fin 1024) (hσ : Function.Surjective σ)
    (h : ∀ k : Fin 1023, IntOp.cmpi .slt (f (σ ⟨k.val, by omega⟩)) (f (σ ⟨k.val + 1, by omega⟩)) = 1#1) (j j' : Fin 1024) (e : f j = f j') : j = j' := by
  obtain ⟨a, rfl⟩ := hσ j
  obtain ⟨b, rfl⟩ := hσ j'
  rcases Nat.lt_trichotomy a.val b.val with hl | hl | hl
  · have := rises (fun k => f (σ k)) h (b.val - a.val - 1) a.val (by omega)
    rw [show (⟨a.val + (b.val - a.val - 1 + 1), by omega⟩ : Fin 1024) = b from Fin.ext (by show a.val + (b.val - a.val - 1 + 1) = b.val; omega)] at this
    exact absurd (e ▸ this) (not_lt_self _)
  · rw [Fin.ext hl]
  · have := rises (fun k => f (σ k)) h (a.val - b.val - 1) b.val (by omega)
    rw [show (⟨b.val + (a.val - b.val - 1 + 1), by omega⟩ : Fin 1024) = a from Fin.ext (by show b.val + (a.val - b.val - 1 + 1) = a.val; omega)] at this
    exact absurd (e ▸ this) (not_lt_self _)

section Ok

open Cert.Pre_rows_ok

/-- The five conditions on the row numbers, read. -/
theorem good_of (x : IVec SR 32)
    (h1 : ∀ (e : Fin 16) (k : Fin 512), IntOp.cmpi .sge (rowAt x e ⟨k.val, by omega⟩) 0#32 = 1#1)
    (h2 : ∀ (e : Fin 16) (k : Fin 512), IntOp.cmpi .slt (rowAt x e ⟨k.val, by omega⟩) 4096#32 = 1#1)
    (h3 : ∀ (e : Fin 16) (k : Fin 512), IntOp.cmpi .sge (rowAt x e ⟨512 + k.val, by omega⟩) 4096#32 = 1#1)
    (h4 : ∀ (e : Fin 16) (k : Fin 512), IntOp.cmpi .slt (rowAt x e ⟨512 + k.val, by omega⟩) 8192#32 = 1#1)
    (h5 : ∀ (e : Fin 16), ∃ σ : Fin 1024 → Fin 1024, Function.Surjective σ ∧
      ∀ k : Fin 1023, IntOp.cmpi .slt (rowAt x e (σ ⟨k.val, by omega⟩)) (rowAt x e (σ ⟨k.val + 1, by omega⟩)) = 1#1) : Good x where
  first e j hj := toNat_lt (by decide) (h1 e ⟨j.val, hj⟩) (h2 e ⟨j.val, hj⟩)
  second e j hj := by
    have a := h3 e ⟨j.val - 512, by omega⟩
    have b := h4 e ⟨j.val - 512, by omega⟩
    rw [show (⟨512 + (j.val - 512), by omega⟩ : Fin 1024) = j from Fin.ext (by show 512 + (j.val - 512) = j.val; omega)] at a b
    have q := le_toNat (n := 4096) (by decide) a
    exact ⟨q.1, toNat_lt (by decide) q.2 b⟩
  inj e j j' h := by
    obtain ⟨σ, hσ, hk⟩ := h5 e
    exact once (fun k => rowAt x e k) σ hσ hk j j' h

end Ok

/-- A slice along the row numbers reads the row number at the slice's start and place. -/
theorem slice_at (x : IVec SR 32) (o n : ℕ) (h : SR.Slices ![0, 0, o] ⟨3, ![16, 1, n]⟩) (e : Fin 16) (k : Fin n) (hk : o + k.val < 1024) :
    extractStridedSlice (⟨3, ![16, 1, n]⟩ : Shape) ![0, 0, o] x h (ValueIdx.ix3 e (0 : Fin 1) k) = rowAt x e ⟨o + k.val, hk⟩ := by
  refine congrArg x (funext fun a => Fin.ext ?_)
  match a with
  | 0 => show 0 + e.val = e.val; omega
  | 1 => rfl
  | 2 => rfl

/-- The sorted row numbers are the row numbers in another order. -/
theorem sort_at (cmp : BitVec 32 → BitVec 32 → BitVec 1) (x : IVec SR 32) (e : Fin 16) :
    ∃ σ : Fin 1024 → Fin 1024, Function.Surjective σ ∧ ∀ k, rowAt (Host.sort SR 2 cmp x) e k = rowAt x e (σ k) := by
  have al : ∀ k k' : Fin 1024, (ValueIdx.ix3 e (0 : Fin 1) k : SR.Idx).along (2 : Fin 3) k' = ValueIdx.ix3 e (0 : Fin 1) k' := by
    intro k k'; funext a
    match a with
    | 0 => rfl
    | 1 => rfl
    | 2 => rfl
  refine ⟨sortedFrom (n := 1024) fun k k' => cmp (rowAt x e k) (rowAt x e k') == 1#1, sortedFrom_surjective _, fun k => ?_⟩
  have hs : Host.sort SR 2 cmp x (ValueIdx.ix3 e (0 : Fin 1) k) = x ((ValueIdx.ix3 e (0 : Fin 1) k : SR.Idx).along (2 : Fin 3)
      (sortedFrom (n := 1024) (fun a b => cmp (x ((ValueIdx.ix3 e (0 : Fin 1) k : SR.Idx).along (2 : Fin 3) a)) (x ((ValueIdx.ix3 e (0 : Fin 1) k : SR.Idx).along (2 : Fin 3) b)) == 1#1) k)) := rfl
  simp only [al] at hs
  exact hs

/-- The row numbers meeting `rows_ok`. -/
theorem good_ok {F : FTy → Type} [FloatOps F] {x0 x1 x2 x3 x4 x5 x6}
    (h : (Cert.Pre_rows_ok.fn (F := F) x0 x1 x2 x3 x4 x5 x6).1 = (fun _ => 1#1)
      ∧ (Cert.Pre_rows_ok.fn (F := F) x0 x1 x2 x3 x4 x5 x6).2.1 = (fun _ => 1#1)
      ∧ (Cert.Pre_rows_ok.fn (F := F) x0 x1 x2 x3 x4 x5 x6).2.2.1 = (fun _ => 1#1)
      ∧ (Cert.Pre_rows_ok.fn (F := F) x0 x1 x2 x3 x4 x5 x6).2.2.2.1 = (fun _ => 1#1)
      ∧ (Cert.Pre_rows_ok.fn (F := F) x0 x1 x2 x3 x4 x5 x6).2.2.2.2 = (fun _ => 1#1)) : Good x0 := by
  obtain ⟨h1, h2, h3, h4, h5⟩ := h
  refine good_of x0 (fun e k => ?_) (fun e k => ?_) (fun e k => ?_) (fun e k => ?_) (fun e => ?_)
  · have := congrFun h1 (ValueIdx.ix3 e (0 : Fin 1) k)
    exact (congrArg (IntOp.cmpi .sge · 0#32) ((slice_at x0 0 512 Pre_rows_ok.Gen.slices_S16x1x1024_S16x1x512_0_0_0 e k (by omega)).trans (congrArg (rowAt x0 e) (Fin.ext (Nat.zero_add _))))).symm.trans this
  · have := congrFun h2 (ValueIdx.ix3 e (0 : Fin 1) k)
    exact (congrArg (IntOp.cmpi .slt · 4096#32) ((slice_at x0 0 512 Pre_rows_ok.Gen.slices_S16x1x1024_S16x1x512_0_0_0 e k (by omega)).trans (congrArg (rowAt x0 e) (Fin.ext (Nat.zero_add _))))).symm.trans this
  · have := congrFun h3 (ValueIdx.ix3 e (0 : Fin 1) k)
    exact (congrArg (IntOp.cmpi .sge · 4096#32) (slice_at x0 512 512 Pre_rows_ok.Gen.slices_S16x1x1024_S16x1x512_0_0_512 e k (by omega))).symm.trans this
  · have := congrFun h4 (ValueIdx.ix3 e (0 : Fin 1) k)
    exact (congrArg (IntOp.cmpi .slt · 8192#32) (slice_at x0 512 512 Pre_rows_ok.Gen.slices_S16x1x1024_S16x1x512_0_0_512 e k (by omega))).symm.trans this
  · obtain ⟨σ, hσ, hk⟩ := sort_at Cert.Pre_rows_ok.comparator_i32_d2 x0 e
    refine ⟨σ, hσ, fun k => ?_⟩
    have := congrFun h5 (ValueIdx.ix3 e (0 : Fin 1) k)
    rw [← hk, ← hk]
    refine (congrArg₂ (IntOp.cmpi .slt) ((slice_at _ 0 1023 Pre_rows_ok.Gen.slices_S16x1x1024_S16x1x1023_0_0_0 e k (by omega)).trans (congrArg (rowAt _ e) (Fin.ext (Nat.zero_add _))))
      ((slice_at _ 1 1023 Pre_rows_ok.Gen.slices_S16x1x1024_S16x1x1023_0_0_1 e k (by omega)).trans (congrArg (rowAt _ e) (Fin.ext (Nat.add_comm _ _))))).symm.trans this

/-- The row numbers meeting `rows_finite`. -/
theorem good_finite {F : FTy → Type} [FloatOps F] {x0 x1 x2 x3 x4 x5 x6}
    (h1 : (Cert.Pre_rows_finite.fn (F := F) x0 x1 x2 x3 x4 x5 x6).1 = fun _ => 1#1)
    (h2 : (Cert.Pre_rows_finite.fn (F := F) x0 x1 x2 x3 x4 x5 x6).2.1 = fun _ => 1#1)
    (h3 : (Cert.Pre_rows_finite.fn (F := F) x0 x1 x2 x3 x4 x5 x6).2.2.1 = fun _ => 1#1)
    (h4 : (Cert.Pre_rows_finite.fn (F := F) x0 x1 x2 x3 x4 x5 x6).2.2.2.1 = fun _ => 1#1)
    (h5 : (Cert.Pre_rows_finite.fn (F := F) x0 x1 x2 x3 x4 x5 x6).2.2.2.2.1 = fun _ => 1#1) : Good x0 :=
  good_ok (F := F) (x1 := x1) (x2 := x2) (x3 := x3) (x4 := x4) (x5 := x5) (x6 := x6) ⟨h1, h2, h3, h4, h5⟩

/-- The word of the precondition's bound is infinity. -/
theorem bound : Ideal.ofBits .f32 0x7F800000#32 = (⊤ : EReal) := by simp [Ideal.ofBits, Ideal.ieee]

/-- A number whose absolute value is below infinity is real. -/
theorem real_of_lt {x : EReal} (h : Ideal.cmp .olt (max x (-x)) (Ideal.ofBits .f32 0x7F800000#32) = 1#1) : Softmax.IsReal x := by
  rw [bound] at h
  have hlt : max x (-x) < ⊤ := by
    by_contra hn
    simp [Ideal.cmp, hn] at h
  induction x using EReal.rec with
  | bot => simp at hlt
  | top => simp at hlt
  | coe r => exact ⟨r, rfl⟩

section Finite

open Cert.Pre_rows_finite

variable {x0 : IVec S16x1x1024 32} {x1 : FVec Ideal S8192x2176 .f32} {x2 : FVec Ideal S8192x2048 .f32}
  {x3 x4 : FVec Ideal S1x16x2048x5632 .f32} {x5 : FVec Ideal S1x16x5632x2048 .f32} {x6 : FVec Ideal S8x2048 .f32}

/-- The tokens and their affinities are real. -/
theorem tokens (h : (fn (F := Ideal) x0 x1 x2 x3 x4 x5 x6).2.2.2.2.2.1 = fun _ => 1#1) (r : Fin 8192) (k : Fin 2176) (hk : k.val < 2064) :
    Softmax.IsReal (x1 (ValueIdx.ix2 r k)) := by
  have e : extractStridedSlice S8192x2064 ![0, 0] x1 Gen.slices_S8192x2176_S8192x2064_0_0 (ValueIdx.ix2 r (⟨k.val, hk⟩ : Fin 2064)) = x1 (ValueIdx.ix2 r k) := by
    refine congrArg x1 (funext fun a => Fin.ext ?_)
    match a with
    | 0 => show 0 + r.val = r.val; omega
    | 1 => show 0 + k.val = k.val; omega
  rw [← e]
  exact real_of_lt (congrFun h (ValueIdx.ix2 r (⟨k.val, hk⟩ : Fin 2064)))

/-- The first weights are real. -/
theorem gateWeights (h : (fn (F := Ideal) x0 x1 x2 x3 x4 x5 x6).2.2.2.2.2.2.1 = fun _ => 1#1) (i) : Softmax.IsReal (x3 i) :=
  real_of_lt (congrFun h i)

/-- The second weights are real. -/
theorem upWeights (h : (fn (F := Ideal) x0 x1 x2 x3 x4 x5 x6).2.2.2.2.2.2.2.1 = fun _ => 1#1) (i) : Softmax.IsReal (x4 i) :=
  real_of_lt (congrFun h i)

/-- The third weights are real. -/
theorem downWeights (h : (fn (F := Ideal) x0 x1 x2 x3 x4 x5 x6).2.2.2.2.2.2.2.2.1 = fun _ => 1#1) (i) : Softmax.IsReal (x5 i) :=
  real_of_lt (congrFun h i)

/-- The two samples' gains are real. -/
theorem gains (h : (fn (F := Ideal) x0 x1 x2 x3 x4 x5 x6).2.2.2.2.2.2.2.2.2 = fun _ => 1#1) (b : Fin 8) (hb : b.val < 2) (q : Fin 2048) :
    Softmax.IsReal (x6 (ValueIdx.ix2 b q)) := by
  have e : extractStridedSlice S2x2048 ![0, 0] x6 Gen.slices_S8x2048_S2x2048_0_0 (ValueIdx.ix2 (⟨b.val, hb⟩ : Fin 2) q) = x6 (ValueIdx.ix2 b q) := by
    refine congrArg x6 (funext fun a => Fin.ext ?_)
    match a with
    | 0 => show 0 + b.val = b.val; omega
    | 1 => show 0 + q.val = q.val; omega
  rw [← e]
  exact real_of_lt (congrFun h (ValueIdx.ix2 (⟨b.val, hb⟩ : Fin 2) q))

end Finite

end Cert.RowNumbers

end
-- ==== Proof.MoeIdealGather.lean ====
/-
  An expert's rows are copied, one by one, from the array of rows into the scratch.
-/
module

public import proofs.«01_k».proof.Proof.Gen.MoeIdeal
public import proofs.«01_k».proof.Proof.Gen.MoeIdeal.Skeleton
public import proofs.«01_k».proof.Proof.Gen.MoeIdeal.Launch
public import Idealize.ShloMosaic.Lib.Pipeline.Routed
public import Idealize.ShloMosaic.Lib.Batch
public import Idealize.ShloMosaic.Lib.Ring
public import Idealize.ShloMosaic.Lib.Tactic
public import Idealize.ShloMosaic.Lib.ValueIdxCore
public meta import Idealize.ShloMosaic.Lib.Tactic

@[expose] public section

noncomputable section

namespace Cert.MoeIdeal.Gather

open Cert.MoeIdeal Cert.MoeIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (UC)

variable {F : FTy → Type} [FloatOps F]

local notation "𝕄" => MT nD τ sig Unit (Elt F) ℕ (UC sig nD τ) ℕ

/-- The contents of memref `M`'s buffer on core `c`. -/
abbrev Bf (c : Dev nD) {sp : Space} {S : Shape} {e : EltTy} (M : Memref sig .tc sp S e) : Type :=
  Buf (Elt F) (M.view.loc (c : Thread nD τ))

/-- Memref `M`'s buffer on core `c`, all of it, holding `f`. -/
abbrev pt (c : Dev nD) {sp : Space} {S : Shape} {e : EltTy} (M : Memref sig .tc sp S e) (f : Bf (F := F) c M) : sProp 𝕄 :=
  M.view.loc (c : Thread nD τ) ↦{fullShare} f

/-- Both loops make 1024 trips. -/
theorem trips_eq : k0_t1_loop.trips = 1024 := by decide
/-- Both loops make 1024 trips. -/
theorem trips2_eq : k0_t2_loop.trips = 1024 := by decide

/-- The only index of a one-word vector. -/
abbrev i0 : S1x1x1.Idx := Shape.Idx.first (s := S1x1x1) (numel1_S1x1x1.symm ▸ Nat.one_pos)

/-- A trip's word lies inside the block of row numbers. -/
theorem wd_inb (t : Fin k0_t1_loop.trips) : ∀ a, k0_off1 t a + S1x1x1.size a ≤ S1x1x1024.size a := by
  have ht : t.val < 1024 := trips_eq ▸ t.isLt
  intro a
  rw [k0_off1_eq t]
  match a with
  | ⟨0, _⟩ => show 0 + 1 ≤ 1; omega
  | ⟨1, _⟩ => show 0 + 1 ≤ 1; omega
  | ⟨2, _⟩ => show t.val + 1 ≤ 1024; omega

/-- The row number trip `t` reads. -/
abbrev wd (M0 : Memref sig .tc .smem S1x1x1024 .i32) {c : Dev nD} (f0 : Bf (F := F) c M0) (t : Fin k0_t1_loop.trips) : BitVec 32 :=
  M0.view.readAt (Elt F) (Rect.unit (s := S1x1x1024) (k0_off1 t) S1x1x1.size (wd_inb t)).toLoadRect f0 i0

/-- What the copies ask of the row numbers: rows of the array, no two alike. -/
structure WordsOK (w : Fin k0_t1_loop.trips → BitVec 32) : Prop where
  lt : ∀ t, (w t).toNat < 8192
  inj : ∀ t t', (w t).toNat = (w t').toNat → t = t'

/-- A row whose number is below 8192 lies inside the array. -/
theorem hb_inb (w : BitVec 32) (hw : w.toNat < 8192) : ∀ a, k0_off3 w a + S1x2176.size a ≤ S8192x2176.size a := by
  have e0 : k0_off3 w 0 = w.toNat := rfl
  have e1 : k0_off3 w 1 = 0 := rfl
  intro a
  match a with
  | ⟨0, _⟩ => show k0_off3 w 0 + 1 ≤ 8192; omega
  | ⟨1, _⟩ => show k0_off3 w 1 + 2176 ≤ 2176; omega

/-- Row `t` lies inside the scratch. -/
theorem vm_inb (t : Fin k0_t1_loop.trips) : ∀ a, k0_off2 t a + S1x2176.size a ≤ S1024x2176.size a := by
  have ht : t.val < 1024 := trips_eq ▸ t.isLt
  intro a
  rw [k0_off2_eq t]
  match a with
  | ⟨0, _⟩ => show t.val + 1 ≤ 1024; omega
  | ⟨1, _⟩ => show 0 + 2176 ≤ 2176; omega

/-- Row `w` of the array. -/
def hbM (w : BitVec 32) (h : ∀ a, k0_off3 w a + S1x2176.size a ≤ S8192x2176.size a) : Memref sig .tc .hbm S1x2176 .f32 :=
  (Memref.whole main_arg1).slice (Rect.unit (s := S8192x2176) (k0_off3 w) S1x2176.size h) (fun _ => rfl)
/-- Row `t` of the scratch. -/
def vmM (t : Fin k0_t1_loop.trips) : Memref sig .tc .vmem S1x2176 .f32 :=
  (Memref.whole cc0_scratch0).slice (Rect.unit (s := S1024x2176) (k0_off2 t) S1x2176.size (vm_inb t)) (fun _ => rfl)

/-- What one row's copy adds to the semaphore. -/
abbrev NN : ℕ := 272

/-- The semaphore of these copies. -/
abbrev sm : SemLoc sig :=
  .dma ((cc0_scratch3.slice (Rect.unit (s := S3) ![0] S1.size inb_S3_S1_0)).squeeze S_ squeezes_S1_S_).sem

section Deliveries

variable (c : Dev nD) {w : Fin k0_t1_loop.trips → BitVec 32} (hok : WordsOK w)
  (fx : Bf (F := F) c (Memref.whole cc0_scratch0)) (fr : Bf (F := F) c (Memref.whole main_arg1))

/-- The scratch's contents, seen from row `t`. -/
abbrev fxAt (t : Fin k0_t1_loop.trips) : Buf (Elt F) ((vmM t).view.loc (c : Thread nD τ)) := fx
/-- The array's contents, seen from the row trip `t` names. -/
abbrev frAt (t : Fin k0_t1_loop.trips) : Buf (Elt F) ((hbM (w t) (hb_inb _ (hok.lt t))).view.loc (c : Thread nD τ)) := fr

/-- What the written buffer holds on row `t` once its copy has landed. -/
abbrev landed (t : Fin k0_t1_loop.trips) : Buf (Elt F) ((vmM t).view.loc (c : Thread nD τ)) :=
  (vmM t).view.writes (Elt F) (fxAt c fx t) [⟨Rect.whole S1x2176, ReadAs.same.apply ((hbM (w t) (hb_inb _ (hok.lt t))).view.read (Elt F) (frAt c hok fr t))⟩]

/-- What copy `t` hands back: the written row, landed, and the row it was read from. -/
abbrev D (t : Fin k0_t1_loop.trips) : sProp 𝕄 :=
  iprop(((vmM t).view.loc (c : Thread nD τ) ↦[(vmM t).view.set]{fullShare} landed c hok fx fr t)
    ∗ ((hbM (w t) (hb_inb _ (hok.lt t))).view.loc (c : Thread nD τ) ↦[(hbM (w t) (hb_inb _ (hok.lt t))).view.set]{fullShare} (frAt c hok fr t)))

/-- What a copy hands back can be kept in an invariant. -/
instance D_storable (t : Fin k0_t1_loop.trips) : BI.Storable (upEmb : UEmb _ 𝕄) (D c hok fx fr t) := by
  unfold D; infer_instance

/-- The copies as one batch: `j` started, `u` units of the semaphore taken. -/
abbrev batch (j u : ℕ) : sProp 𝕄 :=
  Transfers.Batch countersEmb (c : Thread nD τ) sm () NN (fun t : Fin k0_t1_loop.trips => D c hok fx fr t) j u

/-- The array's elements on the row trip `t` names. -/
abbrev hbSet (t : Fin k0_t1_loop.trips) : Finset (Idx ((Memref.whole main_arg1 : Memref sig .tc .hbm S8192x2176 .f32).view.loc (c : Thread nD τ))) :=
  (hbM (w t) (hb_inb _ (hok.lt t))).view.set
/-- The scratch's elements on row `t`. -/
abbrev vmSet (t : Fin k0_t1_loop.trips) : Finset (Idx ((Memref.whole cc0_scratch0 : Memref sig .tc .vmem S1024x2176 .f32).view.loc (c : Thread nD τ))) :=
  (vmM t).view.set

end Deliveries

section Rows

variable (c : Dev nD) {w : Fin k0_t1_loop.trips → BitVec 32} (hok : WordsOK w)

omit [FloatOps F] in
/-- An element of the array is on row `w t` when its first coordinate is that number. -/
theorem mem_hbSet (t : Fin k0_t1_loop.trips) (y : S8192x2176.Idx) : y ∈ hbSet c hok t ↔ (y 0).val = (w t).toNat := by
  have e0 : k0_off3 (w t) 0 = (w t).toNat := rfl
  have e1 : k0_off3 (w t) 1 = 0 := rfl
  have hs : hbSet c hok t = (Rect.unit (s := S8192x2176) (k0_off3 (w t)) S1x2176.size (hb_inb _ (hok.lt t))).set := by
    unfold hbSet hbM; exact View.set_slice_whole _ _
  rw [hs, Rect.mem_set_unit]
  constructor
  · intro H
    have a0 : k0_off3 (w t) 0 ≤ (y 0).val ∧ (y 0).val < k0_off3 (w t) 0 + 1 := H 0
    omega
  · intro H a
    match a with
    | ⟨0, _⟩ => show k0_off3 (w t) 0 ≤ (y 0).val ∧ (y 0).val < k0_off3 (w t) 0 + 1; omega
    | ⟨1, _⟩ =>
      have hy : (y 1).val < 2176 := (y 1).isLt
      show k0_off3 (w t) 1 ≤ (y 1).val ∧ (y 1).val < k0_off3 (w t) 1 + 2176; omega

omit [FloatOps F] in
/-- An element of the scratch is on row `t` when its first coordinate is `t`. -/
theorem mem_vmSet (t : Fin k0_t1_loop.trips) (y : S1024x2176.Idx) : y ∈ vmSet c t ↔ (y 0).val = t.val := by
  have e0 : k0_off2 t 0 = t.val := by rw [k0_off2_eq t]; rfl
  have e1 : k0_off2 t 1 = 0 := by rw [k0_off2_eq t]; rfl
  have hs : vmSet c t = (Rect.unit (s := S1024x2176) (k0_off2 t) S1x2176.size (vm_inb t)).set := by
    unfold vmSet vmM; exact View.set_slice_whole _ _
  rw [hs, Rect.mem_set_unit]
  constructor
  · intro H
    have a0 : k0_off2 t 0 ≤ (y 0).val ∧ (y 0).val < k0_off2 t 0 + 1 := H 0
    omega
  · intro H a
    match a with
    | ⟨0, _⟩ => show k0_off2 t 0 ≤ (y 0).val ∧ (y 0).val < k0_off2 t 0 + 1; omega
    | ⟨1, _⟩ =>
      have hy : (y 1).val < 2176 := (y 1).isLt
      show k0_off2 t 1 ≤ (y 1).val ∧ (y 1).val < k0_off2 t 1 + 2176; omega

omit [FloatOps F] in
/-- Different trips name disjoint rows of the array. -/
theorem hbSet_disjoint : ∀ t ∈ (Finset.univ : Finset (Fin k0_t1_loop.trips)), ∀ t' ∈ (Finset.univ : Finset (Fin k0_t1_loop.trips)), t ≠ t' →
    Disjoint (hbSet c hok t) (hbSet c hok t') := by
  intro t _ t' _ hne
  rw [Finset.disjoint_left]; intro y hy hy'
  rw [mem_hbSet] at hy hy'
  exact hne (hok.inj t t' (hy.symm.trans hy'))

omit [FloatOps F] in
/-- Different rows of the scratch are disjoint. -/
theorem vmSet_disjoint : ∀ t ∈ (Finset.univ : Finset (Fin k0_t1_loop.trips)), ∀ t' ∈ (Finset.univ : Finset (Fin k0_t1_loop.trips)), t ≠ t' →
    Disjoint (vmSet c t) (vmSet c t') := by
  intro t _ t' _ hne
  rw [Finset.disjoint_left]; intro y hy hy'
  rw [mem_vmSet] at hy hy'
  exact hne (Fin.ext (hy.symm.trans hy'))

omit [FloatOps F] in
/-- A buffer is a family of disjoint parts of it beside what is left. -/
theorem parts {ℓ : Loc nD τ sig} {T : Type} (S : Finset T) (K : T → Finset (Idx ℓ))
    (hd : ∀ t ∈ S, ∀ t' ∈ S, t ≠ t' → Disjoint (K t) (K t')) (g : Buf (Elt F) ℓ) :
    (ℓ ↦{fullShare} g : sProp 𝕄)
      = iprop((bigSep S fun t => ℓ ↦[K t]{fullShare} g) ∗ ℓ ↦[Finset.univ \ S.biUnion K]{fullShare} g) := by
  have h : (ℓ ↦[Finset.univ]{fullShare} g : sProp 𝕄)
      ⊣⊢ iprop((ℓ ↦[S.biUnion K]{fullShare} g) ∗ ℓ ↦[Finset.univ \ S.biUnion K]{fullShare} g) :=
    pointsTo_split_subset (Finset.subset_univ (S.biUnion K))
  exact (BI.equiv_iff.mp ⟨h.1, h.2⟩).trans (by rw [pointsTo_biUnion S K hd])

end Rows

section Loops

variable (c : Dev nD) (M0 : Memref sig .tc .smem S1x1x1024 .i32) (f0 : Bf (F := F) c M0)
  (hok : WordsOK (wd M0 f0)) (fx : Bf (F := F) c (Memref.whole cc0_scratch0)) (fr : Bf (F := F) c (Memref.whole main_arg1))
  (i : grid0.Coords) (hc : k0_cond1 i = 1#1) (h0 : M0.IsWhole)
  (M5 : Memref sig .tc .vmem S1x1x2048x256 .f32) (h5 : M5.IsWhole) (M6 : Memref sig .tc .vmem S1x1x2048x256 .f32) (h6 : M6.IsWhole)
  (M7 : Memref sig .tc .vmem S1x1x256x2048 .f32) (h7 : M7.IsWhole) (M8 : Memref sig .tc .vmem S8x2048 .f32) (h8 : M8.IsWhole)

/-- Before trip `k` of the first loop: `k` copies started, and the rows of the others in hand. -/
def issueAt (k : ℕ) (_ : Unit) : sProp 𝕄 :=
  iprop(batch c hok fx fr k 0
    ∗ bigSep (Ring.rangeSet k0_t1_loop.trips k k0_t1_loop.trips) (fun t => (vmM t).view.loc (c : Thread nD τ) ↦[(vmM t).view.set]{fullShare} fxAt c fx t)
    ∗ bigSep (Ring.rangeSet k0_t1_loop.trips k k0_t1_loop.trips) (fun t => (hbM (wd M0 f0 t) (hb_inb _ (hok.lt t))).view.loc (c : Thread nD τ) ↦[(hbM (wd M0 f0 t) (hb_inb _ (hok.lt t))).view.set]{fullShare} frAt c hok fr t)
    ∗ pt c M0 f0)

set_option maxRecDepth 16384 in
set_option maxHeartbeats 4000000 in
/-- A trip of the first loop reads its word and starts its copy. -/
theorem issue_step [∀ e, Nonempty (Elt F e)] (k : Fin k0_t1_loop.trips) (acc : Unit) :
    issueAt c M0 f0 hok fx fr k acc
      ⊢ wp frame (wpE (defs₀ (F := F)) Variants.none c none) Set.univ
          (k0_t1_body i M0 h0 (Memref.whole main_arg1) (Memref.isWhole_whole _) (Memref.whole main_v0) (Memref.isWhole_whole _) M5 h5 M6 h6 M7 h7 M8 h8
            (Memref.whole main_v0) (Memref.isWhole_whole _) (Memref.whole cc0_scratch0) (Memref.isWhole_whole _)
            (Memref.whole cc0_scratch1) (Memref.isWhole_whole _) (Memref.whole cc0_scratch2) (Memref.isWhole_whole _) cc0_scratch3 hc k acc)
          (issueAt c M0 f0 hok fx fr (k.val + 1)) := by
  have hkT : k.val < 1024 := trips_eq ▸ k.isLt
  have hchk : k0_chk1 i (wd M0 f0 k) := by
    unfold k0_chk1; exact fun _ => hb_inb _ (hok.lt k)
  unfold issueAt
  rw [Ring.bigSep_rangeSet_head (Φ := fun t => (vmM t).view.loc (c : Thread nD τ) ↦[(vmM t).view.set]{fullShare} fxAt c fx t) k.isLt k.isLt,
    Ring.bigSep_rangeSet_head (Φ := fun t => (hbM (wd M0 f0 t) (hb_inb _ (hok.lt t))).view.loc (c : Thread nD τ) ↦[(hbM (wd M0 f0 t) (hb_inb _ (hok.lt t))).view.set]{fullShare} frAt c hok fr t) k.isLt k.isLt]
  iintro ⟨HB, ⟨HP, HPs⟩, ⟨HS, HSs⟩, H0⟩
  dsimp only [k0_t1_body]
  sl_exec (disch := exact hchk)
  sl_step
  isplitl [HB]; · iexact HB
  isplitl [HPs]; · iexact HPs
  isplitl [HSs]; · iexact HSs
  iexact H0

/-- Before trip `k` of the second loop: `k` rows' credit taken, or, after the last, all of them back. -/
def drainAt (k : ℕ) (_ : Unit) : sProp 𝕄 :=
  iprop((∃ W, owes (c : Thread nD τ) 0 W)
    ∗ (if k < k0_t1_loop.trips then batch c hok fx fr k0_t1_loop.trips (k * NN)
       else iprop(semVal ((c : Thread nD τ), sm) 0
              ∗ bigSep Finset.univ (fun t : Fin k0_t1_loop.trips => D c hok fx fr t))))

set_option maxRecDepth 16384 in
set_option maxHeartbeats 4000000 in
/-- A trip of the second loop waits for one row; the last one hands every row back. -/
theorem drain_step [∀ e, Nonempty (Elt F e)] (k : Fin k0_t2_loop.trips) (acc : Unit) :
    drainAt c M0 f0 hok fx fr k acc
      ⊢ wp frame (wpE (defs₀ (F := F)) Variants.none c none) Set.univ
          (k0_t2_body i M0 h0 (Memref.whole main_arg1) (Memref.isWhole_whole _) (Memref.whole main_v0) (Memref.isWhole_whole _) M5 h5 M6 h6 M7 h7 M8 h8
            (Memref.whole main_v0) (Memref.isWhole_whole _) (Memref.whole cc0_scratch0) (Memref.isWhole_whole _)
            (Memref.whole cc0_scratch1) (Memref.isWhole_whole _) (Memref.whole cc0_scratch2) (Memref.isWhole_whole _) cc0_scratch3 hc k acc)
          (drainAt c M0 f0 hok fx fr (k.val + 1)) := by
  have hkT : k.val < 1024 := trips2_eq ▸ k.isLt
  have hT : k0_t1_loop.trips = 1024 := trips_eq
  have hk : k.val < k0_t1_loop.trips := by omega
  unfold drainAt
  simp only [if_pos hk]
  rcases Nat.lt_or_ge (k.val + 1) k0_t1_loop.trips with hk1 | hk1
  · simp only [if_pos hk1]
    have hw : k.val * NN + 272 < 272 * k0_t1_loop.trips := by show k.val * 272 + 272 < _; omega
    iintro ⟨⟨%W, HO⟩, HB⟩
    dsimp only [k0_t2_body]
    sl_exec (disch := exact hw)
    sl_step
    isplitl [HO]; · iexists _; iexact HO
    rw [show (k.val + 1) * NN = k.val * NN + NN from Nat.succ_mul _ _]
    iexact HB
  · have hlast : k.val + 1 = k0_t1_loop.trips := by omega
    simp only [if_neg (Nat.not_lt.mpr hk1)]
    have hw : k.val * NN + 272 = 272 * k0_t1_loop.trips := by show k.val * 272 + 272 = _; omega
    iintro ⟨⟨%W, HO⟩, HB⟩
    dsimp only [k0_t2_body]
    sl_exec (disch := exact hw)
    sl_step
    isplitl [HO]; · iexists _; iexact HO
    isplitl [HB]; · iexact HB
    iexact HB_all

end Loops

/-! ## The two buffers before and after -/

section Whole

/-- The row a word names. -/
def row (w : BitVec 32) : Fin 8192 := ⟨w.toNat % 8192, Nat.mod_lt _ (by decide)⟩

/-- A trip's number as a row of the scratch. -/
abbrev tripOf (t : Fin 1024) : Fin k0_t1_loop.trips := Fin.cast trips_eq.symm t

/-- The scratch once every row is there: row `t` is the row of the array that word `t` names. -/
def took (w : Fin k0_t1_loop.trips → BitVec 32) (fr : S8192x2176.Idx → Elt F .f32) : S1024x2176.Idx → Elt F .f32 :=
  fun y => fr (ValueIdx.ix2 (row (w (tripOf (y 0)))) (y 1))

variable (c : Dev nD) {w : Fin k0_t1_loop.trips → BitVec 32} (hok : WordsOK w)
  (fx : Bf (F := F) c (Memref.whole cc0_scratch0)) (fr : Bf (F := F) c (Memref.whole main_arg1))

/-- The rows of the scratch, each by its own elements. -/
abbrev vmRows : sProp 𝕄 :=
  bigSep (Ring.rangeSet k0_t1_loop.trips 0 k0_t1_loop.trips) (fun t => (vmM t).view.loc (c : Thread nD τ) ↦[(vmM t).view.set]{fullShare} fxAt c fx t)
/-- The named rows of the array, each by its own elements. -/
abbrev hbRows : sProp 𝕄 :=
  bigSep (Ring.rangeSet k0_t1_loop.trips 0 k0_t1_loop.trips) (fun t => (hbM (w t) (hb_inb _ (hok.lt t))).view.loc (c : Thread nD τ) ↦[(hbM (w t) (hb_inb _ (hok.lt t))).view.set]{fullShare} frAt c hok fr t)
/-- What is left of the scratch. -/
abbrev vmRest : sProp 𝕄 :=
  (Memref.whole cc0_scratch0 : Memref sig .tc .vmem S1024x2176 .f32).view.loc (c : Thread nD τ) ↦[Finset.univ \ Finset.univ.biUnion (vmSet c)]{fullShare} fx
/-- What is left of the array. -/
abbrev hbRest : sProp 𝕄 :=
  (Memref.whole main_arg1 : Memref sig .tc .hbm S8192x2176 .f32).view.loc (c : Thread nD τ) ↦[Finset.univ \ Finset.univ.biUnion (hbSet c hok)]{fullShare} fr

set_option maxHeartbeats 400000 in
omit [FloatOps F] in
/-- The scratch is its rows and the rest of it. -/
theorem vm_split : (pt c (Memref.whole cc0_scratch0) fx : sProp 𝕄) = iprop(vmRows c fx ∗ vmRest c fx) := by
  unfold pt vmRows vmRest
  rw [Ring.rangeSet_univ]
  exact parts Finset.univ (vmSet c) (vmSet_disjoint c) fx

set_option maxHeartbeats 400000 in
omit [FloatOps F] in
/-- The array is the named rows and the rest of it. -/
theorem hb_split : (pt c (Memref.whole main_arg1) fr : sProp 𝕄) = iprop(hbRows c hok fr ∗ hbRest c hok fr) := by
  unfold pt hbRows hbRest
  rw [Ring.rangeSet_univ]
  exact parts Finset.univ (hbSet c hok) (hbSet_disjoint c hok) fr

set_option maxRecDepth 16384 in
omit [FloatOps F] in
/-- Row `t` of the scratch, read, is its elements. -/
theorem read_vm (t : Fin k0_t1_loop.trips) (f : Bf (F := F) c (vmM t)) (z : S1x2176.Idx) :
    (vmM t).view.read (Elt F) f z = (show S1024x2176.Idx → Elt F .f32 from f) ((Rect.unit (s := S1024x2176) (k0_off2 t) S1x2176.size (vm_inb t)).emb z) := rfl

set_option maxRecDepth 16384 in
omit [FloatOps F] in
/-- A row of the array, read, is its elements. -/
theorem read_hb (u : BitVec 32) (hu) (f : Bf (F := F) c (hbM u hu)) (z : S1x2176.Idx) :
    (hbM u hu).view.read (Elt F) f z = (show S8192x2176.Idx → Elt F .f32 from f) ((Rect.unit (s := S8192x2176) (k0_off3 u) S1x2176.size hu).emb z) := rfl

set_option maxRecDepth 16384 in
set_option maxHeartbeats 400000 in
omit [FloatOps F] in
/-- On row `t`, what landed is what `took` says. -/
theorem landed_eq (t : Fin k0_t1_loop.trips) (y : S1024x2176.Idx) (hy : (y 0).val = t.val) :
    landed c hok fx fr t y = took w fr y := by
  have e0 : k0_off2 t 0 = t.val := by rw [k0_off2_eq t]; rfl
  have e1 : k0_off2 t 1 = 0 := by rw [k0_off2_eq t]; rfl
  have g0 : k0_off3 (w t) 0 = (w t).toNat := rfl
  have g1 : k0_off3 (w t) 1 = 0 := rfl
  have hz : (Rect.unit (s := S1024x2176) (k0_off2 t) S1x2176.size (vm_inb t)).emb (ValueIdx.ix2 (n0 := 1) (n1 := 2176) 0 (y 1)) = y := by
    funext a
    match a with
    | ⟨0, _⟩ => exact Fin.ext (by show k0_off2 t 0 + 1 * 0 = (y 0).val; omega)
    | ⟨1, _⟩ => exact Fin.ext (by show k0_off2 t 1 + 1 * (y 1).val = (y 1).val; omega)
  have hs : (Rect.unit (s := S8192x2176) (k0_off3 (w t)) S1x2176.size (hb_inb _ (hok.lt t))).emb (ValueIdx.ix2 (n0 := 1) (n1 := 2176) 0 (y 1))
      = ValueIdx.ix2 (row (w (tripOf (y 0)))) (y 1) := by
    have ht : tripOf (y 0) = t := Fin.ext hy
    rw [ht]
    have := hok.lt t
    funext a
    match a with
    | ⟨0, _⟩ => exact Fin.ext (by show k0_off3 (w t) 0 + 1 * 0 = (w t).toNat % 8192; rw [Nat.mod_eq_of_lt this]; omega)
    | ⟨1, _⟩ => exact Fin.ext (by show k0_off3 (w t) 1 + 1 * (y 1).val = (y 1).val; omega)
  have h := congrFun (View.read_writes_whole (Val := Elt F) (vmM t).view (fxAt c fx t)
    (ReadAs.same.apply ((hbM (w t) (hb_inb _ (hok.lt t))).view.read (Elt F) (frAt c hok fr t)))) (ValueIdx.ix2 (n0 := 1) (n1 := 2176) 0 (y 1))
  have hl : landed c hok fx fr t ((Rect.unit (s := S1024x2176) (k0_off2 t) S1x2176.size (vm_inb t)).emb (ValueIdx.ix2 (n0 := 1) (n1 := 2176) 0 (y 1)))
      = fr ((Rect.unit (s := S8192x2176) (k0_off3 (w t)) S1x2176.size (hb_inb _ (hok.lt t))).emb (ValueIdx.ix2 (n0 := 1) (n1 := 2176) 0 (y 1))) :=
    (read_vm c t (landed c hok fx fr t) _).symm.trans (h.trans (read_hb c _ _ (frAt c hok fr t) _))
  rw [hz, hs] at hl
  exact hl

set_option maxRecDepth 16384 in
set_option maxHeartbeats 400000 in
omit [FloatOps F] in
/-- All the copies landed beside what was left is the scratch as `took` says and the array as it was. -/
theorem join : iprop((bigSep Finset.univ fun t => D c hok fx fr t) ∗ vmRest c fx ∗ hbRest c hok fr)
    ⊢ iprop(pt c (Memref.whole cc0_scratch0) (took w fr) ∗ pt c (Memref.whole main_arg1) fr) := by
  have h1 : ∀ t ∈ (Finset.univ : Finset (Fin k0_t1_loop.trips)),
      ((Memref.whole cc0_scratch0 : Memref sig .tc .vmem S1024x2176 .f32).view.loc (c : Thread nD τ) ↦[vmSet c t]{fullShare} landed c hok fx fr t : sProp 𝕄)
        = ((Memref.whole cc0_scratch0 : Memref sig .tc .vmem S1024x2176 .f32).view.loc (c : Thread nD τ) ↦[vmSet c t]{fullShare} (took w fr : Bf (F := F) c (Memref.whole cc0_scratch0))) :=
    fun t _ => pointsTo_congr fun y hy => landed_eq c hok fx fr t y ((mem_vmSet c t y).mp hy)
  have h2 : (vmRest c fx : sProp 𝕄) = vmRest c (took w fr) :=
    pointsTo_congr fun y hy => absurd (Finset.mem_biUnion.mpr ⟨tripOf (y 0), Finset.mem_univ _, (mem_vmSet c _ y).mpr rfl⟩) (Finset.mem_sdiff.mp hy).2
  rw [vm_split c (took w fr), hb_split c hok fr, ← h2]
  unfold vmRows hbRows
  rw [Ring.rangeSet_univ]
  have hD : (bigSep Finset.univ fun t => D c hok fx fr t : sProp 𝕄)
      = iprop((bigSep Finset.univ fun t => (vmM t).view.loc (c : Thread nD τ) ↦[(vmM t).view.set]{fullShare} fxAt c (took w fr) t)
        ∗ (bigSep Finset.univ fun t => (hbM (w t) (hb_inb _ (hok.lt t))).view.loc (c : Thread nD τ) ↦[(hbM (w t) (hb_inb _ (hok.lt t))).view.set]{fullShare} frAt c hok fr t)) := by
    refine (BI.bigSep_sep _ _ _).trans ?_
    rw [show (bigSep Finset.univ fun t => (vmM t).view.loc (c : Thread nD τ) ↦[(vmM t).view.set]{fullShare} landed c hok fx fr t : sProp 𝕄) = _ from BI.bigSep_congr h1]
    rfl
  rw [hD]
  iintro ⟨⟨A, B⟩, C, E⟩
  isplitl [A C]
  · isplitl [A]; · iexact A
    iexact C
  · isplitl [B]; · iexact B
    iexact E

end Whole

section Enter

variable (c : Dev nD) (M0 : Memref sig .tc .smem S1x1x1024 .i32) (f0 : Bf (F := F) c M0)
  (hok : WordsOK (wd M0 f0)) (fx : Bf (F := F) c (Memref.whole cc0_scratch0)) (fr : Bf (F := F) c (Memref.whole main_arg1))

set_option maxHeartbeats 400000 in
/-- The first loop starts with no copy started and every row in hand. -/
theorem issue_first : iprop(batch c hok fx fr 0 0 ∗ vmRows c fx ∗ hbRows c hok fr ∗ pt c M0 f0) ⊢ issueAt c M0 f0 hok fx fr 0 () := by
  unfold issueAt; exact Entails.rfl

set_option maxHeartbeats 400000 in
/-- It ends with every copy started. -/
theorem issue_last (acc : Unit) : issueAt c M0 f0 hok fx fr k0_t1_loop.trips acc ⊢ iprop(batch c hok fx fr k0_t1_loop.trips 0 ∗ pt c M0 f0) := by
  unfold issueAt
  simp only [Ring.bigSep_rangeSet_empty (le_refl _)]
  iintro ⟨A, -, -, B⟩
  isplitl [A] <;> iassumption

set_option maxHeartbeats 400000 in
/-- The second loop starts with nothing taken. -/
theorem drain_first : iprop((∃ W, owes (c : Thread nD τ) 0 W) ∗ batch c hok fx fr k0_t1_loop.trips 0) ⊢ drainAt c M0 f0 hok fx fr 0 () := by
  unfold drainAt
  rw [if_pos (by decide), Nat.zero_mul]

set_option maxHeartbeats 400000 in
/-- It ends with the semaphore at zero and every row handed back. -/
theorem drain_last (acc : Unit) : drainAt c M0 f0 hok fx fr k0_t2_loop.trips acc
    ⊢ iprop((∃ W, owes (c : Thread nD τ) 0 W) ∗ semVal ((c : Thread nD τ), sm) 0
        ∗ bigSep Finset.univ (fun t : Fin k0_t1_loop.trips => D c hok fx fr t)) := by
  unfold drainAt
  rw [if_neg (by decide)]

end Enter

end Cert.MoeIdeal.Gather

end
-- ==== Proof.MoeIdealFetch.lean ====
/-
  An expert's rows of the accumulated result are copied, one by one, into the scratch.
-/
module

public import proofs.«01_k».proof.Proof.Gen.MoeIdeal
public import proofs.«01_k».proof.Proof.Gen.MoeIdeal.Skeleton
public import proofs.«01_k».proof.Proof.Gen.MoeIdeal.Launch
public import Idealize.ShloMosaic.Lib.Pipeline.Routed
public import Idealize.ShloMosaic.Lib.Batch
public import Idealize.ShloMosaic.Lib.Ring
public import Idealize.ShloMosaic.Lib.Tactic
public import Idealize.ShloMosaic.Lib.ValueIdxCore
public meta import Idealize.ShloMosaic.Lib.Tactic

@[expose] public section

noncomputable section

namespace Cert.MoeIdeal.Fetch

open Cert.MoeIdeal Cert.MoeIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (UC)

variable {F : FTy → Type} [FloatOps F]

local notation "𝕄" => MT nD τ sig Unit (Elt F) ℕ (UC sig nD τ) ℕ

/-- The contents of memref `M`'s buffer on core `c`. -/
abbrev Bf (c : Dev nD) {sp : Space} {S : Shape} {e : EltTy} (M : Memref sig .tc sp S e) : Type :=
  Buf (Elt F) (M.view.loc (c : Thread nD τ))

/-- Memref `M`'s buffer on core `c`, all of it, holding `f`. -/
abbrev pt (c : Dev nD) {sp : Space} {S : Shape} {e : EltTy} (M : Memref sig .tc sp S e) (f : Bf (F := F) c M) : sProp 𝕄 :=
  M.view.loc (c : Thread nD τ) ↦{fullShare} f

/-- Both loops make 1024 trips. -/
theorem trips_eq : k0_t3_loop.trips = 1024 := by decide
/-- Both loops make 1024 trips. -/
theorem trips2_eq : k0_t4_loop.trips = 1024 := by decide

/-- The only index of a one-word vector. -/
abbrev i0 : S1x1x1.Idx := Shape.Idx.first (s := S1x1x1) (numel1_S1x1x1.symm ▸ Nat.one_pos)

/-- A trip's word lies inside the block of row numbers. -/
theorem wd_inb (t : Fin k0_t3_loop.trips) : ∀ a, k0_off6 t a + S1x1x1.size a ≤ S1x1x1024.size a := by
  have ht : t.val < 1024 := trips_eq ▸ t.isLt
  intro a
  rw [k0_off6_eq t]
  match a with
  | ⟨0, _⟩ => show 0 + 1 ≤ 1; omega
  | ⟨1, _⟩ => show 0 + 1 ≤ 1; omega
  | ⟨2, _⟩ => show t.val + 1 ≤ 1024; omega

/-- The row number trip `t` reads. -/
abbrev wd (M0 : Memref sig .tc .smem S1x1x1024 .i32) {c : Dev nD} (f0 : Bf (F := F) c M0) (t : Fin k0_t3_loop.trips) : BitVec 32 :=
  M0.view.readAt (Elt F) (Rect.unit (s := S1x1x1024) (k0_off6 t) S1x1x1.size (wd_inb t)).toLoadRect f0 i0

/-- What the copies ask of the row numbers: rows of the array, no two alike. -/
structure WordsOK (w : Fin k0_t3_loop.trips → BitVec 32) : Prop where
  lt : ∀ t, (w t).toNat < 8192
  inj : ∀ t t', (w t).toNat = (w t').toNat → t = t'

/-- A row whose number is below 8192 lies inside the array. -/
theorem hb_inb (w : BitVec 32) (hw : w.toNat < 8192) : ∀ a, k0_off8 w a + S1x2048.size a ≤ S8192x2048.size a := by
  have e0 : k0_off8 w 0 = w.toNat := rfl
  have e1 : k0_off8 w 1 = 0 := rfl
  intro a
  match a with
  | ⟨0, _⟩ => show k0_off8 w 0 + 1 ≤ 8192; omega
  | ⟨1, _⟩ => show k0_off8 w 1 + 2048 ≤ 2048; omega

/-- Row `t` lies inside the scratch. -/
theorem vm_inb (t : Fin k0_t3_loop.trips) : ∀ a, k0_off7 t a + S1x2048.size a ≤ S1024x2048.size a := by
  have ht : t.val < 1024 := trips_eq ▸ t.isLt
  intro a
  rw [k0_off7_eq t]
  match a with
  | ⟨0, _⟩ => show t.val + 1 ≤ 1024; omega
  | ⟨1, _⟩ => show 0 + 2048 ≤ 2048; omega

/-- Row `w` of the array. -/
def hbM (w : BitVec 32) (h : ∀ a, k0_off8 w a + S1x2048.size a ≤ S8192x2048.size a) : Memref sig .tc .hbm S1x2048 .f32 :=
  (Memref.whole main_v0).slice (Rect.unit (s := S8192x2048) (k0_off8 w) S1x2048.size h) (fun _ => rfl)
/-- Row `t` of the scratch. -/
def vmM (t : Fin k0_t3_loop.trips) : Memref sig .tc .vmem S1x2048 .f32 :=
  (Memref.whole cc0_scratch2).slice (Rect.unit (s := S1024x2048) (k0_off7 t) S1x2048.size (vm_inb t)) (fun _ => rfl)

/-- What one row's copy adds to the semaphore. -/
abbrev NN : ℕ := 256

/-- The semaphore of these copies. -/
abbrev sm : SemLoc sig :=
  .dma ((cc0_scratch3.slice (Rect.unit (s := S3) ![1] S1.size inb_S3_S1_1)).squeeze S_ squeezes_S1_S_).sem

section Deliveries

variable (c : Dev nD) {w : Fin k0_t3_loop.trips → BitVec 32} (hok : WordsOK w)
  (fx : Bf (F := F) c (Memref.whole cc0_scratch2)) (fr : Bf (F := F) c (Memref.whole main_v0))

/-- The scratch's contents, seen from row `t`. -/
abbrev fxAt (t : Fin k0_t3_loop.trips) : Buf (Elt F) ((vmM t).view.loc (c : Thread nD τ)) := fx
/-- The array's contents, seen from the row trip `t` names. -/
abbrev frAt (t : Fin k0_t3_loop.trips) : Buf (Elt F) ((hbM (w t) (hb_inb _ (hok.lt t))).view.loc (c : Thread nD τ)) := fr

/-- What the written buffer holds on row `t` once its copy has landed. -/
abbrev landed (t : Fin k0_t3_loop.trips) : Buf (Elt F) ((vmM t).view.loc (c : Thread nD τ)) :=
  (vmM t).view.writes (Elt F) (fxAt c fx t) [⟨Rect.whole S1x2048, ReadAs.same.apply ((hbM (w t) (hb_inb _ (hok.lt t))).view.read (Elt F) (frAt c hok fr t))⟩]

/-- What copy `t` hands back: the written row, landed, and the row it was read from. -/
abbrev D (t : Fin k0_t3_loop.trips) : sProp 𝕄 :=
  iprop(((vmM t).view.loc (c : Thread nD τ) ↦[(vmM t).view.set]{fullShare} landed c hok fx fr t)
    ∗ ((hbM (w t) (hb_inb _ (hok.lt t))).view.loc (c : Thread nD τ) ↦[(hbM (w t) (hb_inb _ (hok.lt t))).view.set]{fullShare} (frAt c hok fr t)))

/-- What a copy hands back can be kept in an invariant. -/
instance D_storable (t : Fin k0_t3_loop.trips) : BI.Storable (upEmb : UEmb _ 𝕄) (D c hok fx fr t) := by
  unfold D; infer_instance

/-- The copies as one batch: `j` started, `u` units of the semaphore taken. -/
abbrev batch (j u : ℕ) : sProp 𝕄 :=
  Transfers.Batch countersEmb (c : Thread nD τ) sm () NN (fun t : Fin k0_t3_loop.trips => D c hok fx fr t) j u

/-- The array's elements on the row trip `t` names. -/
abbrev hbSet (t : Fin k0_t3_loop.trips) : Finset (Idx ((Memref.whole main_v0 : Memref sig .tc .hbm S8192x2048 .f32).view.loc (c : Thread nD τ))) :=
  (hbM (w t) (hb_inb _ (hok.lt t))).view.set
/-- The scratch's elements on row `t`. -/
abbrev vmSet (t : Fin k0_t3_loop.trips) : Finset (Idx ((Memref.whole cc0_scratch2 : Memref sig .tc .vmem S1024x2048 .f32).view.loc (c : Thread nD τ))) :=
  (vmM t).view.set

end Deliveries

section Rows

variable (c : Dev nD) {w : Fin k0_t3_loop.trips → BitVec 32} (hok : WordsOK w)

omit [FloatOps F] in
/-- An element of the array is on row `w t` when its first coordinate is that number. -/
theorem mem_hbSet (t : Fin k0_t3_loop.trips) (y : S8192x2048.Idx) : y ∈ hbSet c hok t ↔ (y 0).val = (w t).toNat := by
  have e0 : k0_off8 (w t) 0 = (w t).toNat := rfl
  have e1 : k0_off8 (w t) 1 = 0 := rfl
  have hs : hbSet c hok t = (Rect.unit (s := S8192x2048) (k0_off8 (w t)) S1x2048.size (hb_inb _ (hok.lt t))).set := by
    unfold hbSet hbM; exact View.set_slice_whole _ _
  rw [hs, Rect.mem_set_unit]
  constructor
  · intro H
    have a0 : k0_off8 (w t) 0 ≤ (y 0).val ∧ (y 0).val < k0_off8 (w t) 0 + 1 := H 0
    omega
  · intro H a
    match a with
    | ⟨0, _⟩ => show k0_off8 (w t) 0 ≤ (y 0).val ∧ (y 0).val < k0_off8 (w t) 0 + 1; omega
    | ⟨1, _⟩ =>
      have hy : (y 1).val < 2048 := (y 1).isLt
      show k0_off8 (w t) 1 ≤ (y 1).val ∧ (y 1).val < k0_off8 (w t) 1 + 2048; omega

omit [FloatOps F] in
/-- An element of the scratch is on row `t` when its first coordinate is `t`. -/
theorem mem_vmSet (t : Fin k0_t3_loop.trips) (y : S1024x2048.Idx) : y ∈ vmSet c t ↔ (y 0).val = t.val := by
  have e0 : k0_off7 t 0 = t.val := by rw [k0_off7_eq t]; rfl
  have e1 : k0_off7 t 1 = 0 := by rw [k0_off7_eq t]; rfl
  have hs : vmSet c t = (Rect.unit (s := S1024x2048) (k0_off7 t) S1x2048.size (vm_inb t)).set := by
    unfold vmSet vmM; exact View.set_slice_whole _ _
  rw [hs, Rect.mem_set_unit]
  constructor
  · intro H
    have a0 : k0_off7 t 0 ≤ (y 0).val ∧ (y 0).val < k0_off7 t 0 + 1 := H 0
    omega
  · intro H a
    match a with
    | ⟨0, _⟩ => show k0_off7 t 0 ≤ (y 0).val ∧ (y 0).val < k0_off7 t 0 + 1; omega
    | ⟨1, _⟩ =>
      have hy : (y 1).val < 2048 := (y 1).isLt
      show k0_off7 t 1 ≤ (y 1).val ∧ (y 1).val < k0_off7 t 1 + 2048; omega

omit [FloatOps F] in
/-- Different trips name disjoint rows of the array. -/
theorem hbSet_disjoint : ∀ t ∈ (Finset.univ : Finset (Fin k0_t3_loop.trips)), ∀ t' ∈ (Finset.univ : Finset (Fin k0_t3_loop.trips)), t ≠ t' →
    Disjoint (hbSet c hok t) (hbSet c hok t') := by
  intro t _ t' _ hne
  rw [Finset.disjoint_left]; intro y hy hy'
  rw [mem_hbSet] at hy hy'
  exact hne (hok.inj t t' (hy.symm.trans hy'))

omit [FloatOps F] in
/-- Different rows of the scratch are disjoint. -/
theorem vmSet_disjoint : ∀ t ∈ (Finset.univ : Finset (Fin k0_t3_loop.trips)), ∀ t' ∈ (Finset.univ : Finset (Fin k0_t3_loop.trips)), t ≠ t' →
    Disjoint (vmSet c t) (vmSet c t') := by
  intro t _ t' _ hne
  rw [Finset.disjoint_left]; intro y hy hy'
  rw [mem_vmSet] at hy hy'
  exact hne (Fin.ext (hy.symm.trans hy'))

omit [FloatOps F] in
/-- A buffer is a family of disjoint parts of it beside what is left. -/
theorem parts {ℓ : Loc nD τ sig} {T : Type} (S : Finset T) (K : T → Finset (Idx ℓ))
    (hd : ∀ t ∈ S, ∀ t' ∈ S, t ≠ t' → Disjoint (K t) (K t')) (g : Buf (Elt F) ℓ) :
    (ℓ ↦{fullShare} g : sProp 𝕄)
      = iprop((bigSep S fun t => ℓ ↦[K t]{fullShare} g) ∗ ℓ ↦[Finset.univ \ S.biUnion K]{fullShare} g) := by
  have h : (ℓ ↦[Finset.univ]{fullShare} g : sProp 𝕄)
      ⊣⊢ iprop((ℓ ↦[S.biUnion K]{fullShare} g) ∗ ℓ ↦[Finset.univ \ S.biUnion K]{fullShare} g) :=
    pointsTo_split_subset (Finset.subset_univ (S.biUnion K))
  exact (BI.equiv_iff.mp ⟨h.1, h.2⟩).trans (by rw [pointsTo_biUnion S K hd])

end Rows

section Loops

variable (c : Dev nD) (M0 : Memref sig .tc .smem S1x1x1024 .i32) (f0 : Bf (F := F) c M0)
  (hok : WordsOK (wd M0 f0)) (fx : Bf (F := F) c (Memref.whole cc0_scratch2)) (fr : Bf (F := F) c (Memref.whole main_v0))
  (i : grid0.Coords) (hc : k0_cond2 i = 1#1) (h0 : M0.IsWhole)
  (M5 : Memref sig .tc .vmem S1x1x2048x256 .f32) (h5 : M5.IsWhole) (M6 : Memref sig .tc .vmem S1x1x2048x256 .f32) (h6 : M6.IsWhole)
  (M7 : Memref sig .tc .vmem S1x1x256x2048 .f32) (h7 : M7.IsWhole) (M8 : Memref sig .tc .vmem S8x2048 .f32) (h8 : M8.IsWhole) (arg0 : BitVec 32)

/-- Before trip `k` of the first loop: `k` copies started, and the rows of the others in hand. -/
def issueAt (k : ℕ) (_ : Unit) : sProp 𝕄 :=
  iprop(batch c hok fx fr k 0
    ∗ bigSep (Ring.rangeSet k0_t3_loop.trips k k0_t3_loop.trips) (fun t => (vmM t).view.loc (c : Thread nD τ) ↦[(vmM t).view.set]{fullShare} fxAt c fx t)
    ∗ bigSep (Ring.rangeSet k0_t3_loop.trips k k0_t3_loop.trips) (fun t => (hbM (wd M0 f0 t) (hb_inb _ (hok.lt t))).view.loc (c : Thread nD τ) ↦[(hbM (wd M0 f0 t) (hb_inb _ (hok.lt t))).view.set]{fullShare} frAt c hok fr t)
    ∗ pt c M0 f0)

set_option maxRecDepth 16384 in
set_option maxHeartbeats 4000000 in
/-- A trip of the first loop reads its word and starts its copy. -/
theorem issue_step [∀ e, Nonempty (Elt F e)] (k : Fin k0_t3_loop.trips) (acc : Unit) :
    issueAt c M0 f0 hok fx fr k acc
      ⊢ wp frame (wpE (defs₀ (F := F)) Variants.none c none) Set.univ
          (k0_t3_body i M0 h0 (Memref.whole main_arg1) (Memref.isWhole_whole _) (Memref.whole main_v0) (Memref.isWhole_whole _) M5 h5 M6 h6 M7 h7 M8 h8
            (Memref.whole main_v0) (Memref.isWhole_whole _) (Memref.whole cc0_scratch0) (Memref.isWhole_whole _)
            (Memref.whole cc0_scratch1) (Memref.isWhole_whole _) (Memref.whole cc0_scratch2) (Memref.isWhole_whole _) cc0_scratch3 arg0 hc k acc)
          (issueAt c M0 f0 hok fx fr (k.val + 1)) := by
  have hkT : k.val < 1024 := trips_eq ▸ k.isLt
  have hchk : k0_chk2 i (wd M0 f0 k) := by
    unfold k0_chk2; exact fun _ => hb_inb _ (hok.lt k)
  unfold issueAt
  rw [Ring.bigSep_rangeSet_head (Φ := fun t => (vmM t).view.loc (c : Thread nD τ) ↦[(vmM t).view.set]{fullShare} fxAt c fx t) k.isLt k.isLt,
    Ring.bigSep_rangeSet_head (Φ := fun t => (hbM (wd M0 f0 t) (hb_inb _ (hok.lt t))).view.loc (c : Thread nD τ) ↦[(hbM (wd M0 f0 t) (hb_inb _ (hok.lt t))).view.set]{fullShare} frAt c hok fr t) k.isLt k.isLt]
  iintro ⟨HB, ⟨HP, HPs⟩, ⟨HS, HSs⟩, H0⟩
  dsimp only [k0_t3_body]
  sl_exec (disch := exact hchk)
  sl_step
  isplitl [HB]; · iexact HB
  isplitl [HPs]; · iexact HPs
  isplitl [HSs]; · iexact HSs
  iexact H0

/-- Before trip `k` of the second loop: `k` rows' credit taken, or, after the last, all of them back. -/
def drainAt (k : ℕ) (_ : Unit) : sProp 𝕄 :=
  iprop((∃ W, owes (c : Thread nD τ) 0 W)
    ∗ (if k < k0_t3_loop.trips then batch c hok fx fr k0_t3_loop.trips (k * NN)
       else iprop(semVal ((c : Thread nD τ), sm) 0
              ∗ bigSep Finset.univ (fun t : Fin k0_t3_loop.trips => D c hok fx fr t))))

set_option maxRecDepth 16384 in
set_option maxHeartbeats 4000000 in
/-- A trip of the second loop waits for one row; the last one hands every row back. -/
theorem drain_step [∀ e, Nonempty (Elt F e)] (k : Fin k0_t4_loop.trips) (acc : Unit) :
    drainAt c M0 f0 hok fx fr k acc
      ⊢ wp frame (wpE (defs₀ (F := F)) Variants.none c none) Set.univ
          (k0_t4_body i M0 h0 (Memref.whole main_arg1) (Memref.isWhole_whole _) (Memref.whole main_v0) (Memref.isWhole_whole _) M5 h5 M6 h6 M7 h7 M8 h8
            (Memref.whole main_v0) (Memref.isWhole_whole _) (Memref.whole cc0_scratch0) (Memref.isWhole_whole _)
            (Memref.whole cc0_scratch1) (Memref.isWhole_whole _) (Memref.whole cc0_scratch2) (Memref.isWhole_whole _) cc0_scratch3 arg0 hc k acc)
          (drainAt c M0 f0 hok fx fr (k.val + 1)) := by
  have hkT : k.val < 1024 := trips2_eq ▸ k.isLt
  have hT : k0_t3_loop.trips = 1024 := trips_eq
  have hk : k.val < k0_t3_loop.trips := by omega
  unfold drainAt
  simp only [if_pos hk]
  rcases Nat.lt_or_ge (k.val + 1) k0_t3_loop.trips with hk1 | hk1
  · simp only [if_pos hk1]
    have hw : k.val * NN + 256 < 256 * k0_t3_loop.trips := by show k.val * 256 + 256 < _; omega
    iintro ⟨⟨%W, HO⟩, HB⟩
    dsimp only [k0_t4_body]
    sl_exec (disch := exact hw)
    sl_step
    isplitl [HO]; · iexists _; iexact HO
    rw [show (k.val + 1) * NN = k.val * NN + NN from Nat.succ_mul _ _]
    iexact HB
  · have hlast : k.val + 1 = k0_t3_loop.trips := by omega
    simp only [if_neg (Nat.not_lt.mpr hk1)]
    have hw : k.val * NN + 256 = 256 * k0_t3_loop.trips := by show k.val * 256 + 256 = _; omega
    iintro ⟨⟨%W, HO⟩, HB⟩
    dsimp only [k0_t4_body]
    sl_exec (disch := exact hw)
    sl_step
    isplitl [HO]; · iexists _; iexact HO
    isplitl [HB]; · iexact HB
    iexact HB_all

end Loops

/-! ## The two buffers before and after -/

section Whole

/-- The row a word names. -/
def row (w : BitVec 32) : Fin 8192 := ⟨w.toNat % 8192, Nat.mod_lt _ (by decide)⟩

/-- A trip's number as a row of the scratch. -/
abbrev tripOf (t : Fin 1024) : Fin k0_t3_loop.trips := Fin.cast trips_eq.symm t

/-- The scratch once every row is there: row `t` is the row of the array that word `t` names. -/
def took (w : Fin k0_t3_loop.trips → BitVec 32) (fr : S8192x2048.Idx → Elt F .f32) : S1024x2048.Idx → Elt F .f32 :=
  fun y => fr (ValueIdx.ix2 (row (w (tripOf (y 0)))) (y 1))

variable (c : Dev nD) {w : Fin k0_t3_loop.trips → BitVec 32} (hok : WordsOK w)
  (fx : Bf (F := F) c (Memref.whole cc0_scratch2)) (fr : Bf (F := F) c (Memref.whole main_v0))

/-- The rows of the scratch, each by its own elements. -/
abbrev vmRows : sProp 𝕄 :=
  bigSep (Ring.rangeSet k0_t3_loop.trips 0 k0_t3_loop.trips) (fun t => (vmM t).view.loc (c : Thread nD τ) ↦[(vmM t).view.set]{fullShare} fxAt c fx t)
/-- The named rows of the array, each by its own elements. -/
abbrev hbRows : sProp 𝕄 :=
  bigSep (Ring.rangeSet k0_t3_loop.trips 0 k0_t3_loop.trips) (fun t => (hbM (w t) (hb_inb _ (hok.lt t))).view.loc (c : Thread nD τ) ↦[(hbM (w t) (hb_inb _ (hok.lt t))).view.set]{fullShare} frAt c hok fr t)
/-- What is left of the scratch. -/
abbrev vmRest : sProp 𝕄 :=
  (Memref.whole cc0_scratch2 : Memref sig .tc .vmem S1024x2048 .f32).view.loc (c : Thread nD τ) ↦[Finset.univ \ Finset.univ.biUnion (vmSet c)]{fullShare} fx
/-- What is left of the array. -/
abbrev hbRest : sProp 𝕄 :=
  (Memref.whole main_v0 : Memref sig .tc .hbm S8192x2048 .f32).view.loc (c : Thread nD τ) ↦[Finset.univ \ Finset.univ.biUnion (hbSet c hok)]{fullShare} fr

set_option maxHeartbeats 400000 in
omit [FloatOps F] in
/-- The scratch is its rows and the rest of it. -/
theorem vm_split : (pt c (Memref.whole cc0_scratch2) fx : sProp 𝕄) = iprop(vmRows c fx ∗ vmRest c fx) := by
  unfold pt vmRows vmRest
  rw [Ring.rangeSet_univ]
  exact parts Finset.univ (vmSet c) (vmSet_disjoint c) fx

set_option maxHeartbeats 400000 in
omit [FloatOps F] in
/-- The array is the named rows and the rest of it. -/
theorem hb_split : (pt c (Memref.whole main_v0) fr : sProp 𝕄) = iprop(hbRows c hok fr ∗ hbRest c hok fr) := by
  unfold pt hbRows hbRest
  rw [Ring.rangeSet_univ]
  exact parts Finset.univ (hbSet c hok) (hbSet_disjoint c hok) fr

set_option maxRecDepth 16384 in
omit [FloatOps F] in
/-- Row `t` of the scratch, read, is its elements. -/
theorem read_vm (t : Fin k0_t3_loop.trips) (f : Bf (F := F) c (vmM t)) (z : S1x2048.Idx) :
    (vmM t).view.read (Elt F) f z = (show S1024x2048.Idx → Elt F .f32 from f) ((Rect.unit (s := S1024x2048) (k0_off7 t) S1x2048.size (vm_inb t)).emb z) := rfl

set_option maxRecDepth 16384 in
omit [FloatOps F] in
/-- A row of the array, read, is its elements. -/
theorem read_hb (u : BitVec 32) (hu) (f : Bf (F := F) c (hbM u hu)) (z : S1x2048.Idx) :
    (hbM u hu).view.read (Elt F) f z = (show S8192x2048.Idx → Elt F .f32 from f) ((Rect.unit (s := S8192x2048) (k0_off8 u) S1x2048.size hu).emb z) := rfl

set_option maxRecDepth 16384 in
set_option maxHeartbeats 400000 in
omit [FloatOps F] in
/-- On row `t`, what landed is what `took` says. -/
theorem landed_eq (t : Fin k0_t3_loop.trips) (y : S1024x2048.Idx) (hy : (y 0).val = t.val) :
    landed c hok fx fr t y = took w fr y := by
  have e0 : k0_off7 t 0 = t.val := by rw [k0_off7_eq t]; rfl
  have e1 : k0_off7 t 1 = 0 := by rw [k0_off7_eq t]; rfl
  have g0 : k0_off8 (w t) 0 = (w t).toNat := rfl
  have g1 : k0_off8 (w t) 1 = 0 := rfl
  have hz : (Rect.unit (s := S1024x2048) (k0_off7 t) S1x2048.size (vm_inb t)).emb (ValueIdx.ix2 (n0 := 1) (n1 := 2048) 0 (y 1)) = y := by
    funext a
    match a with
    | ⟨0, _⟩ => exact Fin.ext (by show k0_off7 t 0 + 1 * 0 = (y 0).val; omega)
    | ⟨1, _⟩ => exact Fin.ext (by show k0_off7 t 1 + 1 * (y 1).val = (y 1).val; omega)
  have hs : (Rect.unit (s := S8192x2048) (k0_off8 (w t)) S1x2048.size (hb_inb _ (hok.lt t))).emb (ValueIdx.ix2 (n0 := 1) (n1 := 2048) 0 (y 1))
      = ValueIdx.ix2 (row (w (tripOf (y 0)))) (y 1) := by
    have ht : tripOf (y 0) = t := Fin.ext hy
    rw [ht]
    have := hok.lt t
    funext a
    match a with
    | ⟨0, _⟩ => exact Fin.ext (by show k0_off8 (w t) 0 + 1 * 0 = (w t).toNat % 8192; rw [Nat.mod_eq_of_lt this]; omega)
    | ⟨1, _⟩ => exact Fin.ext (by show k0_off8 (w t) 1 + 1 * (y 1).val = (y 1).val; omega)
  have h := congrFun (View.read_writes_whole (Val := Elt F) (vmM t).view (fxAt c fx t)
    (ReadAs.same.apply ((hbM (w t) (hb_inb _ (hok.lt t))).view.read (Elt F) (frAt c hok fr t)))) (ValueIdx.ix2 (n0 := 1) (n1 := 2048) 0 (y 1))
  have hl : landed c hok fx fr t ((Rect.unit (s := S1024x2048) (k0_off7 t) S1x2048.size (vm_inb t)).emb (ValueIdx.ix2 (n0 := 1) (n1 := 2048) 0 (y 1)))
      = fr ((Rect.unit (s := S8192x2048) (k0_off8 (w t)) S1x2048.size (hb_inb _ (hok.lt t))).emb (ValueIdx.ix2 (n0 := 1) (n1 := 2048) 0 (y 1))) :=
    (read_vm c t (landed c hok fx fr t) _).symm.trans (h.trans (read_hb c _ _ (frAt c hok fr t) _))
  rw [hz, hs] at hl
  exact hl

set_option maxRecDepth 16384 in
set_option maxHeartbeats 400000 in
omit [FloatOps F] in
/-- All the copies landed beside what was left is the scratch as `took` says and the array as it was. -/
theorem join : iprop((bigSep Finset.univ fun t => D c hok fx fr t) ∗ vmRest c fx ∗ hbRest c hok fr)
    ⊢ iprop(pt c (Memref.whole cc0_scratch2) (took w fr) ∗ pt c (Memref.whole main_v0) fr) := by
  have h1 : ∀ t ∈ (Finset.univ : Finset (Fin k0_t3_loop.trips)),
      ((Memref.whole cc0_scratch2 : Memref sig .tc .vmem S1024x2048 .f32).view.loc (c : Thread nD τ) ↦[vmSet c t]{fullShare} landed c hok fx fr t : sProp 𝕄)
        = ((Memref.whole cc0_scratch2 : Memref sig .tc .vmem S1024x2048 .f32).view.loc (c : Thread nD τ) ↦[vmSet c t]{fullShare} (took w fr : Bf (F := F) c (Memref.whole cc0_scratch2))) :=
    fun t _ => pointsTo_congr fun y hy => landed_eq c hok fx fr t y ((mem_vmSet c t y).mp hy)
  have h2 : (vmRest c fx : sProp 𝕄) = vmRest c (took w fr) :=
    pointsTo_congr fun y hy => absurd (Finset.mem_biUnion.mpr ⟨tripOf (y 0), Finset.mem_univ _, (mem_vmSet c _ y).mpr rfl⟩) (Finset.mem_sdiff.mp hy).2
  rw [vm_split c (took w fr), hb_split c hok fr, ← h2]
  unfold vmRows hbRows
  rw [Ring.rangeSet_univ]
  have hD : (bigSep Finset.univ fun t => D c hok fx fr t : sProp 𝕄)
      = iprop((bigSep Finset.univ fun t => (vmM t).view.loc (c : Thread nD τ) ↦[(vmM t).view.set]{fullShare} fxAt c (took w fr) t)
        ∗ (bigSep Finset.univ fun t => (hbM (w t) (hb_inb _ (hok.lt t))).view.loc (c : Thread nD τ) ↦[(hbM (w t) (hb_inb _ (hok.lt t))).view.set]{fullShare} frAt c hok fr t)) := by
    refine (BI.bigSep_sep _ _ _).trans ?_
    rw [show (bigSep Finset.univ fun t => (vmM t).view.loc (c : Thread nD τ) ↦[(vmM t).view.set]{fullShare} landed c hok fx fr t : sProp 𝕄) = _ from BI.bigSep_congr h1]
    rfl
  rw [hD]
  iintro ⟨⟨A, B⟩, C, E⟩
  isplitl [A C]
  · isplitl [A]; · iexact A
    iexact C
  · isplitl [B]; · iexact B
    iexact E

end Whole

section Enter

variable (c : Dev nD) (M0 : Memref sig .tc .smem S1x1x1024 .i32) (f0 : Bf (F := F) c M0)
  (hok : WordsOK (wd M0 f0)) (fx : Bf (F := F) c (Memref.whole cc0_scratch2)) (fr : Bf (F := F) c (Memref.whole main_v0))

set_option maxHeartbeats 400000 in
/-- The first loop starts with no copy started and every row in hand. -/
theorem issue_first : iprop(batch c hok fx fr 0 0 ∗ vmRows c fx ∗ hbRows c hok fr ∗ pt c M0 f0) ⊢ issueAt c M0 f0 hok fx fr 0 () := by
  unfold issueAt; exact Entails.rfl

set_option maxHeartbeats 400000 in
/-- It ends with every copy started. -/
theorem issue_last (acc : Unit) : issueAt c M0 f0 hok fx fr k0_t3_loop.trips acc ⊢ iprop(batch c hok fx fr k0_t3_loop.trips 0 ∗ pt c M0 f0) := by
  unfold issueAt
  simp only [Ring.bigSep_rangeSet_empty (le_refl _)]
  iintro ⟨A, -, -, B⟩
  isplitl [A] <;> iassumption

set_option maxHeartbeats 400000 in
/-- The second loop starts with nothing taken. -/
theorem drain_first : iprop((∃ W, owes (c : Thread nD τ) 0 W) ∗ batch c hok fx fr k0_t3_loop.trips 0) ⊢ drainAt c M0 f0 hok fx fr 0 () := by
  unfold drainAt
  rw [if_pos (by decide), Nat.zero_mul]

set_option maxHeartbeats 400000 in
/-- It ends with the semaphore at zero and every row handed back. -/
theorem drain_last (acc : Unit) : drainAt c M0 f0 hok fx fr k0_t4_loop.trips acc
    ⊢ iprop((∃ W, owes (c : Thread nD τ) 0 W) ∗ semVal ((c : Thread nD τ), sm) 0
        ∗ bigSep Finset.univ (fun t : Fin k0_t3_loop.trips => D c hok fx fr t)) := by
  unfold drainAt
  rw [if_neg (by decide)]

end Enter

end Cert.MoeIdeal.Fetch

end
-- ==== Proof.MoeIdealScatter.lean ====
/-
  An expert's rows are copied, one by one, from the scratch back into the accumulated result.
-/
module

public import proofs.«01_k».proof.Proof.Gen.MoeIdeal
public import proofs.«01_k».proof.Proof.Gen.MoeIdeal.Skeleton
public import proofs.«01_k».proof.Proof.Gen.MoeIdeal.Launch
public import Idealize.ShloMosaic.Lib.Pipeline.Routed
public import Idealize.ShloMosaic.Lib.Batch
public import Idealize.ShloMosaic.Lib.Ring
public import Idealize.ShloMosaic.Lib.Tactic
public import Idealize.ShloMosaic.Lib.ValueIdxCore
public meta import Idealize.ShloMosaic.Lib.Tactic

@[expose] public section

noncomputable section

namespace Cert.MoeIdeal.Scatter

open Cert.MoeIdeal Cert.MoeIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (UC)

variable {F : FTy → Type} [FloatOps F]

local notation "𝕄" => MT nD τ sig Unit (Elt F) ℕ (UC sig nD τ) ℕ

/-- The contents of memref `M`'s buffer on core `c`. -/
abbrev Bf (c : Dev nD) {sp : Space} {S : Shape} {e : EltTy} (M : Memref sig .tc sp S e) : Type :=
  Buf (Elt F) (M.view.loc (c : Thread nD τ))

/-- Memref `M`'s buffer on core `c`, all of it, holding `f`. -/
abbrev pt (c : Dev nD) {sp : Space} {S : Shape} {e : EltTy} (M : Memref sig .tc sp S e) (f : Bf (F := F) c M) : sProp 𝕄 :=
  M.view.loc (c : Thread nD τ) ↦{fullShare} f

/-- Both loops make 1024 trips. -/
theorem trips_eq : k0_t5_loop.trips = 1024 := by decide
/-- Both loops make 1024 trips. -/
theorem trips2_eq : k0_t6_loop.trips = 1024 := by decide

/-- The only index of a one-word vector. -/
abbrev i0 : S1x1x1.Idx := Shape.Idx.first (s := S1x1x1) (numel1_S1x1x1.symm ▸ Nat.one_pos)

/-- A trip's word lies inside the block of row numbers. -/
theorem wd_inb (t : Fin k0_t5_loop.trips) : ∀ a, k0_off11 t a + S1x1x1.size a ≤ S1x1x1024.size a := by
  have ht : t.val < 1024 := trips_eq ▸ t.isLt
  intro a
  rw [k0_off11_eq t]
  match a with
  | ⟨0, _⟩ => show 0 + 1 ≤ 1; omega
  | ⟨1, _⟩ => show 0 + 1 ≤ 1; omega
  | ⟨2, _⟩ => show t.val + 1 ≤ 1024; omega

/-- The row number trip `t` reads. -/
abbrev wd (M0 : Memref sig .tc .smem S1x1x1024 .i32) {c : Dev nD} (f0 : Bf (F := F) c M0) (t : Fin k0_t5_loop.trips) : BitVec 32 :=
  M0.view.readAt (Elt F) (Rect.unit (s := S1x1x1024) (k0_off11 t) S1x1x1.size (wd_inb t)).toLoadRect f0 i0

/-- What the copies ask of the row numbers: rows of the array, no two alike. -/
structure WordsOK (w : Fin k0_t5_loop.trips → BitVec 32) : Prop where
  lt : ∀ t, (w t).toNat < 8192
  inj : ∀ t t', (w t).toNat = (w t').toNat → t = t'

/-- A row whose number is below 8192 lies inside the array. -/
theorem hb_inb (w : BitVec 32) (hw : w.toNat < 8192) : ∀ a, k0_off12 w a + S1x2048.size a ≤ S8192x2048.size a := by
  have e0 : k0_off12 w 0 = w.toNat := rfl
  have e1 : k0_off12 w 1 = 0 := rfl
  intro a
  match a with
  | ⟨0, _⟩ => show k0_off12 w 0 + 1 ≤ 8192; omega
  | ⟨1, _⟩ => show k0_off12 w 1 + 2048 ≤ 2048; omega

/-- Row `t` lies inside the scratch. -/
theorem vm_inb (t : Fin k0_t5_loop.trips) : ∀ a, k0_off13 t a + S1x2048.size a ≤ S1024x2048.size a := by
  have ht : t.val < 1024 := trips_eq ▸ t.isLt
  intro a
  rw [k0_off13_eq t]
  match a with
  | ⟨0, _⟩ => show t.val + 1 ≤ 1024; omega
  | ⟨1, _⟩ => show 0 + 2048 ≤ 2048; omega

/-- Row `w` of the array. -/
def hbM (w : BitVec 32) (h : ∀ a, k0_off12 w a + S1x2048.size a ≤ S8192x2048.size a) : Memref sig .tc .hbm S1x2048 .f32 :=
  (Memref.whole main_v0).slice (Rect.unit (s := S8192x2048) (k0_off12 w) S1x2048.size h) (fun _ => rfl)
/-- Row `t` of the scratch. -/
def vmM (t : Fin k0_t5_loop.trips) : Memref sig .tc .vmem S1x2048 .f32 :=
  (Memref.whole cc0_scratch2).slice (Rect.unit (s := S1024x2048) (k0_off13 t) S1x2048.size (vm_inb t)) (fun _ => rfl)

/-- What one row's copy adds to the semaphore. -/
abbrev NN : ℕ := 256

/-- The semaphore of these copies. -/
abbrev sm : SemLoc sig :=
  .dma ((cc0_scratch3.slice (Rect.unit (s := S3) ![2] S1.size inb_S3_S1_2)).squeeze S_ squeezes_S1_S_).sem

section Deliveries

variable (c : Dev nD) {w : Fin k0_t5_loop.trips → BitVec 32} (hok : WordsOK w)
  (fx : Bf (F := F) c (Memref.whole cc0_scratch2)) (fr : Bf (F := F) c (Memref.whole main_v0))

/-- The scratch's contents, seen from row `t`. -/
abbrev fxAt (t : Fin k0_t5_loop.trips) : Buf (Elt F) ((vmM t).view.loc (c : Thread nD τ)) := fx
/-- The array's contents, seen from the row trip `t` names. -/
abbrev frAt (t : Fin k0_t5_loop.trips) : Buf (Elt F) ((hbM (w t) (hb_inb _ (hok.lt t))).view.loc (c : Thread nD τ)) := fr

/-- What the written buffer holds on row `t` once its copy has landed. -/
abbrev landed (t : Fin k0_t5_loop.trips) : Buf (Elt F) ((hbM (w t) (hb_inb _ (hok.lt t))).view.loc (c : Thread nD τ)) :=
  (hbM (w t) (hb_inb _ (hok.lt t))).view.writes (Elt F) (frAt c hok fr t) [⟨Rect.whole S1x2048, ReadAs.same.apply ((vmM t).view.read (Elt F) (fxAt c fx t))⟩]

/-- What copy `t` hands back: the written row, landed, and the row it was read from. -/
abbrev D (t : Fin k0_t5_loop.trips) : sProp 𝕄 :=
  iprop(((hbM (w t) (hb_inb _ (hok.lt t))).view.loc (c : Thread nD τ) ↦[(hbM (w t) (hb_inb _ (hok.lt t))).view.set]{fullShare} landed c hok fx fr t)
    ∗ ((vmM t).view.loc (c : Thread nD τ) ↦[(vmM t).view.set]{fullShare} (fxAt c fx t)))

/-- What a copy hands back can be kept in an invariant. -/
instance D_storable (t : Fin k0_t5_loop.trips) : BI.Storable (upEmb : UEmb _ 𝕄) (D c hok fx fr t) := by
  unfold D; infer_instance

/-- The copies as one batch: `j` started, `u` units of the semaphore taken. -/
abbrev batch (j u : ℕ) : sProp 𝕄 :=
  Transfers.Batch countersEmb (c : Thread nD τ) sm () NN (fun t : Fin k0_t5_loop.trips => D c hok fx fr t) j u

/-- The array's elements on the row trip `t` names. -/
abbrev hbSet (t : Fin k0_t5_loop.trips) : Finset (Idx ((Memref.whole main_v0 : Memref sig .tc .hbm S8192x2048 .f32).view.loc (c : Thread nD τ))) :=
  (hbM (w t) (hb_inb _ (hok.lt t))).view.set
/-- The scratch's elements on row `t`. -/
abbrev vmSet (t : Fin k0_t5_loop.trips) : Finset (Idx ((Memref.whole cc0_scratch2 : Memref sig .tc .vmem S1024x2048 .f32).view.loc (c : Thread nD τ))) :=
  (vmM t).view.set

end Deliveries

section Rows

variable (c : Dev nD) {w : Fin k0_t5_loop.trips → BitVec 32} (hok : WordsOK w)

omit [FloatOps F] in
/-- An element of the array is on row `w t` when its first coordinate is that number. -/
theorem mem_hbSet (t : Fin k0_t5_loop.trips) (y : S8192x2048.Idx) : y ∈ hbSet c hok t ↔ (y 0).val = (w t).toNat := by
  have e0 : k0_off12 (w t) 0 = (w t).toNat := rfl
  have e1 : k0_off12 (w t) 1 = 0 := rfl
  have hs : hbSet c hok t = (Rect.unit (s := S8192x2048) (k0_off12 (w t)) S1x2048.size (hb_inb _ (hok.lt t))).set := by
    unfold hbSet hbM; exact View.set_slice_whole _ _
  rw [hs, Rect.mem_set_unit]
  constructor
  · intro H
    have a0 : k0_off12 (w t) 0 ≤ (y 0).val ∧ (y 0).val < k0_off12 (w t) 0 + 1 := H 0
    omega
  · intro H a
    match a with
    | ⟨0, _⟩ => show k0_off12 (w t) 0 ≤ (y 0).val ∧ (y 0).val < k0_off12 (w t) 0 + 1; omega
    | ⟨1, _⟩ =>
      have hy : (y 1).val < 2048 := (y 1).isLt
      show k0_off12 (w t) 1 ≤ (y 1).val ∧ (y 1).val < k0_off12 (w t) 1 + 2048; omega

omit [FloatOps F] in
/-- An element of the scratch is on row `t` when its first coordinate is `t`. -/
theorem mem_vmSet (t : Fin k0_t5_loop.trips) (y : S1024x2048.Idx) : y ∈ vmSet c t ↔ (y 0).val = t.val := by
  have e0 : k0_off13 t 0 = t.val := by rw [k0_off13_eq t]; rfl
  have e1 : k0_off13 t 1 = 0 := by rw [k0_off13_eq t]; rfl
  have hs : vmSet c t = (Rect.unit (s := S1024x2048) (k0_off13 t) S1x2048.size (vm_inb t)).set := by
    unfold vmSet vmM; exact View.set_slice_whole _ _
  rw [hs, Rect.mem_set_unit]
  constructor
  · intro H
    have a0 : k0_off13 t 0 ≤ (y 0).val ∧ (y 0).val < k0_off13 t 0 + 1 := H 0
    omega
  · intro H a
    match a with
    | ⟨0, _⟩ => show k0_off13 t 0 ≤ (y 0).val ∧ (y 0).val < k0_off13 t 0 + 1; omega
    | ⟨1, _⟩ =>
      have hy : (y 1).val < 2048 := (y 1).isLt
      show k0_off13 t 1 ≤ (y 1).val ∧ (y 1).val < k0_off13 t 1 + 2048; omega

omit [FloatOps F] in
/-- Different trips name disjoint rows of the array. -/
theorem hbSet_disjoint : ∀ t ∈ (Finset.univ : Finset (Fin k0_t5_loop.trips)), ∀ t' ∈ (Finset.univ : Finset (Fin k0_t5_loop.trips)), t ≠ t' →
    Disjoint (hbSet c hok t) (hbSet c hok t') := by
  intro t _ t' _ hne
  rw [Finset.disjoint_left]; intro y hy hy'
  rw [mem_hbSet] at hy hy'
  exact hne (hok.inj t t' (hy.symm.trans hy'))

omit [FloatOps F] in
/-- Different rows of the scratch are disjoint. -/
theorem vmSet_disjoint : ∀ t ∈ (Finset.univ : Finset (Fin k0_t5_loop.trips)), ∀ t' ∈ (Finset.univ : Finset (Fin k0_t5_loop.trips)), t ≠ t' →
    Disjoint (vmSet c t) (vmSet c t') := by
  intro t _ t' _ hne
  rw [Finset.disjoint_left]; intro y hy hy'
  rw [mem_vmSet] at hy hy'
  exact hne (Fin.ext (hy.symm.trans hy'))

omit [FloatOps F] in
/-- A buffer is a family of disjoint parts of it beside what is left. -/
theorem parts {ℓ : Loc nD τ sig} {T : Type} (S : Finset T) (K : T → Finset (Idx ℓ))
    (hd : ∀ t ∈ S, ∀ t' ∈ S, t ≠ t' → Disjoint (K t) (K t')) (g : Buf (Elt F) ℓ) :
    (ℓ ↦{fullShare} g : sProp 𝕄)
      = iprop((bigSep S fun t => ℓ ↦[K t]{fullShare} g) ∗ ℓ ↦[Finset.univ \ S.biUnion K]{fullShare} g) := by
  have h : (ℓ ↦[Finset.univ]{fullShare} g : sProp 𝕄)
      ⊣⊢ iprop((ℓ ↦[S.biUnion K]{fullShare} g) ∗ ℓ ↦[Finset.univ \ S.biUnion K]{fullShare} g) :=
    pointsTo_split_subset (Finset.subset_univ (S.biUnion K))
  exact (BI.equiv_iff.mp ⟨h.1, h.2⟩).trans (by rw [pointsTo_biUnion S K hd])

end Rows

section Loops

variable (c : Dev nD) (M0 : Memref sig .tc .smem S1x1x1024 .i32) (f0 : Bf (F := F) c M0)
  (hok : WordsOK (wd M0 f0)) (fx : Bf (F := F) c (Memref.whole cc0_scratch2)) (fr : Bf (F := F) c (Memref.whole main_v0))
  (i : grid0.Coords) (hc : k0_cond2 i = 1#1) (h0 : M0.IsWhole)
  (M5 : Memref sig .tc .vmem S1x1x2048x256 .f32) (h5 : M5.IsWhole) (M6 : Memref sig .tc .vmem S1x1x2048x256 .f32) (h6 : M6.IsWhole)
  (M7 : Memref sig .tc .vmem S1x1x256x2048 .f32) (h7 : M7.IsWhole) (M8 : Memref sig .tc .vmem S8x2048 .f32) (h8 : M8.IsWhole)

/-- Before trip `k` of the first loop: `k` copies started, and the rows of the others in hand. -/
def issueAt (k : ℕ) (_ : Unit) : sProp 𝕄 :=
  iprop(batch c hok fx fr k 0
    ∗ bigSep (Ring.rangeSet k0_t5_loop.trips k k0_t5_loop.trips) (fun t => (vmM t).view.loc (c : Thread nD τ) ↦[(vmM t).view.set]{fullShare} fxAt c fx t)
    ∗ bigSep (Ring.rangeSet k0_t5_loop.trips k k0_t5_loop.trips) (fun t => (hbM (wd M0 f0 t) (hb_inb _ (hok.lt t))).view.loc (c : Thread nD τ) ↦[(hbM (wd M0 f0 t) (hb_inb _ (hok.lt t))).view.set]{fullShare} frAt c hok fr t)
    ∗ pt c M0 f0)

set_option maxRecDepth 16384 in
set_option maxHeartbeats 4000000 in
/-- A trip of the first loop reads its word and starts its copy. -/
theorem issue_step [∀ e, Nonempty (Elt F e)] (k : Fin k0_t5_loop.trips) (acc : Unit) :
    issueAt c M0 f0 hok fx fr k acc
      ⊢ wp frame (wpE (defs₀ (F := F)) Variants.none c none) Set.univ
          (k0_t5_body i M0 h0 (Memref.whole main_arg1) (Memref.isWhole_whole _) (Memref.whole main_v0) (Memref.isWhole_whole _) M5 h5 M6 h6 M7 h7 M8 h8
            (Memref.whole main_v0) (Memref.isWhole_whole _) (Memref.whole cc0_scratch0) (Memref.isWhole_whole _)
            (Memref.whole cc0_scratch1) (Memref.isWhole_whole _) (Memref.whole cc0_scratch2) (Memref.isWhole_whole _) cc0_scratch3 hc k acc)
          (issueAt c M0 f0 hok fx fr (k.val + 1)) := by
  have hkT : k.val < 1024 := trips_eq ▸ k.isLt
  have hchk : k0_chk3 i (wd M0 f0 k) := by
    unfold k0_chk3; exact fun _ => hb_inb _ (hok.lt k)
  unfold issueAt
  rw [Ring.bigSep_rangeSet_head (Φ := fun t => (vmM t).view.loc (c : Thread nD τ) ↦[(vmM t).view.set]{fullShare} fxAt c fx t) k.isLt k.isLt,
    Ring.bigSep_rangeSet_head (Φ := fun t => (hbM (wd M0 f0 t) (hb_inb _ (hok.lt t))).view.loc (c : Thread nD τ) ↦[(hbM (wd M0 f0 t) (hb_inb _ (hok.lt t))).view.set]{fullShare} frAt c hok fr t) k.isLt k.isLt]
  iintro ⟨HB, ⟨HP, HPs⟩, ⟨HS, HSs⟩, H0⟩
  dsimp only [k0_t5_body]
  sl_exec (disch := exact hchk)
  sl_step
  isplitl [HB]; · iexact HB
  isplitl [HPs]; · iexact HPs
  isplitl [HSs]; · iexact HSs
  iexact H0

/-- Before trip `k` of the second loop: `k` rows' credit taken, or, after the last, all of them back. -/
def drainAt (k : ℕ) (_ : Unit) : sProp 𝕄 :=
  iprop((∃ W, owes (c : Thread nD τ) 0 W)
    ∗ (if k < k0_t5_loop.trips then batch c hok fx fr k0_t5_loop.trips (k * NN)
       else iprop(semVal ((c : Thread nD τ), sm) 0
              ∗ bigSep Finset.univ (fun t : Fin k0_t5_loop.trips => D c hok fx fr t))))

set_option maxRecDepth 16384 in
set_option maxHeartbeats 4000000 in
/-- A trip of the second loop waits for one row; the last one hands every row back. -/
theorem drain_step [∀ e, Nonempty (Elt F e)] (k : Fin k0_t6_loop.trips) (acc : Unit) :
    drainAt c M0 f0 hok fx fr k acc
      ⊢ wp frame (wpE (defs₀ (F := F)) Variants.none c none) Set.univ
          (k0_t6_body i M0 h0 (Memref.whole main_arg1) (Memref.isWhole_whole _) (Memref.whole main_v0) (Memref.isWhole_whole _) M5 h5 M6 h6 M7 h7 M8 h8
            (Memref.whole main_v0) (Memref.isWhole_whole _) (Memref.whole cc0_scratch0) (Memref.isWhole_whole _)
            (Memref.whole cc0_scratch1) (Memref.isWhole_whole _) (Memref.whole cc0_scratch2) (Memref.isWhole_whole _) cc0_scratch3 hc k acc)
          (drainAt c M0 f0 hok fx fr (k.val + 1)) := by
  have hkT : k.val < 1024 := trips2_eq ▸ k.isLt
  have hT : k0_t5_loop.trips = 1024 := trips_eq
  have hk : k.val < k0_t5_loop.trips := by omega
  unfold drainAt
  simp only [if_pos hk]
  rcases Nat.lt_or_ge (k.val + 1) k0_t5_loop.trips with hk1 | hk1
  · simp only [if_pos hk1]
    have hw : k.val * NN + 256 < 256 * k0_t5_loop.trips := by show k.val * 256 + 256 < _; omega
    iintro ⟨⟨%W, HO⟩, HB⟩
    dsimp only [k0_t6_body]
    sl_exec (disch := exact hw)
    sl_step
    isplitl [HO]; · iexists _; iexact HO
    rw [show (k.val + 1) * NN = k.val * NN + NN from Nat.succ_mul _ _]
    iexact HB
  · have hlast : k.val + 1 = k0_t5_loop.trips := by omega
    simp only [if_neg (Nat.not_lt.mpr hk1)]
    have hw : k.val * NN + 256 = 256 * k0_t5_loop.trips := by show k.val * 256 + 256 = _; omega
    iintro ⟨⟨%W, HO⟩, HB⟩
    dsimp only [k0_t6_body]
    sl_exec (disch := exact hw)
    sl_step
    isplitl [HO]; · iexists _; iexact HO
    isplitl [HB]; · iexact HB
    iexact HB_all

end Loops

/-! ## The two buffers before and after -/

section Whole

/-- The row a word names. -/
def row (w : BitVec 32) : Fin 8192 := ⟨w.toNat % 8192, Nat.mod_lt _ (by decide)⟩

/-- A trip's number as a row of the scratch. -/
abbrev tripOf (t : Fin 1024) : Fin k0_t5_loop.trips := Fin.cast trips_eq.symm t

open Classical in
/-- The array once every row is back: the row word `t` names is row `t` of the scratch, any other as it was. -/
def gave (w : Fin k0_t5_loop.trips → BitVec 32) (fx : S1024x2048.Idx → Elt F .f32) (fr : S8192x2048.Idx → Elt F .f32) : S8192x2048.Idx → Elt F .f32 :=
  fun y => if h : ∃ t : Fin 1024, (w (tripOf t)).toNat = (y 0).val then fx (ValueIdx.ix2 h.choose (y 1)) else fr y

variable (c : Dev nD) {w : Fin k0_t5_loop.trips → BitVec 32} (hok : WordsOK w)
  (fx : Bf (F := F) c (Memref.whole cc0_scratch2)) (fr : Bf (F := F) c (Memref.whole main_v0))

/-- The rows of the scratch, each by its own elements. -/
abbrev vmRows : sProp 𝕄 :=
  bigSep (Ring.rangeSet k0_t5_loop.trips 0 k0_t5_loop.trips) (fun t => (vmM t).view.loc (c : Thread nD τ) ↦[(vmM t).view.set]{fullShare} fxAt c fx t)
/-- The named rows of the array, each by its own elements. -/
abbrev hbRows : sProp 𝕄 :=
  bigSep (Ring.rangeSet k0_t5_loop.trips 0 k0_t5_loop.trips) (fun t => (hbM (w t) (hb_inb _ (hok.lt t))).view.loc (c : Thread nD τ) ↦[(hbM (w t) (hb_inb _ (hok.lt t))).view.set]{fullShare} frAt c hok fr t)
/-- What is left of the scratch. -/
abbrev vmRest : sProp 𝕄 :=
  (Memref.whole cc0_scratch2 : Memref sig .tc .vmem S1024x2048 .f32).view.loc (c : Thread nD τ) ↦[Finset.univ \ Finset.univ.biUnion (vmSet c)]{fullShare} fx
/-- What is left of the array. -/
abbrev hbRest : sProp 𝕄 :=
  (Memref.whole main_v0 : Memref sig .tc .hbm S8192x2048 .f32).view.loc (c : Thread nD τ) ↦[Finset.univ \ Finset.univ.biUnion (hbSet c hok)]{fullShare} fr

set_option maxHeartbeats 400000 in
omit [FloatOps F] in
/-- The scratch is its rows and the rest of it. -/
theorem vm_split : (pt c (Memref.whole cc0_scratch2) fx : sProp 𝕄) = iprop(vmRows c fx ∗ vmRest c fx) := by
  unfold pt vmRows vmRest
  rw [Ring.rangeSet_univ]
  exact parts Finset.univ (vmSet c) (vmSet_disjoint c) fx

set_option maxHeartbeats 400000 in
omit [FloatOps F] in
/-- The array is the named rows and the rest of it. -/
theorem hb_split : (pt c (Memref.whole main_v0) fr : sProp 𝕄) = iprop(hbRows c hok fr ∗ hbRest c hok fr) := by
  unfold pt hbRows hbRest
  rw [Ring.rangeSet_univ]
  exact parts Finset.univ (hbSet c hok) (hbSet_disjoint c hok) fr

set_option maxRecDepth 16384 in
omit [FloatOps F] in
/-- Row `t` of the scratch, read, is its elements. -/
theorem read_vm (t : Fin k0_t5_loop.trips) (f : Bf (F := F) c (vmM t)) (z : S1x2048.Idx) :
    (vmM t).view.read (Elt F) f z = (show S1024x2048.Idx → Elt F .f32 from f) ((Rect.unit (s := S1024x2048) (k0_off13 t) S1x2048.size (vm_inb t)).emb z) := rfl

set_option maxRecDepth 16384 in
omit [FloatOps F] in
/-- A row of the array, read, is its elements. -/
theorem read_hb (u : BitVec 32) (hu) (f : Bf (F := F) c (hbM u hu)) (z : S1x2048.Idx) :
    (hbM u hu).view.read (Elt F) f z = (show S8192x2048.Idx → Elt F .f32 from f) ((Rect.unit (s := S8192x2048) (k0_off12 u) S1x2048.size hu).emb z) := rfl

set_option maxRecDepth 16384 in
set_option maxHeartbeats 400000 in
omit [FloatOps F] in
/-- On the row word `t` names, what landed is what `gave` says. -/
theorem landed_eq (t : Fin k0_t5_loop.trips) (y : S8192x2048.Idx) (hy : (y 0).val = (w t).toNat) :
    landed c hok fx fr t y = gave w fx fr y := by
  have e0 : k0_off13 t 0 = t.val := by rw [k0_off13_eq t]; rfl
  have e1 : k0_off13 t 1 = 0 := by rw [k0_off13_eq t]; rfl
  have g0 : k0_off12 (w t) 0 = (w t).toNat := rfl
  have g1 : k0_off12 (w t) 1 = 0 := rfl
  have hex : ∃ u : Fin 1024, (w (tripOf u)).toNat = (y 0).val := ⟨Fin.cast trips_eq t, hy.symm⟩
  have hc : tripOf hex.choose = t := hok.inj _ _ (hex.choose_spec.trans hy)
  have hv : hex.choose.val = t.val := congrArg Fin.val hc
  have hg : gave w fx fr y = fx (ValueIdx.ix2 hex.choose (y 1)) := dif_pos hex
  have hz : (Rect.unit (s := S8192x2048) (k0_off12 (w t)) S1x2048.size (hb_inb _ (hok.lt t))).emb (ValueIdx.ix2 (n0 := 1) (n1 := 2048) 0 (y 1)) = y := by
    funext a
    match a with
    | ⟨0, _⟩ => exact Fin.ext (by show k0_off12 (w t) 0 + 1 * 0 = (y 0).val; omega)
    | ⟨1, _⟩ => exact Fin.ext (by show k0_off12 (w t) 1 + 1 * (y 1).val = (y 1).val; omega)
  have hs : (Rect.unit (s := S1024x2048) (k0_off13 t) S1x2048.size (vm_inb t)).emb (ValueIdx.ix2 (n0 := 1) (n1 := 2048) 0 (y 1))
      = ValueIdx.ix2 hex.choose (y 1) := by
    funext a
    match a with
    | ⟨0, _⟩ => exact Fin.ext (by show k0_off13 t 0 + 1 * 0 = hex.choose.val; omega)
    | ⟨1, _⟩ => exact Fin.ext (by show k0_off13 t 1 + 1 * (y 1).val = (y 1).val; omega)
  have h := congrFun (View.read_writes_whole (Val := Elt F) (hbM (w t) (hb_inb _ (hok.lt t))).view (frAt c hok fr t)
    (ReadAs.same.apply ((vmM t).view.read (Elt F) (fxAt c fx t)))) (ValueIdx.ix2 (n0 := 1) (n1 := 2048) 0 (y 1))
  have hl : landed c hok fx fr t ((Rect.unit (s := S8192x2048) (k0_off12 (w t)) S1x2048.size (hb_inb _ (hok.lt t))).emb (ValueIdx.ix2 (n0 := 1) (n1 := 2048) 0 (y 1)))
      = fx ((Rect.unit (s := S1024x2048) (k0_off13 t) S1x2048.size (vm_inb t)).emb (ValueIdx.ix2 (n0 := 1) (n1 := 2048) 0 (y 1))) :=
    (read_hb c _ _ (landed c hok fx fr t) _).symm.trans (h.trans (read_vm c t (fxAt c fx t) _))
  rw [hz, hs] at hl
  exact hl.trans hg.symm

set_option maxRecDepth 16384 in
set_option maxHeartbeats 400000 in
omit [FloatOps F] in
/-- All the copies landed beside what was left is the array as `gave` says and the scratch as it was. -/
theorem join : iprop((bigSep Finset.univ fun t => D c hok fx fr t) ∗ vmRest c fx ∗ hbRest c hok fr)
    ⊢ iprop(pt c (Memref.whole cc0_scratch2) fx ∗ pt c (Memref.whole main_v0) (gave w fx fr)) := by
  have h1 : ∀ t ∈ (Finset.univ : Finset (Fin k0_t5_loop.trips)),
      ((Memref.whole main_v0 : Memref sig .tc .hbm S8192x2048 .f32).view.loc (c : Thread nD τ) ↦[hbSet c hok t]{fullShare} landed c hok fx fr t : sProp 𝕄)
        = ((Memref.whole main_v0 : Memref sig .tc .hbm S8192x2048 .f32).view.loc (c : Thread nD τ) ↦[hbSet c hok t]{fullShare} (gave w fx fr : Bf (F := F) c (Memref.whole main_v0))) :=
    fun t _ => pointsTo_congr fun y hy => landed_eq c hok fx fr t y ((mem_hbSet c hok t y).mp hy)
  have h2 : (hbRest c hok fr : sProp 𝕄) = hbRest c hok (gave w fx fr) :=
    pointsTo_congr fun y hy => by
      have hn : ¬ ∃ u : Fin 1024, (w (tripOf u)).toNat = (y 0).val := fun hex => by
        obtain ⟨u, hu⟩ := hex
        exact (Finset.mem_sdiff.mp hy).2 (Finset.mem_biUnion.mpr ⟨tripOf u, Finset.mem_univ _, (mem_hbSet c hok _ y).mpr hu.symm⟩)
      have he : gave w fx fr y = fr y := dif_neg hn
      exact he.symm
  rw [vm_split c fx, hb_split c hok (gave w fx fr), ← h2]
  unfold vmRows hbRows
  rw [Ring.rangeSet_univ]
  have hD : (bigSep Finset.univ fun t => D c hok fx fr t : sProp 𝕄)
      = iprop((bigSep Finset.univ fun t => (hbM (w t) (hb_inb _ (hok.lt t))).view.loc (c : Thread nD τ) ↦[(hbM (w t) (hb_inb _ (hok.lt t))).view.set]{fullShare} frAt c hok (gave w fx fr) t)
        ∗ (bigSep Finset.univ fun t => (vmM t).view.loc (c : Thread nD τ) ↦[(vmM t).view.set]{fullShare} fxAt c fx t)) := by
    refine (BI.bigSep_sep _ _ _).trans ?_
    rw [show (bigSep Finset.univ fun t => (hbM (w t) (hb_inb _ (hok.lt t))).view.loc (c : Thread nD τ) ↦[(hbM (w t) (hb_inb _ (hok.lt t))).view.set]{fullShare} landed c hok fx fr t : sProp 𝕄) = _ from BI.bigSep_congr h1]
    rfl
  rw [hD]
  iintro ⟨⟨A, B⟩, C, E⟩
  isplitl [B C]
  · isplitl [B]; · iexact B
    iexact C
  · isplitl [A]; · iexact A
    iexact E

end Whole

section Enter

variable (c : Dev nD) (M0 : Memref sig .tc .smem S1x1x1024 .i32) (f0 : Bf (F := F) c M0)
  (hok : WordsOK (wd M0 f0)) (fx : Bf (F := F) c (Memref.whole cc0_scratch2)) (fr : Bf (F := F) c (Memref.whole main_v0))

set_option maxHeartbeats 400000 in
/-- The first loop starts with no copy started and every row in hand. -/
theorem issue_first : iprop(batch c hok fx fr 0 0 ∗ vmRows c fx ∗ hbRows c hok fr ∗ pt c M0 f0) ⊢ issueAt c M0 f0 hok fx fr 0 () := by
  unfold issueAt; exact Entails.rfl

set_option maxHeartbeats 400000 in
/-- It ends with every copy started. -/
theorem issue_last (acc : Unit) : issueAt c M0 f0 hok fx fr k0_t5_loop.trips acc ⊢ iprop(batch c hok fx fr k0_t5_loop.trips 0 ∗ pt c M0 f0) := by
  unfold issueAt
  simp only [Ring.bigSep_rangeSet_empty (le_refl _)]
  iintro ⟨A, -, -, B⟩
  isplitl [A] <;> iassumption

set_option maxHeartbeats 400000 in
/-- The second loop starts with nothing taken. -/
theorem drain_first : iprop((∃ W, owes (c : Thread nD τ) 0 W) ∗ batch c hok fx fr k0_t5_loop.trips 0) ⊢ drainAt c M0 f0 hok fx fr 0 () := by
  unfold drainAt
  rw [if_pos (by decide), Nat.zero_mul]

set_option maxHeartbeats 400000 in
/-- It ends with the semaphore at zero and every row handed back. -/
theorem drain_last (acc : Unit) : drainAt c M0 f0 hok fx fr k0_t6_loop.trips acc
    ⊢ iprop((∃ W, owes (c : Thread nD τ) 0 W) ∗ semVal ((c : Thread nD τ), sm) 0
        ∗ bigSep Finset.univ (fun t : Fin k0_t5_loop.trips => D c hok fx fr t)) := by
  unfold drainAt
  rw [if_neg (by decide)]

end Enter

end Cert.MoeIdeal.Scatter

end
-- ==== Proof.MoeIdealRun.lean ====
/-
  What one grid point of the experts' kernel does to the buffers it holds.
-/
module

public import proofs.«01_k».proof.Proof.Gen.MoeIdeal
public import proofs.«01_k».proof.Proof.Gen.MoeIdeal.Skeleton
public import proofs.«01_k».proof.Proof.MoeIdealGather
public import proofs.«01_k».proof.Proof.MoeIdealFetch
public import proofs.«01_k».proof.Proof.MoeIdealScatter
public import Idealize.ShloMosaic.Lib.Pipeline.Routed
public import Idealize.ShloMosaic.Lib.Batch
public import Idealize.ShloMosaic.Lib.Ring
public import Idealize.ShloMosaic.Lib.Tactic
public import Idealize.ShloMosaic.Lib.VecWindow
public meta import Idealize.ShloMosaic.Lib.Tactic

@[expose] public section

noncomputable section

namespace Cert.MoeIdeal.Run

open Cert.MoeIdeal Cert.MoeIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (UC)
open Cert.MoeIdeal.Gather (Bf pt)

variable {F : FTy → Type} [FloatOps F]

local notation "𝕄" => MT nD τ sig Unit (Elt F) ℕ (UC sig nD τ) ℕ

/-- The array's rows as the body holds it. -/
abbrev MH : Memref sig .tc .hbm S8192x2176 .f32 := Memref.whole main_arg1
/-- The accumulated result as the body holds it. -/
abbrev MA : Memref sig .tc .hbm S8192x2048 .f32 := Memref.whole main_v0
/-- The scratch of an expert's rows. -/
abbrev X0 : Memref sig .tc .vmem S1024x2176 .f32 := Memref.whole cc0_scratch0
/-- The scratch of an expert's results. -/
abbrev X1 : Memref sig .tc .vmem S1024x2048 .f32 := Memref.whole cc0_scratch1
/-- The scratch of the rows being accumulated. -/
abbrev X2 : Memref sig .tc .vmem S1024x2048 .f32 := Memref.whole cc0_scratch2

section Stores

omit [FloatOps F] in
/-- A scratch, read whole, is its contents. -/
theorem read1 (c : Dev nD) (q : Bf (F := F) c X1) : X1.view.read (Elt F) q = q := rfl

omit [FloatOps F] in
/-- A store over all of the results' scratch leaves what was stored. -/
theorem stored1 (c : Dev nD) (f p : S1024x2048.Idx → Elt F .f32) (L : List (View.Piece (Elt F) S1024x2048 .f32)) :
    (X1.view.loc (c : Thread nD τ) ↦{fullShare} X1.view.writes (Elt F) f (⟨Rect.unit (s := S1024x2048) ![0, 0] S1024x2048.size inb_S1024x2048_S1024x2048_0_0, p⟩ :: L) : sProp 𝕄)
      = pt c X1 p :=
  congrArg (fun q : Bf (F := F) c X1 => (X1.view.loc (c : Thread nD τ) ↦{fullShare} q : sProp 𝕄))
    ((read1 c _).symm.trans (View.read_writes_full (Val := Elt F) X1.view f inb_S1024x2048_S1024x2048_0_0 p L))

end Stores

/-- The rows' first 2048 entries. -/
abbrev left (x : S1024x2176.Idx → Elt F .f32) : Vec F S1024x2048 .f32 :=
  X0.view.readAt (Elt F) (Rect.unit (s := S1024x2176) ![0, 0] S1024x2048.size inb_S1024x2176_S1024x2048_0_0).toLoadRect x
/-- The rows' last 128 entries. -/
abbrev right (x : S1024x2176.Idx → Elt F .f32) : Vec F S1024x128 .f32 :=
  X0.view.readAt (Elt F) (Rect.unit (s := S1024x2176) ![0, 2048] S1024x128.size inb_S1024x2176_S1024x128_0_2048).toLoadRect x
/-- The first 512 rows. -/
abbrev upper (x : S1024x2048.Idx → Elt F .f32) : Vec F S512x2048 .f32 :=
  X2.view.readAt (Elt F) (Rect.unit (s := S1024x2048) ![0, 0] S512x2048.size inb_S1024x2048_S512x2048_0_0).toLoadRect x
/-- The last 512 rows. -/
abbrev lower (x : S1024x2048.Idx → Elt F .f32) : Vec F S512x2048 .f32 :=
  X2.view.readAt (Elt F) (Rect.unit (s := S1024x2048) ![512, 0] S512x2048.size inb_S1024x2048_S512x2048_512_0).toLoadRect x

/-- The results with one tile's part taken in. -/
abbrev tile (x0 : S1024x2176.Idx → Elt F .f32) (g u : Vec F S1x1x2048x256 .f32) (y : Vec F S1024x2048 .f32) (d : Vec F S1x1x256x2048 .f32) :
    Vec F S1024x2048 .f32 := k0_pay6 (left x0) g u y d

/-- The first 512 rows of the results. -/
abbrev upper1 (x : S1024x2048.Idx → Elt F .f32) : Vec F S512x2048 .f32 :=
  X1.view.readAt (Elt F) (Rect.unit (s := S1024x2048) ![0, 0] S512x2048.size inb_S1024x2048_S512x2048_0_0).toLoadRect x
/-- The last 512 rows of the results. -/
abbrev lower1 (x : S1024x2048.Idx → Elt F .f32) : Vec F S512x2048 .f32 :=
  X1.view.readAt (Elt F) (Rect.unit (s := S1024x2048) ![512, 0] S512x2048.size inb_S1024x2048_S512x2048_512_0).toLoadRect x
/-- The first sample's gains. -/
abbrev gain0 (g : S8x2048.Idx → Elt F .f32) : Vec F S1x2048 .f32 :=
  fun z => g ((Rect.unit (s := S8x2048) ![0, 0] S1x2048.size inb_S8x2048_S1x2048_0_0).emb z)
/-- The second sample's gains. -/
abbrev gain1 (g : S8x2048.Idx → Elt F .f32) : Vec F S1x2048 .f32 :=
  fun z => g ((Rect.unit (s := S8x2048) ![1, 0] S1x2048.size inb_S8x2048_S1x2048_1_0).emb z)

/-- The rows `x` of the accumulated result with expert `a`'s results `y` for them taken in. -/
def upd (a : BitVec 32) (x0 : S1024x2176.Idx → Elt F .f32) (x : S1024x2048.Idx → Elt F .f32) (g : S8x2048.Idx → Elt F .f32)
    (y : S1024x2048.Idx → Elt F .f32) : S1024x2048.Idx → Elt F .f32 := fun q =>
  if h : (q 0).val < 512 then
    k0_pay3 a (right x0) (upper x) (gain0 g) (upper1 y) (ValueIdx.ix2 (n0 := 512) (n1 := 2048) ⟨(q 0).val, h⟩ (q 1))
  else
    k0_pay1 (k0_pay4 a (right x0) (lower x) (gain1 g) (lower1 y))
      (ValueIdx.ix2 (n0 := 512) (n1 := 2048) ⟨(q 0).val - 512, by have : (q 0).val < 1024 := (q 0).isLt; omega⟩ (q 1))

omit [FloatOps F] in
/-- The rows' scratch, read whole, is its contents. -/
theorem read2 (c : Dev nD) (q : Bf (F := F) c X2) : X2.view.read (Elt F) q = q := rfl

omit [FloatOps F] in
/-- A store of the first 512 rows and one of the last 512 leave the two side by side. -/
theorem halves (c : Dev nD) (f : Bf (F := F) c X2) (p p' : S512x2048.Idx → Elt F .f32) :
    X2.view.writes (Elt F) f [⟨Rect.unit (s := S1024x2048) ![512, 0] S512x2048.size inb_S1024x2048_S512x2048_512_0, p'⟩,
        ⟨Rect.unit (s := S1024x2048) ![0, 0] S512x2048.size inb_S1024x2048_S512x2048_0_0, p⟩]
      = (fun q : S1024x2048.Idx => if h : (q 0).val < 512 then p (ValueIdx.ix2 (n0 := 512) (n1 := 2048) ⟨(q 0).val, h⟩ (q 1))
          else p' (ValueIdx.ix2 (n0 := 512) (n1 := 2048) ⟨(q 0).val - 512, by have : (q 0).val < 1024 := (q 0).isLt; omega⟩ (q 1)) :
          S1024x2048.Idx → Elt F .f32) := by
  refine (read2 c _).symm.trans (funext fun q => ?_)
  have hq : (q 0).val < 1024 := (q 0).isLt
  by_cases h : (q 0).val < 512
  · rw [dif_pos h]
    refine (View.read_writes_cons_unit_of_not_mem X2.view f inb_S1024x2048_S512x2048_512_0 p' _ q rfl 0 (Or.inl h)).trans ?_
    exact View.read_writes_cons_unit_of_mem X2.view f inb_S1024x2048_S512x2048_0_0 p [] q _ rfl fun a => by
      match a with
      | ⟨0, _⟩ => show (q 0).val = 0 + (q 0).val; omega
      | ⟨1, _⟩ => show (q 1).val = 0 + (q 1).val; omega
  · rw [dif_neg h]
    exact View.read_writes_cons_unit_of_mem X2.view f inb_S1024x2048_S512x2048_512_0 p' _ q _ rfl fun a => by
      match a with
      | ⟨0, _⟩ => show (q 0).val = 512 + ((q 0).val - 512); omega
      | ⟨1, _⟩ => show (q 1).val = 0 + (q 1).val; omega

section Points

variable (c : Dev nD) (i : grid0.Coords) (M0 : Memref sig .tc .smem S1x1x1024 .i32) (h0 : M0.IsWhole)
  (M5 : Memref sig .tc .vmem S1x1x2048x256 .f32) (h5 : M5.IsWhole) (M6 : Memref sig .tc .vmem S1x1x2048x256 .f32) (h6 : M6.IsWhole)
  (M7 : Memref sig .tc .vmem S1x1x256x2048 .f32) (h7 : M7.IsWhole) (M8 : Memref sig .tc .vmem S8x2048 .f32) (h8 : M8.IsWhole)
  (f0 : Bf (F := F) c M0) (f5 : Bf (F := F) c M5) (f6 : Bf (F := F) c M6) (f7 : Bf (F := F) c M7) (f8 : Bf (F := F) c M8)
  (fh : Bf (F := F) c MH) (fa : Bf (F := F) c MA) (x0 : Bf (F := F) c X0) (x1 : Bf (F := F) c X1) (x2 : Bf (F := F) c X2)

omit [FloatOps F] in
/-- A load of all of the results' scratch reads its contents. -/
theorem loaded1 (c : Dev nD) (y : S1024x2048.Idx → Elt F .f32) :
    X1.view.readAt (Elt F) (Rect.unit (s := S1024x2048) ![0, 0] S1024x2048.size inb_S1024x2048_S1024x2048_0_0).toLoadRect y = y :=
  (View.readAt_full (Val := Elt F) X1.view y inb_S1024x2048_S1024x2048_0_0).trans (read1 c y)

/-- The tile's store leaves the results with the tile's part taken in. -/
theorem tile_land (f y y' : S1024x2048.Idx → Elt F .f32) (hy : y' = y) (L : List (View.Piece (Elt F) S1024x2048 .f32)) :
    (X1.view.loc (c : Thread nD τ) ↦{fullShare} X1.view.writes (Elt F) f (⟨Rect.unit (s := S1024x2048) ![0, 0] S1024x2048.size inb_S1024x2048_S1024x2048_0_0,
        k0_pay6 (left x0)
          (M5.view.readAt (Elt F) (Rect.unit (s := S1x1x2048x256) ![0, 0, 0, 0] S1x1x2048x256.size inb_S1x1x2048x256_S1x1x2048x256_0_0_0_0).toLoadRect f5)
          (M6.view.readAt (Elt F) (Rect.unit (s := S1x1x2048x256) ![0, 0, 0, 0] S1x1x2048x256.size inb_S1x1x2048x256_S1x1x2048x256_0_0_0_0).toLoadRect f6)
          y'
          (M7.view.readAt (Elt F) (Rect.unit (s := S1x1x256x2048) ![0, 0, 0, 0] S1x1x256x2048.size inb_S1x1x256x2048_S1x1x256x2048_0_0_0_0).toLoadRect f7)⟩ :: L) : sProp 𝕄)
      ⊢ pt c X1 (tile x0 (M5.view.read (Elt F) f5) (M6.view.read (Elt F) f6) y (M7.view.read (Elt F) f7)) := by
  rw [stored1, hy, View.readAt_full (Val := Elt F) M5.view f5 inb_S1x1x2048x256_S1x1x2048x256_0_0_0_0,
    View.readAt_full (Val := Elt F) M6.view f6 inb_S1x1x2048x256_S1x1x2048x256_0_0_0_0,
    View.readAt_full (Val := Elt F) M7.view f7 inb_S1x1x256x2048_S1x1x256x2048_0_0_0_0]

/-- The two stores of an expert's last tile leave its rows with its results taken in. -/
theorem upd_land (a : BitVec 32) (f : Bf (F := F) c X2) (x y : S1024x2048.Idx → Elt F .f32) (v : Vec F S512x2048 .f32) (hv : v = lower x) :
    (X2.view.loc (c : Thread nD τ) ↦{fullShare} X2.view.writes (Elt F) f
        [⟨Rect.unit (s := S1024x2048) ![512, 0] S512x2048.size inb_S1024x2048_S512x2048_512_0,
          k0_pay1 (k0_pay4 a (right x0) v (M8.view.readAt (Elt F) (Rect.unit (s := S8x2048) ![1, 0] S1x2048.size inb_S8x2048_S1x2048_1_0).toLoadRect f8) (lower1 y))⟩,
        ⟨Rect.unit (s := S1024x2048) ![0, 0] S512x2048.size inb_S1024x2048_S512x2048_0_0,
          k0_pay3 a (right x0) (upper x) (M8.view.readAt (Elt F) (Rect.unit (s := S8x2048) ![0, 0] S1x2048.size inb_S8x2048_S1x2048_0_0).toLoadRect f8) (upper1 y)⟩] : sProp 𝕄)
      ⊢ pt c X2 (upd a x0 x (M8.view.read (Elt F) f8) y) := by
  rw [hv, halves]
  exact Entails.rfl

set_option maxRecDepth 16384 in
set_option maxHeartbeats 400000 in
/-- At a later tile of an expert, the results take the tile's part in. -/
theorem part2_later [∀ e, Nonempty (Elt F e)] (hc : ¬ k0_cond1 i = 1#1)
    (Q : (Σ' (arg0 : BitVec 32), BitVec 32) → sProp 𝕄) :
    iprop(pt c M5 f5 ∗ pt c M6 f6 ∗ pt c M7 f7 ∗ pt c X0 x0 ∗ pt c X1 x1
      ∗ (∀ v : BitVec 32, iprop(pt c M5 f5 ∗ pt c M6 f6 ∗ pt c M7 f7 ∗ pt c X0 x0
            ∗ pt c X1 (tile x0 (M5.view.read (Elt F) f5) (M6.view.read (Elt F) f6) x1 (M7.view.read (Elt F) f7)))
          -∗ Q ⟨BitVec.ofNat 32 (i 0).val, v⟩))
      ⊢ wp frame (wpE (defs₀ (F := F)) Variants.none c none) Set.univ
        (k0_part2 i M0 h0 MH (Memref.isWhole_whole _) MA (Memref.isWhole_whole _) M5 h5 M6 h6 M7 h7 M8 h8
            MA (Memref.isWhole_whole _) X0 (Memref.isWhole_whole _)
            X1 (Memref.isWhole_whole _) X2 (Memref.isWhole_whole _) cc0_scratch3) Q := by
  simp only [k0_part2_eq_skeleton]
  unfold k0_part2_skel
  iintro ⟨H5, H6, H7, HX0, HX1, Hk⟩
  sl_exec (disch := exact hc)
  sl_step
  iapply Hk
  isplitl [H5]; · iexact H5
  isplitl [H6]; · iexact H6
  isplitl [H7]; · iexact H7
  isplitl [HX0]; · iexact HX0
  iapply (tile_land c M5 M6 M7 f5 f6 f7 x0 x1 x1 _ (loaded1 c x1) [])
  iexact HX1

set_option maxRecDepth 16384 in
set_option maxHeartbeats 400000 in
/-- At an expert's first tile, its rows are copied and the results begin at zero. -/
theorem part2_first [∀ e, Nonempty (Elt F e)] (hc : k0_cond1 i = 1#1) (hok : Gather.WordsOK (Gather.wd M0 f0))
    (Q : (Σ' (arg0 : BitVec 32), BitVec 32) → sProp 𝕄) :
    iprop(pt c M0 f0 ∗ pt c M5 f5 ∗ pt c M6 f6 ∗ pt c M7 f7 ∗ pt c MH fh ∗ pt c X0 x0 ∗ pt c X1 x1
      ∗ semVal ((c : Thread nD τ), Gather.sm) 0 ∗ (∃ W, owes (c : Thread nD τ) 0 W)
      ∗ (∀ v : BitVec 32, iprop(pt c M0 f0 ∗ pt c M5 f5 ∗ pt c M6 f6 ∗ pt c M7 f7 ∗ pt c MH fh
            ∗ pt c X0 (Gather.took (Gather.wd M0 f0) fh)
            ∗ pt c X1 (tile (Gather.took (Gather.wd M0 f0) fh) (M5.view.read (Elt F) f5) (M6.view.read (Elt F) f6) k0_pay5 (M7.view.read (Elt F) f7))
            ∗ semVal ((c : Thread nD τ), Gather.sm) 0 ∗ (∃ W, owes (c : Thread nD τ) 0 W))
          -∗ Q ⟨BitVec.ofNat 32 (i 0).val, v⟩))
      ⊢ wp frame (wpE (defs₀ (F := F)) Variants.none c none) Set.univ
        (k0_part2 i M0 h0 MH (Memref.isWhole_whole _) MA (Memref.isWhole_whole _) M5 h5 M6 h6 M7 h7 M8 h8
            MA (Memref.isWhole_whole _) X0 (Memref.isWhole_whole _)
            X1 (Memref.isWhole_whole _) X2 (Memref.isWhole_whole _) cc0_scratch3) Q := by
  simp only [k0_part2_eq_skeleton]
  unfold k0_part2_skel
  rw [show pt c X0 x0 = _ from Gather.vm_split c x0, show pt c MH fh = _ from Gather.hb_split c hok fh]
  iintro ⟨H0, H5, H6, H7, ⟨HS, HSr⟩, ⟨HP, HPr⟩, HX1, Hc, ⟨%W, HO⟩, Hk⟩
  imod (Transfers.batch_alloc' (Lvl := ℕ) countersEmb (c : Thread nD τ) () Gather.NN
      (fun t : Fin k0_t1_loop.trips => Gather.D c hok x0 fh t) (sm := Gather.sm) (E := Set.univ)) $$ Hc with HB
  sl_exec (disch := exact hc)
  sl_for (Gather.issueAt c M0 f0 hok x0 fh) $$ [HB HP HS H0]
  · intro k acc; exact Gather.issue_step c M0 f0 hok x0 fh i hc h0 M5 h5 M6 h6 M7 h7 M8 h8 k acc
  · iapply (Gather.issue_first c M0 f0 hok x0 fh)
    isplitl [HB]; · iexact HB
    isplitl [HP]; · iexact HP
    isplitl [HS]; · iexact HS
    iexact H0
  iintro %acc HL
  ihave HL' := (Gather.issue_last c M0 f0 hok x0 fh acc) $$ HL
  icases HL' with ⟨HB, H0⟩
  sl_exec
  sl_for (Gather.drainAt c M0 f0 hok x0 fh) $$ [HB HO]
  · intro k acc; exact Gather.drain_step c M0 f0 hok x0 fh i hc h0 M5 h5 M6 h6 M7 h7 M8 h8 k acc
  · iapply (Gather.drain_first c M0 f0 hok x0 fh)
    isplitl [HO]; · iexists _; iexact HO
    iexact HB
  iintro %acc2 HL2
  ihave HL2' := (Gather.drain_last c M0 f0 hok x0 fh acc2) $$ HL2
  icases HL2' with ⟨⟨%W', HO⟩, Hc, HD⟩
  ihave HJ := (Gather.join c hok x0 fh) $$ [HD HSr HPr]
  · isplitl [HD]; · iexact HD
    isplitl [HPr]; · iexact HPr
    iexact HSr
  icases HJ with ⟨HX0, HH⟩
  sl_exec
  sl_step
  iapply Hk
  isplitl [H0]; · iexact H0
  isplitl [H5]; · iexact H5
  isplitl [H6]; · iexact H6
  isplitl [H7]; · iexact H7
  isplitl [HH]
  · iapply (Entails.of_eq (Gather.hb_split c hok fh))
    iexact HH
  isplitl [HX0]; · iexact HX0
  isplitl [HX1]
  · iapply (tile_land c M5 M6 M7 f5 f6 f7 (Gather.took (Gather.wd M0 f0) fh) x1 k0_pay5 _
      (View.readCov_full (Val := Elt F) X1.view inb_S1024x2048_S1024x2048_0_0 inb_S1024x2048_S1024x2048_0_0 k0_pay5 []) _)
    iexact HX1
  isplitl [Hc]; · iexact Hc
  iexists _; iexact HO

set_option maxRecDepth 16384 in
set_option maxHeartbeats 400000 in
/-- At an expert's last tile, the rows named are read, updated and put back. -/
theorem run_last [∀ e, Nonempty (Elt F e)] (hc1 : ¬ k0_cond1 i = 1#1) (hc : k0_cond2 i = 1#1)
    (hokF : Fetch.WordsOK (Fetch.wd M0 f0)) (hokS : Scatter.WordsOK (Scatter.wd M0 f0)) (Q : PUnit → sProp 𝕄) :
    iprop(pt c M0 f0 ∗ pt c M5 f5 ∗ pt c M6 f6 ∗ pt c M7 f7 ∗ pt c M8 f8 ∗ pt c MA fa ∗ pt c X0 x0 ∗ pt c X1 x1 ∗ pt c X2 x2
      ∗ semVal ((c : Thread nD τ), Fetch.sm) 0 ∗ semVal ((c : Thread nD τ), Scatter.sm) 0 ∗ (∃ W, owes (c : Thread nD τ) 0 W)
      ∗ (iprop(pt c M0 f0 ∗ pt c M5 f5 ∗ pt c M6 f6 ∗ pt c M7 f7 ∗ pt c M8 f8
            ∗ pt c MA (Scatter.gave (Scatter.wd M0 f0) (upd (BitVec.ofNat 32 (i 0).val) x0 (Fetch.took (Fetch.wd M0 f0) fa) (M8.view.read (Elt F) f8)
              (tile x0 (M5.view.read (Elt F) f5) (M6.view.read (Elt F) f6) x1 (M7.view.read (Elt F) f7))) fa)
            ∗ pt c X0 x0
            ∗ pt c X1 (tile x0 (M5.view.read (Elt F) f5) (M6.view.read (Elt F) f6) x1 (M7.view.read (Elt F) f7))
            ∗ pt c X2 (upd (BitVec.ofNat 32 (i 0).val) x0 (Fetch.took (Fetch.wd M0 f0) fa) (M8.view.read (Elt F) f8)
              (tile x0 (M5.view.read (Elt F) f5) (M6.view.read (Elt F) f6) x1 (M7.view.read (Elt F) f7)))
            ∗ semVal ((c : Thread nD τ), Fetch.sm) 0 ∗ semVal ((c : Thread nD τ), Scatter.sm) 0 ∗ (∃ W, owes (c : Thread nD τ) 0 W))
          -∗ Q ⟨⟩))
      ⊢ wp frame (wpE (defs₀ (F := F)) Variants.none c none) Set.univ
        (cc0_moe i M0 h0 MH (Memref.isWhole_whole _) MA (Memref.isWhole_whole _) M5 h5 M6 h6 M7 h7 M8 h8
            MA (Memref.isWhole_whole _) X0 (Memref.isWhole_whole _)
            X1 (Memref.isWhole_whole _) X2 (Memref.isWhole_whole _) cc0_scratch3) Q := by
  simp only [cc0_moe_eq_skeleton]
  unfold cc0_moe_skel
  rw [wp_bind]
  iintro ⟨H0, H5, H6, H7, H8, HA, HX0, HX1, HX2, HcF, HcS, HO, Hk⟩
  iapply (part2_later c i M0 h0 M5 h5 M6 h6 M7 h7 M8 h8 f5 f6 f7 x0 x1 hc1 _)
  isplitl [H5]; · iexact H5
  isplitl [H6]; · iexact H6
  isplitl [H7]; · iexact H7
  isplitl [HX0]; · iexact HX0
  isplitl [HX1]; · iexact HX1
  iintro %v ⟨H5, H6, H7, HX0, HX1⟩
  simp only [k0_part1_eq_skeleton]
  icases HO with ⟨%W, HO⟩
  ihave HX2' := (Entails.of_eq (show pt c X2 x2 = _ from Fetch.vm_split c x2)) $$ HX2
  icases HX2' with ⟨HP, HPr⟩
  ihave HA' := (Entails.of_eq (show pt c MA fa = _ from Fetch.hb_split c hokF fa)) $$ HA
  icases HA' with ⟨HS, HSr⟩
  imod (Transfers.batch_alloc' (Lvl := ℕ) countersEmb (c : Thread nD τ) () Fetch.NN
      (fun t : Fin k0_t3_loop.trips => Fetch.D c hokF x2 fa t) (sm := Fetch.sm) (E := Set.univ)) $$ HcF with HB
  sl_exec (disch := exact hc)
  sl_for (Fetch.issueAt c M0 f0 hokF x2 fa) $$ [HB HP HS H0]
  · intro k acc; exact Fetch.issue_step c M0 f0 hokF x2 fa i hc h0 M5 h5 M6 h6 M7 h7 M8 h8 _ k acc
  · iapply (Fetch.issue_first c M0 f0 hokF x2 fa)
    isplitl [HB]; · iexact HB
    isplitl [HP]; · iexact HP
    isplitl [HS]; · iexact HS
    iexact H0
  iintro %acc HL
  ihave HL' := (Fetch.issue_last c M0 f0 hokF x2 fa acc) $$ HL
  icases HL' with ⟨HB, H0⟩
  sl_exec
  sl_for (Fetch.drainAt c M0 f0 hokF x2 fa) $$ [HB HO]
  · intro k acc; exact Fetch.drain_step c M0 f0 hokF x2 fa i hc h0 M5 h5 M6 h6 M7 h7 M8 h8 _ k acc
  · iapply (Fetch.drain_first c M0 f0 hokF x2 fa)
    isplitl [HO]; · iexists _; iexact HO
    iexact HB
  iintro %acc2 HL2
  ihave HL2' := (Fetch.drain_last c M0 f0 hokF x2 fa acc2) $$ HL2
  icases HL2' with ⟨⟨%W', HO⟩, HcF, HD⟩
  ihave HJ := (Fetch.join c hokF x2 fa) $$ [HD HSr HPr]
  · isplitl [HD]; · iexact HD
    isplitl [HPr]; · iexact HPr
    iexact HSr
  icases HJ with ⟨HX2, HA⟩
  sl_exec
  ihave HX2u := (upd_land c M8 f8 x0 (BitVec.ofNat 32 (i 0).val) _ (Fetch.took (Fetch.wd M0 f0) fa)
    (tile x0 (M5.view.read (Elt F) f5) (M6.view.read (Elt F) f6) x1 (M7.view.read (Elt F) f7)) _ rfl) $$ [HX2]
  · iexact HX2
  ihave HX2' := (Entails.of_eq (show pt c X2 (upd (BitVec.ofNat 32 (i 0).val) x0 (Fetch.took (Fetch.wd M0 f0) fa) (M8.view.read (Elt F) f8)
      (tile x0 (M5.view.read (Elt F) f5) (M6.view.read (Elt F) f6) x1 (M7.view.read (Elt F) f7))) = _ from Scatter.vm_split c (upd (BitVec.ofNat 32 (i 0).val) x0 (Fetch.took (Fetch.wd M0 f0) fa) (M8.view.read (Elt F) f8)
      (tile x0 (M5.view.read (Elt F) f5) (M6.view.read (Elt F) f6) x1 (M7.view.read (Elt F) f7))))) $$ HX2u
  icases HX2' with ⟨HP, HPr⟩
  ihave HA' := (Entails.of_eq (show pt c MA fa = _ from Scatter.hb_split c hokS fa)) $$ [HA]
  · iexact HA
  icases HA' with ⟨HS, HSr⟩
  imod (Transfers.batch_alloc' (Lvl := ℕ) countersEmb (c : Thread nD τ) () Scatter.NN
      (fun t : Fin k0_t5_loop.trips => Scatter.D c hokS (upd (BitVec.ofNat 32 (i 0).val) x0 (Fetch.took (Fetch.wd M0 f0) fa) (M8.view.read (Elt F) f8)
      (tile x0 (M5.view.read (Elt F) f5) (M6.view.read (Elt F) f6) x1 (M7.view.read (Elt F) f7))) fa t) (sm := Scatter.sm) (E := Set.univ)) $$ HcS with HB
  sl_for (Scatter.issueAt c M0 f0 hokS (upd (BitVec.ofNat 32 (i 0).val) x0 (Fetch.took (Fetch.wd M0 f0) fa) (M8.view.read (Elt F) f8)
      (tile x0 (M5.view.read (Elt F) f5) (M6.view.read (Elt F) f6) x1 (M7.view.read (Elt F) f7))) fa) $$ [HB HP HS H0]
  · intro k acc; exact Scatter.issue_step c M0 f0 hokS (upd (BitVec.ofNat 32 (i 0).val) x0 (Fetch.took (Fetch.wd M0 f0) fa) (M8.view.read (Elt F) f8)
      (tile x0 (M5.view.read (Elt F) f5) (M6.view.read (Elt F) f6) x1 (M7.view.read (Elt F) f7))) fa i hc h0 M5 h5 M6 h6 M7 h7 M8 h8 k acc
  · iapply (Scatter.issue_first c M0 f0 hokS (upd (BitVec.ofNat 32 (i 0).val) x0 (Fetch.took (Fetch.wd M0 f0) fa) (M8.view.read (Elt F) f8)
      (tile x0 (M5.view.read (Elt F) f5) (M6.view.read (Elt F) f6) x1 (M7.view.read (Elt F) f7))) fa)
    isplitl [HB]; · iexact HB
    isplitl [HP]; · iexact HP
    isplitl [HS]; · iexact HS
    iexact H0
  iintro %acc3 HL3
  ihave HL3' := (Scatter.issue_last c M0 f0 hokS (upd (BitVec.ofNat 32 (i 0).val) x0 (Fetch.took (Fetch.wd M0 f0) fa) (M8.view.read (Elt F) f8)
      (tile x0 (M5.view.read (Elt F) f5) (M6.view.read (Elt F) f6) x1 (M7.view.read (Elt F) f7))) fa acc3) $$ HL3
  icases HL3' with ⟨HB, H0⟩
  sl_exec
  sl_for (Scatter.drainAt c M0 f0 hokS (upd (BitVec.ofNat 32 (i 0).val) x0 (Fetch.took (Fetch.wd M0 f0) fa) (M8.view.read (Elt F) f8)
      (tile x0 (M5.view.read (Elt F) f5) (M6.view.read (Elt F) f6) x1 (M7.view.read (Elt F) f7))) fa) $$ [HB HO]
  · intro k acc; exact Scatter.drain_step c M0 f0 hokS (upd (BitVec.ofNat 32 (i 0).val) x0 (Fetch.took (Fetch.wd M0 f0) fa) (M8.view.read (Elt F) f8)
      (tile x0 (M5.view.read (Elt F) f5) (M6.view.read (Elt F) f6) x1 (M7.view.read (Elt F) f7))) fa i hc h0 M5 h5 M6 h6 M7 h7 M8 h8 k acc
  · iapply (Scatter.drain_first c M0 f0 hokS (upd (BitVec.ofNat 32 (i 0).val) x0 (Fetch.took (Fetch.wd M0 f0) fa) (M8.view.read (Elt F) f8)
      (tile x0 (M5.view.read (Elt F) f5) (M6.view.read (Elt F) f6) x1 (M7.view.read (Elt F) f7))) fa)
    isplitl [HO]; · iexists _; iexact HO
    iexact HB
  iintro %acc4 HL4
  ihave HL4' := (Scatter.drain_last c M0 f0 hokS (upd (BitVec.ofNat 32 (i 0).val) x0 (Fetch.took (Fetch.wd M0 f0) fa) (M8.view.read (Elt F) f8)
      (tile x0 (M5.view.read (Elt F) f5) (M6.view.read (Elt F) f6) x1 (M7.view.read (Elt F) f7))) fa acc4) $$ HL4
  icases HL4' with ⟨⟨%W'', HO⟩, HcS, HD⟩
  ihave HJ := (Scatter.join c hokS (upd (BitVec.ofNat 32 (i 0).val) x0 (Fetch.took (Fetch.wd M0 f0) fa) (M8.view.read (Elt F) f8)
      (tile x0 (M5.view.read (Elt F) f5) (M6.view.read (Elt F) f6) x1 (M7.view.read (Elt F) f7))) fa) $$ [HD HSr HPr]
  · isplitl [HD]; · iexact HD
    isplitl [HPr]; · iexact HPr
    iexact HSr
  icases HJ with ⟨HX2, HA⟩
  sl_exec
  sl_step
  iapply Hk
  isplitl [H0]; · iexact H0
  isplitl [H5]; · iexact H5
  isplitl [H6]; · iexact H6
  isplitl [H7]; · iexact H7
  isplitl [H8]; · iexact H8
  isplitl [HA]; · iexact HA
  isplitl [HX0]; · iexact HX0
  isplitl [HX1]; · iexact HX1
  isplitl [HX2]; · iexact HX2
  isplitl [HcF]; · iexact HcF
  isplitl [HcS]; · iexact HcS
  iexists _; iexact HO

set_option maxRecDepth 16384 in
set_option maxHeartbeats 400000 in
/-- At a tile of an expert neither first nor last, only the results change. -/
theorem run_mid [∀ e, Nonempty (Elt F e)] (hc1 : ¬ k0_cond1 i = 1#1) (hc : ¬ k0_cond2 i = 1#1) (Q : PUnit → sProp 𝕄) :
    iprop(pt c M5 f5 ∗ pt c M6 f6 ∗ pt c M7 f7 ∗ pt c X0 x0 ∗ pt c X1 x1
      ∗ (iprop(pt c M5 f5 ∗ pt c M6 f6 ∗ pt c M7 f7 ∗ pt c X0 x0
            ∗ pt c X1 (tile x0 (M5.view.read (Elt F) f5) (M6.view.read (Elt F) f6) x1 (M7.view.read (Elt F) f7)))
          -∗ Q ⟨⟩))
      ⊢ wp frame (wpE (defs₀ (F := F)) Variants.none c none) Set.univ
        (cc0_moe i M0 h0 MH (Memref.isWhole_whole _) MA (Memref.isWhole_whole _) M5 h5 M6 h6 M7 h7 M8 h8
            MA (Memref.isWhole_whole _) X0 (Memref.isWhole_whole _)
            X1 (Memref.isWhole_whole _) X2 (Memref.isWhole_whole _) cc0_scratch3) Q := by
  simp only [cc0_moe_eq_skeleton]
  unfold cc0_moe_skel
  rw [wp_bind]
  iintro ⟨H5, H6, H7, HX0, HX1, Hk⟩
  iapply (part2_later c i M0 h0 M5 h5 M6 h6 M7 h7 M8 h8 f5 f6 f7 x0 x1 hc1 _)
  isplitl [H5]; · iexact H5
  isplitl [H6]; · iexact H6
  isplitl [H7]; · iexact H7
  isplitl [HX0]; · iexact HX0
  isplitl [HX1]; · iexact HX1
  iintro %v ⟨H5, H6, H7, HX0, HX1⟩
  sl_exec (disch := exact hc)
  sl_step
  iapply Hk
  isplitl [H5]; · iexact H5
  isplitl [H6]; · iexact H6
  isplitl [H7]; · iexact H7
  isplitl [HX0]; · iexact HX0
  iexact HX1

set_option maxRecDepth 16384 in
set_option maxHeartbeats 400000 in
/-- At an expert's first tile, its rows are copied and the results are the tile's part. -/
theorem run_first [∀ e, Nonempty (Elt F e)] (hc1 : k0_cond1 i = 1#1) (hc : ¬ k0_cond2 i = 1#1)
    (hok : Gather.WordsOK (Gather.wd M0 f0)) (Q : PUnit → sProp 𝕄) :
    iprop(pt c M0 f0 ∗ pt c M5 f5 ∗ pt c M6 f6 ∗ pt c M7 f7 ∗ pt c MH fh ∗ pt c X0 x0 ∗ pt c X1 x1
      ∗ semVal ((c : Thread nD τ), Gather.sm) 0 ∗ (∃ W, owes (c : Thread nD τ) 0 W)
      ∗ (iprop(pt c M0 f0 ∗ pt c M5 f5 ∗ pt c M6 f6 ∗ pt c M7 f7 ∗ pt c MH fh
            ∗ pt c X0 (Gather.took (Gather.wd M0 f0) fh)
            ∗ pt c X1 (tile (Gather.took (Gather.wd M0 f0) fh) (M5.view.read (Elt F) f5) (M6.view.read (Elt F) f6) k0_pay5 (M7.view.read (Elt F) f7))
            ∗ semVal ((c : Thread nD τ), Gather.sm) 0 ∗ (∃ W, owes (c : Thread nD τ) 0 W))
          -∗ Q ⟨⟩))
      ⊢ wp frame (wpE (defs₀ (F := F)) Variants.none c none) Set.univ
        (cc0_moe i M0 h0 MH (Memref.isWhole_whole _) MA (Memref.isWhole_whole _) M5 h5 M6 h6 M7 h7 M8 h8
            MA (Memref.isWhole_whole _) X0 (Memref.isWhole_whole _)
            X1 (Memref.isWhole_whole _) X2 (Memref.isWhole_whole _) cc0_scratch3) Q := by
  simp only [cc0_moe_eq_skeleton]
  unfold cc0_moe_skel
  rw [wp_bind]
  iintro ⟨H0, H5, H6, H7, HH, HX0, HX1, Hc, HO, Hk⟩
  iapply (part2_first c i M0 h0 M5 h5 M6 h6 M7 h7 M8 h8 f0 f5 f6 f7 fh x0 x1 hc1 hok _)
  isplitl [H0]; · iexact H0
  isplitl [H5]; · iexact H5
  isplitl [H6]; · iexact H6
  isplitl [H7]; · iexact H7
  isplitl [HH]; · iexact HH
  isplitl [HX0]; · iexact HX0
  isplitl [HX1]; · iexact HX1
  isplitl [Hc]; · iexact Hc
  isplitl [HO]; · iexact HO
  iintro %v ⟨H0, H5, H6, H7, HH, HX0, HX1, Hc, ⟨%W, HO⟩⟩
  sl_exec (disch := exact hc)
  sl_step
  iapply Hk
  isplitl [H0]; · iexact H0
  isplitl [H5]; · iexact H5
  isplitl [H6]; · iexact H6
  isplitl [H7]; · iexact H7
  isplitl [HH]; · iexact HH
  isplitl [HX0]; · iexact HX0
  isplitl [HX1]; · iexact HX1
  isplitl [Hc]; · iexact Hc
  iexists _; iexact HO

end Points

end Cert.MoeIdeal.Run

end
-- ==== Proof.MoeIdealWhole.lean ====
/-
  The call as a whole: what its buffers hold before each grid point, the body at a point, and the run of the program.
-/
module

public import proofs.«01_k».proof.Proof.Gen.MoeIdeal.Frame
public import proofs.«01_k».proof.Proof.MoeIdealRun

@[expose] public section

noncomputable section

namespace Cert.MoeIdeal.Whole

open Cert.MoeIdeal Cert.MoeIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (UC Dat BodyObligation Ends RoutedPost)
open Cert.MoeIdeal.Gather (Bf pt)
open Cert.MoeIdeal.Run (MH MA X0 X1 X2 tile upd)

variable {F : FTy → Type} [FloatOps F]

local notation "𝕄" => MT nD τ sig Unit (Elt F) ℕ (UC sig nD τ) ℕ

variable (m : (ℓ : Loc nD τ sig) → Buf (Elt F) ℓ) (ρ : Dev nD → PrngReg)

/-! ## The row numbers -/

/-- Row number `j` of a block of them. -/
def word (b : S1x1x1024.Idx → Elt F .i32) (j : Fin 1024) : BitVec 32 := b (ValueIdx.ix3 (0 : Fin 1) (0 : Fin 1) j)

/-- The word the first loop reads at a trip is the block's row number of that trip. -/
theorem gather_wd {M0 : Memref sig .tc .smem S1x1x1024 .i32} {c : Dev nD} (f0 : Bf (F := F) c M0) :
    Gather.wd M0 f0 = fun t => word (M0.view.read (Elt F) f0) (t.cast Gather.trips_eq) := by
  funext t
  have e : k0_off1 t = ![0, 0, t.val] := (by decide +kernel : ∀ t, k0_off1 t = ![0, 0, t.val]) t
  refine congrArg (M0.view.read (Elt F) f0) (funext fun a => Fin.ext ?_)
  match a with
  | 0 => show k0_off1 t 0 + 1 * 0 = 0; rw [e]; rfl
  | 1 => show k0_off1 t 1 + 1 * 0 = 0; rw [e]; rfl
  | 2 => show k0_off1 t 2 + 1 * 0 = t.val; rw [e]; rfl

/-- The word the fetching loop reads at a trip is the block's row number of that trip. -/
theorem fetch_wd {M0 : Memref sig .tc .smem S1x1x1024 .i32} {c : Dev nD} (f0 : Bf (F := F) c M0) :
    Fetch.wd M0 f0 = fun t => word (M0.view.read (Elt F) f0) (t.cast Fetch.trips_eq) := by
  funext t
  have e : k0_off6 t = ![0, 0, t.val] := (by decide +kernel : ∀ t, k0_off6 t = ![0, 0, t.val]) t
  refine congrArg (M0.view.read (Elt F) f0) (funext fun a => Fin.ext ?_)
  match a with
  | 0 => show k0_off6 t 0 + 1 * 0 = 0; rw [e]; rfl
  | 1 => show k0_off6 t 1 + 1 * 0 = 0; rw [e]; rfl
  | 2 => show k0_off6 t 2 + 1 * 0 = t.val; rw [e]; rfl

/-- The word the storing loop reads at a trip is the block's row number of that trip. -/
theorem scatter_wd {M0 : Memref sig .tc .smem S1x1x1024 .i32} {c : Dev nD} (f0 : Bf (F := F) c M0) :
    Scatter.wd M0 f0 = fun t => word (M0.view.read (Elt F) f0) (t.cast Scatter.trips_eq) := by
  funext t
  have e : k0_off11 t = ![0, 0, t.val] := (by decide +kernel : ∀ t, k0_off11 t = ![0, 0, t.val]) t
  refine congrArg (M0.view.read (Elt F) f0) (funext fun a => Fin.ext ?_)
  match a with
  | 0 => show k0_off11 t 0 + 1 * 0 = 0; rw [e]; rfl
  | 1 => show k0_off11 t 1 + 1 * 0 = 0; rw [e]; rfl
  | 2 => show k0_off11 t 2 + 1 * 0 = t.val; rw [e]; rfl

/-- The row numbers of a block are rows of the array, no two alike. -/
structure Rows (b : S1x1x1024.Idx → Elt F .i32) : Prop where
  lt : ∀ j, (word b j).toNat < 8192
  inj : ∀ j j', (word b j).toNat = (word b j').toNat → j = j'

/-- On every core and at every grid point the row numbers are rows of the array, no two alike. -/
def AllRows : Prop := ∀ (c : Dev nD) (t : Fin cfg0.N), Rows (F := F) (iblk m c 0 t)

/-! ## The contents from point to point -/

/-- What is kept from one grid point to the next: the expert's rows, the partial product, the result so far. -/
structure St (F : FTy → Type) [FloatOps F] where
  x : S1024x2176.Idx → Elt F .f32
  y : S1024x2048.Idx → Elt F .f32
  a : S8192x2048.Idx → Elt F .f32

/-- The expert's rows once point `t` has run. -/
def xOf (c : Dev nD) (t : Fin cfg0.N) (s : St F) : S1024x2176.Idx → Elt F .f32 :=
  if k0_cond1 (grid0.coords t) = 1#1 then Gather.took (fun k => word (F := F) (iblk m c 0 t) (k.cast Gather.trips_eq)) (V m c main_arg1) else s.x

/-- The partial product once point `t` has run. -/
def yOf (c : Dev nD) (t : Fin cfg0.N) (s : St F) : S1024x2048.Idx → Elt F .f32 :=
  tile (xOf m c t s) (iblk m c 1 t) (iblk m c 2 t) (if k0_cond1 (grid0.coords t) = 1#1 then k0_pay5 else s.y) (iblk m c 3 t)

/-- The rows an expert's last point stores. -/
def uOf (c : Dev nD) (t : Fin cfg0.N) (s : St F) : S1024x2048.Idx → Elt F .f32 :=
  upd (BitVec.ofNat 32 (grid0.coords t 0).val) (xOf m c t s) (Fetch.took (fun k => word (F := F) (iblk m c 0 t) (k.cast Fetch.trips_eq)) s.a)
    (iblk m c 4 t) (yOf m c t s)

/-- The result so far once point `t` has run. -/
def aOf (c : Dev nD) (t : Fin cfg0.N) (s : St F) : S8192x2048.Idx → Elt F .f32 :=
  if k0_cond2 (grid0.coords t) = 1#1 then Scatter.gave (fun k => word (F := F) (iblk m c 0 t) (k.cast Scatter.trips_eq)) (uOf m c t s) s.a else s.a

/-- One grid point. -/
def step (c : Dev nD) (t : Fin cfg0.N) (s : St F) : St F := ⟨xOf m c t s, yOf m c t s, aOf m c t s⟩

variable [∀ e, Nonempty (Elt F e)]

/-- What is kept before point number `n`. -/
def st (c : Dev nD) : ℕ → St F
  | 0 => ⟨fun _ => Classical.arbitrary _, fun _ => Classical.arbitrary _, V m c main_v0⟩
  | n + 1 => if h : n < cfg0.N then step m c ⟨n, h⟩ (st c n) else st c n

/-- What is kept after a point is one step from what was kept before it. -/
theorem st_succ (c : Dev nD) (t : Fin cfg0.N) : st m c (t.val + 1) = step m c t (st m c t.val) := by
  rw [st, dif_pos t.isLt]

/-- The scratch buffers hold what is kept, except before an expert's first point, where they are yet to be written. -/
def Kept (c : Dev nD) (n : ℕ) (x0 : S1024x2176.Idx → Elt F .f32) (x1 : S1024x2048.Idx → Elt F .f32) : Prop :=
  ∀ h : n < cfg0.N, ¬ k0_cond1 (grid0.coords ⟨n, h⟩) = 1#1 → x0 = (st m c n).x ∧ x1 = (st m c n).y

/-- The grid begins with an expert's first point. -/
theorem cond1_zero : k0_cond1 (grid0.coords ⟨0, by decide⟩) = 1#1 := by decide +kernel

/-- No point is both the first and the last of its expert. -/
theorem conds (t : Fin cfg0.N) : k0_cond1 (grid0.coords t) = 1#1 → ¬ k0_cond2 (grid0.coords t) = 1#1 :=
  (by decide +kernel : ∀ t : Fin grid0.N, k0_cond1 (grid0.coords t) = 1#1 → ¬ k0_cond2 (grid0.coords t) = 1#1) t

/-! ## The proof data -/

/-- The buffers the body reads and writes by its own copies: the array of rows and the result. -/
abbrev R2 : Finset (Ref sig .tc) := {main_arg1, main_v0}

/-- The semaphores of the three copying loops. -/
abbrev osem : Fin 3 → SemLoc sig := ![Gather.sm, Fetch.sm, Scatter.sm]

/-- The result after the last point. -/
def out (c : Dev nD) : S8192x2048.Idx → Elt F .f32 := (st m c cfg0.N).a

/-- The unscoped buffers after the run: the result at `out`, the others as the call finds them. -/
def Y (c : Dev nD) : (b : Ref sig .tc) → Buf (Elt F) ((c : Thread nD τ).loc b) := Function.update (V m c) main_v0 (out m c)

/-- The result is at `out`. -/
theorem Y_result (c : Dev nD) : Y m c main_v0 = out m c := Function.update_self ..
/-- The array of rows is as the call finds it. -/
theorem Y_rows (c : Dev nD) : Y m c main_arg1 = V m c main_arg1 := Function.update_of_ne (by decide) ..

/-- What holds before point number `n`. -/
def Inv (c : Dev nD) (n : ℕ) : sProp 𝕄 :=
  iprop(∃ (x0 : Bf (F := F) c X0) (x1 : Bf (F := F) c X1) (x2 : Bf (F := F) c X2), ⌜Kept m c n x0 x1⌝
    ∗ pt c MH (V m c main_arg1) ∗ pt c MA (st m c n).a ∗ pt c X0 x0 ∗ pt c X1 x1 ∗ pt c X2 x2
    ∗ semVal ((c : Thread nD τ), Gather.sm) 0 ∗ semVal ((c : Thread nD τ), Fetch.sm) 0 ∗ semVal ((c : Thread nD τ), Scatter.sm) 0
    ∗ ∃ r, prngReg c r)

/-- The five staged arrays as the call finds them, their blocks left in place, and the invariant above. -/
def dats (_ : Fin 1) (c : Dev nD) : Dat τ (Elt F) Unit ℕ (UC sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
  Φ t := Inv m c t.val
  q _ := fullShare
  owed _ := 0

/-- Before any point the row numbers' staging buffer holds their block. -/
theorem before_0 (c : Dev nD) (t : Fin cfg0.N) (d) : (dats m 0 c).before 0 t d = iblk m c 0 t :=
  ((dats m 0 c).before_in_eq_fetched 0 rfl (fun _ => rfl) (fun _ _ _ => rfl)
    (fun t => by rw [show (dats m 0 c).after 0 t = iblk m c 0 t from rfl]; unfold Dat.blockOf iblk; rw [show (dats m 0 c).A 0 = V m c (Pipeline.arrRef spec0 0) from rfl]; try rfl) t d).trans
    (by unfold Dat.fetched Dat.blockOf iblk; dsimp only [dats]; try rfl)
/-- Before any point the first weights' staging buffer holds their block. -/
theorem before_1 (c : Dev nD) (t : Fin cfg0.N) (d) : (dats m 0 c).before 1 t d = iblk m c 1 t :=
  ((dats m 0 c).before_in_eq_fetched 1 rfl (fun _ => rfl) (fun _ _ _ => rfl)
    (fun t => by rw [show (dats m 0 c).after 1 t = iblk m c 1 t from rfl]; unfold Dat.blockOf iblk; rw [show (dats m 0 c).A 1 = V m c (Pipeline.arrRef spec0 1) from rfl]; try rfl) t d).trans
    (by unfold Dat.fetched Dat.blockOf iblk; dsimp only [dats]; try rfl)
/-- Before any point the second weights' staging buffer holds their block. -/
theorem before_2 (c : Dev nD) (t : Fin cfg0.N) (d) : (dats m 0 c).before 2 t d = iblk m c 2 t :=
  ((dats m 0 c).before_in_eq_fetched 2 rfl (fun _ => rfl) (fun _ _ _ => rfl)
    (fun t => by rw [show (dats m 0 c).after 2 t = iblk m c 2 t from rfl]; unfold Dat.blockOf iblk; rw [show (dats m 0 c).A 2 = V m c (Pipeline.arrRef spec0 2) from rfl]; try rfl) t d).trans
    (by unfold Dat.fetched Dat.blockOf iblk; dsimp only [dats]; try rfl)
/-- Before any point the third weights' staging buffer holds their block. -/
theorem before_3 (c : Dev nD) (t : Fin cfg0.N) (d) : (dats m 0 c).before 3 t d = iblk m c 3 t :=
  ((dats m 0 c).before_in_eq_fetched 3 rfl (fun _ => rfl) (fun _ _ _ => rfl)
    (fun t => by rw [show (dats m 0 c).after 3 t = iblk m c 3 t from rfl]; unfold Dat.blockOf iblk; rw [show (dats m 0 c).A 3 = V m c (Pipeline.arrRef spec0 3) from rfl]; try rfl) t d).trans
    (by unfold Dat.fetched Dat.blockOf iblk; dsimp only [dats]; try rfl)
/-- Before any point the gains' staging buffer holds their block. -/
theorem before_4 (c : Dev nD) (t : Fin cfg0.N) (d) : (dats m 0 c).before 4 t d = iblk m c 4 t :=
  ((dats m 0 c).before_in_eq_fetched 4 rfl (fun _ => rfl) (fun _ _ _ => rfl)
    (fun t => by rw [show (dats m 0 c).after 4 t = iblk m c 4 t from rfl]; unfold Dat.blockOf iblk; rw [show (dats m 0 c).A 4 = V m c (Pipeline.arrRef spec0 4) from rfl]; try rfl) t d).trans
    (by unfold Dat.fetched Dat.blockOf iblk; dsimp only [dats]; try rfl)

/-- A whole staging buffer at contents `X` is that buffer at a content read as `X`. -/
theorem owns_pt (c : Dev nD) {sp : Space} {S : Shape} {e : EltTy} (M : Memref sig .tc sp S e) (h : M.IsWhole) (X : S.Idx → Elt F e) :
    (owns (c : Thread nD τ) M fullShare X : sProp 𝕄) = iprop(∃ f : Bf (F := F) c M, ⌜M.view.read (Elt F) f = X⌝ ∗ pt c M f) := by
  unfold owns; rw [h.set_eq_univ]

/-! ## The body at a point -/

/-- What is kept after a point other than the first of its expert, whose scratch buffers held what was kept. -/
theorem kept_step (c : Dev nD) (t : Fin cfg0.N) (x0 : S1024x2176.Idx → Elt F .f32) (x1 : S1024x2048.Idx → Elt F .f32)
    (h0 : x0 = xOf m c t (st m c t.val)) (h1 : x1 = yOf m c t (st m c t.val)) : Kept m c (t.val + 1) x0 x1 := fun _ _ => by
  rw [st_succ]; exact ⟨h0, h1⟩

/-- The staged blocks and the invariant at a point. -/
def pre (c : Dev nD) (t : Fin cfg0.N) : sProp 𝕄 :=
  iprop(Inv m c t.val ∗ (∃ W, owes (c : Thread nD τ) 0 W)
    ∗ owns (c : Thread nD τ) (win0_0.stage (cfg0.slots t 0)) fullShare (iblk m c 0 t)
    ∗ owns (c : Thread nD τ) (win0_1.stage (cfg0.slots t 1)) fullShare (iblk m c 1 t)
    ∗ owns (c : Thread nD τ) (win0_2.stage (cfg0.slots t 2)) fullShare (iblk m c 2 t)
    ∗ owns (c : Thread nD τ) (win0_3.stage (cfg0.slots t 3)) fullShare (iblk m c 3 t)
    ∗ owns (c : Thread nD τ) (win0_4.stage (cfg0.slots t 4)) fullShare (iblk m c 4 t))

/-- The staged blocks and the invariant after it. -/
def post (c : Dev nD) (t : Fin cfg0.N) : sProp 𝕄 :=
  iprop(Inv m c (t.val + 1) ∗ (∃ W, owes (c : Thread nD τ) 0 W)
    ∗ owns (c : Thread nD τ) (win0_0.stage (cfg0.slots t 0)) fullShare (iblk m c 0 t)
    ∗ owns (c : Thread nD τ) (win0_1.stage (cfg0.slots t 1)) fullShare (iblk m c 1 t)
    ∗ owns (c : Thread nD τ) (win0_2.stage (cfg0.slots t 2)) fullShare (iblk m c 2 t)
    ∗ owns (c : Thread nD τ) (win0_3.stage (cfg0.slots t 3)) fullShare (iblk m c 3 t)
    ∗ owns (c : Thread nD τ) (win0_4.stage (cfg0.slots t 4)) fullShare (iblk m c 4 t))

section AtPoint

variable (c : Dev nD) (t : Fin cfg0.N)
  (f0 : Bf (F := F) c (win0_0.stage (cfg0.slots t 0)))
  (f5 : Bf (F := F) c (win0_1.stage (cfg0.slots t 1)))
  (f6 : Bf (F := F) c (win0_2.stage (cfg0.slots t 2)))
  (f7 : Bf (F := F) c (win0_3.stage (cfg0.slots t 3)))
  (f8 : Bf (F := F) c (win0_4.stage (cfg0.slots t 4)))

/-- What is left after a point's run, at the contents the point is to leave, is what the point owes. -/
theorem close (x0 : Bf (F := F) c X0) (x1 : Bf (F := F) c X1) (x2 : Bf (F := F) c X2) (a : Bf (F := F) c MA)
    (e0 : (win0_0.stage (cfg0.slots t 0)).view.read (Elt F) f0 = iblk m c 0 t)
    (e5 : (win0_1.stage (cfg0.slots t 1)).view.read (Elt F) f5 = iblk m c 1 t)
    (e6 : (win0_2.stage (cfg0.slots t 2)).view.read (Elt F) f6 = iblk m c 2 t)
    (e7 : (win0_3.stage (cfg0.slots t 3)).view.read (Elt F) f7 = iblk m c 3 t)
    (e8 : (win0_4.stage (cfg0.slots t 4)).view.read (Elt F) f8 = iblk m c 4 t)
    (h0 : x0 = xOf m c t (st m c t.val)) (h1 : x1 = yOf m c t (st m c t.val)) (ha : a = aOf m c t (st m c t.val)) :
    iprop(pt c MH (V m c main_arg1) ∗ pt c MA a ∗ pt c X0 x0 ∗ pt c X1 x1 ∗ pt c X2 x2
      ∗ semVal ((c : Thread nD τ), Gather.sm) 0 ∗ semVal ((c : Thread nD τ), Fetch.sm) 0 ∗ semVal ((c : Thread nD τ), Scatter.sm) 0
      ∗ (∃ r, prngReg c r) ∗ (∃ W, owes (c : Thread nD τ) 0 W)
      ∗ pt c (win0_0.stage (cfg0.slots t 0)) f0
      ∗ pt c (win0_1.stage (cfg0.slots t 1)) f5
      ∗ pt c (win0_2.stage (cfg0.slots t 2)) f6
      ∗ pt c (win0_3.stage (cfg0.slots t 3)) f7
      ∗ pt c (win0_4.stage (cfg0.slots t 4)) f8)
      ⊢ post m c t := by
  unfold post Inv
  rw [owns_pt c (win0_0.stage (cfg0.slots t 0)) (hstage0_0 ((cfg0.slots t 0).cast nbuf0_0)), owns_pt c (win0_1.stage (cfg0.slots t 1)) (hstage0_1 ((cfg0.slots t 1).cast nbuf0_1)), owns_pt c (win0_2.stage (cfg0.slots t 2)) (hstage0_2 ((cfg0.slots t 2).cast nbuf0_2)), owns_pt c (win0_3.stage (cfg0.slots t 3)) (hstage0_3 ((cfg0.slots t 3).cast nbuf0_3)), owns_pt c (win0_4.stage (cfg0.slots t 4)) (hstage0_4 ((cfg0.slots t 4).cast nbuf0_4))]
  iintro ⟨HH, HA, HX0, HX1, HX2, HcG, HcF, HcS, Hp, HO, H0, H5, H6, H7, H8⟩
  isplitl [HH HA HX0 HX1 HX2 HcG HcF HcS Hp]
  · iexists x0; iexists x1; iexists x2
    isplitr
    · ipureintro; exact kept_step m c t x0 x1 h0 h1
    isplitl [HH]; · iexact HH
    isplitl [HA]
    · rw [show (st m c (t.val + 1)).a = a from by rw [st_succ, ha]; rfl]
      iexact HA
    isplitl [HX0]; · iexact HX0
    isplitl [HX1]; · iexact HX1
    isplitl [HX2]; · iexact HX2
    isplitl [HcG]; · iexact HcG
    isplitl [HcF]; · iexact HcF
    isplitl [HcS]; · iexact HcS
    iexact Hp
  isplitl [HO]; · iexact HO
  isplitl [H0]
  · iexists f0; isplitr; · ipureintro; exact e0
    iexact H0
  isplitl [H5]
  · iexists f5; isplitr; · ipureintro; exact e5
    iexact H5
  isplitl [H6]
  · iexists f6; isplitr; · ipureintro; exact e6
    iexact H6
  isplitl [H7]
  · iexists f7; isplitr; · ipureintro; exact e7
    iexact H7
  iexists f8; isplitr; · ipureintro; exact e8
  iexact H8

omit f0 f5 f6 f7 f8

/-- The body at a point that is neither the first nor the last of its expert. -/
theorem body_mid (hc1 : ¬ k0_cond1 (grid0.coords t) = 1#1) (hc : ¬ k0_cond2 (grid0.coords t) = 1#1) :
    pre m c t ⊢ wp frame (wpE (defs₀ (F := F)) Variants.none c none) Set.univ (bodyAt0 t) (fun _ => post m c t) := by
  unfold pre bodyAt0 Inv
  rw [owns_pt c (win0_0.stage (cfg0.slots t 0)) (hstage0_0 ((cfg0.slots t 0).cast nbuf0_0)), owns_pt c (win0_1.stage (cfg0.slots t 1)) (hstage0_1 ((cfg0.slots t 1).cast nbuf0_1)), owns_pt c (win0_2.stage (cfg0.slots t 2)) (hstage0_2 ((cfg0.slots t 2).cast nbuf0_2)), owns_pt c (win0_3.stage (cfg0.slots t 3)) (hstage0_3 ((cfg0.slots t 3).cast nbuf0_3)), owns_pt c (win0_4.stage (cfg0.slots t 4)) (hstage0_4 ((cfg0.slots t 4).cast nbuf0_4))]
  iintro ⟨⟨%x0, %x1, %x2, %hk, HH, HA, HX0, HX1, HX2, HcG, HcF, HcS, Hp⟩, HO, ⟨%f0, %e0, H0⟩, ⟨%f5, %e5, H5⟩, ⟨%f6, %e6, H6⟩, ⟨%f7, %e7, H7⟩, ⟨%f8, %e8, H8⟩⟩
  obtain ⟨k0, k1⟩ := hk t.isLt hc1
  iapply (Run.run_mid c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) f5 f6 f7 x0 x1 hc1 hc _)
  isplitl [H5]; · iexact H5
  isplitl [H6]; · iexact H6
  isplitl [H7]; · iexact H7
  isplitl [HX0]; · iexact HX0
  isplitl [HX1]; · iexact HX1
  iintro ⟨H5, H6, H7, HX0, HX1⟩
  iapply (close m c t f0 f5 f6 f7 f8 x0 (tile x0 ((win0_1.stage (cfg0.slots t 1)).view.read (Elt F) f5) ((win0_2.stage (cfg0.slots t 2)).view.read (Elt F) f6) x1 ((win0_3.stage (cfg0.slots t 3)).view.read (Elt F) f7)) x2 (st m c t.val).a e0 e5 e6 e7 e8
    (by unfold xOf; rw [if_neg hc1]; exact k0)
    (by unfold yOf xOf; rw [if_neg hc1, if_neg hc1, ← e5, ← e6, ← e7, ← k0, ← k1])
    (by unfold aOf; rw [if_neg hc]))
  isplitl [HH]; · iexact HH
  isplitl [HA]; · iexact HA
  isplitl [HX0]; · iexact HX0
  isplitl [HX1]; · iexact HX1
  isplitl [HX2]; · iexact HX2
  isplitl [HcG]; · iexact HcG
  isplitl [HcF]; · iexact HcF
  isplitl [HcS]; · iexact HcS
  isplitl [Hp]; · iexact Hp
  isplitl [HO]; · iexact HO
  isplitl [H0]; · iexact H0
  isplitl [H5]; · iexact H5
  isplitl [H6]; · iexact H6
  isplitl [H7]; · iexact H7
  iexact H8

/-- The body at an expert's first point. -/
theorem body_first (hR : Rows (F := F) (iblk m c 0 t)) (hc1 : k0_cond1 (grid0.coords t) = 1#1) (hc : ¬ k0_cond2 (grid0.coords t) = 1#1) :
    pre m c t ⊢ wp frame (wpE (defs₀ (F := F)) Variants.none c none) Set.univ (bodyAt0 t) (fun _ => post m c t) := by
  unfold pre bodyAt0 Inv
  rw [owns_pt c (win0_0.stage (cfg0.slots t 0)) (hstage0_0 ((cfg0.slots t 0).cast nbuf0_0)), owns_pt c (win0_1.stage (cfg0.slots t 1)) (hstage0_1 ((cfg0.slots t 1).cast nbuf0_1)), owns_pt c (win0_2.stage (cfg0.slots t 2)) (hstage0_2 ((cfg0.slots t 2).cast nbuf0_2)), owns_pt c (win0_3.stage (cfg0.slots t 3)) (hstage0_3 ((cfg0.slots t 3).cast nbuf0_3)), owns_pt c (win0_4.stage (cfg0.slots t 4)) (hstage0_4 ((cfg0.slots t 4).cast nbuf0_4))]
  iintro ⟨⟨%x0, %x1, %x2, %hk, HH, HA, HX0, HX1, HX2, HcG, HcF, HcS, Hp⟩, HO, ⟨%f0, %e0, H0⟩, ⟨%f5, %e5, H5⟩, ⟨%f6, %e6, H6⟩, ⟨%f7, %e7, H7⟩, ⟨%f8, %e8, H8⟩⟩
  have hok : Gather.WordsOK (Gather.wd (F := F) (c := c) (win0_0.stage (cfg0.slots t 0)) f0) := by
    rw [gather_wd, e0]
    exact ⟨fun k => hR.lt _, fun k k' h => Fin.ext (congrArg Fin.val (hR.inj _ _ h))⟩
  iapply (Run.run_first c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) f0 f5 f6 f7 (V m c main_arg1) x0 x1 hc1 hc hok _)
  isplitl [H0]; · iexact H0
  isplitl [H5]; · iexact H5
  isplitl [H6]; · iexact H6
  isplitl [H7]; · iexact H7
  isplitl [HH]; · iexact HH
  isplitl [HX0]; · iexact HX0
  isplitl [HX1]; · iexact HX1
  isplitl [HcG]; · iexact HcG
  isplitl [HO]; · iexact HO
  iintro ⟨H0, H5, H6, H7, HH, HX0, HX1, HcG, HO⟩
  iapply (close m c t f0 f5 f6 f7 f8 (Gather.took (Gather.wd (F := F) (c := c) (win0_0.stage (cfg0.slots t 0)) f0) (V m c main_arg1)) (tile (Gather.took (Gather.wd (F := F) (c := c) (win0_0.stage (cfg0.slots t 0)) f0) (V m c main_arg1)) ((win0_1.stage (cfg0.slots t 1)).view.read (Elt F) f5) ((win0_2.stage (cfg0.slots t 2)).view.read (Elt F) f6) k0_pay5 ((win0_3.stage (cfg0.slots t 3)).view.read (Elt F) f7)) x2 (st m c t.val).a e0 e5 e6 e7 e8
    (by unfold xOf; rw [if_pos hc1, gather_wd, e0])
    (by unfold yOf xOf; rw [if_pos hc1, if_pos hc1, gather_wd, e0, ← e5, ← e6, ← e7])
    (by unfold aOf; rw [if_neg hc]))
  isplitl [HH]; · iexact HH
  isplitl [HA]; · iexact HA
  isplitl [HX0]; · iexact HX0
  isplitl [HX1]; · iexact HX1
  isplitl [HX2]; · iexact HX2
  isplitl [HcG]; · iexact HcG
  isplitl [HcF]; · iexact HcF
  isplitl [HcS]; · iexact HcS
  isplitl [Hp]; · iexact Hp
  isplitl [HO]; · iexact HO
  isplitl [H0]; · iexact H0
  isplitl [H5]; · iexact H5
  isplitl [H6]; · iexact H6
  isplitl [H7]; · iexact H7
  iexact H8

/-- The body at an expert's last point. -/
theorem body_last (hR : Rows (F := F) (iblk m c 0 t)) (hc1 : ¬ k0_cond1 (grid0.coords t) = 1#1) (hc : k0_cond2 (grid0.coords t) = 1#1) :
    pre m c t ⊢ wp frame (wpE (defs₀ (F := F)) Variants.none c none) Set.univ (bodyAt0 t) (fun _ => post m c t) := by
  unfold pre bodyAt0 Inv
  rw [owns_pt c (win0_0.stage (cfg0.slots t 0)) (hstage0_0 ((cfg0.slots t 0).cast nbuf0_0)), owns_pt c (win0_1.stage (cfg0.slots t 1)) (hstage0_1 ((cfg0.slots t 1).cast nbuf0_1)), owns_pt c (win0_2.stage (cfg0.slots t 2)) (hstage0_2 ((cfg0.slots t 2).cast nbuf0_2)), owns_pt c (win0_3.stage (cfg0.slots t 3)) (hstage0_3 ((cfg0.slots t 3).cast nbuf0_3)), owns_pt c (win0_4.stage (cfg0.slots t 4)) (hstage0_4 ((cfg0.slots t 4).cast nbuf0_4))]
  iintro ⟨⟨%x0, %x1, %x2, %hk, HH, HA, HX0, HX1, HX2, HcG, HcF, HcS, Hp⟩, HO, ⟨%f0, %e0, H0⟩, ⟨%f5, %e5, H5⟩, ⟨%f6, %e6, H6⟩, ⟨%f7, %e7, H7⟩, ⟨%f8, %e8, H8⟩⟩
  obtain ⟨k0, k1⟩ := hk t.isLt hc1
  have hokF : Fetch.WordsOK (Fetch.wd (F := F) (c := c) (win0_0.stage (cfg0.slots t 0)) f0) := by
    rw [fetch_wd, e0]
    exact ⟨fun k => hR.lt _, fun k k' h => Fin.ext (congrArg Fin.val (hR.inj _ _ h))⟩
  have hokS : Scatter.WordsOK (Scatter.wd (F := F) (c := c) (win0_0.stage (cfg0.slots t 0)) f0) := by
    rw [scatter_wd, e0]
    exact ⟨fun k => hR.lt _, fun k k' h => Fin.ext (congrArg Fin.val (hR.inj _ _ h))⟩
  iapply (Run.run_last c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) f0 f5 f6 f7 f8 (st m c t.val).a x0 x1 x2 hc1 hc hokF hokS _)
  isplitl [H0]; · iexact H0
  isplitl [H5]; · iexact H5
  isplitl [H6]; · iexact H6
  isplitl [H7]; · iexact H7
  isplitl [H8]; · iexact H8
  isplitl [HA]; · iexact HA
  isplitl [HX0]; · iexact HX0
  isplitl [HX1]; · iexact HX1
  isplitl [HX2]; · iexact HX2
  isplitl [HcF]; · iexact HcF
  isplitl [HcS]; · iexact HcS
  isplitl [HO]; · iexact HO
  iintro ⟨H0, H5, H6, H7, H8, HA, HX0, HX1, HX2, HcF, HcS, HO⟩
  iapply (close m c t f0 f5 f6 f7 f8 x0 (tile x0 ((win0_1.stage (cfg0.slots t 1)).view.read (Elt F) f5) ((win0_2.stage (cfg0.slots t 2)).view.read (Elt F) f6) x1 ((win0_3.stage (cfg0.slots t 3)).view.read (Elt F) f7)) (upd (BitVec.ofNat 32 (grid0.coords t 0).val) x0 (Fetch.took (Fetch.wd (F := F) (c := c) (win0_0.stage (cfg0.slots t 0)) f0) (st m c t.val).a) ((win0_4.stage (cfg0.slots t 4)).view.read (Elt F) f8)
      (tile x0 ((win0_1.stage (cfg0.slots t 1)).view.read (Elt F) f5) ((win0_2.stage (cfg0.slots t 2)).view.read (Elt F) f6) x1 ((win0_3.stage (cfg0.slots t 3)).view.read (Elt F) f7))) (Scatter.gave (Scatter.wd (F := F) (c := c) (win0_0.stage (cfg0.slots t 0)) f0) (upd (BitVec.ofNat 32 (grid0.coords t 0).val) x0 (Fetch.took (Fetch.wd (F := F) (c := c) (win0_0.stage (cfg0.slots t 0)) f0) (st m c t.val).a) ((win0_4.stage (cfg0.slots t 4)).view.read (Elt F) f8)
      (tile x0 ((win0_1.stage (cfg0.slots t 1)).view.read (Elt F) f5) ((win0_2.stage (cfg0.slots t 2)).view.read (Elt F) f6) x1 ((win0_3.stage (cfg0.slots t 3)).view.read (Elt F) f7))) (st m c t.val).a) e0 e5 e6 e7 e8
    (by unfold xOf; rw [if_neg hc1]; exact k0)
    (by unfold yOf xOf; rw [if_neg hc1, if_neg hc1, ← e5, ← e6, ← e7, ← k0, ← k1])
    (by unfold aOf uOf yOf xOf; rw [if_pos hc, if_neg hc1, if_neg hc1, ← e5, ← e6, ← e7, ← e8, ← k0, ← k1, scatter_wd, fetch_wd, e0]))
  isplitl [HH]; · iexact HH
  isplitl [HA]; · iexact HA
  isplitl [HX0]; · iexact HX0
  isplitl [HX1]; · iexact HX1
  isplitl [HX2]; · iexact HX2
  isplitl [HcG]; · iexact HcG
  isplitl [HcF]; · iexact HcF
  isplitl [HcS]; · iexact HcS
  isplitl [Hp]; · iexact Hp
  isplitl [HO]; · iexact HO
  isplitl [H0]; · iexact H0
  isplitl [H5]; · iexact H5
  isplitl [H6]; · iexact H6
  isplitl [H7]; · iexact H7
  iexact H8

end AtPoint

/-- The body at any point. -/
theorem body_any (hR : AllRows m) (c : Dev nD) (t : Fin cfg0.N) :
    pre m c t ⊢ wp frame (wpE (defs₀ (F := F)) Variants.none c none) Set.univ (bodyAt0 t) (fun _ => post m c t) := by
  by_cases hc1 : k0_cond1 (grid0.coords t) = 1#1
  · exact body_first m c t (hR c t) hc1 (conds t hc1)
  · by_cases hc : k0_cond2 (grid0.coords t) = 1#1
    · exact body_last m c t (hR c t) hc1 hc
    · exact body_mid m c t hc1 hc

set_option maxRecDepth 16384 in
/-- What the pipeline asks of the body. -/
theorem body_obligation (hR : AllRows m) (c : Dev nD) : BodyObligation (dats m 0 c) (defs₀ (F := F)) Variants.none () Set.univ := fun t => by
  rw [bigSep_W0, bigSep_W0, show defs₀ (F := F) .tc cfg0.body (cfg0.bodyArgs t (cfg0.slots t)) = bodyAt0 t from by unfold defs₀; rw [Defs.onTc_tc]]
  unfold Dat.owesAt Pipeline.owesWithin
  rw [show (dats m 0 c).owed t.castSucc = 0 from rfl, show (dats m 0 c).owed t.succ = 0 from rfl,
    show (dats m 0 c).Φ t.castSucc = Inv m c t.val from rfl, show (dats m 0 c).Φ t.succ = Inv m c (t.val + 1) from rfl]
  refine triple_restated (body_any m hR c t) rfl ?_ fun _ => ?_
  · unfold pre
    iintro ⟨HΦ, ⟨%W, %hW, HO⟩, ⟨%d0, H0⟩, ⟨%d1, H1⟩, ⟨%d2, H2⟩, ⟨%d3, H3⟩, ⟨%d4, H4⟩⟩
    isplitl [HΦ]; · iexact HΦ
    isplitl [HO]; · iexists W; iexact HO
    isplitl [H0]; · iapply (Entails.of_eq (congrArg (owns (c : Thread nD τ) (win0_0.stage (cfg0.slots t 0)) fullShare) (before_0 m c t d0))); iexact H0
    isplitl [H1]; · iapply (Entails.of_eq (congrArg (owns (c : Thread nD τ) (win0_1.stage (cfg0.slots t 1)) fullShare) (before_1 m c t d1))); iexact H1
    isplitl [H2]; · iapply (Entails.of_eq (congrArg (owns (c : Thread nD τ) (win0_2.stage (cfg0.slots t 2)) fullShare) (before_2 m c t d2))); iexact H2
    isplitl [H3]; · iapply (Entails.of_eq (congrArg (owns (c : Thread nD τ) (win0_3.stage (cfg0.slots t 3)) fullShare) (before_3 m c t d3))); iexact H3
    iapply (Entails.of_eq (congrArg (owns (c : Thread nD τ) (win0_4.stage (cfg0.slots t 4)) fullShare) (before_4 m c t d4))); iexact H4
  · unfold post
    iintro ⟨HΦ, ⟨%W, HO⟩, H0, H1, H2, H3, H4⟩
    isplitl [HΦ]; · iexact HΦ
    isplitl [HO]
    · iexists W; isplitr; · ipureintro; exact fun _ _ => Or.inl trivial
      iexact HO
    isplitl [H0]; · iexact H0
    isplitl [H1]; · iexact H1
    isplitl [H2]; · iexact H2
    isplitl [H3]; · iexact H3
    iexact H4

/-! ## The launch -/

omit [FloatOps F] [∀ e, Nonempty (Elt F e)] in
/-- The two routed buffers, one by one. -/
theorem routed_R2 (c : Dev nD) (W : (b : Ref sig .tc) → Buf (Elt F) ((c : Thread nD τ).loc b)) :
    (Pipeline.routed (Val := Elt F) R2 c W : sProp 𝕄) = iprop(pt c MH (W main_arg1) ∗ pt c MA (W main_v0)) := by
  unfold Pipeline.routed; rw [bigSep_insert (by decide), BI.bigSep_singleton]; rfl

omit [FloatOps F] [∀ e, Nonempty (Elt F e)] in
/-- The three semaphores, one by one. -/
theorem ownSems_eq (c : Dev nD) :
    (Pipeline.ownSems0 (Ix := Unit) (Name := ℕ) (U := UC sig nD τ) (Lvl := ℕ) (Val := Elt F) (τ := τ) osem c : sProp 𝕄)
      = iprop(semVal ((c : Thread nD τ), Gather.sm) 0 ∗ semVal ((c : Thread nD τ), Fetch.sm) 0 ∗ semVal ((c : Thread nD τ), Scatter.sm) 0) :=
  Pipeline.ownSems0_eq_of_list c osem [0, 1, 2] (by decide) (by decide)

omit [∀ e, Nonempty (Elt F e)] in
/-- What the invariant is made of, piece by piece. -/
theorem ends_eq (c : Dev nD) (W : (b : Ref sig .tc) → Buf (Elt F) ((c : Thread nD τ).loc b)) :
    (Ends spec0 osem R2 c W : sProp 𝕄)
      = iprop((pt c MH (W main_arg1) ∗ pt c MA (W main_v0))
          ∗ (semVal ((c : Thread nD τ), Gather.sm) 0 ∗ semVal ((c : Thread nD τ), Fetch.sm) 0 ∗ semVal ((c : Thread nD τ), Scatter.sm) 0)
          ∗ ((∃ f : Bf (F := F) c X0, pt c X0 f) ∗ (∃ f : Bf (F := F) c X1, pt c X1 f) ∗ (∃ f : Bf (F := F) c X2, pt c X2 f))
          ∗ ∃ r, prngReg c r) := by
  unfold Ends; rw [routed_R2, ownSems_eq, scopedRest0_eq]

/-- The invariant holds before the first point. -/
theorem start (c : Dev nD) : (Ends spec0 osem R2 c (V m c) : sProp 𝕄) ⊢ Inv m c 0 := by
  rw [ends_eq]; unfold Inv
  iintro ⟨⟨HH, HA⟩, ⟨HcG, HcF, HcS⟩, ⟨⟨%x0, HX0⟩, ⟨%x1, HX1⟩, ⟨%x2, HX2⟩⟩, Hp⟩
  iexists x0; iexists x1; iexists x2
  isplitr
  · ipureintro; exact fun h hn => absurd cond1_zero hn
  isplitl [HH]; · iexact HH
  isplitl [HA]; · iexact HA
  isplitl [HX0]; · iexact HX0
  isplitl [HX1]; · iexact HX1
  isplitl [HX2]; · iexact HX2
  isplitl [HcG]; · iexact HcG
  isplitl [HcF]; · iexact HcF
  isplitl [HcS]; · iexact HcS
  iexact Hp

/-- After the last point the invariant gives everything back. -/
theorem finish (c : Dev nD) : Inv m c cfg0.N ⊢ (Ends spec0 osem R2 c (Y m c) : sProp 𝕄) := by
  rw [ends_eq, Y_result, Y_rows]; unfold Inv out
  iintro ⟨%x0, %x1, %x2, %hk, HH, HA, HX0, HX1, HX2, HcG, HcF, HcS, Hp⟩
  isplitl [HH HA]
  · isplitl [HH]; · iexact HH
    iexact HA
  isplitl [HcG HcF HcS]
  · isplitl [HcG]; · iexact HcG
    isplitl [HcF]; · iexact HcF
    iexact HcS
  isplitl [HX0 HX1 HX2]
  · isplitl [HX0]; · iexists x0; iexact HX0
    isplitl [HX1]; · iexists x1; iexact HX1
    iexists x2; iexact HX2
  iexact Hp

/-- The three semaphores are the body's own. -/
theorem ownSemFacts : Pipeline.OwnSemFacts spec0 osem := by decide

/-- The program runs to the end, from any memory whose row numbers are rows of the array, no two alike. -/
theorem run_main (hR : AllRows m) :
    θ_run defs (onTc (τ := τ) (main (F := F))) (s₀ m ρ) (fun r => RoutedPost cfgs (dats m) 0 R2 (V m) (Y m) r ∧ r.2.sem = fun _ => 0) :=
  Pipeline.θ_run_frame_routed cfgs (dats m) 0 launch0 ownSemFacts defs₀ Variants.none m ρ main
    (hbody := fun c => (body_obligation m hR c).loose) (hshare := fun c => (dats m 0 c).share_full fun _ => rfl)
    (howed := fun _ _ => rfl) (V := V m)
    (hmain := Pipeline.hmain_prefix cfgs 0 defs₀ Variants.none m main hostOps0 hostOps0_sub hostOps0_fresh main_chain)
    (hA := fun _ _ => rfl) (R := R2) (hR := by decide) (Y := Y m) (hin := start m) (hout := finish m) (Q' := _)

/-- The program runs to the end; its arguments end as they began, its result at `out`, and every counter at zero. -/
theorem run_out (hR : AllRows m) :
    θ_run defs (onTc (τ := τ) (main (F := F))) ⟨m, fun _ => 0, ρ⟩ (fun r => (∀ c : Dev nD,
      r.2.mem ((c.tc : Thread nD τ).loc main_v0) = out m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  (θ_run defs _ _).mono (fun _ ⟨h, hz⟩ => ⟨fun c =>
    ⟨((h c).2.1 main_v0 (by decide)).trans (Y_result m c),
      ((h c).1 0).trans (((dats m 0 c).arrAt_in 0 rfl _).trans (V_main_arg0 m c)),
      ((h c).2.1 main_arg1 (by decide)).trans ((Y_rows m c).trans (V_main_arg1 m c)),
      ((h c).2.2 main_arg2 (by decide)).trans (V_main_arg2 m c),
      ((h c).1 1).trans (((dats m 0 c).arrAt_in 1 rfl _).trans (V_main_arg3 m c)),
      ((h c).1 2).trans (((dats m 0 c).arrAt_in 2 rfl _).trans (V_main_arg4 m c)),
      ((h c).1 3).trans (((dats m 0 c).arrAt_in 3 rfl _).trans (V_main_arg5 m c)),
      ((h c).1 4).trans (((dats m 0 c).arrAt_in 4 rfl _).trans (V_main_arg6 m c))⟩, hz⟩) (run_main m ρ hR)

end Cert.MoeIdeal.Whole

end
-- ==== Proof.MoeIdealRows.lean ====
/-
  Where the row numbers of a grid point lie in their array; and from the precondition on that array, the run.
-/
module

public import proofs.«01_k».proof.Proof.RowNumbers
public import proofs.«01_k».proof.Proof.MoeIdealWhole

@[expose] public section

noncomputable section

namespace Cert.MoeIdeal.Rows

open Cert.MoeIdeal Cert.MoeIdeal.Gen
open Idealize.ShloMosaic Idealize.ShloMosaic.TcCoe
open Idealize.SL.Sem
open Cert.RowNumbers (Good rowAt)
open Cert.MoeIdeal.Whole (word AllRows)

variable {F : FTy → Type} [FloatOps F]

variable (m : (ℓ : Loc nD τ sig) → Buf (Elt F) ℓ) (ρ : Dev nD → PrngReg)

/-- There are sixteen experts, twenty-two grid points to each. -/
theorem t_lt (t : Fin cfg0.N) : t.val < 352 := lt_of_lt_of_eq t.isLt N_0

/-- The expert of a grid point. -/
def expert (t : Fin cfg0.N) : Fin 16 := ⟨t.val / 22, by have := t_lt t; omega⟩

/-- A grid point's block of row numbers is its expert's. -/
theorem where_rows : ∀ t : Fin cfg0.N, win0_0.index t 0 = t.val / 22 ∧ win0_0.index t 1 = 0 ∧ win0_0.index t 2 = 0 :=
  (by decide +kernel : ∀ t : Fin grid0.N, _)

/-- The row numbers of a grid point are those of its expert. -/
theorem word_eq (c : Dev nD) (t : Fin cfg0.N) (j : Fin 1024) :
    word (F := F) (iblk m c 0 t) j = rowAt (m ((c : Thread nD τ).loc main_arg0)) (expert t) j := by
  obtain ⟨e0, e1, e2⟩ := where_rows t
  show V m c main_arg0 _ = _
  rw [V_main_arg0]
  refine congrArg _ (funext fun a => Fin.ext ?_)
  match a with
  | 0 => show win0_0.index t 0 * 1 + 1 * 0 = t.val / 22; rw [e0]; omega
  | 1 => show win0_0.index t 1 * 1 + 1 * 0 = 0; rw [e1]
  | 2 => show win0_0.index t 2 * 1024 + 1 * j.val = j.val; rw [e2]; omega

/-- Row numbers as the precondition has them serve every grid point. -/
theorem allRows (h : ∀ c : Dev nD, Good (m ((c : Thread nD τ).loc main_arg0))) : AllRows m := fun c t => {
  lt := fun j => by
    rw [word_eq]
    by_cases hj : j.val < 512
    · exact lt_trans ((h c).first (expert t) j hj) (by decide)
    · exact ((h c).second (expert t) j (by omega)).2
  inj := fun j j' e => by
    rw [word_eq, word_eq] at e
    exact (h c).inj (expert t) j j' (BitVec.eq_of_toNat_eq e) }

/-- The run leaves the arguments as they were and every counter at zero. -/
theorem frame [∀ e, Nonempty (Elt F e)] (h : ∀ c : Dev nD, Good (m ((c : Thread nD τ).loc main_arg0))) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  (θ_run defs _ _).mono (fun _ r => ⟨fun c => (r.1 c).2, r.2⟩) (Whole.run_out m ρ (allRows m h))

end Cert.MoeIdeal.Rows

end
-- ==== Proof.MoeMath.lean ====
/-
  The routed experts, in plain sums: every expert's results for its rows, and what a row of the result gains from them.
-/
module

public import proofs.«01_k».proof.Proof.RowNumbers
public import Idealize.ShloMosaic.Lib.Pointwise

@[expose] public section

noncomputable section

namespace Cert.MoeMath

open Idealize.ShloMosaic
open Cert.RowNumbers (SR rowAt Good)
open Cert.Softmax (IsReal)

/-- The shapes of the rows, of the result, of the two first and of the last weights, and of the gains. -/
abbrev SX : Shape := ⟨2, ![8192, 2176]⟩
/-- The shape of the result. -/
abbrev SA : Shape := ⟨2, ![8192, 2048]⟩
/-- The shape of the two first weights. -/
abbrev SW : Shape := ⟨4, ![1, 16, 2048, 5632]⟩
/-- The shape of the last weights. -/
abbrev SD : Shape := ⟨4, ![1, 16, 5632, 2048]⟩
/-- The shape of the gains. -/
abbrev SG : Shape := ⟨2, ![8, 2048]⟩

/-- The activation of an expert: the gated input by its own sigmoid, times the other input. -/
def act (a b : EReal) : EReal := a * Ideal.div 1 (1 + Ideal.exp (-a)) * b

/-- The row of the array that is row `j` of expert `e`. -/
def row (x0 : IVec SR 32) (e : Fin 16) (j : Fin 1024) : Fin 8192 := ⟨(rowAt x0 e j).toNat % 8192, Nat.mod_lt _ (by decide)⟩

section
variable (x0 : IVec SR 32) (x1 : SX.Idx → EReal) (x2 : SA.Idx → EReal) (x3 x4 : SW.Idx → EReal) (x5 : SD.Idx → EReal) (x6 : SG.Idx → EReal)

/-- Row `j` of expert `e` by column `p` of a first weight. -/
def proj (x : SW.Idx → EReal) (e : Fin 16) (j : Fin 1024) (p : Fin 5632) : EReal :=
  ∑ i : Fin 2048, x1 (ix2 (row x0 e j) ⟨i.val, by omega⟩) * x (ix4 0 e i p)

/-- The part of a result that passes through place `p` of the expert's middle. -/
def term (e : Fin 16) (j : Fin 1024) (q : Fin 2048) (p : Fin 5632) : EReal :=
  act (proj x0 x1 x3 e j p) (proj x0 x1 x4 e j p) * x5 (ix4 0 e p q)

/-- Expert `e`'s result for its row `j`, at column `q`. -/
def result (e : Fin 16) (j : Fin 1024) (q : Fin 2048) : EReal := ∑ p : Fin 5632, term x0 x1 x3 x4 x5 e j q p

/-- The weight of expert `e` on its row `j`. -/
def weight (e : Fin 16) (j : Fin 1024) : EReal := x1 (ix2 (row x0 e j) ⟨2048 + e.val, by omega⟩)

/-- What row `r` gains from expert `e`, at column `q`: of the expert's rows, the one that is row `r`, if any. -/
def part (e : Fin 16) (r : Fin 8192) (q : Fin 2048) : EReal :=
  ∑ j : Fin 1024, if row x0 e j = r then weight x0 x1 e j * x6 (ix2 ⟨j.val / 512, by omega⟩ q) * result x0 x1 x3 x4 x5 e j q else 0

/-- The result: what was there, and what each expert adds. -/
def total : SA.Idx → EReal := fun y => x2 y + ∑ e : Fin 16, part x0 x1 x3 x4 x5 x6 e (y 0) (y 1)

/-- A term by the number of its place, nothing past the last. -/
def termN (e : Fin 16) (j : Fin 1024) (q : Fin 2048) (p : ℕ) : EReal := if h : p < 5632 then term x0 x1 x3 x4 x5 e j q ⟨p, h⟩ else 0

/-- All 5632 numbered terms are the result. -/
theorem sum_termN (e : Fin 16) (j : Fin 1024) (q : Fin 2048) :
    ∑ p ∈ Finset.range 5632, termN x0 x1 x3 x4 x5 e j q p = result x0 x1 x3 x4 x5 e j q := by
  rw [Finset.sum_range]
  exact Finset.sum_congr rfl fun p _ => dif_pos p.isLt

variable {x0}

/-- A good row number is the row's own number. -/
theorem row_val (h : Good x0) (e : Fin 16) (j : Fin 1024) : (row x0 e j).val = (rowAt x0 e j).toNat := by
  have : (rowAt x0 e j).toNat < 8192 := by
    by_cases hj : j.val < 512
    · exact lt_trans (h.first e j hj) (by decide)
    · exact (h.second e j (by omega)).2
  exact Nat.mod_eq_of_lt this

/-- An expert's rows are different rows. -/
theorem row_inj (h : Good x0) (e : Fin 16) {j j' : Fin 1024} (hr : row x0 e j = row x0 e j') : j = j' :=
  h.inj e j j' (BitVec.eq_of_toNat_eq (by rw [← row_val h, ← row_val h, hr]))

/-- The first half of an expert's rows are the first sample's, the second half the second's. -/
theorem row_sample (h : Good x0) (e : Fin 16) (j : Fin 1024) : (row x0 e j).val / 4096 = j.val / 512 := by
  rw [row_val h]
  by_cases hj : j.val < 512
  · have := h.first e j hj; omega
  · have := h.second e j (by omega); have := j.isLt; omega

/-- A row that is expert `e`'s row `j` gains from that row alone. -/
theorem part_hit (h : Good x0) {e : Fin 16} {j : Fin 1024} {r : Fin 8192} (hr : row x0 e j = r) (q : Fin 2048) :
    part x0 x1 x3 x4 x5 x6 e r q = weight x0 x1 e j * x6 (ix2 ⟨j.val / 512, by omega⟩ q) * result x0 x1 x3 x4 x5 e j q := by
  unfold part
  rw [Finset.sum_eq_single j (fun j' _ hj => if_neg fun h' => hj (row_inj h e (h'.trans hr.symm))) (fun h' => absurd (Finset.mem_univ _) h'), if_pos hr]

/-- A row that is none of expert `e`'s gains nothing. -/
theorem part_miss {e : Fin 16} {r : Fin 8192} (hr : ¬ ∃ j, row x0 e j = r) (q : Fin 2048) : part x0 x1 x3 x4 x5 x6 e r q = 0 :=
  Finset.sum_eq_zero fun j _ => if_neg fun h' => hr ⟨j, h'⟩

end

/-! ## Sums of real numbers -/

/-- The negative of a real number is real. -/
theorem real_neg {x : EReal} (h : IsReal x) : IsReal (-x) := by
  obtain ⟨r, rfl⟩ := h
  exact ⟨-r, by norm_cast⟩

/-- The activation of real numbers is real. -/
theorem real_act {a b : EReal} (ha : IsReal a) (hb : IsReal b) : IsReal (act a b) := by
  obtain ⟨r, rfl⟩ := ha
  refine (IsReal.mul (IsReal.mul ⟨r, rfl⟩ ?_) hb)
  have h : (1 : EReal) + Ideal.exp (-(r : EReal)) = ((1 + Real.exp (-r) : ℝ) : EReal) := by
    rw [show -(r : EReal) = ((-r : ℝ) : EReal) from by norm_cast, show Ideal.exp ((-r : ℝ) : EReal) = (Real.exp (-r) : EReal) from rfl]
    norm_cast
  rw [h]
  have hp : (1 + Real.exp (-r) : ℝ) ≠ 0 := by have := Real.exp_pos (-r); positivity
  rw [Ideal.div_coe hp]
  exact IsReal.mul ⟨1, by norm_cast⟩ ⟨_, rfl⟩

/-- A real factor goes into a sum of real numbers. -/
theorem mul_sum {ι : Type} (t : Finset ι) (f : ι → EReal) (h : ∀ i, IsReal (f i)) {c : EReal} (hc : IsReal c) :
    c * ∑ i ∈ t, f i = ∑ i ∈ t, c * f i := by
  obtain ⟨r, rfl⟩ := hc
  choose g hg using h
  simp only [hg]
  rw [← Softmax.coe_sum_real]
  simp only [← EReal.coe_mul]
  rw [← Softmax.coe_sum_real, Finset.mul_sum]

end Cert.MoeMath

end
-- ==== Proof.MoeIdealPays.lean ====
/-
  What a grid point computes, read at one row and one column.
-/
module

public import proofs.«01_k».proof.Proof.MoeIdealRun
public import proofs.«01_k».proof.Proof.MoeMath
public import Idealize.ShloMosaic.Lib.Pointwise

@[expose] public section

set_option maxRecDepth 16384

noncomputable section

namespace Cert.MoeIdeal.Pays

open Cert.MoeIdeal Cert.MoeIdeal.Gen
open Idealize.ShloMosaic Idealize.ShloMosaic.TcCoe
open Cert.MoeMath (act)
open Cert.MoeIdeal.Run (left right upper lower upper1 lower1 gain0 gain1 tile upd)

local notation "𝐅" => Ideal

/-- The results' scratch starts at zero. -/
theorem pay5_apply (j : Fin 1024) (q : Fin 2048) : (k0_pay5 (F := 𝐅)) (ix2 j q) = (0 : EReal) := by
  pointwise [k0_pay5]

/-- A tile adds, to every entry of the results, its 256 activations by the columns of the last weights. -/
theorem pay6_apply (x : Vec 𝐅 S1024x2048 .f32) (g u : Vec 𝐅 S1x1x2048x256 .f32) (y : Vec 𝐅 S1024x2048 .f32) (d : Vec 𝐅 S1x1x256x2048 .f32)
    (j : Fin 1024) (q : Fin 2048) : k0_pay6 x g u y d (ix2 j q) = (y (ix2 j q) : EReal) + ∑ k : Fin 256,
      act (∑ i : Fin 2048, x (ix2 j i) * g (ix4 0 0 i k)) (∑ i : Fin 2048, x (ix2 j i) * u (ix4 0 0 i k)) * d (ix4 0 0 k q) := by
  pointwise [k0_pay6, act]
  simp only [zero_sub]

/-- A lane is an expert's where their numbers are one. -/
theorem lane_eq {α : Type} (k : Fin 128) (e : Fin 16) (a b : α) :
    Scalar.select (IntOp.cmpi CmpIPredicate.eq (BitVec.ofNat 32 k.val) (BitVec.ofNat 32 e.val)) a b = if k.val = e.val then a else b := by
  have h : BitVec.ofNat 32 k.val = BitVec.ofNat 32 e.val ↔ k.val = e.val := by
    rw [← BitVec.toNat_inj, BitVec.toNat_ofNat, BitVec.toNat_ofNat]
    omega
  by_cases hk : k.val = e.val
  · rw [if_pos hk]
    simp [Scalar.select, IntOp.cmpi, hk]
  · rw [if_neg hk]
    have hn : (BitVec.ofNat 32 k.val == BitVec.ofNat 32 e.val) = false := beq_eq_false_iff_ne.mpr fun h' => hk (h.mp h')
    simp [Scalar.select, IntOp.cmpi, hn]

/-- The weight of a row: its entry at the expert's lane. -/
theorem pay2_apply (e : Fin 16) (v : Vec 𝐅 S1024x128 .f32) (j : Fin 1024) :
    k0_pay2 (BitVec.ofNat 32 e.val) v (ix2 j 0) = v (ix2 j ⟨e.val, by omega⟩) := by
  pointwise [k0_pay2]
  rw [Finset.sum_eq_single (⟨e.val, by omega⟩ : Fin 128)]
  · rw [lane_eq, if_pos rfl]
  · intro k _ hk
    rw [lane_eq, if_neg (fun h => hk (Fin.ext h))]
  · exact fun h => absurd (Finset.mem_univ _) h

/-- The first half of the rows, each with its results taken in at its weight and the first sample's gain. -/
theorem pay3_apply (e : Fin 16) (v : Vec 𝐅 S1024x128 .f32) (a : Vec 𝐅 S512x2048 .f32) (g : Vec 𝐅 S1x2048 .f32) (y : Vec 𝐅 S512x2048 .f32)
    (j : Fin 512) (q : Fin 2048) : k0_pay3 (BitVec.ofNat 32 e.val) v a g y (ix2 j q)
      = (a (ix2 j q) : EReal) + v (ix2 ⟨j.val, by omega⟩ ⟨e.val, by omega⟩) * g (ix2 0 q) * y (ix2 j q) := by
  rw [← pay2_apply e v]
  pointwise [k0_pay3]

/-- The second half of the rows, each with its results taken in at its weight and the second sample's gain. -/
theorem pay4_apply (e : Fin 16) (v : Vec 𝐅 S1024x128 .f32) (a : Vec 𝐅 S512x2048 .f32) (g : Vec 𝐅 S1x2048 .f32) (y : Vec 𝐅 S512x2048 .f32)
    (j : Fin 512) (q : Fin 2048) : k0_pay1 (k0_pay4 (BitVec.ofNat 32 e.val) v a g y) (ix2 j q)
      = (a (ix2 j q) : EReal) + v (ix2 ⟨512 + j.val, by omega⟩ ⟨e.val, by omega⟩) * g (ix2 0 q) * y (ix2 j q) := by
  rw [← pay2_apply e v]
  pointwise [k0_pay1, k0_pay4]

/-- The two ways to write a place in an array are one. -/
theorem ix2_eq {a b : ℕ} (i : Fin a) (j : Fin b) : (ValueIdx.ix2 i j : (⟨2, ![a, b]⟩ : Shape).Idx) = ix2 i j := by
  funext k
  match k with
  | ⟨0, _⟩ => rfl
  | ⟨1, _⟩ => rfl

/-- The first 512 rows, by their place among all. -/
theorem upper_apply (a : S1024x2048.Idx → Elt 𝐅 .f32) (j : Fin 512) (q : Fin 2048) : upper a (ix2 j q) = a (ix2 ⟨j.val, by omega⟩ q) :=
  congrArg a (funext fun k => Fin.ext (match k with
    | ⟨0, _⟩ => by show 0 + 1 * j.val = j.val; omega
    | ⟨1, _⟩ => by show 0 + 1 * q.val = q.val; omega))

/-- The last 512 rows, by their place among all. -/
theorem lower_apply (a : S1024x2048.Idx → Elt 𝐅 .f32) (j : Fin 512) (q : Fin 2048) : lower a (ix2 j q) = a (ix2 ⟨512 + j.val, by omega⟩ q) :=
  congrArg a (funext fun k => Fin.ext (match k with
    | ⟨0, _⟩ => by show 512 + 1 * j.val = 512 + j.val; omega
    | ⟨1, _⟩ => by show 0 + 1 * q.val = q.val; omega))

/-- The first 512 rows of results, by their place among all. -/
theorem upper1_apply (a : S1024x2048.Idx → Elt 𝐅 .f32) (j : Fin 512) (q : Fin 2048) : upper1 a (ix2 j q) = a (ix2 ⟨j.val, by omega⟩ q) :=
  congrArg a (funext fun k => Fin.ext (match k with
    | ⟨0, _⟩ => by show 0 + 1 * j.val = j.val; omega
    | ⟨1, _⟩ => by show 0 + 1 * q.val = q.val; omega))

/-- The last 512 rows of results, by their place among all. -/
theorem lower1_apply (a : S1024x2048.Idx → Elt 𝐅 .f32) (j : Fin 512) (q : Fin 2048) : lower1 a (ix2 j q) = a (ix2 ⟨512 + j.val, by omega⟩ q) :=
  congrArg a (funext fun k => Fin.ext (match k with
    | ⟨0, _⟩ => by show 512 + 1 * j.val = 512 + j.val; omega
    | ⟨1, _⟩ => by show 0 + 1 * q.val = q.val; omega))

/-- The first 2048 columns, by their place among all. -/
theorem left_apply (x : S1024x2176.Idx → Elt 𝐅 .f32) (j : Fin 1024) (q : Fin 2048) : left x (ix2 j q) = x (ix2 j ⟨q.val, by omega⟩) :=
  congrArg x (funext fun k => Fin.ext (match k with
    | ⟨0, _⟩ => by show 0 + 1 * j.val = j.val; omega
    | ⟨1, _⟩ => by show 0 + 1 * q.val = q.val; omega))

/-- The last 128 columns, by their place among all. -/
theorem right_apply (x : S1024x2176.Idx → Elt 𝐅 .f32) (j : Fin 1024) (q : Fin 128) : right x (ix2 j q) = x (ix2 j ⟨2048 + q.val, by omega⟩) :=
  congrArg x (funext fun k => Fin.ext (match k with
    | ⟨0, _⟩ => by show 0 + 1 * j.val = j.val; omega
    | ⟨1, _⟩ => by show 2048 + 1 * q.val = 2048 + q.val; omega))

/-- The first sample's gains are row 0. -/
theorem gain0_apply (g : S8x2048.Idx → Elt 𝐅 .f32) (q : Fin 2048) : gain0 g (ix2 0 q) = g (ix2 0 q) :=
  congrArg g (funext fun k => Fin.ext (match k with
    | ⟨0, _⟩ => by show 0 + 1 * 0 = 0; omega
    | ⟨1, _⟩ => by show 0 + 1 * q.val = q.val; omega))

/-- The second sample's gains are row 1. -/
theorem gain1_apply (g : S8x2048.Idx → Elt 𝐅 .f32) (q : Fin 2048) : gain1 g (ix2 0 q) = g (ix2 1 q) :=
  congrArg g (funext fun k => Fin.ext (match k with
    | ⟨0, _⟩ => by show 1 + 1 * 0 = 1; omega
    | ⟨1, _⟩ => by show 0 + 1 * q.val = q.val; omega))

/-- The rows with an expert's results taken in: each entry gains the row's weight times its sample's gain times the result. -/
theorem upd_apply (e : Fin 16) (x0 : S1024x2176.Idx → Elt 𝐅 .f32) (a : S1024x2048.Idx → Elt 𝐅 .f32) (g : S8x2048.Idx → Elt 𝐅 .f32)
    (y : S1024x2048.Idx → Elt 𝐅 .f32) (j : Fin 1024) (q : Fin 2048) : upd (BitVec.ofNat 32 e.val) x0 a g y (ix2 j q)
      = (a (ix2 j q) : EReal) + x0 (ix2 j ⟨2048 + e.val, by omega⟩) * g (ix2 ⟨j.val / 512, by omega⟩ q) * y (ix2 j q) := by
  unfold upd
  split
  next h =>
    have hj : j.val < 512 := h
    refine (congrArg _ (ix2_eq (⟨j.val, hj⟩ : Fin 512) q)).trans ?_
    refine (pay3_apply e _ _ _ _ ⟨j.val, hj⟩ q).trans ?_
    rw [upper_apply, upper1_apply, right_apply, gain0_apply, show (⟨j.val / 512, by omega⟩ : Fin 8) = 0 from Fin.ext (by show j.val / 512 = 0; omega)]
  next h =>
    have hj : ¬ j.val < 512 := h
    have hq : (⟨512 + (j.val - 512), by omega⟩ : Fin 1024) = j := Fin.ext (by show 512 + (j.val - 512) = j.val; omega)
    refine (congrArg _ (ix2_eq (⟨j.val - 512, by omega⟩ : Fin 512) q)).trans ?_
    refine (pay4_apply e _ _ _ _ ⟨j.val - 512, by omega⟩ q).trans ?_
    rw [lower_apply, lower1_apply, right_apply, gain1_apply, show (⟨j.val / 512, by omega⟩ : Fin 8) = 1 from Fin.ext (by show j.val / 512 = 1; omega)]
    simp only [hq]

/-- A tile read off the rows: its left 2048 columns go into the products. -/
theorem tile_apply (x : S1024x2176.Idx → Elt 𝐅 .f32) (g u : Vec 𝐅 S1x1x2048x256 .f32) (y : Vec 𝐅 S1024x2048 .f32) (d : Vec 𝐅 S1x1x256x2048 .f32)
    (j : Fin 1024) (q : Fin 2048) : tile x g u y d (ix2 j q) = (y (ix2 j q) : EReal) + ∑ k : Fin 256,
      act (∑ i : Fin 2048, x (ix2 j ⟨i.val, by omega⟩) * g (ix4 0 0 i k)) (∑ i : Fin 2048, x (ix2 j ⟨i.val, by omega⟩) * u (ix4 0 0 i k)) * d (ix4 0 0 k q) := by
  refine (pay6_apply (left x) g u y d j q).trans ?_
  simp only [left_apply]

end Cert.MoeIdeal.Pays

end
-- ==== Proof.MoeIdealState.lean ====
/-
  What the buffers hold after each grid point, in plain sums; and the result.
-/
module

public import proofs.«01_k».proof.Proof.MoeIdealRows
public import proofs.«01_k».proof.Proof.MoeIdealPays

@[expose] public section

set_option maxRecDepth 16384

noncomputable section

namespace Cert.MoeIdeal.State

open Cert.MoeIdeal Cert.MoeIdeal.Gen
open Idealize.ShloMosaic Idealize.ShloMosaic.TcCoe
open Idealize.SL.Sem
open Cert.RowNumbers (SR Good rowAt)
open Cert.MoeIdeal.Whole (word AllRows st xOf yOf uOf aOf st_succ)
open Cert.MoeIdeal.Rows (t_lt expert word_eq)
open Cert.MoeIdeal.Pays
open Cert.MoeIdeal.Run (tile upd)

local notation "𝐅" => Ideal

variable (m : (ℓ : Loc nD τ sig) → Buf (Elt 𝐅) ℓ) (c : Dev nD)

/-! ## The arguments, and the grid -/

/-- The row numbers. -/
abbrev A0 : IVec SR 32 := m ((c : Thread nD τ).loc main_arg0)
/-- The rows. -/
abbrev A1 : MoeMath.SX.Idx → EReal := m ((c : Thread nD τ).loc main_arg1)
/-- What the result begins with. -/
abbrev A2 : MoeMath.SA.Idx → EReal := m ((c : Thread nD τ).loc main_arg2)
/-- The gate's weights. -/
abbrev A3 : MoeMath.SW.Idx → EReal := m ((c : Thread nD τ).loc main_arg3)
/-- The other first weights. -/
abbrev A4 : MoeMath.SW.Idx → EReal := m ((c : Thread nD τ).loc main_arg4)
/-- The last weights. -/
abbrev A5 : MoeMath.SD.Idx → EReal := m ((c : Thread nD τ).loc main_arg5)
/-- The gains. -/
abbrev A6 : MoeMath.SG.Idx → EReal := m ((c : Thread nD τ).loc main_arg6)

/-- Grid point number `n`. -/
def pt (n : ℕ) (h : n < 352) : Fin cfg0.N := ⟨n, lt_of_lt_of_eq h N_0.symm⟩

/-- An expert's first point is where the rows are taken. -/
theorem cond1_iff : ∀ t : Fin cfg0.N, k0_cond1 (grid0.coords t) = 1#1 ↔ t.val % 22 = 0 :=
  (by decide +kernel : ∀ t : Fin grid0.N, _)

/-- An expert's last point is where the results are given back. -/
theorem cond2_iff : ∀ t : Fin cfg0.N, k0_cond2 (grid0.coords t) = 1#1 ↔ t.val % 22 = 21 :=
  (by decide +kernel : ∀ t : Fin grid0.N, _)

/-- A point's first coordinate is its expert. -/
theorem coord_expert : ∀ t : Fin cfg0.N, (grid0.coords t 0).val = t.val / 22 :=
  (by decide +kernel : ∀ t : Fin grid0.N, _)

/-- A point's block of the gate's weights is 256 of its expert's columns. -/
theorem where_gate : ∀ t : Fin cfg0.N, win0_1.index t 0 = 0 ∧ win0_1.index t 1 = t.val / 22 ∧ win0_1.index t 2 = 0 ∧ win0_1.index t 3 = t.val % 22 :=
  (by decide +kernel : ∀ t : Fin grid0.N, _)

/-- A point's block of the other first weights is 256 of its expert's columns. -/
theorem where_up : ∀ t : Fin cfg0.N, win0_2.index t 0 = 0 ∧ win0_2.index t 1 = t.val / 22 ∧ win0_2.index t 2 = 0 ∧ win0_2.index t 3 = t.val % 22 :=
  (by decide +kernel : ∀ t : Fin grid0.N, _)

/-- A point's block of the last weights is 256 of its expert's rows. -/
theorem where_down : ∀ t : Fin cfg0.N, win0_3.index t 0 = 0 ∧ win0_3.index t 1 = t.val / 22 ∧ win0_3.index t 2 = t.val % 22 ∧ win0_3.index t 3 = 0 :=
  (by decide +kernel : ∀ t : Fin grid0.N, _)

/-- Every point has all the gains. -/
theorem where_gain : ∀ t : Fin cfg0.N, win0_4.index t 0 = 0 ∧ win0_4.index t 1 = 0 :=
  (by decide +kernel : ∀ t : Fin grid0.N, _)

/-- The place in the expert's middle of place `k` of a point's tile. -/
def place (t : Fin cfg0.N) (k : Fin 256) : Fin 5632 := ⟨256 * (t.val % 22) + k.val, by omega⟩

/-- The gate's weights a point reads. -/
theorem gate_block (t : Fin cfg0.N) (i : Fin 2048) (k : Fin 256) :
    iblk m c 1 t (ix4 0 0 i k) = A3 m c (ix4 0 (expert t) i (place t k)) := by
  obtain ⟨e0, e1, e2, e3⟩ := where_gate t
  show V m c main_arg3 _ = _
  rw [V_main_arg3]
  refine congrArg _ (funext fun a => Fin.ext ?_)
  match a with
  | ⟨0, _⟩ => show win0_1.index t 0 * 1 + 1 * 0 = 0; omega
  | ⟨1, _⟩ => show win0_1.index t 1 * 1 + 1 * 0 = t.val / 22; omega
  | ⟨2, _⟩ => show win0_1.index t 2 * 2048 + 1 * i.val = i.val; omega
  | ⟨3, _⟩ => show win0_1.index t 3 * 256 + 1 * k.val = 256 * (t.val % 22) + k.val; omega

/-- The other first weights a point reads. -/
theorem up_block (t : Fin cfg0.N) (i : Fin 2048) (k : Fin 256) :
    iblk m c 2 t (ix4 0 0 i k) = A4 m c (ix4 0 (expert t) i (place t k)) := by
  obtain ⟨e0, e1, e2, e3⟩ := where_up t
  show V m c main_arg4 _ = _
  rw [V_main_arg4]
  refine congrArg _ (funext fun a => Fin.ext ?_)
  match a with
  | ⟨0, _⟩ => show win0_2.index t 0 * 1 + 1 * 0 = 0; omega
  | ⟨1, _⟩ => show win0_2.index t 1 * 1 + 1 * 0 = t.val / 22; omega
  | ⟨2, _⟩ => show win0_2.index t 2 * 2048 + 1 * i.val = i.val; omega
  | ⟨3, _⟩ => show win0_2.index t 3 * 256 + 1 * k.val = 256 * (t.val % 22) + k.val; omega

/-- The last weights a point reads. -/
theorem down_block (t : Fin cfg0.N) (k : Fin 256) (q : Fin 2048) :
    iblk m c 3 t (ix4 0 0 k q) = A5 m c (ix4 0 (expert t) (place t k) q) := by
  obtain ⟨e0, e1, e2, e3⟩ := where_down t
  show V m c main_arg5 _ = _
  rw [V_main_arg5]
  refine congrArg _ (funext fun a => Fin.ext ?_)
  match a with
  | ⟨0, _⟩ => show win0_3.index t 0 * 1 + 1 * 0 = 0; omega
  | ⟨1, _⟩ => show win0_3.index t 1 * 1 + 1 * 0 = t.val / 22; omega
  | ⟨2, _⟩ => show win0_3.index t 2 * 256 + 1 * k.val = 256 * (t.val % 22) + k.val; omega
  | ⟨3, _⟩ => show win0_3.index t 3 * 2048 + 1 * q.val = q.val; omega

/-- The gains a point reads. -/
theorem gain_block (t : Fin cfg0.N) (s : Fin 8) (q : Fin 2048) : iblk m c 4 t (ix2 s q) = A6 m c (ix2 s q) := by
  obtain ⟨e0, e1⟩ := where_gain t
  show V m c main_arg6 _ = _
  rw [V_main_arg6]
  refine congrArg _ (funext fun a => Fin.ext ?_)
  match a with
  | ⟨0, _⟩ => show win0_4.index t 0 * 8 + 1 * s.val = s.val; omega
  | ⟨1, _⟩ => show win0_4.index t 1 * 2048 + 1 * q.val = q.val; omega

/-! ## The rows of an expert -/

/-- The rows of expert `e`, in its order. -/
def rowsOf (e : Fin 16) : S1024x2176.Idx → Elt 𝐅 .f32 := fun y => A1 m c (ix2 (MoeMath.row (A0 m c) e (y 0)) (y 1))

/-- What is kept of the rows after a point. -/
theorem st_x (n : ℕ) (h : n < 352) : (st m c (n + 1)).x = xOf m c (pt n h) (st m c n) := congrArg (·.x) (st_succ m c (pt n h))
/-- What is kept of the results after a point. -/
theorem st_y (n : ℕ) (h : n < 352) : (st m c (n + 1)).y = yOf m c (pt n h) (st m c n) := congrArg (·.y) (st_succ m c (pt n h))
/-- What is kept of the accumulated result after a point. -/
theorem st_a (n : ℕ) (h : n < 352) : (st m c (n + 1)).a = aOf m c (pt n h) (st m c n) := congrArg (·.a) (st_succ m c (pt n h))

/-- What the first point of an expert takes are the expert's rows. -/
theorem took_rows (t : Fin cfg0.N) :
    Gather.took (fun k => word (F := 𝐅) (iblk m c 0 t) (k.cast Gather.trips_eq)) (V m c main_arg1) = rowsOf m c (expert t) := by
  funext y
  unfold Gather.took
  have hw := word_eq m c t (y 0)
  rw [V_main_arg1]
  refine congrArg (m ((c : Thread nD τ).loc main_arg1)) ((ix2_eq (a := 8192) (b := 2176) (Gather.row (word (F := 𝐅) (iblk m c 0 t) (y 0))) (y 1)).trans ?_)
  exact congrArg (fun r : Fin 8192 => (ix2 r (y 1) : MoeMath.SX.Idx)) (congrArg Gather.row hw)

/-- At every point the rows' scratch holds its expert's rows. -/
theorem x_eq : ∀ (n : ℕ) (h : n < 352), xOf m c (pt n h) (st m c n) = rowsOf m c (expert (pt n h))
  | 0, h => by
    unfold xOf
    rw [if_pos ((cond1_iff _).mpr rfl), took_rows]
  | n + 1, h => by
    unfold xOf
    by_cases h0 : (n + 1) % 22 = 0
    · rw [if_pos ((cond1_iff _).mpr h0), took_rows]
    · rw [if_neg (fun h' => h0 ((cond1_iff _).mp h')), st_x m c n (by omega), x_eq n (by omega)]
      exact congrArg (rowsOf m c) (Fin.ext (by show n / 22 = (n + 1) / 22; omega))

/-! ## The results of an expert -/

/-- The term of expert `e`'s result at its row `j` and column `q` that is numbered `p`. -/
abbrev trm (e : Fin 16) (j : Fin 1024) (q : Fin 2048) (p : ℕ) : EReal :=
  MoeMath.termN (A0 m c) (A1 m c) (A3 m c) (A4 m c) (A5 m c) e j q p

/-- What a point's tile adds are 256 terms, those of its place among the expert's tiles. -/
theorem tile_terms (t : Fin cfg0.N) (y : Vec 𝐅 S1024x2048 .f32) (j : Fin 1024) (q : Fin 2048) :
    tile (rowsOf m c (expert t)) (iblk m c 1 t) (iblk m c 2 t) y (iblk m c 3 t) (ix2 j q)
      = (y (ix2 j q) : EReal) + ∑ k ∈ Finset.range 256, trm m c (expert t) j q (256 * (t.val % 22) + k) := by
  refine (tile_apply _ _ _ _ _ j q).trans (congrArg (y (ix2 j q) + ·) ?_)
  rw [Finset.sum_range]
  refine Finset.sum_congr rfl fun k _ => ?_
  unfold trm MoeMath.termN
  rw [dif_pos (show 256 * (t.val % 22) + k.val < 5632 from (place t k).isLt)]
  unfold MoeMath.term MoeMath.proj
  refine congrArg₂ (· * ·) (congrArg₂ MoeMath.act ?_ ?_) (down_block m c t k q)
  · exact Finset.sum_congr rfl fun i _ => congrArg (rowsOf m c (expert t) (ix2 j ⟨i.val, by omega⟩) * ·) (gate_block m c t i k)
  · exact Finset.sum_congr rfl fun i _ => congrArg (rowsOf m c (expert t) (ix2 j ⟨i.val, by omega⟩) * ·) (up_block m c t i k)

/-- After a point the results' scratch holds the sum of the terms of the expert's tiles so far. -/
theorem y_eq (j : Fin 1024) (q : Fin 2048) : ∀ (n : ℕ) (h : n < 352), yOf m c (pt n h) (st m c n) (ix2 j q)
      = ∑ p ∈ Finset.range (256 * (n % 22) + 256), trm m c (expert (pt n h)) j q p := by
  have first : ∀ (n : ℕ) (h : n < 352), n % 22 = 0 → yOf m c (pt n h) (st m c n) (ix2 j q)
      = ∑ p ∈ Finset.range (256 * (n % 22) + 256), trm m c (expert (pt n h)) j q p := by
    intro n h h0
    unfold yOf
    rw [if_pos ((cond1_iff _).mpr h0), x_eq m c n h, tile_terms, pay5_apply, zero_add, h0]
    refine Finset.sum_congr rfl fun k _ => ?_
    rw [show (pt n h).val % 22 = 0 from h0, Nat.mul_zero, Nat.zero_add]
  intro n
  induction n with
  | zero => exact fun h => first 0 h rfl
  | succ n ih =>
    intro h
    by_cases h0 : (n + 1) % 22 = 0
    · exact first _ h h0
    · have he : expert (pt n (by omega)) = expert (pt (n + 1) h) := Fin.ext (by show n / 22 = (n + 1) / 22; omega)
      unfold yOf
      rw [if_neg (fun h' => h0 ((cond1_iff _).mp h')), x_eq m c (n + 1) h, tile_terms, Finset.sum_range_add]
      refine congrArg₂ (· + ·) ?_ rfl
      rw [st_y m c n (by omega), ih (by omega), he]
      refine congrArg (fun N => ∑ p ∈ Finset.range N, trm m c (expert (pt (n + 1) h)) j q p) ?_
      show 256 * (n % 22) + 256 = 256 * ((n + 1) % 22)
      omega

/-! ## The result -/

/-- After an expert's last point its results are whole. -/
theorem y_last (j : Fin 1024) (q : Fin 2048) (n : ℕ) (h : n < 352) (hl : n % 22 = 21) :
    yOf m c (pt n h) (st m c n) (ix2 j q) = MoeMath.result (A0 m c) (A1 m c) (A3 m c) (A4 m c) (A5 m c) (expert (pt n h)) j q := by
  rw [y_eq, hl]
  exact MoeMath.sum_termN _ _ _ _ _ _ _ _

/-- What row `r` gains from expert `e`. -/
abbrev gain (e : Fin 16) (r : Fin 8192) (q : Fin 2048) : EReal :=
  MoeMath.part (A0 m c) (A1 m c) (A3 m c) (A4 m c) (A5 m c) (A6 m c) e r q

/-- The rows fetched for an expert are the accumulated result's at its row numbers. -/
theorem fetched (t : Fin cfg0.N) (a : S8192x2048.Idx → Elt 𝐅 .f32) (j : Fin 1024) (q : Fin 2048) :
    Fetch.took (fun k => word (F := 𝐅) (iblk m c 0 t) (k.cast Fetch.trips_eq)) a (ix2 j q) = a (ix2 (MoeMath.row (A0 m c) (expert t) j) q) := by
  have hw := word_eq m c t j
  unfold Fetch.took
  refine congrArg a ((ix2_eq (a := 8192) (b := 2048) (Fetch.row (word (F := 𝐅) (iblk m c 0 t) j)) q).trans ?_)
  exact congrArg (fun r : Fin 8192 => (ix2 r q : MoeMath.SA.Idx)) (congrArg Fetch.row hw)

/-- Before the last point of an expert the accumulated result stays. -/
theorem a_stays (n : ℕ) (h : n < 352) (hl : n % 22 ≠ 21) : (st m c (n + 1)).a = (st m c n).a := by
  rw [st_a m c n h]
  unfold aOf
  exact if_neg fun h' => hl ((cond2_iff _).mp h')

/-- The last point of an expert adds to every row what it gains from the expert. -/
theorem a_gains (hg : Good (A0 m c)) (n : ℕ) (h : n < 352) (hl : n % 22 = 21) (r : Fin 8192) (q : Fin 2048) :
    (st m c (n + 1)).a (ix2 r q) = ((st m c n).a (ix2 r q) : EReal) + gain m c (expert (pt n h)) r q := by
  have hw := fun j => word_eq m c (pt n h) j
  rw [st_a m c n h]
  unfold aOf
  rw [if_pos ((cond2_iff _).mpr hl)]
  unfold Scatter.gave
  split
  next hx =>
    have hj : MoeMath.row (A0 m c) (expert (pt n h)) hx.choose = r :=
      Fin.ext ((MoeMath.row_val hg _ _).trans ((congrArg BitVec.toNat (hw hx.choose)).symm.trans hx.choose_spec))
    refine (congrArg (uOf m c (pt n h) (st m c n)) (ix2_eq hx.choose q)).trans ?_
    unfold uOf
    rw [show BitVec.ofNat 32 (grid0.coords (pt n h) 0).val = BitVec.ofNat 32 (expert (pt n h)).val from congrArg (BitVec.ofNat 32) (coord_expert _)]
    refine (upd_apply _ _ _ _ _ _ _).trans ?_
    rw [fetched, hj, y_last m c _ _ n h hl, x_eq m c n h, gain_block]
    refine congrArg _ ?_
    rw [show gain m c (expert (pt n h)) r q = _ from MoeMath.part_hit _ _ _ _ _ hg hj q]
    rfl
  next hx =>
    rw [show gain m c (expert (pt n h)) r q = 0 from MoeMath.part_miss _ _ _ _ _ (fun ⟨j, hj⟩ => hx ⟨j, ?_⟩) q, add_zero]
    refine (congrArg BitVec.toNat (hw j)).trans ?_
    rw [← MoeMath.row_val hg, hj]
    rfl

/-- The accumulated result starts as the third argument. -/
theorem V_main_v0 : V m c main_v0 = A2 m c := by unfold V; after_results; rfl

/-- Before point `n` the accumulated result has what the experts before have added. -/
theorem a_eq (hg : Good (A0 m c)) (r : Fin 8192) (q : Fin 2048) : ∀ (n : ℕ), n ≤ 352 → (st m c n).a (ix2 r q)
      = (A2 m c (ix2 r q) : EReal) + ∑ e : Fin 16, if e.val < n / 22 then gain m c e r q else 0
  | 0, _ => by
    rw [Finset.sum_eq_zero fun e _ => if_neg (by omega), add_zero]
    show (V m c main_v0 : S8192x2048.Idx → Elt 𝐅 .f32) (ix2 r q) = _
    rw [V_main_v0]
  | n + 1, h => by
    by_cases hl : n % 22 = 21
    · rw [a_gains m c hg n (by omega) hl, a_eq hg r q n (by omega), add_assoc]
      refine congrArg _ ?_
      rw [← Finset.sum_erase_add _ _ (Finset.mem_univ (expert (pt n (by omega)))), ← Finset.sum_erase_add (a := expert (pt n (by omega))) _ _ (Finset.mem_univ _),
        if_neg (show ¬ (expert (pt n (by omega))).val < n / 22 from lt_irrefl (n / 22)), add_zero,
        if_pos (show (expert (pt n (by omega))).val < (n + 1) / 22 from show n / 22 < (n + 1) / 22 by omega)]
      refine congrArg (· + _) (Finset.sum_congr rfl fun e he => ?_)
      have hne : e.val ≠ n / 22 := fun h' => (Finset.mem_erase.mp he).1 (Fin.ext h')
      by_cases hlt : e.val < n / 22
      · rw [if_pos hlt, if_pos (by omega)]
      · rw [if_neg hlt, if_neg (by omega)]
    · rw [a_stays m c n (by omega) hl, a_eq hg r q n (by omega)]
      refine congrArg _ (Finset.sum_congr rfl fun e _ => ?_)
      rw [show (n + 1) / 22 = n / 22 by omega]

/-- The run's result is what was there and what each expert adds. -/
theorem out_eq (hg : Good (A0 m c)) :
    Whole.out m c = MoeMath.total (A0 m c) (A1 m c) (A2 m c) (A3 m c) (A4 m c) (A5 m c) (A6 m c) := by
  funext y
  obtain ⟨r, q, rfl⟩ : ∃ (r : Fin 8192) (q : Fin 2048), y = ix2 r q := ⟨y 0, y 1, funext fun a => match a with | ⟨0, _⟩ => rfl | ⟨1, _⟩ => rfl⟩
  unfold Whole.out
  rw [show cfg0.N = 352 from N_0, a_eq m c hg r q 352 le_rfl]
  refine congrArg _ (Finset.sum_congr rfl fun e _ => ?_)
  rw [if_pos (by omega)]
  rfl

end Cert.MoeIdeal.State

end
-- ==== Proof.MoeRef.lean ====
/-
  The reference of the routed experts, read at an index: the rows its row numbers name, each expert's results for them,
  their weights, and the sum a row gathers.
-/
module

public import proofs.«01_k».proof.Proof.MoeMath
public import proofs.«01_k».proof.Proof.Gen.MoeRefIdeal.Read
public import Idealize.ShloMosaic.Lib.Routing.OpsPair

@[expose] public section

set_option maxRecDepth 16384

noncomputable section

namespace Cert.MoeRef

open Idealize.ShloMosaic Idealize.ShloMosaic.TcCoe Idealize.SL.Sem Cert.MoeRefIdeal Cert.MoeRefIdeal.Gen Cert.MoeRefIdeal.Read
open Cert.RowNumbers (SR rowAt Good)
open Cert.Softmax (IsReal)
open Cert.MoeRefIdeal.Facts

local notation "𝐅" => Ideal

variable (x0 : IVec S16x1x1024 32) (x1 : FVec 𝐅 S8192x2176 .f32) (x2 : FVec 𝐅 S8192x2048 .f32) (x3 x4 : FVec 𝐅 S1x16x2048x5632 .f32)
  (x5 : FVec 𝐅 S1x16x5632x2048 .f32) (x6 : FVec 𝐅 S8x2048 .f32)
variable (e : Fin 16) (j : Fin 1024)

/-! ## The row numbers -/

variable {x0} in
/-- A good row number read signed is the row. -/
theorem toInt_row (h : Good x0) : (rowAt x0 e j).toInt = ((MoeMath.row x0 e j).val : ℤ) := by
  have hr := MoeMath.row_val h e j
  have hb := (MoeMath.row x0 e j).isLt
  rw [BitVec.toInt_eq_toNat_cond]
  omega

variable {x0} in
/-- A good row number is not negative. -/
theorem not_neg (h : Good x0) : IntOp.cmpi .slt (rowAt x0 e j) 0#32 = 0#1 := by
  have ht := toInt_row e j h
  show BitVec.ofBool ((rowAt x0 e j).slt 0#32) = 0#1
  rw [BitVec.slt_eq_decide, ht, decide_eq_false (by simp)]
  rfl

/-- The row numbers as a table. -/
theorem number : val_main_v2 (F := 𝐅) x0 (ix2 e j) = rowAt x0 e j := by
  rw [val_main_v2_apply]
  refine congrArg x0 (funext fun a => Fin.ext ?_)
  match a with
  | ⟨0, _⟩ => show (e.val * 1024 + j.val) / 1024 = e.val; omega
  | ⟨1, _⟩ => rfl
  | ⟨2, _⟩ => show (e.val * 1024 + j.val) % 1024 = j.val; omega

variable {x0} in
/-- The number with negative ones wrapped, as the rows are read. -/
theorem wrapped_rows (h : Good x0) : val_main_v7 (F := 𝐅) x0 (ix2 e j) = rowAt x0 e j := by
  rw [val_main_v7_apply, val_main_v4_apply, number, val_main_v3_apply, val_main_c_apply, not_neg e j h]
  exact if_neg (by decide)

variable {x0} in
/-- The number with negative ones wrapped, as the weights are read. -/
theorem wrapped_weights (h : Good x0) : val_main_v24 (F := 𝐅) x0 (ix2 e j) = rowAt x0 e j := by
  rw [val_main_v24_apply, val_main_v21_apply, number, val_main_v20_apply, val_main_c_1_apply, not_neg e j h]
  exact if_neg (by decide)

variable {x0} in
/-- The number with negative ones wrapped, as the results are added. -/
theorem wrapped_results (h : Good x0) : val_main_v43 (F := 𝐅) x0 (ix2 e j) = rowAt x0 e j := by
  rw [val_main_v43_apply, val_main_v40_apply, number, val_main_v39_apply, val_main_c_5_apply, not_neg e j h]
  exact if_neg (by decide)

/-- The expert's own number, as the weights are read. -/
theorem expert_number : val_main_v30 (F := 𝐅) (ix2 e j) = BitVec.ofNat 32 e.val := by
  rw [val_main_v30_apply, val_main_v29_apply, val_main_v26_apply, val_main_v19_apply, val_main_v18_apply, val_main_v25_apply, val_main_c_3_apply]
  show Scalar.select (IntOp.cmpi .slt (BitVec.ofNat 32 e.val) 0#32) _ (BitVec.ofNat 32 e.val) = _
  rw [show IntOp.cmpi .slt (BitVec.ofNat 32 e.val) 0#32 = 0#1 from
    (by decide : ∀ e : Fin 16, IntOp.cmpi .slt (BitVec.ofNat 32 e.val) 0#32 = 0#1) e]
  exact if_neg (by decide)

/-- The index of a table is its two coordinates. -/
theorem ix2_of {a b : ℕ} (f : (⟨2, ![a, b]⟩ : Shape).Idx) : f = ix2 (f 0) (f 1) :=
  funext fun d => match d with | ⟨0, _⟩ => rfl | ⟨1, _⟩ => rfl

variable {x0} in
/-- Where the rows are read from. -/
theorem rows_at (h : Good x0) : val_main_v8 (F := 𝐅) x0 (ix3 e j 0) = rowAt x0 e j := by
  rw [val_main_v8_apply, ix2_of (idx_main_v8 (ix3 e j 0))]
  exact wrapped_rows e j h

variable {x0} in
/-- Where the results are added. -/
theorem results_at (h : Good x0) : val_main_v44 (F := 𝐅) x0 (ix3 e j 0) = rowAt x0 e j := by
  rw [val_main_v44_apply, ix2_of (idx_main_v44 (ix3 e j 0))]
  exact wrapped_results e j h

variable {x0} in
/-- The row a weight is read from. -/
theorem weight_row (h : Good x0) : val_main_v33 (F := 𝐅) x0 (ix3 e j 0) = rowAt x0 e j := by
  unfold val_main_v33
  refine (concatenate_pair_apply_left (t := S16x1024x2) (s₁ := S16x1024x1) (s₂ := S16x1024x1) 2 _ _ _ (ix3 e j 0) rfl (ix3 e j 0) fun b => ?_).trans ?_
  · match b with
    | ⟨0, _⟩ => rfl
    | ⟨1, _⟩ => rfl
    | ⟨2, _⟩ => rfl
  · rw [val_main_v31_apply, ix2_of (idx_main_v31 (ix3 e j 0))]
    exact wrapped_weights e j h

/-- The column a weight is read from. -/
theorem weight_column : val_main_v33 (F := 𝐅) x0 (ix3 e j 1) = BitVec.ofNat 32 e.val := by
  unfold val_main_v33
  refine (concatenate_pair_apply_right (t := S16x1024x2) (s₁ := S16x1024x1) (s₂ := S16x1024x1) 2 _ _ _ (ix3 e j 1) rfl rfl (ix3 e j 0) (fun b hb => ?_) rfl).trans ?_
  · match b with
    | ⟨0, _⟩ => rfl
    | ⟨1, _⟩ => rfl
    | ⟨2, _⟩ => exact absurd rfl hb
  · rw [val_main_v32_apply, ix2_of (idx_main_v32 (ix3 e j 0))]
    exact expert_number e j

/-! ## The rows and the weights -/

/-- The gather of whole rows. -/
abbrev rowsDims : GatherDims S8192x2048 S16x1024x1 S16x1024x2048 := gather_S8192x2048_S16x1024x1_S16x1024x2048_2_0_n_n_0_2_12048
/-- The gather of single weights. -/
abbrev weightsDims : GatherDims S8192x16 S16x1024x2 S16x1024 := gather_S8192x16_S16x1024x2_S16x1024_n_01_n_n_01_2_11

/-- A row gathered is the row its number names. -/
theorem gather_rows (x : FVec 𝐅 S8192x2048 .f32) (idx : IVec S16x1024x1 32) (r : Fin 8192) (i : Fin 2048) (hr : (idx (ix3 e j 0)).toInt = (r.val : ℤ)) :
    Host.gather rowsDims x idx (ix3 e j i) = x (ix2 r i) := by
  unfold Host.gather
  refine congrArg x (funext fun a => Fin.ext ?_)
  match a with
  | ⟨0, _⟩ =>
    show rowsDims.start (ix3 e j i) idx 0 + rowsDims.batchCoord (ix3 e j i) 0 + rowsDims.offCoord (ix3 e j i) 0 = r.val
    rw [GatherDims.batchCoord_eq_zero _ _ _ List.not_mem_nil,
      GatherDims.offCoord_eq_zero _ _ _ (fun h => ((GatherDims.mem_sKept _ _).mp h).1 (List.mem_singleton.mpr rfl))]
    unfold GatherDims.start
    rw [dif_pos (show (0 : Fin 2) ∈ rowsDims.startIndexMap from List.mem_singleton.mpr rfl)]
    have hsi : rowsDims.siIdx (ix3 e j i) ⟨List.idxOf (0 : Fin 2) rowsDims.startIndexMap, List.idxOf_lt_length_iff.2 (List.mem_singleton.mpr rfl)⟩ = ix3 e j 0 := by
      funext b
      match b with
      | ⟨0, _⟩ => rfl
      | ⟨1, _⟩ => rfl
      | ⟨2, _⟩ => rfl
    rw [hsi, hr]
    show min ((r.val : ℤ)).toNat (8192 - 1) + 0 + 0 = r.val
    have := r.isLt
    omega
  | ⟨1, _⟩ =>
    show rowsDims.start (ix3 e j i) idx 1 + rowsDims.batchCoord (ix3 e j i) 1 + rowsDims.offCoord (ix3 e j i) 1 = i.val
    rw [GatherDims.batchCoord_eq_zero _ _ _ List.not_mem_nil]
    unfold GatherDims.start
    rw [dif_neg (show (1 : Fin 2) ∉ rowsDims.startIndexMap by decide), Nat.zero_add]
    rfl

/-- A weight gathered is the one its row and column name. -/
theorem gather_weights (x : FVec 𝐅 S8192x16 .f32) (idx : IVec S16x1024x2 32) (r : Fin 8192) (k : Fin 16) (hr : (idx (ix3 e j 0)).toInt = (r.val : ℤ))
    (hk : (idx (ix3 e j 1)).toInt = (k.val : ℤ)) : Host.gather weightsDims x idx (ix2 e j) = x (ix2 r k) := by
  unfold Host.gather
  refine congrArg x (funext fun a => Fin.ext ?_)
  match a with
  | ⟨0, _⟩ =>
    show weightsDims.start (ix2 e j) idx 0 + weightsDims.batchCoord (ix2 e j) 0 + weightsDims.offCoord (ix2 e j) 0 = r.val
    rw [GatherDims.batchCoord_eq_zero _ _ _ List.not_mem_nil,
      GatherDims.offCoord_eq_zero _ _ _ (fun h => ((GatherDims.mem_sKept _ _).mp h).1 (by decide))]
    unfold GatherDims.start
    rw [dif_pos (show (0 : Fin 2) ∈ weightsDims.startIndexMap by decide)]
    have hsi : weightsDims.siIdx (ix2 e j) ⟨List.idxOf (0 : Fin 2) weightsDims.startIndexMap, List.idxOf_lt_length_iff.2 (by decide)⟩ = ix3 e j 0 := by
      funext b
      match b with
      | ⟨0, _⟩ => rfl
      | ⟨1, _⟩ => rfl
      | ⟨2, _⟩ => rfl
    rw [hsi, hr]
    show min ((r.val : ℤ)).toNat (8192 - 1) + 0 + 0 = r.val
    have := r.isLt
    omega
  | ⟨1, _⟩ =>
    show weightsDims.start (ix2 e j) idx 1 + weightsDims.batchCoord (ix2 e j) 1 + weightsDims.offCoord (ix2 e j) 1 = k.val
    rw [GatherDims.batchCoord_eq_zero _ _ _ List.not_mem_nil,
      GatherDims.offCoord_eq_zero _ _ _ (fun h => ((GatherDims.mem_sKept _ _).mp h).1 (by decide))]
    unfold GatherDims.start
    rw [dif_pos (show (1 : Fin 2) ∈ weightsDims.startIndexMap by decide)]
    have hsi : weightsDims.siIdx (ix2 e j) ⟨List.idxOf (1 : Fin 2) weightsDims.startIndexMap, List.idxOf_lt_length_iff.2 (by decide)⟩ = ix3 e j 1 := by
      funext b
      match b with
      | ⟨0, _⟩ => rfl
      | ⟨1, _⟩ => rfl
      | ⟨2, _⟩ => rfl
    rw [hsi, hk]
    show min ((k.val : ℤ)).toNat (16 - 1) + 0 + 0 = k.val
    have := k.isLt
    omega

variable {x0} in
/-- The rows read. -/
theorem row_read (h : Good x0) (i : Fin 2048) : val_main_v9 (F := 𝐅) x0 x1 (ix3 e j i) = x1 (ix2 (MoeMath.row x0 e j) ⟨i.val, by omega⟩) := by
  unfold val_main_v9
  refine (gather_rows e j _ _ (MoeMath.row x0 e j) i ((congrArg BitVec.toInt (rows_at e j h)).trans (toInt_row e j h))).trans ?_
  rw [val_main_v0_apply]
  exact congrArg x1 (ix2_of _)

variable {x0} in
/-- The weights read. -/
theorem weight_read (h : Good x0) : val_main_v34 (F := 𝐅) x0 x1 (ix2 e j) = MoeMath.weight x0 x1 e j := by
  unfold val_main_v34
  refine (gather_weights e j _ _ (MoeMath.row x0 e j) e ((congrArg BitVec.toInt (weight_row e j h)).trans (toInt_row e j h))
    ((congrArg BitVec.toInt (weight_column x0 e j)).trans ((by decide : ∀ e : Fin 16, (BitVec.ofNat 32 e.val).toInt = (e.val : ℤ)) e))).trans ?_
  rw [val_main_v1_apply]
  exact congrArg x1 (ix2_of _)

/-! ## An expert's results -/

/-- A first weight without its leading axis. -/
theorem gate_read (i : Fin 2048) (p : Fin 5632) : val_main_v10 (F := 𝐅) x3 (ix3 e i p) = x3 (ix4 0 e i p) := by
  rw [val_main_v10_apply]
  refine congrArg x3 (funext fun a => Fin.ext ?_)
  match a with
  | ⟨0, _⟩ => rfl
  | ⟨1, _⟩ => show ((e.val * 2048 + i.val) * 5632 + p.val) / 11534336 % 16 = e.val; omega
  | ⟨2, _⟩ => show ((e.val * 2048 + i.val) * 5632 + p.val) / 5632 % 2048 = i.val; omega
  | ⟨3, _⟩ => show ((e.val * 2048 + i.val) * 5632 + p.val) % 5632 = p.val; omega

/-- The other first weight without its leading axis. -/
theorem up_read (i : Fin 2048) (p : Fin 5632) : val_main_v12 (F := 𝐅) x4 (ix3 e i p) = x4 (ix4 0 e i p) := by
  rw [val_main_v12_apply]
  refine congrArg x4 (funext fun a => Fin.ext ?_)
  match a with
  | ⟨0, _⟩ => rfl
  | ⟨1, _⟩ => show ((e.val * 2048 + i.val) * 5632 + p.val) / 11534336 % 16 = e.val; omega
  | ⟨2, _⟩ => show ((e.val * 2048 + i.val) * 5632 + p.val) / 5632 % 2048 = i.val; omega
  | ⟨3, _⟩ => show ((e.val * 2048 + i.val) * 5632 + p.val) % 5632 = p.val; omega

/-- The last weight without its leading axis. -/
theorem down_read (p : Fin 5632) (q : Fin 2048) : val_main_v16 (F := 𝐅) x5 (ix3 e p q) = x5 (ix4 0 e p q) := by
  rw [val_main_v16_apply]
  refine congrArg x5 (funext fun a => Fin.ext ?_)
  match a with
  | ⟨0, _⟩ => rfl
  | ⟨1, _⟩ => show ((e.val * 5632 + p.val) * 2048 + q.val) / 11534336 % 16 = e.val; omega
  | ⟨2, _⟩ => show ((e.val * 5632 + p.val) * 2048 + q.val) / 2048 % 5632 = p.val; omega
  | ⟨3, _⟩ => show ((e.val * 5632 + p.val) * 2048 + q.val) % 2048 = q.val; omega

/-- The index of an array of three axes is its three coordinates. -/
theorem ix3_of {a b d : ℕ} (f : (⟨3, ![a, b, d]⟩ : Shape).Idx) : f = ix3 (f 0) (f 1) (f 2) :=
  funext fun k => match k with | ⟨0, _⟩ => rfl | ⟨1, _⟩ => rfl | ⟨2, _⟩ => rfl

variable {x0} in
/-- The gated input. -/
theorem gate_eq (h : Good x0) (p : Fin 5632) : val_main_v11 (F := 𝐅) x0 x1 x3 (ix3 e j p) = MoeMath.proj x0 x1 x3 e j p := by
  rw [val_main_v11_apply]
  refine Finset.sum_congr rfl fun i _ => ?_
  rw [ix3_of (lidx_main_v11 (ix3 e j p) i), ix3_of (ridx_main_v11 (ix3 e j p) i)]
  exact congrArg₂ (· * ·) (row_read x1 e j h i) (gate_read x3 e i p)

variable {x0} in
/-- The other input. -/
theorem up_eq (h : Good x0) (p : Fin 5632) : val_main_v13 (F := 𝐅) x0 x1 x4 (ix3 e j p) = MoeMath.proj x0 x1 x4 e j p := by
  rw [val_main_v13_apply]
  refine Finset.sum_congr rfl fun i _ => ?_
  rw [ix3_of (lidx_main_v13 (ix3 e j p) i), ix3_of (ridx_main_v13 (ix3 e j p) i)]
  exact congrArg₂ (· * ·) (row_read x1 e j h i) (up_read x4 e i p)

/-- The word of the number one is one. -/
theorem oneBits : Ideal.ofBits .f32 0x3F800000#32 = (1 : EReal) := by
  simp [Ideal.ofBits, Ideal.ieee]
  rw [← EReal.coe_mul]
  norm_num
/-- The word of the number zero is zero. -/
theorem zeroBits : Ideal.ofBits .f32 0x00000000#32 = (0 : EReal) := by simp [Ideal.ofBits, Ideal.ieee]

variable {x0} in
/-- The middle of an expert. -/
theorem act_eq (h : Good x0) (p : Fin 5632) :
    val_main_v15 (F := 𝐅) x0 x1 x3 x4 (ix3 e j p) = MoeMath.act (MoeMath.proj x0 x1 x3 e j p) (MoeMath.proj x0 x1 x4 e j p) := by
  rw [val_main_v15_apply, val_main_v14_apply, val_main_call0_v5_apply, val_main_call0_v3_apply, val_main_call0_v1_apply, val_main_call0_v0_apply,
    val_main_call0_v4_apply, val_main_call0_v2_apply, val_main_call0_cst_apply, val_main_call0_cst_0_apply, up_eq x1 x4 e j h, gate_eq x1 x3 e j h]
  show MoeMath.proj x0 x1 x3 e j p * Ideal.div (Ideal.ofBits .f32 0x3F800000#32) (Ideal.ofBits .f32 0x3F800000#32 + Ideal.exp (-MoeMath.proj x0 x1 x3 e j p)) * _ = _
  rw [oneBits]
  rfl

variable {x0} in
/-- An expert's results. -/
theorem result_eq (h : Good x0) (q : Fin 2048) : val_main_v17 (F := 𝐅) x0 x1 x3 x4 x5 (ix3 e j q) = MoeMath.result x0 x1 x3 x4 x5 e j q := by
  rw [val_main_v17_apply]
  refine Finset.sum_congr rfl fun p _ => ?_
  rw [ix3_of (lidx_main_v17 (ix3 e j q) p), ix3_of (ridx_main_v17 (ix3 e j q) p)]
  exact congrArg₂ (· * ·) (act_eq x1 x3 x4 e j h p) (down_read x5 e p q)

variable {x0} in
/-- An expert's results by their weights. -/
theorem weighted_eq (h : Good x0) (q : Fin 2048) :
    val_main_v37 (F := 𝐅) x0 x1 x3 x4 x5 (ix3 e j q) = MoeMath.result x0 x1 x3 x4 x5 e j q * MoeMath.weight x0 x1 e j := by
  rw [val_main_v37_apply, result_eq x1 x3 x4 x5 e j h, val_main_v36_apply, val_main_v35_apply, ix2_of (idx_main_v35 _)]
  exact congrArg (MoeMath.result x0 x1 x3 x4 x5 e j q * ·) (weight_read x1 e j h)

/-- The gains of a row: its sample's. -/
theorem gain_eq (r : Fin 8192) (q : Fin 2048) : val_main_v48 (F := 𝐅) x6 (ix2 r q) = x6 (ix2 ⟨r.val / 4096, by omega⟩ q) := by
  rw [val_main_v48_apply, val_main_v47_apply, val_main_v46_apply]
  refine congrArg x6 (funext fun a => Fin.ext ?_)
  match a with
  | ⟨0, _⟩ => show (r.val * 2048 + q.val) / 8388608 = r.val / 4096; omega
  | ⟨1, _⟩ => show (r.val * 2048 + q.val) % 2048 = q.val; omega

/-! ## The sum a row gathers -/

/-- The scatter of whole rows. -/
abbrev addDims : ScatterDims S8192x2048 S16x1024x1 S16x1024x2048 := scatter_S8192x2048_S16x1024x1_S16x1024x2048_2_0_0_2

/-- A row of the updates goes to the row its number names, each column to its own. -/
theorem goes (idx : IVec S16x1024x1 32) (r r' : Fin 8192) (q q' : Fin 2048) (hr : (idx (ix3 e j 0)).toInt = (r.val : ℤ)) :
    addDims.resultIdx? (ix3 e j q) idx = some (ix2 r' q') ↔ r = r' ∧ q = q' := by
  rw [Routing.resultIdx?_eq_some]
  have hsi : addDims.siIdx (ix3 e j q) ⟨List.idxOf (0 : Fin 2) addDims.scatterDimsToOperandDims, List.idxOf_lt_length_iff.2 (List.mem_singleton.mpr rfl)⟩ = ix3 e j 0 := by
    funext b
    match b with
    | ⟨0, _⟩ => rfl
    | ⟨1, _⟩ => rfl
    | ⟨2, _⟩ => rfl
  have h0 : addDims.start (ix3 e j q) idx 0 = (r.val : ℤ) := by
    unfold ScatterDims.start
    rw [dif_pos (show (0 : Fin 2) ∈ addDims.scatterDimsToOperandDims from List.mem_singleton.mpr rfl), hsi, hr]
  have h1 : addDims.start (ix3 e j q) idx 1 = 0 := by
    unfold ScatterDims.start
    exact dif_neg (show (1 : Fin 2) ∉ addDims.scatterDimsToOperandDims by decide)
  have w0 : addDims.window (ix3 e j q) 0 = 0 := by
    unfold ScatterDims.window
    exact dif_neg (show (0 : Fin 2) ∉ addDims.sKept by decide)
  have w1 : addDims.window (ix3 e j q) 1 = q.val := rfl
  constructor
  · intro h
    have a0 := h 0
    have a1 := h 1
    rw [h0, w0] at a0
    rw [h1, w1] at a1
    have b0 : ((r.val : ℤ) + ((0 : ℕ) : ℤ)) = (r'.val : ℤ) := a0
    have b1 : (0 + (q.val : ℤ)) = (q'.val : ℤ) := a1
    exact ⟨Fin.ext (by omega), Fin.ext (by omega)⟩
  · rintro ⟨rfl, rfl⟩ a
    match a with
    | ⟨0, _⟩ => exact (congrArg₂ (fun (u : ℤ) (v : ℕ) => u + (v : ℤ)) h0 w0).trans (by show (r.val : ℤ) + 0 = r.val; omega)
    | ⟨1, _⟩ => exact (congrArg₂ (fun (u : ℤ) (v : ℕ) => u + (v : ℤ)) h1 w1).trans (by show 0 + (q.val : ℤ) = q.val; omega)

/-- The indices of an array of three axes are the triples of coordinates. -/
def triples : (Fin 16 × Fin 1024 × Fin 2048) ≃ S16x1024x2048.Idx where
  toFun p := ix3 p.1 p.2.1 p.2.2
  invFun f := (f 0, f 1, f 2)
  left_inv _ := rfl
  right_inv f := (ix3_of f).symm

variable {x0} in
/-- What a row gathers: of each expert's results by their weights, those of the row. -/
theorem gathered (h : Good x0) (r : Fin 8192) (q : Fin 2048) : val_main_v45 (F := 𝐅) x0 x1 x3 x4 x5 (ix2 r q)
    = ∑ e : Fin 16, ∑ j : Fin 1024, if MoeMath.row x0 e j = r then MoeMath.result x0 x1 x3 x4 x5 e j q * MoeMath.weight x0 x1 e j else 0 := by
  have hgo : ∀ (e : Fin 16) (j : Fin 1024) (q' : Fin 2048),
      addDims.resultIdx? (ix3 e j q') (val_main_v44 (F := 𝐅) x0) = some (ix2 r q) ↔ MoeMath.row x0 e j = r ∧ q' = q := fun e j q' =>
    goes e j _ _ r q' q ((congrArg BitVec.toInt (results_at e j h)).trans (toInt_row e j h))
  have hz : val_main_v38 (F := 𝐅) (ix2 r q) = (0 : EReal) := by rw [val_main_v38_apply, val_main_cst_apply]; exact zeroBits
  have hw := fun e j => weighted_eq x1 x3 x4 x5 e j h
  unfold val_main_v45
  generalize val_main_v44 (F := 𝐅) x0 = idx at hgo
  generalize val_main_v37 (F := 𝐅) x0 x1 x3 x4 x5 = upd at hw
  generalize val_main_v38 (F := 𝐅) = z at hz
  show z (ix2 r q) + ∑ k ∈ Finset.univ.filter (fun k => addDims.resultIdx? k idx = some (ix2 r q)), upd k = _
  rw [hz, zero_add, Finset.sum_filter, ← Equiv.sum_comp triples, Fintype.sum_prod_type]
  refine Finset.sum_congr rfl fun e _ => ?_
  rw [Fintype.sum_prod_type]
  refine Finset.sum_congr rfl fun j _ => ?_
  show (∑ q' : Fin 2048, if addDims.resultIdx? (ix3 e j q') idx = some (ix2 r q) then upd (ix3 e j q') else 0) = _
  by_cases hr : MoeMath.row x0 e j = r
  · rw [if_pos hr, Finset.sum_eq_single q (fun q' _ hq => if_neg fun h' => hq ((hgo e j q').mp h').2) (fun h' => absurd (Finset.mem_univ _) h'),
      if_pos ((hgo e j q).mpr ⟨hr, rfl⟩)]
    exact hw e j q
  · rw [if_neg hr]
    exact Finset.sum_eq_zero fun q' _ => if_neg fun h' => hr ((hgo e j q').mp h').1

/-! ## The result -/

/-- What the reference needs to be real: the rows with their weights, the three weights and the two samples' gains. -/
structure Real : Prop where
  rows : ∀ (r : Fin 8192) (k : Fin 2176), k.val < 2064 → IsReal (x1 (ix2 r k))
  gates : ∀ i, IsReal (x3 i)
  ups : ∀ i, IsReal (x4 i)
  downs : ∀ i, IsReal (x5 i)
  gains : ∀ (b : Fin 8), b.val < 2 → ∀ q : Fin 2048, IsReal (x6 (ix2 b q))

section
variable {x1 x3 x4 x5 x6} (hr : Real x1 x3 x4 x5 x6)
include hr

/-- The weights are real. -/
theorem real_weight : IsReal (MoeMath.weight x0 x1 e j) := hr.rows _ _ (show 2048 + e.val < 2064 by omega)

/-- An expert's results are real. -/
theorem real_result (q : Fin 2048) : IsReal (MoeMath.result x0 x1 x3 x4 x5 e j q) :=
  IsReal.sum _ _ fun p => IsReal.mul (MoeMath.real_act (IsReal.sum _ _ fun i => IsReal.mul (hr.rows _ _ (show i.val < 2064 by omega)) (hr.gates _))
    (IsReal.sum _ _ fun i => IsReal.mul (hr.rows _ _ (show i.val < 2064 by omega)) (hr.ups _))) (hr.downs _)

variable {x0} in
/-- The reference is what was there and what each expert adds. -/
theorem ref_eq (h : Good x0) : val_main_v50 (F := 𝐅) x0 x1 x2 x3 x4 x5 x6 = MoeMath.total x0 x1 x2 x3 x4 x5 x6 := by
  funext y
  obtain ⟨r, q, rfl⟩ : ∃ (r : Fin 8192) (q : Fin 2048), y = ix2 r q := ⟨y 0, y 1, ix2_of y⟩
  rw [val_main_v50_apply, val_main_v49_apply, gathered x1 x3 x4 x5 h, gain_eq]
  refine congrArg (x2 (ix2 r q) + ·) ?_
  have hg : IsReal (x6 (ix2 ⟨r.val / 4096, by omega⟩ q)) := hr.gains _ (show r.val / 4096 < 2 by omega) q
  have hp : ∀ (e : Fin 16) (j : Fin 1024), IsReal (if MoeMath.row x0 e j = r then MoeMath.result x0 x1 x3 x4 x5 e j q * MoeMath.weight x0 x1 e j else 0) := fun e j => by
    split
    · exact IsReal.mul (real_result x0 e j hr q) (real_weight x0 e j hr)
    · exact ⟨0, rfl⟩
  refine (MoeMath.mul_sum _ _ (fun e => IsReal.sum _ _ (hp e)) hg).trans (Finset.sum_congr rfl fun e _ => ?_)
  rw [MoeMath.mul_sum _ _ (hp e) hg]
  refine Finset.sum_congr rfl fun j _ => ?_
  by_cases hj : MoeMath.row x0 e j = r
  · rw [if_pos hj]
    refine Eq.trans ?_ (if_pos hj).symm
    have hs : (⟨r.val / 4096, by omega⟩ : Fin 8) = ⟨j.val / 512, by omega⟩ :=
      Fin.ext ((congrArg (fun s : Fin 8192 => s.val / 4096) hj).symm.trans (MoeMath.row_sample h e j))
    rw [hs, mul_comm (MoeMath.result x0 x1 x3 x4 x5 e j q), ← mul_assoc, mul_comm (x6 _)]
    rfl
  · rw [if_neg hj, mul_zero]
    exact (if_neg hj).symm

end

end Cert.MoeRef

end
-- ==== Proof.Steps.lean ====
module

public import proofs.«01_k».proof.Proof.Softmax
public import proofs.«01_k».proof.Proof.Gen.AttnIdeal.Frame
public import Idealize.ShloMosaic.Lib.Pointwise

/-! The block that the attention kernel writes at one grid point, as nine steps of one rule.

`first` and `next` are the rule as vector operations (over 256 context keys, over 512 latent keys); the payloads
of the printed kernel are these, one after another, and each reads at a row as the scalar step of `Softmax`. -/

@[expose] public section

set_option maxRecDepth 16384

noncomputable section

namespace Cert.Steps

open Idealize.ShloMosaic Idealize.ShloMosaic.TcCoe Idealize.SL.Sem Cert.AttnIdeal Cert.AttnIdeal.Gen
open Cert.AttnIdeal.Facts

local notation "𝐅" => Ideal

/-- The scores of the queries against one tile of latent keys. -/
def vS (q : FVec 𝐅 S512x128 .bf16) (k : FVec 𝐅 S128x512 .bf16) : FVec 𝐅 S512x512 .f32 :=
  matmul dot_S512x128_S128x512_S512x512_1_0_0_1_n_n none q k (constant S512x512 .f32 0x00000000#32)

/-- The running maximum with a tile's scores. -/
def vM (m : FVec 𝐅 S512x1 .f32) (s : FVec 𝐅 S512x512 .f32) : FVec 𝐅 S512x1 .f32 :=
  maximumf m (shapeCast S512x1 (multiReduction .maximumf [1] S512 s 0xFF800000#32 reduces_S512x512_S512 (.inl rfl) rfl) shapeCasts_S512_S512x1)

/-- The factor of the old sums. -/
def vα (m : FVec 𝐅 S512x1 .f32) (s : FVec 𝐅 S512x512 .f32) : FVec 𝐅 S512x1 .f32 := exp (subf m (vM m s))

/-- The weights of a tile's keys. -/
def vP (m : FVec 𝐅 S512x1 .f32) (s : FVec 𝐅 S512x512 .f32) : FVec 𝐅 S512x512 .f32 :=
  exp (subf s (broadcastTo S512x512 (vM m s) broadcasts_S512x1_S512x512))

/-- The running sum of the weights. -/
def vL (m l : FVec 𝐅 S512x1 .f32) (s : FVec 𝐅 S512x512 .f32) : FVec 𝐅 S512x1 .f32 :=
  addf (mulf (vα m s) l) (shapeCast S512x1 (multiReduction .add [1] S512 (vP m s) 0x00000000#32 reduces_S512x512_S512 (.inl rfl) rfl) shapeCasts_S512_S512x1)

/-- The running weighted sum of the values. -/
def vA (m : FVec 𝐅 S512x1 .f32) (a : FVec 𝐅 S512x128 .f32) (s : FVec 𝐅 S512x512 .f32) (v : FVec 𝐅 S512x128 .bf16) : FVec 𝐅 S512x128 .f32 :=
  addf (mulf (broadcastTo S512x128 (vα m s) broadcasts_S512x1_S512x128) a)
    (matmul dot_S512x512_S512x128_S512x128_1_0_0_1_n_n none (truncf .bf16 (vP m s) bitsLt_bf16_f32) v (constant S512x128 .f32 0x00000000#32))

/-- The state of the rows: the shift, the sum of the weights, the weighted sum of the values. -/
structure St where
  m : FVec 𝐅 S512x1 .f32
  l : FVec 𝐅 S512x1 .f32
  a : FVec 𝐅 S512x128 .f32

/-- One step over a tile of 512 latent keys. -/
def next (q : FVec 𝐅 S512x128 .bf16) (st : St) (k : FVec 𝐅 S128x512 .bf16) (v : FVec 𝐅 S512x128 .bf16) : St :=
  ⟨vM st.m (vS q k), vL st.m st.l (vS q k), vA st.m st.a (vS q k) v⟩

/-- The step over the 256 context keys, from the empty state. -/
def first (x0 : Vec 𝐅 S1x4x128x128 .bf16) (x3 : Vec 𝐅 S1x1x128x256 .bf16) (x4 : Vec 𝐅 S1x1x256x128 .bf16) : St :=
  ⟨k0_pay9 x0 x3, k0_pay12 x0 x3, k0_pay13 x0 x3 x4⟩

abbrev kt' (x : Vec 𝐅 S1x1x128x512 .bf16) : FVec 𝐅 S128x512 .bf16 := shapeCast S128x512 x shapeCasts_S1x1x128x512_S128x512
abbrev vt' (x : Vec 𝐅 S1x1x512x128 .bf16) : FVec 𝐅 S512x128 .bf16 := shapeCast S512x128 x shapeCasts_S1x1x512x128_S512x128

section chain
variable (x0 : Vec 𝐅 S1x4x128x128 .bf16) (x1 : Vec 𝐅 S1x1x128x4096 .bf16) (x2 : Vec 𝐅 S1x1x4096x128 .bf16)
  (x3 : Vec 𝐅 S1x1x128x256 .bf16) (x4 : Vec 𝐅 S1x1x256x128 .bf16)

/-- The queries of the block, 512 rows. -/
def qv : FVec 𝐅 S512x128 .bf16 := k0_pay6 (View.ld x0 r0_0)

def st0 : St := first (View.ld x0 r0_0) (View.ld x3 r0_1) (View.ld x4 r0_2)
def st1 : St := next (qv x0) (st0 x0 x3 x4) (kt' (View.ld x1 r0_3)) (vt' (View.ld x2 r0_4))
def st2 : St := next (qv x0) (st1 x0 x1 x2 x3 x4) (kt' (View.ld x1 r0_5)) (vt' (View.ld x2 r0_6))
def st3 : St := next (qv x0) (st2 x0 x1 x2 x3 x4) (kt' (View.ld x1 r0_7)) (vt' (View.ld x2 r0_8))
def st4 : St := next (qv x0) (st3 x0 x1 x2 x3 x4) (kt' (View.ld x1 r0_9)) (vt' (View.ld x2 r0_10))
def st5 : St := next (qv x0) (st4 x0 x1 x2 x3 x4) (kt' (View.ld x1 r0_11)) (vt' (View.ld x2 r0_12))
def st6 : St := next (qv x0) (st5 x0 x1 x2 x3 x4) (kt' (View.ld x1 r0_13)) (vt' (View.ld x2 r0_14))
def st7 : St := next (qv x0) (st6 x0 x1 x2 x3 x4) (kt' (View.ld x1 r0_15)) (vt' (View.ld x2 r0_16))
def st8 : St := next (qv x0) (st7 x0 x1 x2 x3 x4) (kt' (View.ld x1 r0_17)) (vt' (View.ld x2 r0_18))

theorem m2 : k0_pay58 x0 x1 x2 x3 x4 = (st2 x0 x1 x2 x3 x4).m := rfl
theorem l2 : k0_pay23 (k0_pay55 x0 x1 x2 x3 x4) (k0_pay56 x0 x1 x2 x3 x4) (k0_pay12 (View.ld x0 r0_0) (View.ld x3 r0_1)) (k0_pay57 x0 x1 x2 x3 x4) (View.ld x1 r0_5)
    = (st2 x0 x1 x2 x3 x4).l := rfl
theorem a2 : k0_pay24 (k0_pay55 x0 x1 x2 x3 x4) (k0_pay56 x0 x1 x2 x3 x4) (k0_pay13 (View.ld x0 r0_0) (View.ld x3 r0_1) (View.ld x4 r0_2)) (k0_pay57 x0 x1 x2 x3 x4) (View.ld x2 r0_4) (View.ld x1 r0_5) (View.ld x2 r0_6)
    = (st2 x0 x1 x2 x3 x4).a := rfl
theorem m4 : k0_pay59 x0 x1 x2 x3 x4 = (st4 x0 x1 x2 x3 x4).m := by
  unfold k0_pay59; rw [m2]; rfl
theorem m6 : k0_pay61 x0 x1 x2 x3 x4 = (st6 x0 x1 x2 x3 x4).m := by
  unfold k0_pay61; rw [m4]; rfl
theorem m7 : k0_pay63 x0 x1 x2 x3 x4 = (st7 x0 x1 x2 x3 x4).m := by
  unfold k0_pay63; rw [m6]; rfl
theorem α6 : k0_pay62 x0 x1 x2 x3 x4 = vα (st5 x0 x1 x2 x3 x4).m (vS (qv x0) (kt' (View.ld x1 r0_13))) := by
  unfold k0_pay62; rw [m4]; rfl
theorem l7 : k0_pay64 x0 x1 x2 x3 x4 = (st7 x0 x1 x2 x3 x4).l := by
  unfold k0_pay64; rw [l2, m2, m4, m6, α6]; rfl
theorem a7 : k0_pay65 x0 x1 x2 x3 x4 = (st7 x0 x1 x2 x3 x4).a := by
  unfold k0_pay65; rw [a2, m2, m4, m6, α6]; rfl

/-- The rows of the block before they are laid out: the weighted sum over the sum of the weights. -/
theorem rows : k0_pay1 (k0_pay55 x0 x1 x2 x3 x4) (k0_pay63 x0 x1 x2 x3 x4) (k0_pay64 x0 x1 x2 x3 x4) (k0_pay65 x0 x1 x2 x3 x4) (k0_pay66 x0 x1 x2 x3 x4) (k0_pay67 x0 x1 x2 x3 x4)
    = divf (st8 x0 x1 x2 x3 x4).a (broadcastTo S512x128 (st8 x0 x1 x2 x3 x4).l broadcasts_S512x1_S512x128) := by
  rw [m7, l7, a7]; rfl

end chain

end Cert.Steps

end
-- ==== Proof.Read.lean ====
module

public import proofs.«01_k».proof.Proof.Steps

/-! The steps read at one row and one column. -/

@[expose] public section

set_option maxRecDepth 16384

noncomputable section

namespace Cert.Steps

open Idealize.ShloMosaic Idealize.ShloMosaic.TcCoe Idealize.SL.Sem Cert.AttnIdeal Cert.AttnIdeal.Gen Cert.Softmax
open Cert.AttnIdeal.Facts

local notation "𝐅" => Ideal

/-- The scores of row `r` against a tile of keys. -/
def σ {w : ℕ} (q : FVec 𝐅 S512x128 .bf16) (k : FVec 𝐅 (⟨2, ![128, w]⟩ : Shape) .bf16) (r : Fin 512) (j : Fin w) : EReal :=
  ∑ c : Fin 128, q (ix2 r c) * k (ix2 c j)

theorem minusInf : Ideal.ofBits .f32 0xFF800000#32 = (⊥ : EReal) := by
  simp [Ideal.ofBits, Ideal.ieee]

theorem vS_apply (q : FVec 𝐅 S512x128 .bf16) (k : FVec 𝐅 S128x512 .bf16) (r : Fin 512) (j : Fin 512) :
    vS q k (ix2 r j) = σ q k r j := by
  pointwise [vS, σ]

theorem vM_apply (m : FVec 𝐅 S512x1 .f32) (s : FVec 𝐅 S512x512 .f32) (r : Fin 512) :
    vM m s (ix2 r 0) = stepM (m (ix2 r 0)) (fun j : Fin 512 => s (ix2 r j)) := by
  pointwise [vM, stepM]
  rw [minusInf]

theorem vL_apply (m l : FVec 𝐅 S512x1 .f32) (s : FVec 𝐅 S512x512 .f32) (r : Fin 512) :
    vL m l s (ix2 r 0) = stepL (m (ix2 r 0)) (l (ix2 r 0)) (fun j : Fin 512 => s (ix2 r j)) := by
  unfold stepL
  rw [← vM_apply m s]
  pointwise [vL, vα, vP]

theorem vA_apply (m : FVec 𝐅 S512x1 .f32) (a : FVec 𝐅 S512x128 .f32) (s : FVec 𝐅 S512x512 .f32) (v : FVec 𝐅 S512x128 .bf16)
    (r : Fin 512) (d : Fin 128) :
    vA m a s v (ix2 r d) = stepA (m (ix2 r 0)) (a (ix2 r d)) (fun j : Fin 512 => s (ix2 r j)) (fun j => v (ix2 j d)) := by
  unfold stepA
  rw [← vM_apply m s]
  pointwise [vA, vα, vP]

theorem first_apply (x0 : Vec 𝐅 S1x4x128x128 .bf16) (x3 : Vec 𝐅 S1x1x128x256 .bf16) (x4 : Vec 𝐅 S1x1x256x128 .bf16)
    (r : Fin 512) (j : Fin 256) : k0_pay8 x0 x3 (ix2 r j) = ∑ c : Fin 128, k0_pay6 x0 (ix2 r c) * x3 (ix4 0 0 c j) := by
  pointwise [k0_pay8]

theorem first_m (x0 : Vec 𝐅 S1x4x128x128 .bf16) (x3 : Vec 𝐅 S1x1x128x256 .bf16) (r : Fin 512) :
    k0_pay9 x0 x3 (ix2 r 0) = stepM ⊥ (fun j : Fin 256 => k0_pay8 x0 x3 (ix2 r j)) := by
  pointwise [k0_pay9, k0_pay7, stepM]
  rw [minusInf]

theorem first_l (x0 : Vec 𝐅 S1x4x128x128 .bf16) (x3 : Vec 𝐅 S1x1x128x256 .bf16) (r : Fin 512) :
    k0_pay12 x0 x3 (ix2 r 0) = stepL ⊥ 0 (fun j : Fin 256 => k0_pay8 x0 x3 (ix2 r j)) := by
  unfold stepL
  rw [← first_m]
  pointwise [k0_pay12, k0_pay10, k0_pay11, k0_pay7]
  rw [minusInf]

theorem first_a (x0 : Vec 𝐅 S1x4x128x128 .bf16) (x3 : Vec 𝐅 S1x1x128x256 .bf16) (x4 : Vec 𝐅 S1x1x256x128 .bf16) (r : Fin 512) (d : Fin 128) :
    k0_pay13 x0 x3 x4 (ix2 r d) = stepA ⊥ 0 (fun j : Fin 256 => k0_pay8 x0 x3 (ix2 r j)) (fun j => x4 (ix4 0 0 j d)) := by
  unfold stepA
  rw [← first_m]
  pointwise [k0_pay13, k0_pay10, k0_pay11, k0_pay7]
  rw [minusInf]

theorem q_apply (x0 : Vec 𝐅 S1x4x128x128 .bf16) (r : Fin 512) (c : Fin 128) :
    qv x0 (ix2 r c) = x0 (ix4 0 ⟨r.val / 128, by omega⟩ ⟨r.val % 128, by omega⟩ c) := by
  pointwise [qv, k0_pay6]

theorem k0_apply (x1 : Vec 𝐅 S1x1x128x4096 .bf16) (c : Fin 128) (j : Fin 512) :
    kt' (View.ld x1 r0_3) (ix2 c j) = x1 (ix4 0 0 c ⟨0 + j.val, by omega⟩) := by
  pointwise [kt']

theorem v0_apply (x2 : Vec 𝐅 S1x1x4096x128 .bf16) (j : Fin 512) (d : Fin 128) :
    vt' (View.ld x2 r0_4) (ix2 j d) = x2 (ix4 0 0 ⟨0 + j.val, by omega⟩ d) := by
  pointwise [vt']

theorem k1_apply (x1 : Vec 𝐅 S1x1x128x4096 .bf16) (c : Fin 128) (j : Fin 512) :
    kt' (View.ld x1 r0_5) (ix2 c j) = x1 (ix4 0 0 c ⟨512 + j.val, by omega⟩) := by
  pointwise [kt']

theorem v1_apply (x2 : Vec 𝐅 S1x1x4096x128 .bf16) (j : Fin 512) (d : Fin 128) :
    vt' (View.ld x2 r0_6) (ix2 j d) = x2 (ix4 0 0 ⟨512 + j.val, by omega⟩ d) := by
  pointwise [vt']

theorem k2_apply (x1 : Vec 𝐅 S1x1x128x4096 .bf16) (c : Fin 128) (j : Fin 512) :
    kt' (View.ld x1 r0_7) (ix2 c j) = x1 (ix4 0 0 c ⟨1024 + j.val, by omega⟩) := by
  pointwise [kt']

theorem v2_apply (x2 : Vec 𝐅 S1x1x4096x128 .bf16) (j : Fin 512) (d : Fin 128) :
    vt' (View.ld x2 r0_8) (ix2 j d) = x2 (ix4 0 0 ⟨1024 + j.val, by omega⟩ d) := by
  pointwise [vt']

theorem k3_apply (x1 : Vec 𝐅 S1x1x128x4096 .bf16) (c : Fin 128) (j : Fin 512) :
    kt' (View.ld x1 r0_9) (ix2 c j) = x1 (ix4 0 0 c ⟨1536 + j.val, by omega⟩) := by
  pointwise [kt']

theorem v3_apply (x2 : Vec 𝐅 S1x1x4096x128 .bf16) (j : Fin 512) (d : Fin 128) :
    vt' (View.ld x2 r0_10) (ix2 j d) = x2 (ix4 0 0 ⟨1536 + j.val, by omega⟩ d) := by
  pointwise [vt']

theorem k4_apply (x1 : Vec 𝐅 S1x1x128x4096 .bf16) (c : Fin 128) (j : Fin 512) :
    kt' (View.ld x1 r0_11) (ix2 c j) = x1 (ix4 0 0 c ⟨2048 + j.val, by omega⟩) := by
  pointwise [kt']

theorem v4_apply (x2 : Vec 𝐅 S1x1x4096x128 .bf16) (j : Fin 512) (d : Fin 128) :
    vt' (View.ld x2 r0_12) (ix2 j d) = x2 (ix4 0 0 ⟨2048 + j.val, by omega⟩ d) := by
  pointwise [vt']

theorem k5_apply (x1 : Vec 𝐅 S1x1x128x4096 .bf16) (c : Fin 128) (j : Fin 512) :
    kt' (View.ld x1 r0_13) (ix2 c j) = x1 (ix4 0 0 c ⟨2560 + j.val, by omega⟩) := by
  pointwise [kt']

theorem v5_apply (x2 : Vec 𝐅 S1x1x4096x128 .bf16) (j : Fin 512) (d : Fin 128) :
    vt' (View.ld x2 r0_14) (ix2 j d) = x2 (ix4 0 0 ⟨2560 + j.val, by omega⟩ d) := by
  pointwise [vt']

theorem k6_apply (x1 : Vec 𝐅 S1x1x128x4096 .bf16) (c : Fin 128) (j : Fin 512) :
    kt' (View.ld x1 r0_15) (ix2 c j) = x1 (ix4 0 0 c ⟨3072 + j.val, by omega⟩) := by
  pointwise [kt']

theorem v6_apply (x2 : Vec 𝐅 S1x1x4096x128 .bf16) (j : Fin 512) (d : Fin 128) :
    vt' (View.ld x2 r0_16) (ix2 j d) = x2 (ix4 0 0 ⟨3072 + j.val, by omega⟩ d) := by
  pointwise [vt']

theorem k7_apply (x1 : Vec 𝐅 S1x1x128x4096 .bf16) (c : Fin 128) (j : Fin 512) :
    kt' (View.ld x1 r0_17) (ix2 c j) = x1 (ix4 0 0 c ⟨3584 + j.val, by omega⟩) := by
  pointwise [kt']

theorem v7_apply (x2 : Vec 𝐅 S1x1x4096x128 .bf16) (j : Fin 512) (d : Fin 128) :
    vt' (View.ld x2 r0_18) (ix2 j d) = x2 (ix4 0 0 ⟨3584 + j.val, by omega⟩ d) := by
  pointwise [vt']

end Cert.Steps

end
-- ==== Proof.Block.lean ====
module

public import proofs.«01_k».proof.Proof.Read

/-! One row and one column of the kernel's block: the softmax average over all 4352 keys, the 256 context keys
first and the 4096 latent keys behind them. -/

@[expose] public section

set_option maxRecDepth 16384

noncomputable section

namespace Cert.Steps

open Idealize.ShloMosaic Idealize.ShloMosaic.TcCoe Idealize.SL.Sem Cert.AttnIdeal Cert.AttnIdeal.Gen Cert.Softmax
open Cert.AttnIdeal.Facts

local notation "𝐅" => Ideal

/-- The context entries first, the latent entries behind them. -/
def cat (a : Fin 256 → EReal) (b : Fin 4096 → EReal) (n : ℕ) : EReal :=
  if h : n < 256 then a ⟨n, h⟩ else if h' : n - 256 < 4096 then b ⟨n - 256, h'⟩ else 0

theorem cat_left (a : Fin 256 → EReal) (b : Fin 4096 → EReal) (j : Fin 256) : cat a b j.val = a j := by
  unfold cat
  rw [dif_pos j.isLt]

theorem cat_right (a : Fin 256 → EReal) (b : Fin 4096 → EReal) (j : Fin 4096) : cat a b (256 + j.val) = b j := by
  unfold cat
  rw [dif_neg (by omega), dif_pos (by have := j.isLt; omega)]
  exact congrArg b (Fin.ext (by show 256 + j.val - 256 = j.val; omega))

theorem cat_real {a : Fin 256 → EReal} {b : Fin 4096 → EReal} (ha : ∀ j, IsReal (a j)) (hb : ∀ j, IsReal (b j)) (n : ℕ) :
    IsReal (cat a b n) := by
  unfold cat
  split
  · exact ha _
  · split
    · exact hb _
    · exact ⟨0, rfl⟩

/-- The score of query `q` against key `n`. -/
def score (q : Fin 128 → EReal) (kc : Fin 128 → Fin 256 → EReal) (kl : Fin 128 → Fin 4096 → EReal) (n : ℕ) : EReal :=
  cat (fun j => ∑ c, q c * kc c j) (fun j => ∑ c, q c * kl c j) n

theorem score_real {q : Fin 128 → EReal} {kc : Fin 128 → Fin 256 → EReal} {kl : Fin 128 → Fin 4096 → EReal}
    (hq : ∀ c, IsReal (q c)) (hc : ∀ c j, IsReal (kc c j)) (hl : ∀ c j, IsReal (kl c j)) (n : ℕ) : IsReal (score q kc kl n) :=
  cat_real (fun j => IsReal.sum _ _ fun c => (hq c).mul (hc c j)) (fun j => IsReal.sum _ _ fun c => (hq c).mul (hl c j)) n

/-- The softmax average of the values over all keys, its weights shifted by `x` and normalised. -/
def average (q : Fin 128 → EReal) (kc : Fin 128 → Fin 256 → EReal) (kl : Fin 128 → Fin 4096 → EReal)
    (vc : Fin 256 → EReal) (vl : Fin 4096 → EReal) (x : EReal) : EReal :=
  ∑ j : Fin 4352, Ideal.div (Ideal.exp (score q kc kl j.val - x)) (∑ k : Fin 4352, Ideal.exp (score q kc kl k.val - x)) * cat vc vl j.val

section row
variable (x0 : Vec 𝐅 S1x4x128x128 .bf16) (x1 : Vec 𝐅 S1x1x128x4096 .bf16) (x2 : Vec 𝐅 S1x1x4096x128 .bf16)
  (x3 : Vec 𝐅 S1x1x128x256 .bf16) (x4 : Vec 𝐅 S1x1x256x128 .bf16) (r : Fin 512) (d : Fin 128)

/-- The scores and the values of row `r` and column `d` of the block. -/
abbrev sc (n : ℕ) : EReal := score (fun c => qv x0 (ix2 r c)) (fun c j => x3 (ix4 0 0 c j)) (fun c j => x1 (ix4 0 0 c j)) n
abbrev va (n : ℕ) : EReal := cat (fun j => x4 (ix4 0 0 j d)) (fun j => x2 (ix4 0 0 j d)) n

/-- The state of row `r` and column `d` after `n` keys. -/
def At (sr : ℕ → ℝ) (n : ℕ) (st : St) : Prop := Inv sr (va x2 x4 d) n (st.m (ix2 r 0)) (st.l (ix2 r 0)) (st.a (ix2 r d))

variable {x0 x1 x3 r} {sr : ℕ → ℝ}

theorem at_first (hs : ∀ n, sc x0 x1 x3 r n = (sr n : EReal)) : At x2 x4 r d sr 256 (st0 x0 x3 x4) := by
  have e0 : ∀ j : Fin 256, k0_pay8 (View.ld x0 r0_0) (View.ld x3 r0_1) (ix2 r j) = (sr j.val : EReal) := fun j => by
    rw [← hs, first_apply (x4 := View.ld x4 r0_2)]
    show _ = cat _ _ j.val
    rw [cat_left]
    refine Finset.sum_congr rfl fun c _ => congrArg₂ (· * ·) rfl ?_
    pointwise
  have h := Inv.first (s := sr) (v := va x2 x4 d) (w := 255) (fun j => k0_pay8 (View.ld x0 r0_0) (View.ld x3 r0_1) (ix2 r j))
    (fun j => View.ld x4 r0_2 (ix4 0 0 j d)) e0 (fun j => by
      rw [show va x2 x4 d j.val = _ from cat_left _ _ j]
      pointwise)
  unfold At st0 first
  dsimp only
  rw [first_m, first_l, first_a]
  exact h

theorem at_next (hs : ∀ n, sc x0 x1 x3 r n = (sr n : EReal)) (off : ℕ) (hoff : off + 512 ≤ 4096) {st : St}
    (h : At x2 x4 r d sr (256 + off) st) (k : FVec 𝐅 S128x512 .bf16) (v : FVec 𝐅 S512x128 .bf16)
    (hk : ∀ c (j : Fin 512), k (ix2 c j) = x1 (ix4 0 0 c ⟨off + j.val, by omega⟩))
    (hv : ∀ j : Fin 512, v (ix2 j d) = x2 (ix4 0 0 ⟨off + j.val, by omega⟩ d)) :
    At x2 x4 r d sr (256 + (off + 512)) (next (qv x0) st k v) := by
  have e : ∀ j : Fin 512, vS (qv x0) k (ix2 r j) = (sr (256 + off + j.val) : EReal) := fun j => by
    rw [← hs, vS_apply, show 256 + off + j.val = 256 + (⟨off + j.val, by omega⟩ : Fin 4096).val from Nat.add_assoc _ _ _]
    show _ = cat _ _ _
    rw [cat_right]
    exact Finset.sum_congr rfl fun c _ => congrArg₂ (· * ·) rfl (hk c j)
  have h' := Inv.next (s := sr) (v := va x2 x4 d) (w := 511) h (fun j => vS (qv x0) k (ix2 r j)) (fun j => v (ix2 j d)) e (fun j => by
    rw [hv j, show 256 + off + j.val = 256 + (⟨off + j.val, by omega⟩ : Fin 4096).val from Nat.add_assoc _ _ _]
    exact (cat_right (fun j => x4 (ix4 0 0 j d)) (fun j => x2 (ix4 0 0 j d)) ⟨off + j.val, by omega⟩).symm)
  unfold At next
  dsimp only
  rw [vM_apply, vL_apply, vA_apply, ← Nat.add_assoc]
  exact h'

/-- All keys seen. -/
theorem at_last (hs : ∀ n, sc x0 x1 x3 r n = (sr n : EReal)) : At x2 x4 r d sr 4352 (st8 x0 x1 x2 x3 x4) := by
  have h0 := at_first (x1 := x1) x2 x4 d hs
  have h1 := at_next x2 x4 d hs 0 (by omega) h0 _ _ (k0_apply x1) (fun j => v0_apply x2 j d)
  have h2 := at_next x2 x4 d hs 512 (by omega) h1 _ _ (k1_apply x1) (fun j => v1_apply x2 j d)
  have h3 := at_next x2 x4 d hs 1024 (by omega) h2 _ _ (k2_apply x1) (fun j => v2_apply x2 j d)
  have h4 := at_next x2 x4 d hs 1536 (by omega) h3 _ _ (k3_apply x1) (fun j => v3_apply x2 j d)
  have h5 := at_next x2 x4 d hs 2048 (by omega) h4 _ _ (k4_apply x1) (fun j => v4_apply x2 j d)
  have h6 := at_next x2 x4 d hs 2560 (by omega) h5 _ _ (k5_apply x1) (fun j => v5_apply x2 j d)
  have h7 := at_next x2 x4 d hs 3072 (by omega) h6 _ _ (k6_apply x1) (fun j => v6_apply x2 j d)
  exact at_next x2 x4 d hs 3584 (by omega) h7 _ _ (k7_apply x1) (fun j => v7_apply x2 j d)

/-- Row `r`, column `d` of the quotient: the softmax average, at any real shift. -/
theorem row_average (h0 : ∀ i, IsReal (x0 i)) (h1 : ∀ i, IsReal (x1 i)) (h3 : ∀ i, IsReal (x3 i)) {x : EReal} (hx : IsReal x) :
    divf (st8 x0 x1 x2 x3 x4).a (broadcastTo S512x128 (st8 x0 x1 x2 x3 x4).l broadcasts_S512x1_S512x128) (ix2 r d)
      = average (fun c => x0 (ix4 0 ⟨r.val / 128, by omega⟩ ⟨r.val % 128, by omega⟩ c)) (fun c j => x3 (ix4 0 0 c j)) (fun c j => x1 (ix4 0 0 c j))
          (fun j => x4 (ix4 0 0 j d)) (fun j => x2 (ix4 0 0 j d)) x := by
  have hreal : ∀ n, IsReal (sc x0 x1 x3 r n) := fun n =>
    score_real (fun c => by rw [q_apply]; exact h0 _) (fun _ _ => h3 _) (fun _ _ => h1 _) n
  choose sr hs using hreal
  have h := Inv.quotient (s := sr) (v := va x2 x4 d) (n := 4351) (at_last x2 x4 d hs) (fun j => sc x0 x1 x3 r j.val)
    (fun j => va x2 x4 d j.val) (fun j => hs j.val) (fun _ => rfl) hx
  have e : divf (st8 x0 x1 x2 x3 x4).a (broadcastTo S512x128 (st8 x0 x1 x2 x3 x4).l broadcasts_S512x1_S512x128) (ix2 r d)
      = Ideal.div ((st8 x0 x1 x2 x3 x4).a (ix2 r d)) ((st8 x0 x1 x2 x3 x4).l (ix2 r 0)) := by
    pointwise
  rw [e, h]
  have eq : (fun c => qv x0 (ix2 r c)) = fun c => x0 (ix4 0 ⟨r.val / 128, by omega⟩ ⟨r.val % 128, by omega⟩ c) :=
    funext fun c => q_apply x0 r c
  unfold average
  rw [← eq]

end row

end Cert.Steps

end
-- ==== Proof.Ref.lean ====
module

public import proofs.«01_k».proof.Proof.Block
public import proofs.«01_k».proof.Proof.Gen.AttnRefIdeal.Read

/-! The reference read at one query and one column: the same softmax average, shifted by the row's maximum. -/

@[expose] public section

set_option maxRecDepth 16384

noncomputable section

namespace Cert.Ref

open Idealize.ShloMosaic Idealize.ShloMosaic.TcCoe Idealize.SL.Sem Cert.AttnRefIdeal Cert.AttnRefIdeal.Gen Cert.AttnRefIdeal.Read
open Cert.Softmax Cert.Steps
open Cert.AttnRefIdeal.Facts

local notation "𝐅" => Ideal

variable (x0 : FVec 𝐅 S2x8x4096x128 .bf16) (x1 : FVec 𝐅 S2x2x128x4096 .bf16) (x2 : FVec 𝐅 S2x2x4096x128 .bf16)
  (x3 : FVec 𝐅 S2x2x128x256 .bf16) (x4 : FVec 𝐅 S2x2x256x128 .bf16)
variable (b h : Fin 2) (g : Fin 4) (n : Fin 4096)

/-- The word 0 is the number 0. -/
theorem zeroBits : Ideal.ofBits .f32 0x00000000#32 = (0 : EReal) := by
  simp [Ideal.ofBits, Ideal.ieee]

/-- The keys side by side: context, then latent. -/
theorem keys_apply (c : Fin 128) (j : Fin 4352) :
    val_main_v2 (F := 𝐅) x1 x3 (ix4 b h c j) = cat (fun j => x3 (ix4 b h c j)) (fun j => x1 (ix4 b h c j)) j.val := by
  pointwise [val_main_v2, val_main_v0, val_main_v1, cat]
  by_cases hj : j.val < 256
  · rw [dif_pos hj, dif_pos hj]
  · rw [dif_neg hj, dif_neg hj, dif_pos (by omega)]

/-- The values one below the other: context, then latent. -/
theorem values_apply (j : Fin 4352) (d : Fin 128) :
    val_main_v5 (F := 𝐅) x2 x4 (ix4 b h j d) = cat (fun j => x4 (ix4 b h j d)) (fun j => x2 (ix4 b h j d)) j.val := by
  pointwise [val_main_v5, val_main_v3, val_main_v4, cat]
  by_cases hj : j.val < 256
  · rw [dif_pos hj, dif_pos hj]
  · rw [dif_neg hj, dif_neg hj, dif_pos (by omega)]

/-- The queries of head `4 h + g`. -/
theorem query_apply (c : Fin 128) :
    val_main_v7 (F := 𝐅) x0 (ix5 b h g n c) = x0 (ix4 b ⟨4 * h.val + g.val, by omega⟩ n c) := by
  rw [val_main_v7_apply, val_main_v6_apply]
  show x0 _ = _
  refine congrArg x0 (funext fun a => Fin.ext ?_)
  have hb := b.isLt
  have hh := h.isLt
  have hg := g.isLt
  have hn := n.isLt
  have hc := c.isLt
  match a with
  | ⟨0, _⟩ => show ((((b.val * 2 + h.val) * 4 + g.val) * 4096 + n.val) * 128 + c.val) / 4194304 = b.val; omega
  | ⟨1, _⟩ => show ((((b.val * 2 + h.val) * 4 + g.val) * 4096 + n.val) * 128 + c.val) / 524288 % 8 = 4 * h.val + g.val; omega
  | ⟨2, _⟩ => show ((((b.val * 2 + h.val) * 4 + g.val) * 4096 + n.val) * 128 + c.val) / 128 % 4096 = n.val; omega
  | ⟨3, _⟩ => show ((((b.val * 2 + h.val) * 4 + g.val) * 4096 + n.val) * 128 + c.val) % 128 = c.val; omega

/-- The scores. -/
theorem score_apply (j : Fin 4352) : val_main_v8 (F := 𝐅) x0 x1 x3 (ix5 b h g n j)
    = score (fun c => x0 (ix4 b ⟨4 * h.val + g.val, by omega⟩ n c)) (fun c j => x3 (ix4 b h c j)) (fun c j => x1 (ix4 b h c j)) j.val := by
  rw [val_main_v8_apply]
  have e : ∀ c : Fin 128, val_main_v7 (F := 𝐅) x0 (lidx_main_v8 (ix5 b h g n j) c) * val_main_v2 (F := 𝐅) x1 x3 (ridx_main_v8 (ix5 b h g n j) c)
      = x0 (ix4 b ⟨4 * h.val + g.val, by omega⟩ n c) * cat (fun j => x3 (ix4 b h c j)) (fun j => x1 (ix4 b h c j)) j.val := fun c => by
    rw [← query_apply x0 b h g n c, ← keys_apply x1 x3 b h c j]
    refine congrArg₂ (· * ·) (congrArg _ (funext fun a => ?_)) (congrArg _ (funext fun a => ?_))
    · match a with
      | ⟨0, _⟩ => rfl
      | ⟨1, _⟩ => rfl
      | ⟨2, _⟩ => rfl
      | ⟨3, _⟩ => rfl
      | ⟨4, _⟩ => rfl
    · match a with
      | ⟨0, _⟩ => rfl
      | ⟨1, _⟩ => rfl
      | ⟨2, _⟩ => rfl
      | ⟨3, _⟩ => rfl
  rw [Finset.sum_congr rfl fun c _ => e c]
  unfold score cat
  split
  · rfl
  · split
    · rfl
    · simp

/-- The maximum of a row's scores. -/
theorem max_apply :
    val_main_v11 (F := 𝐅) x0 x1 x3 (ix4 b h g n) = max ⊥ (Finset.univ.fold max ⊥ (fun j : Fin 4352 => val_main_v8 (F := 𝐅) x0 x1 x3 (ix5 b h g n j))) := by
  rw [val_main_v11_apply, val_main_v10_apply, val_main_cst_0_apply]
  unfold val_main_v9
  generalize val_main_v8 (F := 𝐅) x0 x1 x3 = y
  pointwise [val_main_cst]
  rw [minusInf]

/-- Where queries and keys are real the maximum is. -/
theorem max_real (h0 : ∀ i, IsReal (x0 i)) (h1 : ∀ i, IsReal (x1 i)) (h3 : ∀ i, IsReal (x3 i)) :
    IsReal (val_main_v11 (F := 𝐅) x0 x1 x3 (ix4 b h g n)) := by
  rw [max_apply, max_eq_right bot_le]
  exact fold_max_real _ fun j => by
    rw [score_apply]
    exact score_real (fun _ => h0 _) (fun _ _ => h3 _) (fun _ _ => h1 _) _

/-- An index of the scores from its coordinates. -/
theorem ix5_eq (i : S2x2x4x4096x4352.Idx) (j : Fin 4352) (h0 : (i 0).val = b.val) (h1 : (i 1).val = h.val) (h2 : (i 2).val = g.val)
    (h3 : (i 3).val = n.val) (h4 : (i 4).val = j.val) : i = ix5 b h g n j :=
  funext fun a => Fin.ext (match a with
    | ⟨0, _⟩ => h0
    | ⟨1, _⟩ => h1
    | ⟨2, _⟩ => h2
    | ⟨3, _⟩ => h3
    | ⟨4, _⟩ => h4)

/-- An index of the maxima from its coordinates. -/
theorem ix4_eq (i : S2x2x4x4096.Idx) (h0 : (i 0).val = b.val) (h1 : (i 1).val = h.val) (h2 : (i 2).val = g.val)
    (h3 : (i 3).val = n.val) : i = ix4 b h g n :=
  funext fun a => Fin.ext (match a with
    | ⟨0, _⟩ => h0
    | ⟨1, _⟩ => h1
    | ⟨2, _⟩ => h2
    | ⟨3, _⟩ => h3)

/-- The exponentials, shifted by the row's maximum. -/
theorem exp_apply (j : Fin 4352) :
    val_main_v15 (F := 𝐅) x0 x1 x3 (ix5 b h g n j) = Ideal.exp (val_main_v8 (F := 𝐅) x0 x1 x3 (ix5 b h g n j) - val_main_v11 (F := 𝐅) x0 x1 x3 (ix4 b h g n)) := by
  rw [val_main_v15_apply, val_main_v14_apply, val_main_v13_apply, val_main_v12_apply,
    ix4_eq b h g n (idx_main_v12 (idx_main_v13 (ix5 b h g n j))) rfl rfl rfl rfl]
  rfl

/-- The weights. -/
theorem weight_apply (j : Fin 4352) :
    val_main_v21 (F := 𝐅) x0 x1 x3 (ix5 b h g n j) = Ideal.div (val_main_v15 (F := 𝐅) x0 x1 x3 (ix5 b h g n j)) (∑ k : Fin 4352, val_main_v15 (F := 𝐅) x0 x1 x3 (ix5 b h g n k)) := by
  rw [val_main_v21_apply, val_main_v20_apply, val_main_v19_apply, val_main_v18_apply, val_main_v17_apply, val_main_v16_apply]
  show Ideal.div _ _ = _
  congr 1
  rw [val_main_cst_1_apply, Finset.sum_congr rfl fun k _ => congrArg (val_main_v15 (F := 𝐅) x0 x1 x3)
    (ix5_eq b h g n (idx_main_v16 (idx_main_v17 (idx_main_v18 (ix5 b h g n j))) k) k rfl rfl rfl rfl rfl)]
  show Ideal.ofBits .f32 0x00000000#32 + _ = _
  rw [zeroBits, zero_add]

/-- The reference before its last reshape: the softmax average shifted by the row's maximum. -/
theorem row_average (d : Fin 128) : val_main_v22 (F := 𝐅) x0 x1 x2 x3 x4 (ix5 b h g n d)
    = average (fun c => x0 (ix4 b ⟨4 * h.val + g.val, by omega⟩ n c)) (fun c j => x3 (ix4 b h c j)) (fun c j => x1 (ix4 b h c j))
        (fun j => x4 (ix4 b h j d)) (fun j => x2 (ix4 b h j d)) (val_main_v11 (F := 𝐅) x0 x1 x3 (ix4 b h g n)) := by
  rw [val_main_v22_apply]
  unfold average
  refine Finset.sum_congr rfl fun j _ => ?_
  rw [ix5_eq b h g n (lidx_main_v22 (ix5 b h g n d) j) j rfl rfl rfl rfl rfl, weight_apply, exp_apply, score_apply,
    ← values_apply x2 x4 b h j d]
  refine congrArg₂ (· * ·) (congrArg₂ Ideal.div rfl (Finset.sum_congr rfl fun k _ => by rw [exp_apply, score_apply]))
    (congrArg _ (funext fun a => ?_))
  match a with
  | ⟨0, _⟩ => rfl
  | ⟨1, _⟩ => rfl
  | ⟨2, _⟩ => rfl
  | ⟨3, _⟩ => rfl

/-- The result at row `R` and column `C`. -/
theorem out_apply (R : Fin 8192) (C : Fin 1024) :
    val_main_v25 (F := 𝐅) x0 x1 x2 x3 x4 (ix2 R C) =
     val_main_v22 (F := 𝐅) x0 x1 x2 x3 x4 (ix5 ⟨R.val / 4096, by omega⟩ ⟨C.val / 512, by omega⟩ ⟨C.val / 128 % 4, by omega⟩ ⟨R.val % 4096, by omega⟩ ⟨C.val % 128, by omega⟩) := by
  rw [val_main_v25_apply, val_main_v24_apply, val_main_v23_apply]
  show val_main_v22 (F := 𝐅) x0 x1 x2 x3 x4 _ = _
  refine congrArg (val_main_v22 (F := 𝐅) x0 x1 x2 x3 x4) (funext fun a => Fin.ext ?_)
  have hC := C.isLt
  have hR := R.isLt
  match a with
  | ⟨0, _⟩ => show (R.val * 1024 + C.val) / 4194304 = R.val / 4096; omega
  | ⟨1, _⟩ => show (R.val * 1024 + C.val) / 512 % 2 = C.val / 512; omega
  | ⟨2, _⟩ => show (R.val * 1024 + C.val) / 128 % 4 = C.val / 128 % 4; omega
  | ⟨3, _⟩ => show (R.val * 1024 + C.val) / 1024 % 4096 = R.val % 4096; omega
  | ⟨4, _⟩ => show (R.val * 1024 + C.val) % 128 = C.val % 128; omega

/-- The result at the row and the column of query `n`, of head `g` of group `h`, and of column `d`. -/
theorem out_at (R : Fin 8192) (C : Fin 1024) (d : Fin 128) (hb : R.val / 4096 = b.val) (hh : C.val / 512 = h.val) (hg : C.val / 128 % 4 = g.val)
    (hn : R.val % 4096 = n.val) (hd : C.val % 128 = d.val) : val_main_v25 (F := 𝐅) x0 x1 x2 x3 x4 (ix2 R C)
    = average (fun c => x0 (ix4 b ⟨4 * h.val + g.val, by omega⟩ n c)) (fun c j => x3 (ix4 b h c j)) (fun c j => x1 (ix4 b h c j))
        (fun j => x4 (ix4 b h j d)) (fun j => x2 (ix4 b h j d)) (val_main_v11 (F := 𝐅) x0 x1 x3 (ix4 b h g n)) := by
  rw [out_apply, row_average]
  obtain rfl : b = ⟨R.val / 4096, by clear hb hh hg hn hd; omega⟩ := Fin.ext hb.symm
  obtain rfl : h = ⟨C.val / 512, by clear hb hh hg hn hd; omega⟩ := Fin.ext hh.symm
  obtain rfl : g = ⟨C.val / 128 % 4, by clear hb hh hg hn hd; omega⟩ := Fin.ext hg.symm
  obtain rfl : n = ⟨R.val % 4096, by clear hb hh hg hn hd; omega⟩ := Fin.ext hn.symm
  obtain rfl : d = ⟨C.val % 128, by clear hb hh hg hn hd; omega⟩ := Fin.ext hd.symm
  rfl

end Cert.Ref

end
-- ==== Proof.Cover.lean ====
module

public import proofs.«01_k».proof.Proof.Block
public import proofs.«01_k».proof.Proof.Ref
public import proofs.«01_k».proof.Proof.Gen.AttnIdeal.Value
public import Idealize.ShloMosaic.Lib.Pipeline.Value

/-!
  The kernel's result, index by index: the blocks of the arrays each grid point reads, the block it writes, and the
  array the blocks make together.
-/

@[expose] public section

set_option maxRecDepth 16384

noncomputable section

namespace Cert.Cover

open Cert.AttnIdeal Cert.AttnIdeal.Gen Idealize.ShloMosaic Idealize.ShloMosaic.TcCoe Idealize.SL.Sem
open Idealize.ShloMosaic.Pipeline (Dat)
open Cert.Softmax Cert.Steps

local notation "𝐅" => (Ideal : FTy → Type)

variable (m : (ℓ : Loc nD τ sig) → Buf (Elt 𝐅) ℓ) (c : Dev nD)

/-- The blocks of the point `t`: batch entry `t / 64`, head `t / 32 % 2`, block of rows `t % 32`. -/
theorem where_q : ∀ t : Fin cfg0.N, win0_0.index t 0 = t.val / 64 ∧ win0_0.index t 1 = t.val / 32 % 2 ∧ win0_0.index t 2 = t.val % 32 ∧ win0_0.index t 3 = 0 :=
  (by decide +kernel : ∀ t : Fin grid0.N, _)
theorem where_kt : ∀ t : Fin cfg0.N, win0_1.index t 0 = t.val / 64 ∧ win0_1.index t 1 = t.val / 32 % 2 ∧ win0_1.index t 2 = 0 ∧ win0_1.index t 3 = 0 :=
  (by decide +kernel : ∀ t : Fin grid0.N, _)
theorem where_v : ∀ t : Fin cfg0.N, win0_2.index t 0 = t.val / 64 ∧ win0_2.index t 1 = t.val / 32 % 2 ∧ win0_2.index t 2 = 0 ∧ win0_2.index t 3 = 0 :=
  (by decide +kernel : ∀ t : Fin grid0.N, _)
theorem where_kct : ∀ t : Fin cfg0.N, win0_3.index t 0 = t.val / 64 ∧ win0_3.index t 1 = t.val / 32 % 2 ∧ win0_3.index t 2 = 0 ∧ win0_3.index t 3 = 0 :=
  (by decide +kernel : ∀ t : Fin grid0.N, _)
theorem where_vc : ∀ t : Fin cfg0.N, win0_4.index t 0 = t.val / 64 ∧ win0_4.index t 1 = t.val / 32 % 2 ∧ win0_4.index t 2 = 0 ∧ win0_4.index t 3 = 0 :=
  (by decide +kernel : ∀ t : Fin grid0.N, _)
theorem where_out : ∀ t : Fin cfg0.N, win0_5.index t 0 = t.val / 64 * 32 + t.val % 32 ∧ win0_5.index t 1 = t.val / 32 % 2 :=
  (by decide +kernel : ∀ t : Fin grid0.N, _)

theorem t_lt (t : Fin cfg0.N) : t.val < 128 := lt_of_lt_of_eq t.isLt N_0

/-- The queries a point reads. -/
theorem q_block (t : Fin cfg0.N) (g : Fin 4) (n d : Fin 128) : iblk m c 0 t (ix4 0 g n d)
    = m ((c : Thread nD τ).loc main_arg0) (ix4 ⟨t.val / 64, by have := t_lt t; omega⟩ ⟨4 * (t.val / 32 % 2) + g.val, by omega⟩ ⟨t.val % 32 * 128 + n.val, by omega⟩ d) := by
  obtain ⟨e0, e1, e2, e3⟩ := where_q t
  show V m c main_arg0 _ = _
  rw [V_main_arg0]
  refine congrArg _ (funext fun a => Fin.ext ?_)
  match a with
  | ⟨0, _⟩ => show win0_0.index t 0 * 1 + 1 * 0 = t.val / 64; omega
  | ⟨1, _⟩ => show win0_0.index t 1 * 4 + 1 * g.val = 4 * (t.val / 32 % 2) + g.val; omega
  | ⟨2, _⟩ => show win0_0.index t 2 * 128 + 1 * n.val = t.val % 32 * 128 + n.val; omega
  | ⟨3, _⟩ => show win0_0.index t 3 * 128 + 1 * d.val = d.val; omega

/-- The latent keys a point reads. -/
theorem kt_block (t : Fin cfg0.N) (n : Fin 128) (d : Fin 4096) : iblk m c 1 t (ix4 0 0 n d)
    = m ((c : Thread nD τ).loc main_arg1) (ix4 ⟨t.val / 64, by have := t_lt t; omega⟩ ⟨t.val / 32 % 2, by omega⟩ n d) := by
  obtain ⟨e0, e1, e2, e3⟩ := where_kt t
  show V m c main_arg1 _ = _
  rw [V_main_arg1]
  refine congrArg _ (funext fun a => Fin.ext ?_)
  match a with
  | ⟨0, _⟩ => show win0_1.index t 0 * 1 + 1 * 0 = t.val / 64; omega
  | ⟨1, _⟩ => show win0_1.index t 1 * 1 + 1 * 0 = t.val / 32 % 2; omega
  | ⟨2, _⟩ => show win0_1.index t 2 * 128 + 1 * n.val = n.val; omega
  | ⟨3, _⟩ => show win0_1.index t 3 * 4096 + 1 * d.val = d.val; omega

/-- The latent values a point reads. -/
theorem v_block (t : Fin cfg0.N) (n : Fin 4096) (d : Fin 128) : iblk m c 2 t (ix4 0 0 n d)
    = m ((c : Thread nD τ).loc main_arg2) (ix4 ⟨t.val / 64, by have := t_lt t; omega⟩ ⟨t.val / 32 % 2, by omega⟩ n d) := by
  obtain ⟨e0, e1, e2, e3⟩ := where_v t
  show V m c main_arg2 _ = _
  rw [V_main_arg2]
  refine congrArg _ (funext fun a => Fin.ext ?_)
  match a with
  | ⟨0, _⟩ => show win0_2.index t 0 * 1 + 1 * 0 = t.val / 64; omega
  | ⟨1, _⟩ => show win0_2.index t 1 * 1 + 1 * 0 = t.val / 32 % 2; omega
  | ⟨2, _⟩ => show win0_2.index t 2 * 4096 + 1 * n.val = n.val; omega
  | ⟨3, _⟩ => show win0_2.index t 3 * 128 + 1 * d.val = d.val; omega

/-- The context keys a point reads. -/
theorem kct_block (t : Fin cfg0.N) (n : Fin 128) (d : Fin 256) : iblk m c 3 t (ix4 0 0 n d)
    = m ((c : Thread nD τ).loc main_arg3) (ix4 ⟨t.val / 64, by have := t_lt t; omega⟩ ⟨t.val / 32 % 2, by omega⟩ n d) := by
  obtain ⟨e0, e1, e2, e3⟩ := where_kct t
  show V m c main_arg3 _ = _
  rw [V_main_arg3]
  refine congrArg _ (funext fun a => Fin.ext ?_)
  match a with
  | ⟨0, _⟩ => show win0_3.index t 0 * 1 + 1 * 0 = t.val / 64; omega
  | ⟨1, _⟩ => show win0_3.index t 1 * 1 + 1 * 0 = t.val / 32 % 2; omega
  | ⟨2, _⟩ => show win0_3.index t 2 * 128 + 1 * n.val = n.val; omega
  | ⟨3, _⟩ => show win0_3.index t 3 * 256 + 1 * d.val = d.val; omega

/-- The context values a point reads. -/
theorem vc_block (t : Fin cfg0.N) (n : Fin 256) (d : Fin 128) : iblk m c 4 t (ix4 0 0 n d)
    = m ((c : Thread nD τ).loc main_arg4) (ix4 ⟨t.val / 64, by have := t_lt t; omega⟩ ⟨t.val / 32 % 2, by omega⟩ n d) := by
  obtain ⟨e0, e1, e2, e3⟩ := where_vc t
  show V m c main_arg4 _ = _
  rw [V_main_arg4]
  refine congrArg _ (funext fun a => Fin.ext ?_)
  match a with
  | ⟨0, _⟩ => show win0_4.index t 0 * 1 + 1 * 0 = t.val / 64; omega
  | ⟨1, _⟩ => show win0_4.index t 1 * 1 + 1 * 0 = t.val / 32 % 2; omega
  | ⟨2, _⟩ => show win0_4.index t 2 * 256 + 1 * n.val = n.val; omega
  | ⟨3, _⟩ => show win0_4.index t 3 * 128 + 1 * d.val = d.val; omega

section block
variable (x0 : Vec 𝐅 S1x4x128x128 .bf16) (x1 : Vec 𝐅 S1x1x128x4096 .bf16) (x2 : Vec 𝐅 S1x1x4096x128 .bf16)
  (x3 : Vec 𝐅 S1x1x128x256 .bf16) (x4 : Vec 𝐅 S1x1x256x128 .bf16)

/-- The quotient over all 512 rows, the four heads one above another. -/
def quot : Vec 𝐅 S512x128 .f32 := divf (st8 x0 x1 x2 x3 x4).a (broadcastTo S512x128 (st8 x0 x1 x2 x3 x4).l broadcasts_S512x1_S512x128)

/-- The row of the quotient, four heads of 128 rows, that stands at an index of the block, four heads of 128 columns. -/
def heads (i : S128x512.Idx) : S512x128.Idx := ix2 ⟨128 * ((i 1).val / 128) + (i 0).val, by
  have h0 : (i 0).val < 128 := (i 0).isLt
  have h1 : (i 1).val < 512 := (i 1).isLt
  omega⟩ ⟨(i 1).val % 128, by omega⟩

/-- The four stores of a block side by side. -/
theorem side_by_side (p : FVec 𝐅 S512x128 .bf16) (q r : FVec 𝐅 S512x1 .f32) (u : FVec 𝐅 S512x128 .f32) (v : FVec 𝐅 S128x512 .bf16) (w : FVec 𝐅 S512x128 .bf16)
    (i : S128x512.Idx) : View.canon (Val := Elt 𝐅) (e := .bf16) [⟨r0_22, k0_pay5 p q r u v w⟩, ⟨r0_21, k0_pay4 p q r u v w⟩, ⟨r0_20, k0_pay3 p q r u v w⟩, ⟨r0_19, k0_pay2 p q r u v w⟩] i
      = k0_pay1 p q r u v w (heads i) := by
  refine View.canon_apply_of_pieces (Val := Elt 𝐅) (e := .bf16) (fun i => k0_pay1 p q r u v w (heads i)) _ ?_ i (cover0_5 _ _ _ _ i)
  intro z hz x
  simp only [List.mem_cons, List.not_mem_nil, or_false] at hz
  rcases hz with rfl | rfl | rfl | rfl
  all_goals
    have h0 : (x 0).val < 128 := (x 0).isLt
    have h1 : (x 1).val < 128 := (x 1).isLt
    refine congrArg (k0_pay1 p q r u v w) (funext fun a => Fin.ext ?_)
  · match a with
    | ⟨0, _⟩ => show 384 + (x 0).val = 128 * ((384 + 1 * (x 1).val) / 128) + (0 + 1 * (x 0).val); omega
    | ⟨1, _⟩ => show 0 + (x 1).val = (384 + 1 * (x 1).val) % 128; omega
  · match a with
    | ⟨0, _⟩ => show 256 + (x 0).val = 128 * ((256 + 1 * (x 1).val) / 128) + (0 + 1 * (x 0).val); omega
    | ⟨1, _⟩ => show 0 + (x 1).val = (256 + 1 * (x 1).val) % 128; omega
  · match a with
    | ⟨0, _⟩ => show 128 + (x 0).val = 128 * ((128 + 1 * (x 1).val) / 128) + (0 + 1 * (x 0).val); omega
    | ⟨1, _⟩ => show 0 + (x 1).val = (128 + 1 * (x 1).val) % 128; omega
  · match a with
    | ⟨0, _⟩ => show 0 + (x 0).val = 128 * ((0 + 1 * (x 1).val) / 128) + (0 + 1 * (x 0).val); omega
    | ⟨1, _⟩ => show 0 + (x 1).val = (0 + 1 * (x 1).val) % 128; omega

/-- The block a point writes, from the quotient. -/
theorem out_block (i : S128x512.Idx) : out0_5 x0 x1 x2 x3 x4 i = quot x0 x1 x2 x3 x4 (heads i) := by
  unfold out0_5
  rw [side_by_side]
  exact congrFun (rows x0 x1 x2 x3 x4) _

/-- A row of the block, from its head `g` and its row `n` in that head. -/
theorem quot_at (h0 : ∀ i, IsReal (x0 i)) (h1 : ∀ i, IsReal (x1 i)) (h3 : ∀ i, IsReal (x3 i)) {x : EReal} (hx : IsReal x)
    (g : Fin 4) (n d : Fin 128) (r : Fin 512) (hr : r.val = 128 * g.val + n.val) : quot x0 x1 x2 x3 x4 (ix2 r d)
      = average (fun c => x0 (ix4 0 g n c)) (fun c j => x3 (ix4 0 0 c j)) (fun c j => x1 (ix4 0 0 c j))
          (fun j => x4 (ix4 0 0 j d)) (fun j => x2 (ix4 0 0 j d)) x := by
  unfold quot
  rw [row_average x2 x4 d h0 h1 h3 hx]
  obtain rfl : g = ⟨r.val / 128, by clear hr; omega⟩ := Fin.ext (by show g.val = r.val / 128; omega)
  obtain rfl : n = ⟨r.val % 128, by clear hr; omega⟩ := Fin.ext (by show n.val = r.val % 128; omega)
  rfl

end block

/-- The reference of device `c`'s arguments. -/
def whole : Vec 𝐅 S8192x1024 .bf16 :=
  Cert.AttnRefIdeal.Read.val_main_v25 (F := 𝐅) (m ((c : Thread nD τ).loc main_arg0)) (m ((c : Thread nD τ).loc main_arg1)) (m ((c : Thread nD τ).loc main_arg2))
    (m ((c : Thread nD τ).loc main_arg3)) (m ((c : Thread nD τ).loc main_arg4))

variable (hq : ∀ i, IsReal (m ((c : Thread nD τ).loc main_arg0) i)) (hk : ∀ i, IsReal (m ((c : Thread nD τ).loc main_arg1) i))
  (hc : ∀ i, IsReal (m ((c : Thread nD τ).loc main_arg3) i))

include hq hk hc in
/-- What a point writes back is its block of the reference. -/
theorem flushed_eq (t : Fin cfg0.N) : (dats m 0 c).flushed 5 t = ((cfg0.win 5).blk t).view.read (Elt 𝐅) (whole m c) := by
  rw [Value.flushed5]
  funext i
  have h0 : (i 0).val < 128 := (i 0).isLt
  have h1 : (i 1).val < 512 := (i 1).isLt
  have ht := t_lt t
  obtain ⟨e0, e1⟩ := where_out t
  show out0_5 (iblk m c 0 t) (iblk m c 1 t) (iblk m c 2 t) (iblk m c 3 t) (iblk m c 4 t) i = whole m c _
  rw [out_block]
  have e : ((cfg0.win 5).blk t).view.emb i = (ix2 ⟨(t.val / 64 * 32 + t.val % 32) * 128 + (i 0).val, by omega⟩ ⟨t.val / 32 % 2 * 512 + (i 1).val, by omega⟩ : S8192x1024.Idx) :=
    funext fun a => Fin.ext (match a with
    | ⟨0, _⟩ => by show win0_5.index t 0 * 128 + 1 * (i 0).val = (t.val / 64 * 32 + t.val % 32) * 128 + (i 0).val; omega
    | ⟨1, _⟩ => by show win0_5.index t 1 * 512 + 1 * (i 1).val = t.val / 32 % 2 * 512 + (i 1).val; omega)
  refine Eq.trans ?_ (congrArg (whole m c) e).symm
  have r0 : ∀ j : S1x4x128x128.Idx, IsReal (iblk m c 0 t j : EReal) := fun j => by
    show IsReal (V m c main_arg0 _ : EReal)
    rw [V_main_arg0]; exact hq _
  have r1 : ∀ j : S1x1x128x4096.Idx, IsReal (iblk m c 1 t j : EReal) := fun j => by
    show IsReal (V m c main_arg1 _ : EReal)
    rw [V_main_arg1]; exact hk _
  have r3 : ∀ j : S1x1x128x256.Idx, IsReal (iblk m c 3 t j : EReal) := fun j => by
    show IsReal (V m c main_arg3 _ : EReal)
    rw [V_main_arg3]; exact hc _
  unfold whole
  have g4 : 4 * (t.val / 32 % 2) + (i 1).val / 128 < 8 := by omega
  rw [Cert.Ref.out_at (b := ⟨t.val / 64, by omega⟩) (h := ⟨t.val / 32 % 2, by omega⟩) (g := ⟨(i 1).val / 128, by omega⟩)
    (n := ⟨t.val % 32 * 128 + (i 0).val, by omega⟩) (d := ⟨(i 1).val % 128, by omega⟩)
    (hb := by dsimp only; omega) (hh := by dsimp only; omega) (hg := by dsimp only; omega) (hn := by dsimp only; omega) (hd := by dsimp only; omega)]
  unfold heads
  rw [quot_at _ _ _ _ _ r0 r1 r3 (Cert.Ref.max_real _ _ _ ⟨t.val / 64, by omega⟩ ⟨t.val / 32 % 2, by omega⟩ ⟨(i 1).val / 128, by omega⟩
    ⟨t.val % 32 * 128 + (i 0).val, by omega⟩ hq hk hc) ⟨(i 1).val / 128, by omega⟩ ⟨(i 0).val, h0⟩ _ _ rfl]
  simp only [q_block, kt_block, v_block, kct_block, vc_block]

/-- The rows and columns a point writes. -/
theorem mem_block (t : Fin cfg0.N) (i : S8192x1024.Idx) : i ∈ ((cfg0.win 5).blk t).view.set ↔
    (t.val / 64 * 32 + t.val % 32 = (i 0).val / 128 ∧ t.val / 32 % 2 = (i 1).val / 512) := by
  show i ∈ ((View.whole main_v0).slice (win0_5.rect t)).set ↔ _
  rw [View.set_slice_whole, Rect.mem_set_unit]
  obtain ⟨e0, e1⟩ := where_out t
  refine ⟨fun h => ?_, fun h a => ?_⟩
  · have h0 : win0_5.index t 0 * 128 ≤ (i 0).val ∧ (i 0).val < win0_5.index t 0 * 128 + 128 := h 0
    have h1 : win0_5.index t 1 * 512 ≤ (i 1).val ∧ (i 1).val < win0_5.index t 1 * 512 + 512 := h 1
    omega
  · match a with
    | ⟨0, _⟩ => show win0_5.index t 0 * 128 ≤ (i 0).val ∧ (i 0).val < win0_5.index t 0 * 128 + 128; omega
    | ⟨1, _⟩ => show win0_5.index t 1 * 512 ≤ (i 1).val ∧ (i 1).val < win0_5.index t 1 * 512 + 512; omega

/-- Every entry of the result lies in the block of one point. -/
theorem covered (i : S8192x1024.Idx) : ∃ t : Fin cfg0.N, (cfg0.win 5).flush t = true ∧ i ∈ ((cfg0.win 5).blk t).view.set := by
  have h0 : (i 0).val < 8192 := (i 0).isLt
  have h1 : (i 1).val < 1024 := (i 1).isLt
  have hN : cfg0.N = 128 := N_0
  refine ⟨⟨((i 0).val / 4096 * 2 + (i 1).val / 512) * 32 + (i 0).val / 128 % 32, by omega⟩, flush0_5 _, ?_⟩
  rw [mem_block]
  dsimp only
  omega

include hq hk hc in
/-- The kernel's result is the reference of its arguments. -/
theorem result_eq : (dats m 0 c).arrAt 5 cfg0.N = whole m c :=
  (dats m 0 c).arrAt_eq_of_cover 5 (whole m c) (fun t _ => flushed_eq m c hq hk hc t) covered

end Cert.Cover

end
-- ==== Proof.Finite.lean ====
module

public import proofs.«01_k».proof.Proof.Softmax
public import proofs.«01_k».proof.Pre_finite_scores
public import Idealize.ShloMosaic.Lib.Decide

/-! The precondition read: the queries and the keys are real numbers. -/

@[expose] public section

noncomputable section

namespace Cert.Finite

open Idealize.ShloMosaic Cert.Softmax Cert.Pre_finite_scores

instance facts : Cert.Pre_finite_scores.Facts where
  bcast_S_S2x8x4096x128 := by decide
  bcast_S_S2x2x128x4096 := by decide
  bcast_S_S2x2x128x256 := by decide

/-- The word of the precondition's bound is infinity. -/
theorem bound : Ideal.ofBits .bf16 0x7F80#16 = (⊤ : EReal) := by simp [Ideal.ofBits, Ideal.ieee]

/-- A number whose absolute value is below infinity is real. -/
theorem real_of_lt {x : EReal} (h : Ideal.cmp .olt (max x (-x)) (Ideal.ofBits .bf16 0x7F80#16) = 1#1) : IsReal x := by
  rw [bound] at h
  have hlt : max x (-x) < ⊤ := by
    by_contra hn
    simp [Ideal.cmp, hn] at h
  induction x using EReal.rec with
  | bot => simp at hlt
  | top => simp at hlt
  | coe r => exact ⟨r, rfl⟩

variable {x0 : FVec Ideal S2x8x4096x128 .bf16} {x1 : FVec Ideal S2x2x128x4096 .bf16} {x2 : FVec Ideal S2x2x4096x128 .bf16}
  {x3 : FVec Ideal S2x2x128x256 .bf16} {x4 : FVec Ideal S2x2x256x128 .bf16}

/-- The queries are real. -/
theorem queries (h : (fn (F := Ideal) x0 x1 x2 x3 x4).1 = fun _ => 1#1) (i) : IsReal (x0 i) := real_of_lt (congrFun h i)

/-- The latent keys are real. -/
theorem keys (h : (fn (F := Ideal) x0 x1 x2 x3 x4).2.1 = fun _ => 1#1) (i) : IsReal (x1 i) := real_of_lt (congrFun h i)

/-- The context keys are real. -/
theorem context (h : (fn (F := Ideal) x0 x1 x2 x3 x4).2.2 = fun _ => 1#1) (i) : IsReal (x3 i) := real_of_lt (congrFun h i)

end Cert.Finite

end
-- ==== Proof.lean ====
module

public import proofs.«01_k».proof.Proof.InpCover
public import proofs.«01_k».proof.Proof.Gen.Inp
public import proofs.«01_k».proof.Proof.Gen.Inp.Frame
public import proofs.«01_k».proof.Proof.Gen.InpIdeal
public import proofs.«01_k».proof.Proof.Gen.InpIdeal.Frame
public import proofs.«01_k».proof.Proof.Gen.InpRefIdeal
public import proofs.«01_k».proof.Proof.Gen.InpRefIdeal.Run
public import proofs.«01_k».proof.Proof.MoeRows
public import proofs.«01_k».proof.Proof.MoeIdealState
public import proofs.«01_k».proof.Proof.MoeRef
public import proofs.«01_k».proof.Proof.Gen.Moe
public import proofs.«01_k».proof.Proof.Gen.Moe.Frame
public import proofs.«01_k».proof.Proof.Gen.MoeIdeal
public import proofs.«01_k».proof.Proof.Gen.MoeIdeal.Frame
public import proofs.«01_k».proof.Proof.Gen.MoeRefIdeal
public import proofs.«01_k».proof.Proof.Gen.MoeRefIdeal.Run
public import proofs.«01_k».proof.Proof.Cover
public import proofs.«01_k».proof.Proof.Finite
public import proofs.«01_k».proof.Proof.Gen.AttnIdeal.Value
public import proofs.«01_k».proof.Proof.Gen.AttnRefIdeal.Read
public import proofs.«01_k».proof.Defs
public import proofs.«01_k».proof.Proof.Gen.Attn
public import proofs.«01_k».proof.Proof.Gen.Attn.Skeleton
public import proofs.«01_k».proof.Proof.Gen.Attn.Launch
public import proofs.«01_k».proof.Proof.Gen.Attn.Points
public import proofs.«01_k».proof.Proof.Gen.Attn.Frame
public import proofs.«01_k».proof.Proof.Gen.AttnIdeal
public import proofs.«01_k».proof.Proof.Gen.AttnIdeal.Skeleton
public import proofs.«01_k».proof.Proof.Gen.AttnIdeal.Launch
public import proofs.«01_k».proof.Proof.Gen.AttnIdeal.Points
public import proofs.«01_k».proof.Proof.Gen.AttnIdeal.Frame
public import proofs.«01_k».proof.Proof.Gen.AttnRefIdeal
public import Idealize.ShloMosaic.Adequacy
public import Idealize.ShloMosaic.Init

@[expose] public section

noncomputable section

namespace Cert.Proof

open Idealize.ShloMosaic Idealize.SL.Sem Cert.Attn

/-- The attention leaves its arguments as they were and every counter at zero, at the machine's numbers. -/
theorem frame_P : Cert.quiescent_Attn := fun m ρ _ => Cert.Attn.Gen.frame m ρ
/-- So it does at the ideal numbers. -/
theorem frame_PI : Cert.quiescent_AttnIdeal := fun m ρ _ => Cert.AttnIdeal.Gen.frame m ρ
/-- So it does at the ideal numbers, with no infinite score. -/
theorem frame_PI_pre : Cert.quiescent_AttnIdeal_pre_finite_scores := fun m ρ _ => Cert.AttnIdeal.Gen.frame m ρ
/-- The attention's reference leaves its arguments as they were. -/
theorem frame_RI : Cert.quiescent_AttnRefIdeal := fun m ρ _ =>
  (θ_run Cert.AttnRefIdeal.defs _ _).mono (fun r h => ⟨fun c => (h c).2, Idealize.ShloMosaic.sem_eq_zero_of_no_sems (by decide) r.2⟩)
    (Cert.AttnRefIdeal.Value.run (F := Ideal) m ρ)
/-- So it does with no infinite score. -/
theorem frame_RI_pre : Cert.quiescent_AttnRefIdeal_pre_finite_scores := fun m ρ _ => frame_RI m ρ trivial

/-- The kernel's result and the reference's are one array. -/
theorem algebraic : Cert.algebraic_AttnIdeal_AttnRefIdeal_pre_finite_scores := by
  intro m ρ m' ρ' hpre hagree
  refine ⟨fun c => Cert.Cover.whole m c, ?_, ?_⟩
  · exact (θ_run Cert.AttnIdeal.defs _ _).mono
      (fun _ h c => ⟨(h c).1.trans (Cert.Cover.result_eq m c (Cert.Finite.queries (hpre c).1) (Cert.Finite.keys (hpre c).2.1) (Cert.Finite.context (hpre c).2.2)), (h c).2⟩)
      (Cert.AttnIdeal.Value.run_blocks (F := Ideal) m ρ)
  · refine (θ_run Cert.AttnRefIdeal.defs _ _).mono (fun _ h c => ⟨(h c).1.trans ?_, (h c).2⟩) (Cert.AttnRefIdeal.Value.run (F := Ideal) m' ρ')
    rw [Cert.AttnRefIdeal.Read.val_main_v25_eq]
    unfold Cert.Cover.whole
    rw [(hagree c).1, (hagree c).2.1, (hagree c).2.2.1, (hagree c).2.2.2.1, (hagree c).2.2.2.2]

/-! ## The routed experts -/

/-- The routed experts leave their arguments as they were and every counter at zero, at the machine's numbers. -/
theorem frame_P2 : Cert.quiescent_Moe := fun m ρ h => Cert.Moe.Rows.frame m ρ fun c => Cert.RowNumbers.good_ok (h c)
/-- So they do at the ideal numbers. -/
theorem frame_PI2 : Cert.quiescent_MoeIdeal := fun m ρ h => Cert.MoeIdeal.Rows.frame m ρ fun c => Cert.RowNumbers.good_ok (h c)

/-- The row numbers of a run under the precondition of the value claim. -/
theorem good_rows {m : (ℓ : Loc Cert.MoeIdeal.nD Cert.MoeIdeal.τ Cert.MoeIdeal.sig) → Buf (Elt Ideal) ℓ} (h : Cert.Pre_MoeIdeal_rows_finite m)
    (c : Dev Cert.MoeIdeal.nD) : Cert.RowNumbers.Good (m ((c.tc : Thread Cert.MoeIdeal.nD Cert.MoeIdeal.τ).loc Cert.MoeIdeal.main_arg0)) :=
  Cert.RowNumbers.good_finite (h c).1 (h c).2.1 (h c).2.2.1 (h c).2.2.2.1 (h c).2.2.2.2.1

/-- So they do under the precondition of the value claim. -/
theorem frame_PI2_pre : Cert.quiescent_MoeIdeal_pre_rows_finite := fun m ρ h => Cert.MoeIdeal.Rows.frame m ρ (good_rows h)
/-- The reference of the routed experts leaves its arguments as they were. -/
theorem frame_RI2 : Cert.quiescent_MoeRefIdeal := fun m ρ _ =>
  (θ_run Cert.MoeRefIdeal.defs _ _).mono (fun r h => ⟨fun c => (h c).2, Idealize.ShloMosaic.sem_eq_zero_of_no_sems (by decide) r.2⟩)
    (Cert.MoeRefIdeal.Value.run (F := Ideal) m ρ)
/-- So it does under the precondition of the value claim. -/
theorem frame_RI2_pre : Cert.quiescent_MoeRefIdeal_pre_rows_finite := fun m ρ _ => frame_RI2 m ρ trivial

/-- What of a run is real under the precondition of the value claim. -/
theorem real_rows {m : (ℓ : Loc Cert.MoeIdeal.nD Cert.MoeIdeal.τ Cert.MoeIdeal.sig) → Buf (Elt Ideal) ℓ} (h : Cert.Pre_MoeIdeal_rows_finite m) (c : Dev Cert.MoeIdeal.nD) :
    Cert.MoeRef.Real (Cert.MoeIdeal.State.A1 m c) (Cert.MoeIdeal.State.A3 m c) (Cert.MoeIdeal.State.A4 m c) (Cert.MoeIdeal.State.A5 m c) (Cert.MoeIdeal.State.A6 m c) where
  rows := Cert.RowNumbers.tokens (h c).2.2.2.2.2.1
  gates := Cert.RowNumbers.gateWeights (h c).2.2.2.2.2.2.1
  ups := Cert.RowNumbers.upWeights (h c).2.2.2.2.2.2.2.1
  downs := Cert.RowNumbers.downWeights (h c).2.2.2.2.2.2.2.2.1
  gains := Cert.RowNumbers.gains (h c).2.2.2.2.2.2.2.2.2

/-- The routed experts' result and their reference's are one array. -/
theorem algebraic2 : Cert.algebraic_MoeIdeal_MoeRefIdeal_pre_rows_finite := by
  intro m ρ m' ρ' hpre hagree
  refine ⟨fun c => Cert.MoeIdeal.Whole.out m c, ?_, ?_⟩
  · exact (θ_run Cert.MoeIdeal.defs _ _).mono (fun _ h c => h.1 c) (Cert.MoeIdeal.Whole.run_out m ρ (Cert.MoeIdeal.Rows.allRows m (good_rows hpre)))
  · refine (θ_run Cert.MoeRefIdeal.defs _ _).mono (fun _ h c => ⟨(h c).1.trans ?_, (h c).2⟩) (Cert.MoeRefIdeal.Value.run (F := Ideal) m' ρ')
    rw [Cert.MoeRefIdeal.Read.val_main_v50_eq, (hagree c).1, (hagree c).2.1, (hagree c).2.2.1, (hagree c).2.2.2.1, (hagree c).2.2.2.2.1,
      (hagree c).2.2.2.2.2.1, (hagree c).2.2.2.2.2.2]
    exact (Cert.MoeRef.ref_eq (Cert.MoeIdeal.State.A2 m c) (real_rows hpre c) (good_rows hpre c)).trans (Cert.MoeIdeal.State.out_eq m c (good_rows hpre c)).symm

/-! ## The projection -/

/-- The projection leaves its arguments as they were and every counter at zero, at the machine's numbers. -/
theorem frame_P3 : Cert.quiescent_Inp := fun m ρ _ => Cert.Inp.Gen.frame m ρ
/-- So it does at the ideal numbers. -/
theorem frame_PI3 : Cert.quiescent_InpIdeal := fun m ρ _ => Cert.InpIdeal.Gen.frame m ρ
/-- The projection's reference leaves its arguments as they were. -/
theorem frame_RI3 : Cert.quiescent_InpRefIdeal := fun m ρ _ =>
  (θ_run Cert.InpRefIdeal.defs _ _).mono (fun r h => ⟨fun c => (h c).2.2.2.2, Idealize.ShloMosaic.sem_eq_zero_of_no_sems (by decide) r.2⟩)
    (Cert.InpRefIdeal.Value.run (F := Ideal) m ρ)

/-- The projection's four results and its reference's are the same arrays. -/
theorem algebraic3 : Cert.algebraic_InpIdeal_InpRefIdeal := by
  intro m ρ m' ρ' _ hagree
  refine ⟨fun c => Cert.InpCover.whole9 m c, fun c => Cert.InpCover.whole10 m c, fun c => Cert.InpCover.whole11 m c, fun c => Cert.InpCover.whole12 m c, ?_, ?_⟩
  · exact (θ_run Cert.InpIdeal.defs _ _).mono
      (fun _ h c => ⟨(h c).1.trans (Cert.InpCover.result_9 m c), (h c).2.1.trans (Cert.InpCover.result_10 m c), (h c).2.2.1.trans (Cert.InpCover.result_11 m c),
        (h c).2.2.2.1.trans (Cert.InpCover.result_12 m c), (h c).2.2.2.2⟩)
      (Cert.InpIdeal.Value.run_blocks (F := Ideal) m ρ)
  · refine (θ_run Cert.InpRefIdeal.defs _ _).mono (fun _ h c => ⟨(h c).1.trans ?_, (h c).2.1.trans ?_, (h c).2.2.1.trans ?_, (h c).2.2.2.1.trans ?_, (h c).2.2.2.2⟩)
      (Cert.InpRefIdeal.Value.run (F := Ideal) m' ρ')
    · rw [Cert.InpRefIdeal.Read.val_main_v76_eq, (hagree c).1, (hagree c).2.1, (hagree c).2.2.1, (hagree c).2.2.2.1]
      unfold Cert.InpCover.whole9
      rfl
    · rw [Cert.InpRefIdeal.Read.val_main_v78_eq, (hagree c).1, (hagree c).2.1, (hagree c).2.2.1, (hagree c).2.2.2.1, (hagree c).2.2.2.2.1,
        (hagree c).2.2.2.2.2.2.1, (hagree c).2.2.2.2.2.2.2]
      unfold Cert.InpCover.whole10
      rfl
    · rw [Cert.InpRefIdeal.Read.val_main_v80_eq, (hagree c).1, (hagree c).2.1, (hagree c).2.2.1, (hagree c).2.2.2.1, (hagree c).2.2.2.2.2.1,
        (hagree c).2.2.2.2.2.2.1, (hagree c).2.2.2.2.2.2.2]
      unfold Cert.InpCover.whole11
      rfl
    · rw [Cert.InpRefIdeal.Read.val_main_v82_eq, (hagree c).1, (hagree c).2.1, (hagree c).2.2.1, (hagree c).2.2.2.1]
      unfold Cert.InpCover.whole12
      rfl

/-- All the claims. -/
theorem claim : Cert.Claim :=
  ⟨Cert.Attn.Gen.facts, Cert.AttnIdeal.Gen.facts, Cert.AttnRefIdeal.Gen.facts, Cert.Moe.Gen.facts, Cert.MoeIdeal.Gen.facts, Cert.MoeRefIdeal.Gen.facts,
    Cert.Inp.Gen.facts, Cert.InpIdeal.Gen.facts, Cert.InpRefIdeal.Gen.facts,
    Cert.Finite.facts, Cert.Pre_rows_ok.Gen.facts, Cert.Pre_rows_finite.Gen.facts,
    frame_P, frame_PI, frame_PI_pre, frame_RI, frame_RI_pre, frame_P2, frame_PI2, frame_PI2_pre, frame_RI2, frame_RI2_pre, frame_P3, frame_PI3, frame_RI3,
    trivial, algebraic, trivial, algebraic2, trivial, algebraic3⟩

end Cert.Proof

end
